-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m ((c.tc : Thread Cert.Kernel4Ideal.nD Cert.Kernel4Ideal.τ).loc Cert.Kernel4Ideal.main_arg0) = Layout.block ⟨2, ![4096, 2816]⟩ ⟨2, ![32768, 2816]⟩ 0 8 c (m' (((0 : Dev Cert.Reference4Ideal.nD).tc : Thread Cert.Reference4Ideal.nD Cert.Reference4Ideal.τ).loc Cert.Reference4Ideal.main_arg0))
      ∧ m ((c.tc : Thread Cert.Kernel4Ideal.nD Cert.Kernel4Ideal.τ).loc Cert.Kernel4Ideal.main_arg1) = Layout.block ⟨2, ![4096, 2816]⟩ ⟨2, ![32768, 2816]⟩ 0 8 c (m' (((0 : Dev Cert.Reference4Ideal.nD).tc : Thread Cert.Reference4Ideal.nD Cert.Reference4Ideal.τ).loc Cert.Reference4Ideal.main_arg1))
      ∧ m ((c.tc : Thread Cert.Kernel4Ideal.nD Cert.Kernel4Ideal.τ).loc Cert.Kernel4Ideal.main_arg2) = m' (((0 : Dev Cert.Reference4Ideal.nD).tc : Thread Cert.Reference4Ideal.nD Cert.Reference4Ideal.τ).loc Cert.Reference4Ideal.main_arg2)
      ∧ m ((c.tc : Thread Cert.Kernel4Ideal.nD Cert.Kernel4Ideal.τ).loc Cert.Kernel4Ideal.main_arg3) = m' (((0 : Dev Cert.Reference4Ideal.nD).tc : Thread Cert.Reference4Ideal.nD Cert.Reference4Ideal.τ).loc Cert.Reference4Ideal.main_arg3)
      ∧ m ((c.tc : Thread Cert.Kernel4Ideal.nD Cert.Kernel4Ideal.τ).loc Cert.Kernel4Ideal.main_arg4) = Layout.block ⟨2, ![4096, 1024]⟩ ⟨2, ![32768, 1024]⟩ 0 8 c (m' (((0 : Dev Cert.Reference4Ideal.nD).tc : Thread Cert.Reference4Ideal.nD Cert.Reference4Ideal.τ).loc Cert.Reference4Ideal.main_arg4))
      ∧ m ((c.tc : Thread Cert.Kernel4Ideal.nD Cert.Kernel4Ideal.τ).loc Cert.Kernel4Ideal.main_arg5) = m' (((0 : Dev Cert.Reference4Ideal.nD).tc : Thread Cert.Reference4Ideal.nD Cert.Reference4Ideal.τ).loc Cert.Reference4Ideal.main_arg5)
      ∧ m ((c.tc : Thread Cert.Kernel4Ideal.nD Cert.Kernel4Ideal.τ).loc Cert.Kernel4Ideal.main_arg6) = Layout.block ⟨2, ![4096, 1024]⟩ ⟨2, ![32768, 1024]⟩ 0 8 c (m' (((0 : Dev Cert.Reference4Ideal.nD).tc : Thread Cert.Reference4Ideal.nD Cert.Reference4Ideal.τ).loc Cert.Reference4Ideal.main_arg6))
      ∧ m ((c.tc : Thread Cert.Kernel4Ideal.nD Cert.Kernel4Ideal.τ).loc Cert.Kernel4Ideal.main_arg7) = Layout.block ⟨2, ![4096, 1024]⟩ ⟨2, ![32768, 1024]⟩ 0 8 c (m' (((0 : Dev Cert.Reference4Ideal.nD).tc : Thread Cert.Reference4Ideal.nD Cert.Reference4Ideal.τ).loc Cert.Reference4Ideal.main_arg7))
      ∧ m ((c.tc : Thread Cert.Kernel4Ideal.nD Cert.Kernel4Ideal.τ).loc Cert.Kernel4Ideal.main_arg8) = m' (((0 : Dev Cert.Reference4Ideal.nD).tc : Thread Cert.Reference4Ideal.nD Cert.Reference4Ideal.τ).loc Cert.Reference4Ideal.main_arg8)
      ∧ m ((c.tc : Thread Cert.Kernel4Ideal.nD Cert.Kernel4Ideal.τ).loc Cert.Kernel4Ideal.main_arg9) = Layout.block ⟨3, ![4, 352, 1024]⟩ ⟨3, ![32, 352, 1024]⟩ 0 8 c (m' (((0 : Dev Cert.Reference4Ideal.nD).tc : Thread Cert.Reference4Ideal.nD Cert.Reference4Ideal.τ).loc Cert.Reference4Ideal.main_arg9))
      ∧ m ((c.tc : Thread Cert.Kernel4Ideal.nD Cert.Kernel4Ideal.τ).loc Cert.Kernel4Ideal.main_arg10) = Layout.block ⟨3, ![4, 352, 1024]⟩ ⟨3, ![32, 352, 1024]⟩ 0 8 c (m' (((0 : Dev Cert.Reference4Ideal.nD).tc : Thread Cert.Reference4Ideal.nD Cert.Reference4Ideal.τ).loc Cert.Reference4Ideal.main_arg10))) →
    ∃ (v0 : Buf (Elt Ideal) (((0 : Dev Cert.Reference4Ideal.nD).tc : Thread Cert.Reference4Ideal.nD Cert.Reference4Ideal.τ).loc Cert.Reference4Ideal.main_v91)) (v1 : Buf (Elt Ideal) (((0 : Dev Cert.Reference4Ideal.nD).tc : Thread Cert.Reference4Ideal.nD Cert.Reference4Ideal.τ).loc Cert.Reference4Ideal.main_v93)) (v2 : Buf (Elt Ideal) (((0 : Dev Cert.Reference4Ideal.nD).tc : Thread Cert.Reference4Ideal.nD Cert.Reference4Ideal.τ).loc Cert.Reference4Ideal.main_v94)) (v3 : Buf (Elt Ideal) (((0 : Dev Cert.Reference4Ideal.nD).tc : Thread Cert.Reference4Ideal.nD Cert.Reference4Ideal.τ).loc Cert.Reference4Ideal.main_v95)) (v4 : Buf (Elt Ideal) (((0 : Dev Cert.Reference4Ideal.nD).tc : Thread Cert.Reference4Ideal.nD Cert.Reference4Ideal.τ).loc Cert.Reference4Ideal.main_v98)) (v5 : Buf (Elt Ideal) (((0 : Dev Cert.Reference4Ideal.nD).tc : Thread Cert.Reference4Ideal.nD Cert.Reference4Ideal.τ).loc Cert.Reference4Ideal.main_v101)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = Layout.block ⟨2, ![4096, 1024]⟩ ⟨2, ![32768, 1024]⟩ 0 8 c v0
          ∧ r.2.mem ((c.tc : Thread Cert.Kernel4Ideal.nD Cert.Kernel4Ideal.τ).loc Cert.Kernel4Ideal.main_v1_1) = Layout.block ⟨2, ![4096, 1024]⟩ ⟨2, ![32768, 1024]⟩ 0 8 c v1
          ∧ r.2.mem ((c.tc : Thread Cert.Kernel4Ideal.nD Cert.Kernel4Ideal.τ).loc Cert.Kernel4Ideal.main_v1_2) = Layout.block ⟨2, ![8, 128]⟩ ⟨2, ![64, 128]⟩ 0 8 c v2
          ∧ r.2.mem ((c.tc : Thread Cert.Kernel4Ideal.nD Cert.Kernel4Ideal.τ).loc Cert.Kernel4Ideal.main_v1_3) = Layout.block ⟨2, ![8, 128]⟩ ⟨2, ![64, 128]⟩ 0 8 c v3
          ∧ r.2.mem ((c.tc : Thread Cert.Kernel4Ideal.nD Cert.Kernel4Ideal.τ).loc Cert.Kernel4Ideal.main_v1_4) = Layout.block ⟨3, ![4, 352, 1024]⟩ ⟨3, ![32, 352, 1024]⟩ 0 8 c v4
          ∧ r.2.mem ((c.tc : Thread Cert.Kernel4Ideal.nD Cert.Kernel4Ideal.τ).loc Cert.Kernel4Ideal.main_v1_5) = Layout.block ⟨3, ![4, 352, 1024]⟩ ⟨3, ![32, 352, 1024]⟩ 0 8 c v5
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r =>
          r.2.mem (((0 : Dev Cert.Reference4Ideal.nD).tc : Thread Cert.Reference4Ideal.nD Cert.Reference4Ideal.τ).loc Cert.Reference4Ideal.main_v91) = v0
          ∧ r.2.mem (((0 : Dev Cert.Reference4Ideal.nD).tc : Thread Cert.Reference4Ideal.nD Cert.Reference4Ideal.τ).loc Cert.Reference4Ideal.main_v93) = v1
          ∧ r.2.mem (((0 : Dev Cert.Reference4Ideal.nD).tc : Thread Cert.Reference4Ideal.nD Cert.Reference4Ideal.τ).loc Cert.Reference4Ideal.main_v94) = v2
          ∧ r.2.mem (((0 : Dev Cert.Reference4Ideal.nD).tc : Thread Cert.Reference4Ideal.nD Cert.Reference4Ideal.τ).loc Cert.Reference4Ideal.main_v95) = v3
          ∧ r.2.mem (((0 : Dev Cert.Reference4Ideal.nD).tc : Thread Cert.Reference4Ideal.nD Cert.Reference4Ideal.τ).loc Cert.Reference4Ideal.main_v98) = v4
          ∧ r.2.mem (((0 : Dev Cert.Reference4Ideal.nD).tc : Thread Cert.Reference4Ideal.nD Cert.Reference4Ideal.τ).loc Cert.Reference4Ideal.main_v101) = v5
          ∧ r.2.mem (((0 : Dev Cert.Reference4Ideal.nD).tc : Thread Cert.Reference4Ideal.nD Cert.Reference4Ideal.τ).loc Cert.Reference4Ideal.main_arg0) = m' (((0 : Dev Cert.Reference4Ideal.nD).tc : Thread Cert.Reference4Ideal.nD Cert.Reference4Ideal.τ).loc Cert.Reference4Ideal.main_arg0)
          ∧ r.2.mem (((0 : Dev Cert.Reference4Ideal.nD).tc : Thread Cert.Reference4Ideal.nD Cert.Reference4Ideal.τ).loc Cert.Reference4Ideal.main_arg1) = m' (((0 : Dev Cert.Reference4Ideal.nD).tc : Thread Cert.Reference4Ideal.nD Cert.Reference4Ideal.τ).loc Cert.Reference4Ideal.main_arg1)
          ∧ r.2.mem (((0 : Dev Cert.Reference4Ideal.nD).tc : Thread Cert.Reference4Ideal.nD Cert.Reference4Ideal.τ).loc Cert.Reference4Ideal.main_arg2) = m' (((0 : Dev Cert.Reference4Ideal.nD).tc : Thread Cert.Reference4Ideal.nD Cert.Reference4Ideal.τ).loc Cert.Reference4Ideal.main_arg2)
          ∧ r.2.mem (((0 : Dev Cert.Reference4Ideal.nD).tc : Thread Cert.Reference4Ideal.nD Cert.Reference4Ideal.τ).loc Cert.Reference4Ideal.main_arg3) = m' (((0 : Dev Cert.Reference4Ideal.nD).tc : Thread Cert.Reference4Ideal.nD Cert.Reference4Ideal.τ).loc Cert.Reference4Ideal.main_arg3)
          ∧ r.2.mem (((0 : Dev Cert.Reference4Ideal.nD).tc : Thread Cert.Reference4Ideal.nD Cert.Reference4Ideal.τ).loc Cert.Reference4Ideal.main_arg4) = m' (((0 : Dev Cert.Reference4Ideal.nD).tc : Thread Cert.Reference4Ideal.nD Cert.Reference4Ideal.τ).loc Cert.Reference4Ideal.main_arg4)
          ∧ r.2.mem (((0 : Dev Cert.Reference4Ideal.nD).tc : Thread Cert.Reference4Ideal.nD Cert.Reference4Ideal.τ).loc Cert.Reference4Ideal.main_arg5) = m' (((0 : Dev Cert.Reference4Ideal.nD).tc : Thread Cert.Reference4Ideal.nD Cert.Reference4Ideal.τ).loc Cert.Reference4Ideal.main_arg5)
          ∧ r.2.mem (((0 : Dev Cert.Reference4Ideal.nD).tc : Thread Cert.Reference4Ideal.nD Cert.Reference4Ideal.τ).loc Cert.Reference4Ideal.main_arg6) = m' (((0 : Dev Cert.Reference4Ideal.nD).tc : Thread Cert.Reference4Ideal.nD Cert.Reference4Ideal.τ).loc Cert.Reference4Ideal.main_arg6)
          ∧ r.2.mem (((0 : Dev Cert.Reference4Ideal.nD).tc : Thread Cert.Reference4Ideal.nD Cert.Reference4Ideal.τ).loc Cert.Reference4Ideal.main_arg7) = m' (((0 : Dev Cert.Reference4Ideal.nD).tc : Thread Cert.Reference4Ideal.nD Cert.Reference4Ideal.τ).loc Cert.Reference4Ideal.main_arg7)
          ∧ r.2.mem (((0 : Dev Cert.Reference4Ideal.nD).tc : Thread Cert.Reference4Ideal.nD Cert.Reference4Ideal.τ).loc Cert.Reference4Ideal.main_arg8) = m' (((0 : Dev Cert.Reference4Ideal.nD).tc : Thread Cert.Reference4Ideal.nD Cert.Reference4Ideal.τ).loc Cert.Reference4Ideal.main_arg8)
          ∧ r.2.mem (((0 : Dev Cert.Reference4Ideal.nD).tc : Thread Cert.Reference4Ideal.nD Cert.Reference4Ideal.τ).loc Cert.Reference4Ideal.main_arg9) = m' (((0 : Dev Cert.Reference4Ideal.nD).tc : Thread Cert.Reference4Ideal.nD Cert.Reference4Ideal.τ).loc Cert.Reference4Ideal.main_arg9)
          ∧ r.2.mem (((0 : Dev Cert.Reference4Ideal.nD).tc : Thread Cert.Reference4Ideal.nD Cert.Reference4Ideal.τ).loc Cert.Reference4Ideal.main_arg10) = m' (((0 : Dev Cert.Reference4Ideal.nD).tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m ((c.tc : Thread Cert.Kernel5Ideal.nD Cert.Kernel5Ideal.τ).loc Cert.Kernel5Ideal.main_arg0) = Layout.block ⟨2, ![4096, 2816]⟩ ⟨2, ![32768, 2816]⟩ 0 8 c (m' (((0 : Dev Cert.Reference5Ideal.nD).tc : Thread Cert.Reference5Ideal.nD Cert.Reference5Ideal.τ).loc Cert.Reference5Ideal.main_arg0))
      ∧ m ((c.tc : Thread Cert.Kernel5Ideal.nD Cert.Kernel5Ideal.τ).loc Cert.Kernel5Ideal.main_arg1) = Layout.block ⟨2, ![4096, 1024]⟩ ⟨2, ![32768, 1024]⟩ 0 8 c (m' (((0 : Dev Cert.Reference5Ideal.nD).tc : Thread Cert.Reference5Ideal.nD Cert.Reference5Ideal.τ).loc Cert.Reference5Ideal.main_arg1))
      ∧ m ((c.tc : Thread Cert.Kernel5Ideal.nD Cert.Kernel5Ideal.τ).loc Cert.Kernel5Ideal.main_arg2) = Layout.block ⟨4, ![2, 4, 352, 1024]⟩ ⟨4, ![16, 4, 352, 1024]⟩ 0 8 c (m' (((0 : Dev Cert.Reference5Ideal.nD).tc : Thread Cert.Reference5Ideal.nD Cert.Reference5Ideal.τ).loc Cert.Reference5Ideal.main_arg2))
      ∧ m ((c.tc : Thread Cert.Kernel5Ideal.nD Cert.Kernel5Ideal.τ).loc Cert.Kernel5Ideal.main_arg3) = Layout.block ⟨4, ![2, 4, 352, 1024]⟩ ⟨4, ![16, 4, 352, 1024]⟩ 0 8 c (m' (((0 : Dev Cert.Reference5Ideal.nD).tc : Thread Cert.Reference5Ideal.nD Cert.Reference5Ideal.τ).loc Cert.Reference5Ideal.main_arg3))) →
    ∃ (v0 : Buf (Elt Ideal) (((0 : Dev Cert.Reference5Ideal.nD).tc : Thread Cert.Reference5Ideal.nD Cert.Reference5Ideal.τ).loc Cert.Reference5Ideal.main_v11)) (v1 : Buf (Elt Ideal) (((0 : Dev Cert.Reference5Ideal.nD).tc : Thread Cert.Reference5Ideal.nD Cert.Reference5Ideal.τ).loc Cert.Reference5Ideal.main_v20)) (v2 : Buf (Elt Ideal) (((0 : Dev Cert.Reference5Ideal.nD).tc : Thread Cert.Reference5Ideal.nD Cert.Reference5Ideal.τ).loc Cert.Reference5Ideal.main_v29)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = Layout.block ⟨4, ![2, 4, 352, 1024]⟩ ⟨4, ![16, 4, 352, 1024]⟩ 0 8 c v0
          ∧ r.2.mem ((c.tc : Thread Cert.Kernel5Ideal.nD Cert.Kernel5Ideal.τ).loc Cert.Kernel5Ideal.main_v1_1) = Layout.block ⟨3, ![4, 352, 1024]⟩ ⟨3, ![32, 352, 1024]⟩ 0 8 c v1
          ∧ r.2.mem ((c.tc : Thread Cert.Kernel5Ideal.nD Cert.Kernel5Ideal.τ).loc Cert.Kernel5Ideal.main_v1_2) = Layout.block ⟨3, ![4, 352, 1024]⟩ ⟨3, ![32, 352, 1024]⟩ 0 8 c v2
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r =>
          r.2.mem (((0 : Dev Cert.Reference5Ideal.nD).tc : Thread Cert.Reference5Ideal.nD Cert.Reference5Ideal.τ).loc Cert.Reference5Ideal.main_v11) = v0
          ∧ r.2.mem (((0 : Dev Cert.Reference5Ideal.nD).tc : Thread Cert.Reference5Ideal.nD Cert.Reference5Ideal.τ).loc Cert.Reference5Ideal.main_v20) = v1
          ∧ r.2.mem (((0 : Dev Cert.Reference5Ideal.nD).tc : Thread Cert.Reference5Ideal.nD Cert.Reference5Ideal.τ).loc Cert.Reference5Ideal.main_v29) = v2
          ∧ r.2.mem (((0 : Dev Cert.Reference5Ideal.nD).tc : Thread Cert.Reference5Ideal.nD Cert.Reference5Ideal.τ).loc Cert.Reference5Ideal.main_arg0) = m' (((0 : Dev Cert.Reference5Ideal.nD).tc : Thread Cert.Reference5Ideal.nD Cert.Reference5Ideal.τ).loc Cert.Reference5Ideal.main_arg0)
          ∧ r.2.mem (((0 : Dev Cert.Reference5Ideal.nD).tc : Thread Cert.Reference5Ideal.nD Cert.Reference5Ideal.τ).loc Cert.Reference5Ideal.main_arg1) = m' (((0 : Dev Cert.Reference5Ideal.nD).tc : Thread Cert.Reference5Ideal.nD Cert.Reference5Ideal.τ).loc Cert.Reference5Ideal.main_arg1)
          ∧ r.2.mem (((0 : Dev Cert.Reference5Ideal.nD).tc : Thread Cert.Reference5Ideal.nD Cert.Reference5Ideal.τ).loc Cert.Reference5Ideal.main_arg2) = m' (((0 : Dev Cert.Reference5Ideal.nD).tc : Thread Cert.Reference5Ideal.nD Cert.Reference5Ideal.τ).loc Cert.Reference5Ideal.main_arg2)
          ∧ r.2.mem (((0 : Dev Cert.Reference5Ideal.nD).tc : Thread Cert.Reference5Ideal.nD Cert.Reference5Ideal.τ).loc Cert.Reference5Ideal.main_arg3) = m' (((0 : Dev Cert.Reference5Ideal.nD).tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m ((c.tc : Thread Cert.Kernel6Ideal.nD Cert.Kernel6Ideal.τ).loc Cert.Kernel6Ideal.main_arg0) = Layout.block ⟨2, ![4096, 1024]⟩ ⟨2, ![32768, 1024]⟩ 0 8 c (m' (((0 : Dev Cert.Reference6Ideal.nD).tc : Thread Cert.Reference6Ideal.nD Cert.Reference6Ideal.τ).loc Cert.Reference6Ideal.main_arg0))
      ∧ m ((c.tc : Thread Cert.Kernel6Ideal.nD Cert.Kernel6Ideal.τ).loc Cert.Kernel6Ideal.main_arg1) = m' (((0 : Dev Cert.Reference6Ideal.nD).tc : Thread Cert.Reference6Ideal.nD Cert.Reference6Ideal.τ).loc Cert.Reference6Ideal.main_arg1)
      ∧ m ((c.tc : Thread Cert.Kernel6Ideal.nD Cert.Kernel6Ideal.τ).loc Cert.Kernel6Ideal.main_arg2) = m' (((0 : Dev Cert.Reference6Ideal.nD).tc : Thread Cert.Reference6Ideal.nD Cert.Reference6Ideal.τ).loc Cert.Reference6Ideal.main_arg2)
      ∧ m ((c.tc : Thread Cert.Kernel6Ideal.nD Cert.Kernel6Ideal.τ).loc Cert.Kernel6Ideal.main_arg3) = Layout.block ⟨2, ![352, 1024]⟩ ⟨2, ![2816, 1024]⟩ 0 8 c (m' (((0 : Dev Cert.Reference6Ideal.nD).tc : Thread Cert.Reference6Ideal.nD Cert.Reference6Ideal.τ).loc Cert.Reference6Ideal.main_arg3))) →
    ∃ (v0 : Buf (Elt Ideal) (((0 : Dev Cert.Reference6Ideal.nD).tc : Thread Cert.Reference6Ideal.nD Cert.Reference6Ideal.τ).loc Cert.Reference6Ideal.main_v13)) (v1 : Buf (Elt Ideal) (((0 : Dev Cert.Reference6Ideal.nD).tc : Thread Cert.Reference6Ideal.nD Cert.Reference6Ideal.τ).loc Cert.Reference6Ideal.main_v14)) (v2 : Buf (Elt Ideal) (((0 : Dev Cert.Reference6Ideal.nD).tc : Thread Cert.Reference6Ideal.nD Cert.Reference6Ideal.τ).loc Cert.Reference6Ideal.main_v15)) (v3 : Buf (Elt Ideal) (((0 : Dev Cert.Reference6Ideal.nD).tc : Thread Cert.Reference6Ideal.nD Cert.Reference6Ideal.τ).loc Cert.Reference6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = Layout.block ⟨2, ![4096, 2816]⟩ ⟨2, ![32768, 2816]⟩ 0 8 c v0
          ∧ r.2.mem ((c.tc : Thread Cert.Kernel6Ideal.nD Cert.Kernel6Ideal.τ).loc Cert.Kernel6Ideal.main_v1_1) = Layout.block ⟨2, ![4096, 2816]⟩ ⟨2, ![32768, 2816]⟩ 0 8 c v1
          ∧ r.2.mem ((c.tc : Thread Cert.Kernel6Ideal.nD Cert.Kernel6Ideal.τ).loc Cert.Kernel6Ideal.main_v1_2) = Layout.block ⟨2, ![4096, 2816]⟩ ⟨2, ![32768, 2816]⟩ 0 8 c v2
          ∧ r.2.mem ((c.tc : Thread Cert.Kernel6Ideal.nD Cert.Kernel6Ideal.τ).loc Cert.Kernel6Ideal.main_v1_3) = Layout.block ⟨3, ![8, 352, 1024]⟩ ⟨3, ![64, 352, 1024]⟩ 0 8 c v3
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r =>
          r.2.mem (((0 : Dev Cert.Reference6Ideal.nD).tc : Thread Cert.Reference6Ideal.nD Cert.Reference6Ideal.τ).loc Cert.Reference6Ideal.main_v13) = v0
          ∧ r.2.mem (((0 : Dev Cert.Reference6Ideal.nD).tc : Thread Cert.Reference6Ideal.nD Cert.Reference6Ideal.τ).loc Cert.Reference6Ideal.main_v14) = v1
          ∧ r.2.mem (((0 : Dev Cert.Reference6Ideal.nD).tc : Thread Cert.Reference6Ideal.nD Cert.Reference6Ideal.τ).loc Cert.Reference6Ideal.main_v15) = v2
          ∧ r.2.mem (((0 : Dev Cert.Reference6Ideal.nD).tc : Thread Cert.Reference6Ideal.nD Cert.Reference6Ideal.τ).loc Cert.Reference6Ideal.main_v16) = v3
          ∧ r.2.mem (((0 : Dev Cert.Reference6Ideal.nD).tc : Thread Cert.Reference6Ideal.nD Cert.Reference6Ideal.τ).loc Cert.Reference6Ideal.main_arg0) = m' (((0 : Dev Cert.Reference6Ideal.nD).tc : Thread Cert.Reference6Ideal.nD Cert.Reference6Ideal.τ).loc Cert.Reference6Ideal.main_arg0)
          ∧ r.2.mem (((0 : Dev Cert.Reference6Ideal.nD).tc : Thread Cert.Reference6Ideal.nD Cert.Reference6Ideal.τ).loc Cert.Reference6Ideal.main_arg1) = m' (((0 : Dev Cert.Reference6Ideal.nD).tc : Thread Cert.Reference6Ideal.nD Cert.Reference6Ideal.τ).loc Cert.Reference6Ideal.main_arg1)
          ∧ r.2.mem (((0 : Dev Cert.Reference6Ideal.nD).tc : Thread Cert.Reference6Ideal.nD Cert.Reference6Ideal.τ).loc Cert.Reference6Ideal.main_arg2) = m' (((0 : Dev Cert.Reference6Ideal.nD).tc : Thread Cert.Reference6Ideal.nD Cert.Reference6Ideal.τ).loc Cert.Reference6Ideal.main_arg2)
          ∧ r.2.mem (((0 : Dev Cert.Reference6Ideal.nD).tc : Thread Cert.Reference6Ideal.nD Cert.Reference6Ideal.τ).loc Cert.Reference6Ideal.main_arg3) = m' (((0 : Dev Cert.Reference6Ideal.nD).tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S4096x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S8x352x1024 : Shape := ⟨3, ![8, 352, 1024]⟩
abbrev S2x4x352x1024 : Shape := ⟨4, ![2, 4, 352, 1024]⟩
abbrev S512x1024 : Shape := ⟨2, ![512, 1024]⟩
abbrev S4x352x1024 : Shape := ⟨3, ![4, 352, 1024]⟩
abbrev S512x1408 : Shape := ⟨2, ![512, 1408]⟩
abbrev S2x2x352x1024 : Shape := ⟨4, ![2, 2, 352, 1024]⟩
abbrev S2x1408x1024 : Shape := ⟨3, ![2, 1408, 1024]⟩
abbrev S1408x1024 : Shape := ⟨2, ![1408, 1024]⟩
abbrev S1x1408x1024 : Shape := ⟨3, ![1, 1408, 1024]⟩
abbrev S1x1x352x1024 : Shape := ⟨4, ![1, 1, 352, 1024]⟩
abbrev S352x1024 : Shape := ⟨2, ![352, 1024]⟩

abbrev nBuf : Space → Nat
  | .hbm => 19
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S1024x2816, .bf16⟩
  | .hbm, ⟨7, _⟩ => ⟨S4096x2816, .f32⟩
  | .hbm, ⟨8, _⟩ => ⟨S4096x2816, .bf16⟩
  | .hbm, ⟨9, _⟩ => ⟨S1024x2816, .bf16⟩
  | .hbm, ⟨10, _⟩ => ⟨S4096x2816, .f32⟩
  | .hbm, ⟨11, _⟩ => ⟨S4096x2816, .bf16⟩
  | .hbm, ⟨12, _⟩ => ⟨S2816x1024, .bf16⟩
  | .hbm, ⟨13, _⟩ => ⟨S8x352x1024, .bf16⟩
  | .hbm, ⟨14, _⟩ => ⟨S4096x1024, .bf16⟩
  | .hbm, ⟨15, _⟩ => ⟨S4096x2816, .bf16⟩
  | .hbm, ⟨16, _⟩ => ⟨S4096x2816, .bf16⟩
  | .hbm, ⟨17, _⟩ => ⟨S2x4x352x1024, .bf16⟩
  | .hbm, ⟨18, _⟩ => ⟨S2x4x352x1024, .bf16⟩
  | .local _ .vmem, ⟨0, _⟩ => ⟨S512x1024, .bf16⟩
  | .local _ .vmem, ⟨1, _⟩ => ⟨S512x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1024, .bf16⟩
  | .local _ .vmem, ⟨9, _⟩ => ⟨S512x1024, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S2x2x352x1024, .bf16⟩
  | .local _ .vmem, ⟨15, _⟩ => ⟨S2x2x352x1024, .bf16⟩
  | .local _ .vmem, ⟨16, _⟩ => ⟨S2x2x352x1024, .bf16⟩
  | .local _ .vmem, ⟨17, _⟩ => ⟨S2x2x352x1024, .bf16⟩
  | .local _ .vmem, ⟨18, _⟩ => ⟨S2x1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_35 : BitVec 32 := 0#32
  let v56 : BitVec 1 := Scalar.cmpi .ne v55 c0_i32_35
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x2x352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4x2x352x1024 : Shape := ⟨4, ![4, 2, 352, 1024]⟩
abbrev S2x4x352x1024 : Shape := ⟨4, ![2, 4, 352, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S2816x1024, .f32⟩
  | .hbm, ⟨30, _⟩ => ⟨S1024x2816, .f32⟩
  | .hbm, ⟨31, _⟩ => ⟨S2816x1024, .f32⟩
  | .hbm, ⟨32, _⟩ => ⟨S1024x2816, .f32⟩
  | .hbm, ⟨33, _⟩ => ⟨S4096x2816, .bf16⟩
  | .hbm, ⟨34, _⟩ => ⟨S4096x2816, .bf16⟩
  | .hbm, ⟨35, _⟩ => ⟨S2816x1024, .f32⟩
  | .hbm, ⟨36, _⟩ => ⟨S4x2x352x1024, .f32⟩
  | .hbm, ⟨37, _⟩ => ⟨S2x4x352x1024, .f32⟩
  | .hbm, ⟨38, _⟩ => ⟨S2x4x352x1024, .bf16⟩
  | .hbm, ⟨39, _⟩ => ⟨S2816x1024, .f32⟩
  | .hbm, ⟨40, _⟩ => ⟨S4x2x352x1024, .f32⟩
  | .hbm, ⟨41, _⟩ => ⟨S2x4x352x1024, .f32⟩
  | .hbm, ⟨42, _⟩ => ⟨S2x4x352x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel2.lean ====
abbrev S4096x1280 : Shape := ⟨2, ![4096, 1280]⟩
abbrev S1024x1280 : Shape := ⟨2, ![1024, 1280]⟩
abbrev S4096x1024 : Shape := ⟨2, ![4096, 1024]⟩
abbrev S1x1024 : Shape := ⟨2, ![1, 1024]⟩
abbrev S1280x1024 : Shape := ⟨2, ![1280, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1x128 : Shape := ⟨2, ![1, 128]⟩

abbrev nBuf : Space → Nat
  | .hbm => 10
  | .vmem => 11
  | .smem => 0
  | _ => 0

abbrev bufTy : (tb : Table) → Fin (tcTables nBuf tb) → BufTy
  | .hbm, ⟨0, _⟩ => ⟨S4096x1280, .f32⟩
  | .hbm, ⟨1, _⟩ => ⟨S1024x1280, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1280, .bf16⟩
  | .hbm, ⟨6, _⟩ => ⟨S1280x1024, .f32⟩
  | .hbm, ⟨7, _⟩ => ⟨S1280x1024, .bf16⟩
  | .hbm, ⟨8, _⟩ => ⟨S4096x1024, .f32⟩
  | .hbm, ⟨9, _⟩ => ⟨S8x128, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x128, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x1280 : Shape := ⟨2, ![4096, 1280]⟩
abbrev S1024x1280 : Shape := ⟨2, ![1024, 1280]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 56
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1024x1280, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1280, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S8x128, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x352x1024 : Shape := ⟨3, ![8, 352, 1024]⟩
abbrev S8x128 : Shape := ⟨2, ![8, 128]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2816x1024, .bf16⟩
  | .hbm, ⟨6, _⟩ => ⟨S8x352x1024, .bf16⟩
  | .hbm, ⟨7, _⟩ => ⟨S4096x2816, .bf16⟩
  | .hbm, ⟨8, _⟩ => ⟨S4096x1024, .bf16⟩
  | .hbm, ⟨9, _⟩ => ⟨S4096x1024, .f32⟩
  | .hbm, ⟨10, _⟩ => ⟨S8x128, .f32⟩
  | .hbm, ⟨11, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S8x352x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S4096x1024, .bf16⟩
  | .hbm, ⟨78, _⟩ => ⟨S8x128, .f32⟩
  | .hbm, ⟨79, _⟩ => ⟨S1x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel4.lean ====
abbrev S4096x2816 : Shape := ⟨2, ![4096, 2816]⟩
abbrev S8x352x1024 : Shape := ⟨3, ![8, 352, 1024]⟩
abbrev S4096x1024 : Shape := ⟨2, ![4096, 1024]⟩
abbrev S1x1024 : Shape := ⟨2, ![1, 1024]⟩
abbrev S4x352x1024 : Shape := ⟨3, ![4, 352, 1024]⟩
abbrev S8x128 : Shape := ⟨2, ![8, 128]⟩
abbrev S512x2816 : Shape := ⟨2, ![512, 2816]⟩
abbrev S512x1024 : Shape := ⟨2, ![512, 1024]⟩
abbrev S6 : Shape := ⟨1, ![6]⟩
abbrev S2 : Shape := ⟨1, ![2]⟩
abbrev S352x1024 : Shape := ⟨2, ![352, 1024]⟩
abbrev S_ : Shape := ⟨0, ![]⟩
abbrev S1 : Shape := ⟨1, ![1]⟩
abbrev S1x352x1024 : Shape := ⟨3, ![1, 352, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩
abbrev S1x128 : Shape := ⟨2, ![1, 128]⟩

abbrev nBuf : Space → Nat
  | .hbm => 17
  | .vmem => 22
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S8x352x1024, .bf16⟩
  | .hbm, ⟨3, _⟩ => ⟨S8x352x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4x352x1024, .bf16⟩
  | .hbm, ⟨10, _⟩ => ⟨S4x352x1024, .bf16⟩
  | .hbm, ⟨11, _⟩ => ⟨S4096x1024, .f32⟩
  | .hbm, ⟨12, _⟩ => ⟨S4096x1024, .bf16⟩
  | .hbm, ⟨13, _⟩ => ⟨S8x128, .f32⟩
  | .hbm, ⟨14, _⟩ => ⟨S8x128, .f32⟩
  | .hbm, ⟨15, _⟩ => ⟨S4x352x1024, .bf16⟩
  | .hbm, ⟨16, _⟩ => ⟨S4x352x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S8x352x1024, .bf16⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S8x128, .f32⟩
  | .local _ .vmem, ⟨19, _⟩ => ⟨S8x128, .f32⟩
  | .local _ .vmem, ⟨20, _⟩ => ⟨S352x1024, .bf16⟩
  | .local _ .vmem, ⟨21, _⟩ => ⟨S352x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(2, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev barrier2 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k0_dev1 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_50 : BitVec 32 := 0#32
  let v120 : BitVec 32 := Scalar.xori v2 c0_i32_50
  let c4_i32_57 : BitVec 32 := 4#32
  let v127 : BitVec 32 := Scalar.muli v120 c4_i32_57
  let v128 : BitVec 32 := Scalar.addi c0_i32_58 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_51 : BitVec 32 := 1#32
  let v121 : BitVec 32 := Scalar.xori v5 c1_i32_51
  let c2_i32_59 : BitVec 32 := 2#32
  let v129 : BitVec 32 := Scalar.muli v121 c2_i32_59
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v131 : BitVec 32 := Scalar.muli v8 c1_i32_60
  let v132 : BitVec 32 := Scalar.addi v130 v131
  v132.toNat
def k0_dev2 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_52 : BitVec 32 := 1#32
  let v122 : BitVec 32 := Scalar.xori v2 c1_i32_52
  let c4_i32_62 : BitVec 32 := 4#32
  let v133 : BitVec 32 := Scalar.muli v122 c4_i32_62
  let v134 : BitVec 32 := Scalar.addi c0_i32_63 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_53 : BitVec 32 := 0#32
  let v123 : BitVec 32 := Scalar.xori v5 c0_i32_53
  let c2_i32_64 : BitVec 32 := 2#32
  let v135 : BitVec 32 := Scalar.muli v123 c2_i32_64
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v137 : BitVec 32 := Scalar.muli v8 c1_i32_65
  let v138 : BitVec 32 := Scalar.addi v136 v137
  v138.toNat
def k0_dev3 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_54 : BitVec 32 := 1#32
  let v124 : BitVec 32 := Scalar.xori v2 c1_i32_54
  let c4_i32_67 : BitVec 32 := 4#32
  let v139 : BitVec 32 := Scalar.muli v124 c4_i32_67
  let v140 : BitVec 32 := Scalar.addi c0_i32_68 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_55 : BitVec 32 := 1#32
  let v125 : BitVec 32 := Scalar.xori v5 c1_i32_55
  let c2_i32_69 : BitVec 32 := 2#32
  let v141 : BitVec 32 := Scalar.muli v125 c2_i32_69
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v143 : BitVec 32 := Scalar.muli v8 c1_i32_70
  let v144 : BitVec 32 := Scalar.addi v142 v143
  v144.toNat
def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_72 : BitVec 32 := 0#32
  let c0_i32_73 : BitVec 32 := 0#32
  ![v10.toNat, 0, 0]
def k0_off2 (d0 : Dev nD) (c0_i32_77 : BitVec 32) (c1_i32_78 : BitVec 32) : Fin 3 → Nat :=
  let c2_i32_79 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v153 : BitVec 32 := Scalar.xori v2 c0_i32_77
  let v155 : BitVec 32 := Scalar.muli c2_i32_79 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v154 : BitVec 32 := Scalar.xori v5 c1_i32_78
  let v156 : BitVec 32 := Scalar.addi v155 v154
  let c0_i32_103 : BitVec 32 := 0#32
  let c0_i32_104 : BitVec 32 := 0#32
  ![v156.toNat, 0, 0]
def k0_off2_at (r : Fin 3) : BitVec 32 × BitVec 32 :=
  if r.val < 1 then
    (0#32, 1#32)
  else
    if r.val < 2 then
      (1#32, 0#32)
    else
      (1#32, 1#32)
def k0_dev4 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_77 : BitVec 32 := 0#32
  let v153 : BitVec 32 := Scalar.xori v2 c0_i32_77
  let c4_i32_97 : BitVec 32 := 4#32
  let v177 : BitVec 32 := Scalar.muli v153 c4_i32_97
  let v178 : BitVec 32 := Scalar.addi c0_i32_98 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_78 : BitVec 32 := 1#32
  let v154 : BitVec 32 := Scalar.xori v5 c1_i32_78
  let c2_i32_99 : BitVec 32 := 2#32
  let v179 : BitVec 32 := Scalar.muli v154 c2_i32_99
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v181 : BitVec 32 := Scalar.muli v8 c1_i32_100
  let v182 : BitVec 32 := Scalar.addi v180 v181
  v182.toNat
def k0_dev5 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_80 : BitVec 32 := 1#32
  let v157 : BitVec 32 := Scalar.xori v2 c1_i32_80
  let c4_i32_107 : BitVec 32 := 4#32
  let v191 : BitVec 32 := Scalar.muli v157 c4_i32_107
  let v192 : BitVec 32 := Scalar.addi c0_i32_108 v191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_81 : BitVec 32 := 0#32
  let v158 : BitVec 32 := Scalar.xori v5 c0_i32_81
  let c2_i32_109 : BitVec 32 := 2#32
  let v193 : BitVec 32 := Scalar.muli v158 c2_i32_109
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v195 : BitVec 32 := Scalar.muli v8 c1_i32_110
  let v196 : BitVec 32 := Scalar.addi v194 v195
  v196.toNat
def k0_dev6 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_83 : BitVec 32 := 1#32
  let v161 : BitVec 32 := Scalar.xori v2 c1_i32_83
  let c4_i32_117 : BitVec 32 := 4#32
  let v205 : BitVec 32 := Scalar.muli v161 c4_i32_117
  let v206 : BitVec 32 := Scalar.addi c0_i32_118 v205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_84 : BitVec 32 := 1#32
  let v162 : BitVec 32 := Scalar.xori v5 c1_i32_84
  let c2_i32_119 : BitVec 32 := 2#32
  let v207 : BitVec 32 := Scalar.muli v162 c2_i32_119
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v209 : BitVec 32 := Scalar.muli v8 c1_i32_120
  let v210 : BitVec 32 := Scalar.addi v208 v209
  v210.toNat
def k0_dev7 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_86 : BitVec 32 := 0#32
  let v165 : BitVec 32 := Scalar.xori v2 c0_i32_86
  let c4_i32_127 : BitVec 32 := 4#32
  let v219 : BitVec 32 := Scalar.muli v165 c4_i32_127
  let v220 : BitVec 32 := Scalar.addi c0_i32_128 v219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_87 : BitVec 32 := 1#32
  let v166 : BitVec 32 := Scalar.xori v5 c1_i32_87
  let c2_i32_129 : BitVec 32 := 2#32
  let v221 : BitVec 32 := Scalar.muli v166 c2_i32_129
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v223 : BitVec 32 := Scalar.muli v8 c1_i32_130
  let v224 : BitVec 32 := Scalar.addi v222 v223
  v224.toNat
def k0_dev8 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_89 : BitVec 32 := 1#32
  let v169 : BitVec 32 := Scalar.xori v2 c1_i32_89
  let c4_i32_137 : BitVec 32 := 4#32
  let v233 : BitVec 32 := Scalar.muli v169 c4_i32_137
  let v234 : BitVec 32 := Scalar.addi c0_i32_138 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_90 : BitVec 32 := 0#32
  let v170 : BitVec 32 := Scalar.xori v5 c0_i32_90
  let c2_i32_139 : BitVec 32 := 2#32
  let v235 : BitVec 32 := Scalar.muli v170 c2_i32_139
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v237 : BitVec 32 := Scalar.muli v8 c1_i32_140
  let v238 : BitVec 32 := Scalar.addi v236 v237
  v238.toNat
def k0_dev9 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_92 : BitVec 32 := 1#32
  let v173 : BitVec 32 := Scalar.xori v2 c1_i32_92
  let c4_i32_146 : BitVec 32 := 4#32
  let v247 : BitVec 32 := Scalar.muli v173 c4_i32_146
  let v248 : BitVec 32 := Scalar.addi c0_i32_147 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_93 : BitVec 32 := 1#32
  let v174 : BitVec 32 := Scalar.xori v5 c1_i32_93
  let c2_i32_148 : BitVec 32 := 2#32
  let v249 : BitVec 32 := Scalar.muli v174 c2_i32_148
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v251 : BitVec 32 := Scalar.muli v8 c1_i32_149
  let v252 : BitVec 32 := Scalar.addi v250 v251
  v252.toNat
def k0_cond2 (i : grid0.Coords) : BitVec 1 :=
  let arg0 : BitVec 32 := BitVec.ofNat 32 (i 0).val
  let c7_i32 : BitVec 32 := 7#32
  let v117 : BitVec 1 := Scalar.cmpi .eq arg0 c7_i32
  let v118 : BitVec 32 := Scalar.extui v117
  let c0_i32_49 : BitVec 32 := 0#32
  let v119 : BitVec 1 := Scalar.cmpi .ne v118 c0_i32_49
  v119

def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_51 : BitVec 32 := 0#32
  let c0_i32_52 : BitVec 32 := 0#32
  ![v10.toNat, 0, 0]
def k0_off4 (d0 : Dev nD) (c0_i32_62 : BitVec 32) (c1_i32_63 : BitVec 32) : Fin 3 → Nat :=
  let c2_i32_64 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.xori v2 c0_i32_62
  let v138 : BitVec 32 := Scalar.muli c2_i32_64 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.xori v5 c1_i32_63
  let v139 : BitVec 32 := Scalar.addi v138 v137
  let c0_i32_83 : BitVec 32 := 0#32
  let c0_i32_84 : BitVec 32 := 0#32
  ![v139.toNat, 0, 0]
def k0_off4_at (r : Fin 3) : BitVec 32 × BitVec 32 :=
  if r.val < 1 then
    (0#32, 1#32)
  else
    if r.val < 2 then
      (1#32, 0#32)
    else
      (1#32, 1#32)
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S32768x2816 : Shape := ⟨2, ![32768, 2816]⟩
abbrev S8x352x1024 : Shape := ⟨3, ![8, 352, 1024]⟩
abbrev S32768x1024 : Shape := ⟨2, ![32768, 1024]⟩
abbrev S1x1024 : Shape := ⟨2, ![1, 1024]⟩
abbrev S32x352x1024 : Shape := ⟨3, ![32, 352, 1024]⟩
abbrev S2816x1024 : Shape := ⟨2, ![2816, 1024]⟩
abbrev S1024x2816 : Shape := ⟨2, ![1024, 2816]⟩
abbrev S8x4096x1024 : Shape := ⟨3, ![8, 4096, 1024]⟩
abbrev S1x1x1024 : Shape := ⟨3, ![1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩
abbrev S8x1024 : Shape := ⟨2, ![8, 1024]⟩
abbrev S64x128 : Shape := ⟨2, ![64, 128]⟩
abbrev S4x2x4x352x1024 : Shape := ⟨5, ![4, 2, 4, 352, 1024]⟩

abbrev nBuf : Space → Nat
  | .hbm => 129
  | .vmem => 0
  | .smem => 0
  | _ => 0

abbrev hbmTy0_0 (i : Nat) : BufTy := match i % 128 with
  | 0 => ⟨S32768x2816, .bf16⟩
  | 1 => ⟨S32768x2816, .bf16⟩
  | 2 => ⟨S8x352x1024, .bf16⟩
  | 3 => ⟨S8x352x1024, .bf16⟩
  | 4 => ⟨S32768x1024, .f32⟩
  | 5 => ⟨S1x1024, .f32⟩
  | 6 => ⟨S32768x1024, .f32⟩
  | 7 => ⟨S32768x1024, .f32⟩
  | 8 => ⟨S1x1024, .f32⟩
  | 9 => ⟨S32x352x1024, .bf16⟩
  | 10 => ⟨S32x352x1024, .bf16⟩
  | 11 => ⟨S2816x1024, .bf16⟩
  | 12 => ⟨S2816x1024, .f32⟩
  | 13 => ⟨S1024x2816, .f32⟩
  | 14 => ⟨S2816x1024, .bf16⟩
  | 15 => ⟨S2816x1024, .f32⟩
  | 16 => ⟨S1024x2816, .f32⟩
  | 17 => ⟨S8x4096x1024, .f32⟩
  | 18 => ⟨S1x1x1024, .f32⟩
  | 19 => ⟨S8x1x1024, .f32⟩
  | 20 => ⟨S8x4096x1024, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S_, .f32⟩
  | 28 => ⟨S8x4096x1, .f32⟩
  | 29 => ⟨S8x4096x1, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1024, .f32⟩
  | 36 => ⟨S8x4096x1024, .f32⟩
  | 37 => ⟨S8x4096x1024, .f32⟩
  | 38 => ⟨S8x4096x1024, .f32⟩
  | 39 => ⟨S8x4096x2816, .f32⟩
  | 40 => ⟨S8x4096x2816, .f32⟩
  | 41 => ⟨S8x4096x2816, .bf16⟩
  | 42 => ⟨S8x4096x2816, .f32⟩
  | 43 => ⟨S8x4096x2816, .bf16⟩
  | 44 => ⟨S8x4096x2816, .f32⟩
  | 45 => ⟨S8x4096x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S_, .f32⟩
  | 51 => ⟨S8x1024, .f32⟩
  | 52 => ⟨S8x1x1024, .f32⟩
  | 53 => ⟨S8x4096x1024, .f32⟩
  | 54 => ⟨S8x4096x1024, .f32⟩
  | 55 => ⟨S8x4096x1024, .f32⟩
  | 56 => ⟨S_, .f32⟩
  | 57 => ⟨S8x4096, .f32⟩
  | 58 => ⟨S8x4096x1, .f32⟩
  | 59 => ⟨S8x4096x1024, .f32⟩
  | 60 => ⟨S8x4096x1024, .f32⟩
  | 61 => ⟨S8x4096x1024, .f32⟩
  | 62 => ⟨S8x4096x1, .f32⟩
  | 63 => ⟨S_, .f32⟩
  | 64 => ⟨S8x4096x1, .f32⟩
  | 65 => ⟨S8x4096x1, .f32⟩
  | 66 => ⟨S_, .f32⟩
  | 67 => ⟨S8x4096, .f32⟩
  | 68 => ⟨S8x4096x1024, .f32⟩
  | 69 => ⟨S8x4096x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S1x1x1024, .f32⟩
  | 75 => ⟨S8x1x1024, .f32⟩
  | 76 => ⟨S8x4096x1024, .f32⟩
  | 77 => ⟨S_, .f32⟩
  | 78 => ⟨S8x4096, .f32⟩
  | 79 => ⟨S8x4096x1, .f32⟩
  | 80 => ⟨S_, .f32⟩
  | 81 => ⟨S8x4096x1, .f32⟩
  | 82 => ⟨S8x4096x1, .f32⟩
  | 83 => ⟨S_, .f32⟩
  | 84 => ⟨S8x4096x1, .f32⟩
  | 85 => ⟨S8x4096x1, .f32⟩
  | 86 => ⟨S8x4096x1, .f32⟩
  | 87 => ⟨S8x4096x1, .f32⟩
  | 88 => ⟨S_, .f32⟩
  | 89 => ⟨S8x4096x1, .f32⟩
  | 90 => ⟨S8x4096x1, .f32⟩
  | 91 => ⟨S8x4096x1024, .f32⟩
  | 92 => ⟨S8x4096x1024, .f32⟩
  | 93 => ⟨S8x4096x1024, .f32⟩
  | 94 => ⟨S8x4096x1024, .f32⟩
  | 95 => ⟨S8x4096x1024, .f32⟩
  | 96 => ⟨S_, .f32⟩
  | 97 => ⟨S8x1024, .f32⟩
  | 98 => ⟨S8x1x1024, .f32⟩
  | 99 => ⟨S8x4096x1024, .f32⟩
  | 100 => ⟨S8x4096x1024, .f32⟩
  | 101 => ⟨S8x4096x1024, .f32⟩
  | 102 => ⟨S_, .f32⟩
  | 103 => ⟨S8x4096, .f32⟩
  | 104 => ⟨S8x4096x1, .f32⟩
  | 105 => ⟨S8x4096x1024, .f32⟩
  | 106 => ⟨S8x4096x1024, .f32⟩
  | 107 => ⟨S8x4096x1, .f32⟩
  | 108 => ⟨S_, .f32⟩
  | 109 => ⟨S8x4096x1, .f32⟩
  | 110 => ⟨S8x4096x1, .f32⟩
  | 111 => ⟨S_, .f32⟩
  | 112 => ⟨S8x4096, .f32⟩
  | 113 => ⟨S8x4096x1024, .f32⟩
  | 114 => ⟨S8x4096x1024, .f32⟩
  | 115 => ⟨S8x4096x1024, .f32⟩
  | 116 => ⟨S8x4096x1024, .f32⟩
  | 117 => ⟨S8x4096x1024, .f32⟩
  | 118 => ⟨S32768x1024, .f32⟩
  | 119 => ⟨S32768x1024, .f32⟩
  | 120 => ⟨S32768x1024, .bf16⟩
  | 121 => ⟨S64x128, .f32⟩
  | 122 => ⟨S64x128, .f32⟩
  | 123 => ⟨S4x2x4x352x1024, .bf16⟩
  | 124 => ⟨S4x2x4x352x1024, .bf16⟩
  | 125 => ⟨S32x352x1024, .bf16⟩
  | 126 => ⟨S4x2x4x352x1024, .bf16⟩
  | 127 => ⟨S4x2x4x352x1024, .bf16⟩
  | _ => ⟨S32768x2816, .bf16⟩

abbrev hbmTy0_1 (i : Nat) : BufTy := match i % 128 with
  | 0 => ⟨S32x352x1024, .bf16⟩
  | _ => ⟨S32768x2816, .bf16⟩

abbrev hbmTy (i : Nat) : BufTy := match i / 128 with
  | 0 => hbmTy0_0 i
  | 1 => hbmTy0_1 i
  | _ => ⟨S32768x2816, .bf16⟩

abbrev bufTy : (tb : Table) → Fin (tcTables nBuf tb) → BufTy
  | .hbm, ⟨i, _⟩ => hbmTy i
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2x4x352x1024 : Shape := ⟨4, ![2, 4, 352, 1024]⟩
abbrev S4x352x1024 : Shape := ⟨3, ![4, 352, 1024]⟩
abbrev S1024x1408 : Shape := ⟨2, ![1024, 1408]⟩
abbrev S1024x1024 : Shape := ⟨2, ![1024, 1024]⟩
abbrev S2x2x352x1024 : Shape := ⟨4, ![2, 2, 352, 1024]⟩
abbrev S1408x1024 : Shape := ⟨2, ![1408, 1024]⟩
abbrev S2 : Shape := ⟨1, ![2]⟩
abbrev S_ : Shape := ⟨0, ![]⟩
abbrev S1 : Shape := ⟨1, ![1]⟩
abbrev S1x4x352x1024 : Shape := ⟨4, ![1, 4, 352, 1024]⟩
abbrev S1x1x352x1024 : Shape := ⟨4, ![1, 1, 352, 1024]⟩
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2x4x352x1024, .bf16⟩
  | .hbm, ⟨3, _⟩ => ⟨S2x4x352x1024, .bf16⟩
  | .hbm, ⟨4, _⟩ => ⟨S2x4x352x1024, .bf16⟩
  | .hbm, ⟨5, _⟩ => ⟨S4x352x1024, .bf16⟩
  | .hbm, ⟨6, _⟩ => ⟨S4x352x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S2x2x352x1024, .bf16⟩
  | .local _ .vmem, ⟨5, _⟩ => ⟨S2x2x352x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev barrier0 : Sem sig := 0

abbrev nD : Nat := 8
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let arg1 : BitVec 32 := BitVec.ofNat 32 (i 1).val
  let c0_i32_3 : BitVec 32 := 0#32
  let v10 : BitVec 1 := Scalar.cmpi .eq arg1 c0_i32_3
  let v11 : BitVec 1 := Scalar.andi v9 v10
  let v12 : BitVec 32 := Scalar.extui v11
  let c0_i32_4 : BitVec 32 := 0#32
  let v13 : BitVec 1 := Scalar.cmpi .ne v12 c0_i32_4
  v13

def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v37 : BitVec 32 := Scalar.muli v2 c4_i32_20
  let v38 : BitVec 32 := Scalar.addi c0_i32_21 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v39 : BitVec 32 := Scalar.muli v5 c2_i32_22
  let v40 : BitVec 32 := Scalar.addi v38 v39
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_18 v8
  let c1_i32_23 : BitVec 32 := 1#32
  let v41 : BitVec 32 := Scalar.muli v35 c1_i32_23
  let v42 : BitVec 32 := Scalar.addi v40 v41
  v42.toNat
def k0_off1 (d0 : Dev nD) : Fin 4 → Nat :=
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_25 v8
  let c0_i32_35 : BitVec 32 := 0#32
  let c0_i32_36 : BitVec 32 := 0#32
  let c0_i32_37 : BitVec 32 := 0#32
  ![v43.toNat, 0, 0, 0]
def k0_dev2 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v47 : BitVec 32 := Scalar.muli v2 c4_i32_31
  let v48 : BitVec 32 := Scalar.addi c0_i32_32 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v49 : BitVec 32 := Scalar.muli v5 c2_i32_33
  let v50 : BitVec 32 := Scalar.addi v48 v49
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let c1_i32_34 : BitVec 32 := 1#32
  let v51 : BitVec 32 := Scalar.muli v44 c1_i32_34
  let v52 : BitVec 32 := Scalar.addi v50 v51
  v52.toNat
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v59 : BitVec 32 := Scalar.muli v2 c4_i32_40
  let v60 : BitVec 32 := Scalar.addi c0_i32_41 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v61 : BitVec 32 := Scalar.muli v5 c2_i32_42
  let v62 : BitVec 32 := Scalar.addi v60 v61
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let c1_i32_43 : BitVec 32 := 1#32
  let v63 : BitVec 32 := Scalar.muli v46 c1_i32_43
  let v64 : BitVec 32 := Scalar.addi v62 v63
  v64.toNat
def k0_cond4 (i : grid0.Coords) : BitVec 1 :=
  let arg0 : BitVec 32 := BitVec.ofNat 32 (i 0).val
  let c1_i32_15 : BitVec 32 := 1#32
  let v30 : BitVec 1 := Scalar.cmpi .eq arg0 c1_i32_15
  let arg1 : BitVec 32 := BitVec.ofNat 32 (i 1).val
  let c3_i32_16 : BitVec 32 := 3#32
  let v31 : BitVec 1 := Scalar.cmpi .eq arg1 c3_i32_16
  let v32 : BitVec 1 := Scalar.andi v30 v31
  let v33 : BitVec 32 := Scalar.extui v32
  let c0_i32_17 : BitVec 32 := 0#32
  let v34 : BitVec 1 := Scalar.cmpi .ne v33 c0_i32_17
  v34

def k0_off2 (d0 : Dev nD) : Fin 4 → Nat :=
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_18 v8
  let c0_i32_25 : BitVec 32 := 0#32
  let c0_i32_26 : BitVec 32 := 0#32
  let c0_i32_27 : BitVec 32 := 0#32
  ![v35.toNat, 0, 0, 0]
def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x2x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S32768x2816 : Shape := ⟨2, ![32768, 2816]⟩
abbrev S32768x1024 : Shape := ⟨2, ![32768, 1024]⟩
abbrev S16x4x352x1024 : Shape := ⟨4, ![16, 4, 352, 1024]⟩
abbrev S8x4096x2816 : Shape := ⟨3, ![8, 4096, 2816]⟩
abbrev S8x4096x1024 : Shape := ⟨3, ![8, 4096, 1024]⟩
abbrev S_ : Shape := ⟨0, ![]⟩
abbrev S8x2816x1024 : Shape := ⟨3, ![8, 2816, 1024]⟩
abbrev S8x1024x2816 : Shape := ⟨3, ![8, 1024, 2816]⟩
abbrev S8x4x2x352x1024 : Shape := ⟨5, ![8, 4, 2, 352, 1024]⟩
abbrev S8x2x4x352x1024 : Shape := ⟨5, ![8, 2, 4, 352, 1024]⟩
abbrev S4x2x2x4x352x1024 : Shape := ⟨6, ![4, 2, 2, 4, 352, 1024]⟩
abbrev S4x1x1x4x352x1024 : Shape := ⟨6, ![4, 1, 1, 4, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S32x352x1024 : Shape := ⟨3, ![32, 352, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32768x2816, .bf16⟩
  | .hbm, ⟨1, _⟩ => ⟨S32768x1024, .bf16⟩
  | .hbm, ⟨2, _⟩ => ⟨S16x4x352x1024, .bf16⟩
  | .hbm, ⟨3, _⟩ => ⟨S16x4x352x1024, .bf16⟩
  | .hbm, ⟨4, _⟩ => ⟨S8x4096x2816, .bf16⟩
  | .hbm, ⟨5, _⟩ => ⟨S8x4096x2816, .f32⟩
  | .hbm, ⟨6, _⟩ => ⟨S8x4096x1024, .bf16⟩
  | .hbm, ⟨7, _⟩ => ⟨S8x4096x1024, .f32⟩
  | .hbm, ⟨8, _⟩ => ⟨S_, .f32⟩
  | .hbm, ⟨9, _⟩ => ⟨S8x2816x1024, .f32⟩
  | .hbm, ⟨10, _⟩ => ⟨S8x4096x1024, .f32⟩
  | .hbm, ⟨11, _⟩ => ⟨S8x1024x2816, .f32⟩
  | .hbm, ⟨12, _⟩ => ⟨S8x2816x1024, .f32⟩
  | .hbm, ⟨13, _⟩ => ⟨S8x4x2x352x1024, .f32⟩
  | .hbm, ⟨14, _⟩ => ⟨S8x2x4x352x1024, .f32⟩
  | .hbm, ⟨15, _⟩ => ⟨S8x2x4x352x1024, .bf16⟩
  | .hbm, ⟨16, _⟩ => ⟨S16x4x352x1024, .bf16⟩
  | .hbm, ⟨17, _⟩ => ⟨S4x2x2x4x352x1024, .bf16⟩
  | .hbm, ⟨18, _⟩ => ⟨S4x1x1x4x352x1024, .bf16⟩
  | .hbm, ⟨19, _⟩ => ⟨S4x4x352x1024, .bf16⟩
  | .hbm, ⟨20, _⟩ => ⟨S4x1x1x4x352x1024, .bf16⟩
  | .hbm, ⟨21, _⟩ => ⟨S4x4x352x1024, .bf16⟩
  | .hbm, ⟨22, _⟩ => ⟨S4x1x4x352x1024, .bf16⟩
  | .hbm, ⟨23, _⟩ => ⟨S4x1x4x352x1024, .bf16⟩
  | .hbm, ⟨24, _⟩ => ⟨S4x2x4x352x1024, .bf16⟩
  | .hbm, ⟨25, _⟩ => ⟨S32x352x1024, .bf16⟩
  | .hbm, ⟨26, _⟩ => ⟨S4x2x2x4x352x1024, .bf16⟩
  | .hbm, ⟨27, _⟩ => ⟨S4x1x1x4x352x1024, .bf16⟩
  | .hbm, ⟨28, _⟩ => ⟨S4x4x352x1024, .bf16⟩
  | .hbm, ⟨29, _⟩ => ⟨S4x1x1x4x352x1024, .bf16⟩
  | .hbm, ⟨30, _⟩ => ⟨S4x4x352x1024, .bf16⟩
  | .hbm, ⟨31, _⟩ => ⟨S4x1x4x352x1024, .bf16⟩
  | .hbm, ⟨32, _⟩ => ⟨S4x1x4x352x1024, .bf16⟩
  | .hbm, ⟨33, _⟩ => ⟨S4x2x4x352x1024, .bf16⟩
  | .hbm, ⟨34, _⟩ => ⟨S32x352x1024, .bf16⟩
  | _, _ => ⟨S32768x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Kernel6.lean ====
abbrev S4096x1024 : Shape := ⟨2, ![4096, 1024]⟩
abbrev S8x352x1024 : Shape := ⟨3, ![8, 352, 1024]⟩
abbrev S352x1024 : Shape := ⟨2, ![352, 1024]⟩
abbrev S4096x2816 : Shape := ⟨2, ![4096, 2816]⟩
abbrev S1024x1024 : Shape := ⟨2, ![1024, 1024]⟩
abbrev S4x352x1024 : Shape := ⟨3, ![4, 352, 1024]⟩
abbrev S1024x1408 : Shape := ⟨2, ![1024, 1408]⟩
abbrev S7 : Shape := ⟨1, ![7]⟩
abbrev S1 : Shape := ⟨1, ![1]⟩
abbrev S_ : Shape := ⟨0, ![]⟩
abbrev S1x352x1024 : Shape := ⟨3, ![1, 352, 1024]⟩
abbrev S1408x1024 : Shape := ⟨2, ![1408, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S8x352x1024, .bf16⟩
  | .hbm, ⟨2, _⟩ => ⟨S8x352x1024, .bf16⟩
  | .hbm, ⟨3, _⟩ => ⟨S352x1024, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .hbm, ⟨7, _⟩ => ⟨S8x352x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S352x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev barrier1 : Sem sig := 0

abbrev nD : Nat := 8
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let arg0 : BitVec 32 := BitVec.ofNat 32 (i 0).val
  let c0_i32_8 : BitVec 32 := 0#32
  let v15 : BitVec 1 := Scalar.cmpi .eq arg0 c0_i32_8
  let v16 : BitVec 1 := Scalar.andi v14 v15
  let v17 : BitVec 32 := Scalar.extui v16
  let c0_i32_9 : BitVec 32 := 0#32
  let v18 : BitVec 1 := Scalar.cmpi .ne v17 c0_i32_9
  v18

def k0_dev1 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v55 : BitVec 32 := Scalar.muli v2 c4_i32_33
  let v56 : BitVec 32 := Scalar.addi c0_i32_34 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v57 : BitVec 32 := Scalar.muli v5 c2_i32_35
  let v58 : BitVec 32 := Scalar.addi v56 v57
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v59 : BitVec 32 := Scalar.muli v9 c1_i32_36
  let v60 : BitVec 32 := Scalar.addi v58 v59
  v60.toNat
def k0_dev2 (d0 : Dev nD) : Nat :=
  let c0_i32_39 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_38 : BitVec 32 := 4#32
  let v61 : BitVec 32 := Scalar.muli v10 c4_i32_38
  let v62 : BitVec 32 := Scalar.addi c0_i32_39 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v63 : BitVec 32 := Scalar.muli v5 c2_i32_40
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v65 : BitVec 32 := Scalar.muli v8 c1_i32_41
  let v66 : BitVec 32 := Scalar.addi v64 v65
  v66.toNat
def k0_dev3 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v67 : BitVec 32 := Scalar.muli v2 c4_i32_43
  let v68 : BitVec 32 := Scalar.addi c0_i32_44 v67
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_45 : BitVec 32 := 2#32
  let v69 : BitVec 32 := Scalar.muli v11 c2_i32_45
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v71 : BitVec 32 := Scalar.muli v8 c1_i32_46
  let v72 : BitVec 32 := Scalar.addi v70 v71
  v72.toNat
def k0_dev4 (d0 : Dev nD) : Nat :=
  let c0_i32_49 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_48 : BitVec 32 := 4#32
  let v73 : BitVec 32 := Scalar.muli v12 c4_i32_48
  let v74 : BitVec 32 := Scalar.addi c0_i32_49 v73
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_50 : BitVec 32 := 2#32
  let v75 : BitVec 32 := Scalar.muli v13 c2_i32_50
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v77 : BitVec 32 := Scalar.muli v8 c1_i32_51
  let v78 : BitVec 32 := Scalar.addi v76 v77
  v78.toNat
def k0_off1 (d0 : Dev nD) : Fin 3 → Nat :=
  let c4_i32_54 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.muli c4_i32_54 v2
  let c2_i32_55 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.muli c2_i32_55 v5
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v84 : BitVec 32 := Scalar.addi v83 v8
  let c0_i32_68 : BitVec 32 := 0#32
  let c0_i32_69 : BitVec 32 := 0#32
  ![v84.toNat, 0, 0]
def k0_dev5 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v97 : BitVec 32 := Scalar.muli v2 c4_i32_64
  let v98 : BitVec 32 := Scalar.addi c0_i32_65 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v99 : BitVec 32 := Scalar.muli v5 c2_i32_66
  let v100 : BitVec 32 := Scalar.addi v98 v99
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_67 : BitVec 32 := 1#32
  let v101 : BitVec 32 := Scalar.muli v9 c1_i32_67
  let v102 : BitVec 32 := Scalar.addi v100 v101
  v102.toNat
def k0_dev6 (d0 : Dev nD) : Nat :=
  let c0_i32_73 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_72 : BitVec 32 := 4#32
  let v109 : BitVec 32 := Scalar.muli v10 c4_i32_72
  let v110 : BitVec 32 := Scalar.addi c0_i32_73 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v111 : BitVec 32 := Scalar.muli v5 c2_i32_74
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v113 : BitVec 32 := Scalar.muli v8 c1_i32_75
  let v114 : BitVec 32 := Scalar.addi v112 v113
  v114.toNat
def k0_dev7 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v121 : BitVec 32 := Scalar.muli v2 c4_i32_80
  let v122 : BitVec 32 := Scalar.addi c0_i32_81 v121
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_82 : BitVec 32 := 2#32
  let v123 : BitVec 32 := Scalar.muli v11 c2_i32_82
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v125 : BitVec 32 := Scalar.muli v8 c1_i32_83
  let v126 : BitVec 32 := Scalar.addi v124 v125
  v126.toNat
def k0_dev8 (d0 : Dev nD) : Nat :=
  let c0_i32_89 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_88 : BitVec 32 := 4#32
  let v133 : BitVec 32 := Scalar.muli v12 c4_i32_88
  let v134 : BitVec 32 := Scalar.addi c0_i32_89 v133
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_90 : BitVec 32 := 2#32
  let v135 : BitVec 32 := Scalar.muli v13 c2_i32_90
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v137 : BitVec 32 := Scalar.muli v8 c1_i32_91
  let v138 : BitVec 32 := Scalar.addi v136 v137
  v138.toNat
def k0_cond2 (i : grid0.Coords) : BitVec 1 :=
  let arg0 : BitVec 32 := BitVec.ofNat 32 (i 0).val
  let c1_i32_27 : BitVec 32 := 1#32
  let v44 : BitVec 1 := Scalar.cmpi .eq arg0 c1_i32_27
  let arg1 : BitVec 32 := BitVec.ofNat 32 (i 1).val
  let c2_i32_28 : BitVec 32 := 2#32
  let v45 : BitVec 1 := Scalar.cmpi .eq arg1 c2_i32_28
  let v46 : BitVec 1 := Scalar.andi v44 v45
  let v47 : BitVec 32 := Scalar.extui v46
  let c0_i32_29 : BitVec 32 := 0#32
  let v48 : BitVec 1 := Scalar.cmpi .ne v47 c0_i32_29
  v48

def k0_off2 (d0 : Dev nD) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.muli c4_i32_33 v2
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.muli c2_i32_34 v5
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v59 : BitVec 32 := Scalar.addi v58 v8
  let c0_i32_36 : BitVec 32 := 0#32
  let c0_i32_37 : BitVec 32 := 0#32
  ![v59.toNat, 0, 0]
def k0_off3 (d0 : Dev nD) : Fin 3 → Nat :=
  let c4_i32_40 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v68 : BitVec 32 := Scalar.muli c4_i32_40 v10
  let c2_i32_41 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.muli c2_i32_41 v5
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v71 : BitVec 32 := Scalar.addi v70 v8
  let c0_i32_48 : BitVec 32 := 0#32
  let c0_i32_49 : BitVec 32 := 0#32
  ![v71.toNat, 0, 0]
def k0_dev9 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v92 : BitVec 32 := Scalar.muli v2 c4_i32_58
  let v93 : BitVec 32 := Scalar.addi c0_i32_59 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v94 : BitVec 32 := Scalar.muli v5 c2_i32_60
  let v95 : BitVec 32 := Scalar.addi v93 v94
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_61 : BitVec 32 := 1#32
  let v96 : BitVec 32 := Scalar.muli v9 c1_i32_61
  let v97 : BitVec 32 := Scalar.addi v95 v96
  v97.toNat
def k0_off4 (d0 : Dev nD) : Fin 3 → Nat :=
  let c4_i32_68 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.muli c4_i32_68 v2
  let c2_i32_69 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v111 : BitVec 32 := Scalar.muli c2_i32_69 v11
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v113 : BitVec 32 := Scalar.addi v112 v8
  let c0_i32_76 : BitVec 32 := 0#32
  let c0_i32_77 : BitVec 32 := 0#32
  ![v113.toNat, 0, 0]
def k0_dev10 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v134 : BitVec 32 := Scalar.muli v2 c4_i32_85
  let v135 : BitVec 32 := Scalar.addi c0_i32_86 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v136 : BitVec 32 := Scalar.muli v5 c2_i32_87
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v138 : BitVec 32 := Scalar.muli v9 c1_i32_88
  let v139 : BitVec 32 := Scalar.addi v137 v138
  v139.toNat
def k0_off5 (d0 : Dev nD) : Fin 3 → Nat :=
  let c4_i32_95 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v152 : BitVec 32 := Scalar.muli c4_i32_95 v12
  let c2_i32_96 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v153 : BitVec 32 := Scalar.muli c2_i32_96 v13
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v155 : BitVec 32 := Scalar.addi v154 v8
  let c0_i32_103 : BitVec 32 := 0#32
  let c0_i32_104 : BitVec 32 := 0#32
  ![v155.toNat, 0, 0]
def k0_dev11 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v176 : BitVec 32 := Scalar.muli v2 c4_i32_112
  let v177 : BitVec 32 := Scalar.addi c0_i32_113 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v178 : BitVec 32 := Scalar.muli v5 c2_i32_114
  let v179 : BitVec 32 := Scalar.addi v177 v178
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_115 : BitVec 32 := 1#32
  let v180 : BitVec 32 := Scalar.muli v9 c1_i32_115
  let v181 : BitVec 32 := Scalar.addi v179 v180
  v181.toNat
def k0_cond3 (i : grid0.Coords) : BitVec 1 :=
  let arg0 : BitVec 32 := BitVec.ofNat 32 (i 0).val
  let c1_i32_30 : BitVec 32 := 1#32
  let v49 : BitVec 1 := Scalar.cmpi .eq arg0 c1_i32_30
  let arg1 : BitVec 32 := BitVec.ofNat 32 (i 1).val
  let c3_i32 : BitVec 32 := 3#32
  let v50 : BitVec 1 := Scalar.cmpi .eq arg1 c3_i32
  let v51 : BitVec 1 := Scalar.andi v49 v50
  let v52 : BitVec 32 := Scalar.extui v51
  let c0_i32_31 : BitVec 32 := 0#32
  let v53 : BitVec 1 := Scalar.cmpi .ne v52 c0_i32_31
  v53

def k0_off6 (d0 : Dev nD) : Fin 3 → Nat :=
  let c4_i32_34 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v58 : BitVec 32 := Scalar.muli c4_i32_34 v2
  let c2_i32_35 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.muli c2_i32_35 v5
  let v60 : BitVec 32 := Scalar.addi v58 v59
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v61 : BitVec 32 := Scalar.addi v60 v9
  let c0_i32_42 : BitVec 32 := 0#32
  let c0_i32_43 : BitVec 32 := 0#32
  ![v61.toNat, 0, 0]
def k0_off7 (d0 : Dev nD) : Fin 3 → Nat :=
  let c4_i32_49 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v79 : BitVec 32 := Scalar.muli c4_i32_49 v10
  let c2_i32_50 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v80 : BitVec 32 := Scalar.muli c2_i32_50 v5
  let v81 : BitVec 32 := Scalar.addi v79 v80
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_46 v8
  let v82 : BitVec 32 := Scalar.addi v81 v74
  let c0_i32_57 : BitVec 32 := 0#32
  let c0_i32_58 : BitVec 32 := 0#32
  ![v82.toNat, 0, 0]
def k0_off8 (d0 : Dev nD) : Fin 3 → Nat :=
  let c4_i32_64 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v100 : BitVec 32 := Scalar.muli c4_i32_64 v2
  let c2_i32_65 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v101 : BitVec 32 := Scalar.muli c2_i32_65 v11
  let v102 : BitVec 32 := Scalar.addi v100 v101
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let v103 : BitVec 32 := Scalar.addi v102 v95
  let c0_i32_71 : BitVec 32 := 0#32
  let c0_i32_72 : BitVec 32 := 0#32
  ![v103.toNat, 0, 0]
def k0_off9 (d0 : Dev nD) : Fin 3 → Nat :=
  let c4_i32_78 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v121 : BitVec 32 := Scalar.muli c4_i32_78 v12
  let c2_i32_79 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v122 : BitVec 32 := Scalar.muli c2_i32_79 v13
  let v123 : BitVec 32 := Scalar.addi v121 v122
  let c1_i32_75 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v116 : BitVec 32 := Scalar.subi c1_i32_75 v8
  let v124 : BitVec 32 := Scalar.addi v123 v116
  let c0_i32_85 : BitVec 32 := 0#32
  let c0_i32_86 : BitVec 32 := 0#32
  ![v124.toNat, 0, 0]
def k0_off10 (d0 : Dev nD) : Fin 3 → Nat :=
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v137 : BitVec 32 := Scalar.muli c4_i32_89 v2
  let c2_i32_90 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v138 : BitVec 32 := Scalar.muli c2_i32_90 v5
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v140 : BitVec 32 := Scalar.addi v139 v8
  let c0_i32_112 : BitVec 32 := 0#32
  let c0_i32_113 : BitVec 32 := 0#32
  ![v140.toNat, 0, 0]
def k0_off11 (d0 : Dev nD) : Fin 3 → Nat :=
  let c4_i32_97 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v153 : BitVec 32 := Scalar.muli c4_i32_97 v10
  let c2_i32_98 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v154 : BitVec 32 := Scalar.muli c2_i32_98 v5
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v156 : BitVec 32 := Scalar.addi v155 v8
  let c0_i32_132 : BitVec 32 := 0#32
  let c0_i32_133 : BitVec 32 := 0#32
  ![v156.toNat, 0, 0]
def k0_off12 (d0 : Dev nD) : Fin 3 → Nat :=
  let c4_i32_101 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.muli c4_i32_101 v2
  let c2_i32_102 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v162 : BitVec 32 := Scalar.muli c2_i32_102 v11
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v164 : BitVec 32 := Scalar.addi v163 v8
  let c0_i32_139 : BitVec 32 := 0#32
  let c0_i32_140 : BitVec 32 := 0#32
  ![v164.toNat, 0, 0]
def k0_off13 (d0 : Dev nD) : Fin 3 → Nat :=
  let c4_i32_105 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v169 : BitVec 32 := Scalar.muli c4_i32_105 v12
  let c2_i32_106 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v170 : BitVec 32 := Scalar.muli c2_i32_106 v13
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v172 : BitVec 32 := Scalar.addi v171 v8
  let c0_i32_146 : BitVec 32 := 0#32
  let c0_i32_147 : BitVec 32 := 0#32
  ![v172.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S32768x1024 : Shape := ⟨2, ![32768, 1024]⟩
abbrev S8x352x1024 : Shape := ⟨3, ![8, 352, 1024]⟩
abbrev S2816x1024 : Shape := ⟨2, ![2816, 1024]⟩
abbrev S1024x2816 : Shape := ⟨2, ![1024, 2816]⟩
abbrev S32768x2816 : Shape := ⟨2, ![32768, 2816]⟩
abbrev S_ : Shape := ⟨0, ![]⟩
abbrev S1x8x352x1024 : Shape := ⟨4, ![1, 8, 352, 1024]⟩
abbrev S8x8x352x1024 : Shape := ⟨4, ![8, 8, 352, 1024]⟩
abbrev S64x352x1024 : Shape := ⟨3, ![64, 352, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S8x352x1024, .bf16⟩
  | .hbm, ⟨2, _⟩ => ⟨S8x352x1024, .bf16⟩
  | .hbm, ⟨3, _⟩ => ⟨S2816x1024, .bf16⟩
  | .hbm, ⟨4, _⟩ => ⟨S32768x1024, .f32⟩
  | .hbm, ⟨5, _⟩ => ⟨S2816x1024, .bf16⟩
  | .hbm, ⟨6, _⟩ => ⟨S2816x1024, .f32⟩
  | .hbm, ⟨7, _⟩ => ⟨S1024x2816, .f32⟩
  | .hbm, ⟨8, _⟩ => ⟨S2816x1024, .bf16⟩
  | .hbm, ⟨9, _⟩ => ⟨S2816x1024, .f32⟩
  | .hbm, ⟨10, _⟩ => ⟨S1024x2816, .f32⟩
  | .hbm, ⟨11, _⟩ => ⟨S32768x2816, .f32⟩
  | .hbm, ⟨12, _⟩ => ⟨S32768x2816, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S_, .f32⟩
  | .hbm, ⟨19, _⟩ => ⟨S32768x2816, .f32⟩
  | .hbm, ⟨20, _⟩ => ⟨S32768x2816, .f32⟩
  | .hbm, ⟨21, _⟩ => ⟨S32768x2816, .f32⟩
  | .hbm, ⟨22, _⟩ => ⟨S32768x2816, .f32⟩
  | .hbm, ⟨23, _⟩ => ⟨S1x8x352x1024, .bf16⟩
  | .hbm, ⟨24, _⟩ => ⟨S8x8x352x1024, .bf16⟩
  | .hbm, ⟨25, _⟩ => ⟨S32768x2816, .bf16⟩
  | .hbm, ⟨26, _⟩ => ⟨S32768x2816, .bf16⟩
  | .hbm, ⟨27, _⟩ => ⟨S32768x2816, .bf16⟩
  | .hbm, ⟨28, _⟩ => ⟨S64x352x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.DownCases.lean ====
/-
  What each grid point of the gradient of the down projection leaves in its blocks, read at an index: the two blocks of
  the activations' gradients at every point, the carried pair of sums over the tokens seen so far, and, at a run's last
  point, the four pieces of each weight gradient's block.
-/
module

public import proofs.«01_k».proof.Proof.Gen.KernelIdeal.Value
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Down

open Cert.KernelIdeal Cert.KernelIdeal.Gen

/-! ## The two slabs of the carried sums -/

/-- The slab of the gate's sums and the slab of the up projection's sums. -/
abbrev slab0 : Rect S2x1408x1024 := Rect.unit ![0, 0, 0] ![1, 1408, 1024] inb_S2x1408x1024_S1x1408x1024_0_0_0
abbrev slab1 : Rect S2x1408x1024 := Rect.unit ![1, 0, 0] ![1, 1408, 1024] inb_S2x1408x1024_S1x1408x1024_1_0_0
abbrev slabs : Rect S2x1408x1024 := Rect.unit ![0, 0, 0] ![2, 1408, 1024] inb_S2x1408x1024_S2x1408x1024_0_0_0

theorem emb_slab0 (f : Fin 1408) (d : Fin 1024) : slab0.emb (ix3 0 f d : S1x1408x1024.Idx) = (ix3 0 f d : S2x1408x1024.Idx) := by
  funext a; apply Fin.ext
  match a with
  | ⟨0, _⟩ => rfl
  | ⟨1, _⟩ => show 0 + 1 * f.val = f.val; omega
  | ⟨2, _⟩ => show 0 + 1 * d.val = d.val; omega

theorem emb_slab1 (f : Fin 1408) (d : Fin 1024) : slab1.emb (ix3 0 f d : S1x1408x1024.Idx) = (ix3 1 f d : S2x1408x1024.Idx) := by
  funext a; apply Fin.ext
  match a with
  | ⟨0, _⟩ => rfl
  | ⟨1, _⟩ => show 0 + 1 * f.val = f.val; omega
  | ⟨2, _⟩ => show 0 + 1 * d.val = d.val; omega

theorem emb_slabs (s : Fin 2) (f : Fin 1408) (d : Fin 1024) :
    slabs.emb (ix3 s f d : S2x1408x1024.Idx) = (ix3 s f d : S2x1408x1024.Idx) := by
  funext a; apply Fin.ext
  match a with
  | ⟨0, _⟩ => show 0 + 1 * s.val = s.val; omega
  | ⟨1, _⟩ => show 0 + 1 * f.val = f.val; omega
  | ⟨2, _⟩ => show 0 + 1 * d.val = d.val; omega

theorem not_mem_slab0 (f : Fin 1408) (d : Fin 1024) : (ix3 1 f d : S2x1408x1024.Idx) ∉ slab0.set := by
  rw [Rect.mem_set_unit]; intro h
  exact absurd (h 0).2 (by show ¬ (1 < 0 + 1); omega)

theorem not_mem_slab1 (f : Fin 1408) (d : Fin 1024) : (ix3 0 f d : S2x1408x1024.Idx) ∉ slab1.set := by
  rw [Rect.mem_set_unit]; intro h
  exact absurd (h 0).1 (by show ¬ (1 ≤ 0); omega)

abbrev Slab := Vec Ideal S1x1408x1024 .f32

section Canon
variable (w0 w1 : Slab) (L : List (View.Piece (Elt Ideal) S2x1408x1024 .f32))

theorem canon_slab1 (f : Fin 1408) (d : Fin 1024) :
    View.canon (⟨slab1, w1⟩ :: L) (ix3 1 f d) = w1 (ix3 0 f d) := by
  exact (congrArg (View.canon (⟨slab1, w1⟩ :: L)) (emb_slab1 f d).symm).trans (View.canon_cons_emb slab1 w1 L (ix3 0 f d))

theorem canon_slab0 (f : Fin 1408) (d : Fin 1024) :
    View.canon (⟨slab1, w1⟩ :: ⟨slab0, w0⟩ :: L) (ix3 0 f d) = w0 (ix3 0 f d) := by
  rw [View.canon_cons_of_not_mem (⟨slab1, w1⟩ : View.Piece (Elt Ideal) S2x1408x1024 .f32) _ (not_mem_slab1 f d)]
  exact (congrArg (View.canon (⟨slab0, w0⟩ :: L)) (emb_slab0 f d).symm).trans (View.canon_cons_emb slab0 w0 L (ix3 0 f d))

theorem readCov_slab1 {v : View sig .tc .vmem S2x1408x1024 .f32} :
    v.readCov (⟨slab1, w1⟩ :: L) slab1.toLoadRect = w1 := View.readCov_cons_toLoadRect v slab1 w1 L

theorem readCov_slab0 {v : View sig .tc .vmem S2x1408x1024 .f32} :
    v.readCov (⟨slab1, w1⟩ :: ⟨slab0, w0⟩ :: L) slab0.toLoadRect = w0 := by
  rw [View.readCov_eq_canon']
  funext j
  obtain ⟨f, d, rfl⟩ : ∃ (f : Fin 1408) (d : Fin 1024), j = (ix3 0 f d : S1x1408x1024.Idx) :=
    ⟨j 1, j 2, by funext a; match a with
      | ⟨0, _⟩ => exact Fin.ext (by have := (j 0).isLt; show (j 0).val = 0; change (j 0).val < 1 at this; omega)
      | ⟨1, _⟩ => rfl
      | ⟨2, _⟩ => rfl⟩
  exact (congrArg _ (emb_slab0 f d)).trans (canon_slab0 w0 w1 L f d)

/-- A slab read back from the whole pair's first store. -/
theorem readCov_first0 {v : View sig .tc .vmem S2x1408x1024 .f32} (z : Vec Ideal S2x1408x1024 .f32) (f : Fin 1408) (d : Fin 1024) :
    v.readCov [⟨slabs, z⟩] slab0.toLoadRect (ix3 0 f d : S1x1408x1024.Idx) = z (ix3 0 f d) := by
  rw [View.readCov_eq_canon']
  exact (congrArg _ ((emb_slab0 f d).trans (emb_slabs 0 f d).symm)).trans (View.canon_cons_emb slabs z [] (ix3 0 f d))

theorem readCov_first1 {v : View sig .tc .vmem S2x1408x1024 .f32} (z : Vec Ideal S2x1408x1024 .f32) (f : Fin 1408) (d : Fin 1024) :
    v.readCov [⟨slab0, w0⟩, ⟨slabs, z⟩] slab1.toLoadRect (ix3 0 f d : S1x1408x1024.Idx) = z (ix3 1 f d) := by
  rw [View.readCov_eq_canon']
  refine (congrArg _ (emb_slab1 f d)).trans ?_
  rw [View.canon_cons_of_not_mem (⟨slab0, w0⟩ : View.Piece (Elt Ideal) S2x1408x1024 .f32) _ (not_mem_slab0 f d)]
  exact (congrArg _ (emb_slabs 1 f d).symm).trans (View.canon_cons_emb slabs z [] (ix3 1 f d))

theorem ld_slab0 (x : Vec Ideal S2x1408x1024 .f32) (f : Fin 1408) (d : Fin 1024) :
    View.ld x slab0 (ix3 0 f d : S1x1408x1024.Idx) = x (ix3 0 f d) := by
  rw [View.ld_apply]; exact congrArg x (emb_slab0 f d)

theorem ld_slab1 (x : Vec Ideal S2x1408x1024 .f32) (f : Fin 1408) (d : Fin 1024) :
    View.ld x slab1 (ix3 0 f d : S1x1408x1024.Idx) = x (ix3 1 f d) := by
  rw [View.ld_apply]; exact congrArg x (emb_slab1 f d)
end Canon

/-! ## The stored values at an index -/

theorem pay1_apply (x0 : FVec Ideal S512x1408 .bf16) (x1 : Slab) (x2 : Vec Ideal S512x1024 .bf16) (f : Fin 1408) (d : Fin 1024) :
    k0_pay1 x0 x1 x2 (ix3 0 f d) = x1 (ix3 0 f d) + ∑ r : Fin 512, x0 (ix2 r f) * x2 (ix2 r d) := by
  pointwise [k0_pay1]

theorem pay2_apply (x0 : FVec Ideal S512x1408 .bf16) (x1 : Slab) (x2 : Vec Ideal S512x1024 .bf16) (f : Fin 1408) (d : Fin 1024) :
    k0_pay2 x0 x1 x2 (ix3 0 f d) = x1 (ix3 0 f d) + ∑ r : Fin 512, x0 (ix2 r f) * x2 (ix2 r d) := by
  pointwise [k0_pay2]

theorem pay14_apply (j : S2x1408x1024.Idx) : k0_pay14 (F := Ideal) j = 0 := by
  pointwise [k0_pay14]

/-! ## Each point's contents -/

variable (m : (ℓ : Loc nD τ sig) → Buf (Elt Ideal) ℓ)

/-- The blocks of the two activations' gradients at a point. -/
abbrev dgateAt (c : Dev nD) (t : Fin cfg0.N) : FVec Ideal S512x1408 .bf16 :=
  k0_pay18 (iblk m c 0 t) (iblk m c 1 t) (iblk m c 2 t) (iblk m c 3 t)
abbrev dupAt (c : Dev nD) (t : Fin cfg0.N) : FVec Ideal S512x1408 .bf16 :=
  k0_pay19 (iblk m c 0 t) (iblk m c 1 t) (iblk m c 2 t)

theorem dgate_point (c : Dev nD) (t : Fin cfg0.N) : (outsAt0 m c t.val t.isLt).1 = dgateAt m c t := by
  by_cases h0 : t.val % 8 = 0
  · have h1 : ¬t.val % 8 = 7 := by omega
    rw [outsAt0_A m c t h0 h1]; frame_out
  · by_cases h1 : t.val % 8 = 7
    · rw [outsAt0_C m c t h0 h1]; frame_out
    · rw [outsAt0_B m c t h0 h1]; frame_out

theorem dup_point (c : Dev nD) (t : Fin cfg0.N) : (outsAt0 m c t.val t.isLt).2.1 = dupAt m c t := by
  by_cases h0 : t.val % 8 = 0
  · have h1 : ¬t.val % 8 = 7 := by omega
    rw [outsAt0_A m c t h0 h1]; frame_out
  · by_cases h1 : t.val % 8 = 7
    · rw [outsAt0_C m c t h0 h1]; frame_out
    · rw [outsAt0_B m c t h0 h1]; frame_out

/-- What a point adds to the carried sums. -/
def term (c : Dev nD) (t : Fin cfg0.N) (j : S2x1408x1024.Idx) : EReal :=
  ∑ r : Fin 512, (if (j 0).val = 0 then dgateAt m c t (ix2 r (j 1)) else dupAt m c t (ix2 r (j 1)))
    * (iblk m c 4 t : Vec Ideal S512x1024 .bf16) (ix2 r (j 2))

theorem slab_cases (j : S2x1408x1024.Idx) : (∃ (f : Fin 1408) (d : Fin 1024), j = ix3 0 f d)
    ∨ ∃ (f : Fin 1408) (d : Fin 1024), j = ix3 1 f d := by
  have h := (j 0).isLt
  change (j 0).val < 2 at h
  rcases (show (j 0).val = 0 ∨ (j 0).val = 1 by omega) with h | h
  · exact .inl ⟨j 1, j 2, by funext a; match a with
      | ⟨0, _⟩ => exact Fin.ext h
      | ⟨1, _⟩ => rfl
      | ⟨2, _⟩ => rfl⟩
  · exact .inr ⟨j 1, j 2, by funext a; match a with
      | ⟨0, _⟩ => exact Fin.ext h
      | ⟨1, _⟩ => rfl
      | ⟨2, _⟩ => rfl⟩

theorem sums_first (c : Dev nD) (t : Fin cfg0.N) (h0 : t.val % 8 = 0) (j : S2x1408x1024.Idx) :
    (outsAt0 m c t.val t.isLt).2.2.2.2 j = (0 : EReal) + term m c t j := by
  have h1 : ¬t.val % 8 = 7 := by omega
  rw [outsAt0_A m c t h0 h1]; frame_out
  rcases slab_cases j with ⟨f, d, rfl⟩ | ⟨f, d, rfl⟩
  · rw [canon_slab0, pay1_apply, readCov_first0, pay14_apply]; rfl
  · rw [canon_slab1, pay2_apply, readCov_first1, pay14_apply]; rfl

theorem sums_next (c : Dev nD) (t : Fin cfg0.N) (h0 : ¬t.val % 8 = 0) (j : S2x1408x1024.Idx) :
    (outsAt0 m c t.val t.isLt).2.2.2.2 j
      = (outsAt0 m c (t.val - 1) (Nat.lt_of_le_of_lt (Nat.sub_le _ _) t.isLt)).2.2.2.2 j + term m c t j := by
  by_cases h1 : t.val % 8 = 7
  · rw [outsAt0_C m c t h0 h1]; frame_out
    rcases slab_cases j with ⟨f, d, rfl⟩ | ⟨f, d, rfl⟩
    · rw [canon_slab0, pay1_apply, ld_slab0, (Memref.isWhole_whole _).read_unread]; rfl
    · rw [canon_slab1, pay2_apply, ld_slab1, (Memref.isWhole_whole _).read_unread]; rfl
  · rw [outsAt0_B m c t h0 h1]; frame_out
    rcases slab_cases j with ⟨f, d, rfl⟩ | ⟨f, d, rfl⟩
    · rw [canon_slab0, pay1_apply, ld_slab0, (Memref.isWhole_whole _).read_unread]; rfl
    · rw [canon_slab1, pay2_apply, ld_slab1, (Memref.isWhole_whole _).read_unread]; rfl

/-- The carried sums after a run's last point: every point of the run has added its term. -/
theorem sums_last (c : Dev nD) (t : Fin cfg0.N) (h1 : t.val % 8 = 7) (j : S2x1408x1024.Idx) :
    (outsAt0 m c t.val t.isLt).2.2.2.2 j
      = ∑ s : Fin 8, term m c ⟨8 * (t.val / 8) + s.val, Pipeline.run_point_lt_of_flush t h1 s⟩ j := by
  have h := Pipeline.eq_sum_fin_of_reset_step_apply_of_flush (fun n h => (outsAt0 m c n h).2.2.2.2) 8 (fun _ => (0 : EReal)) (term m c)
    (sums_first m c) (sums_next m c) t h1 j
  rw [zero_add] at h
  exact h

/-! ## A run's last point: the pieces of the weight gradients' blocks -/

theorem pay8_apply (x : Slab) (r : Fin 352) (d : Fin 1024) :
    k0_pay8 x (ix4 0 0 r d) = x (ix3 0 ⟨0 + r.val, by omega⟩ d) := by
  pointwise [k0_pay8, k0_pay7]

theorem pay9_apply (x : Slab) (r : Fin 352) (d : Fin 1024) :
    k0_pay9 x (ix4 0 0 r d) = x (ix3 0 ⟨352 + r.val, by omega⟩ d) := by
  pointwise [k0_pay9, k0_pay7]

theorem pay10_apply (x : Slab) (r : Fin 352) (d : Fin 1024) :
    k0_pay10 x (ix4 0 0 r d) = x (ix3 0 ⟨704 + r.val, by omega⟩ d) := by
  pointwise [k0_pay10, k0_pay7]

theorem pay11_apply (x : Slab) (r : Fin 352) (d : Fin 1024) :
    k0_pay11 x (ix4 0 0 r d) = x (ix3 0 ⟨1056 + r.val, by omega⟩ d) := by
  pointwise [k0_pay11, k0_pay7]

/-- A piece that holds the rows of `w` from row `k` on, at an index of the piece. -/
theorem piece_apply (w : S1x1408x1024.Idx → EReal) (P : S1x1x352x1024.Idx → EReal) (k : Nat) (hk : k + 352 ≤ 1408)
    (hP : ∀ (r : Fin 352) (d : Fin 1024), P (ix4 0 0 r d) = w (ix3 0 ⟨k + r.val, by omega⟩ d))
    (x : S1x1x352x1024.Idx) (f : Fin 1408) (d : Fin 1024) (hf : f.val = k + (x 2).val) (hd : d.val = (x 3).val) :
    P x = w (ix3 0 f d) := by
  have h0 : (x 0).val < 1 := (x 0).isLt
  have h1 : (x 1).val < 1 := (x 1).isLt
  have e : x = ix4 (0 : Fin 1) (0 : Fin 1) (x 2) d := by
    funext a; match a with
    | ⟨0, _⟩ => exact Fin.ext (by show (x 0).val = 0; omega)
    | ⟨1, _⟩ => exact Fin.ext (by show (x 1).val = 0; omega)
    | ⟨2, _⟩ => rfl
    | ⟨3, _⟩ => exact Fin.ext hd.symm
  rw [e]
  refine (hP (x 2) d).trans (congrArg (fun f => w (ix3 0 f d)) (Fin.ext hf.symm))

theorem pay3_apply (x : Slab) (r : Fin 352) (d : Fin 1024) :
    k0_pay3 (k0_pay13 x) (ix4 0 0 r d) = x (ix3 0 ⟨0 + r.val, by omega⟩ d) := by
  pointwise [k0_pay3, k0_pay13, k0_pay12]

theorem pay4_apply (x : Slab) (r : Fin 352) (d : Fin 1024) :
    k0_pay4 (k0_pay12 x) (ix4 0 0 r d) = x (ix3 0 ⟨352 + r.val, by omega⟩ d) := by
  pointwise [k0_pay4, k0_pay12]

theorem pay5_apply (x : Slab) (r : Fin 352) (d : Fin 1024) :
    k0_pay5 (k0_pay12 x) (ix4 0 0 r d) = x (ix3 0 ⟨704 + r.val, by omega⟩ d) := by
  pointwise [k0_pay5, k0_pay12]

theorem pay6_apply (x : Slab) (r : Fin 352) (d : Fin 1024) :
    k0_pay6 (k0_pay12 x) (ix4 0 0 r d) = x (ix3 0 ⟨1056 + r.val, by omega⟩ d) := by
  pointwise [k0_pay6, k0_pay12]

theorem last7 (c : Dev nD) (t : Fin cfg0.N) (h1 : t.val % 8 = 7) (core chip : Fin 2) (q : Fin 352) (d : Fin 1024) :
    (outsAt0 m c t.val t.isLt).2.2.1 (ix4 core chip q d)
      = (outsAt0 m c t.val t.isLt).2.2.2.2 (ix3 0 ⟨(2 * chip.val + core.val) * 352 + q.val, by omega⟩ d) := by
  have h0 : ¬t.val % 8 = 0 := by omega
  rw [outsAt0_C m c t h0 h1]; frame_out
  rw [canon_slab0]
  simp only [readCov_slab0]
  generalize k0_pay1 (F := Ideal) _ _ _ = w
  canon_tiles x h
  · change core.val = _ at h0; change chip.val = _ at h1; change q.val = _ at h2; change d.val = _ at h3
    refine piece_apply w (k0_pay11 (F := Ideal) w) 1056 (by omega) (pay11_apply w) x _ _ ?_ h3; dsimp only; omega
  · change core.val = _ at h0; change chip.val = _ at h1; change q.val = _ at h2; change d.val = _ at h3
    refine piece_apply w (k0_pay10 (F := Ideal) w) 704 (by omega) (pay10_apply w) x _ _ ?_ h3; dsimp only; omega
  · change core.val = _ at h0; change chip.val = _ at h1; change q.val = _ at h2; change d.val = _ at h3
    refine piece_apply w (k0_pay9 (F := Ideal) w) 352 (by omega) (pay9_apply w) x _ _ ?_ h3; dsimp only; omega
  · change core.val = _ at h0; change chip.val = _ at h1; change q.val = _ at h2; change d.val = _ at h3
    refine piece_apply w (k0_pay8 (F := Ideal) w) 0 (by omega) (pay8_apply w) x _ _ ?_ h3; dsimp only; omega

theorem last8 (c : Dev nD) (t : Fin cfg0.N) (h1 : t.val % 8 = 7) (core chip : Fin 2) (q : Fin 352) (d : Fin 1024) :
    (outsAt0 m c t.val t.isLt).2.2.2.1 (ix4 core chip q d)
      = (outsAt0 m c t.val t.isLt).2.2.2.2 (ix3 1 ⟨(2 * chip.val + core.val) * 352 + q.val, by omega⟩ d) := by
  have h0 : ¬t.val % 8 = 0 := by omega
  rw [outsAt0_C m c t h0 h1]; frame_out
  rw [canon_slab1]
  simp only [readCov_slab1]
  generalize k0_pay2 (F := Ideal) _ _ _ = w
  canon_tiles x h
  · change core.val = _ at h0; change chip.val = _ at h1; change q.val = _ at h2; change d.val = _ at h3
    refine piece_apply w (k0_pay6 (F := Ideal) (k0_pay12 w)) 1056 (by omega) (pay6_apply w) x _ _ ?_ h3; dsimp only; omega
  · change core.val = _ at h0; change chip.val = _ at h1; change q.val = _ at h2; change d.val = _ at h3
    refine piece_apply w (k0_pay5 (F := Ideal) (k0_pay12 w)) 704 (by omega) (pay5_apply w) x _ _ ?_ h3; dsimp only; omega
  · change core.val = _ at h0; change chip.val = _ at h1; change q.val = _ at h2; change d.val = _ at h3
    refine piece_apply w (k0_pay4 (F := Ideal) (k0_pay12 w)) 352 (by omega) (pay4_apply w) x _ _ ?_ h3; dsimp only; omega
  · change core.val = _ at h0; change chip.val = _ at h1; change q.val = _ at h2; change d.val = _ at h3
    refine piece_apply w (k0_pay3 (F := Ideal) (k0_pay13 w)) 0 (by omega) (pay3_apply w) x _ _ ?_ h3; dsimp only; omega

end Cert.KernelIdeal.Down
-- ==== Proof.DownSpec.lean ====
/-
  The backward pass of the gated feed-forward layer's down projection, as plain mathematics over the extended reals: the
  two pre-activations, the gradient of their product, and the gradients that the chain rule gives.
-/
module

public import Idealize.ShloMosaic.Lib.Pointwise

@[expose] public section

noncomputable section

open Idealize.ShloMosaic

namespace Cert.Down

abbrev Act : Type := (⟨2, ![4096, 1024]⟩ : Shape).Idx → EReal
abbrev WIn : Type := (⟨2, ![1024, 2816]⟩ : Shape).Idx → EReal
abbrev WOut : Type := (⟨2, ![2816, 1024]⟩ : Shape).Idx → EReal

/-- A pre-activation of a token. -/
def pre (h : Act) (w : WIn) (r : Fin 4096) (f : Fin 2816) : EReal := ∑ k : Fin 1024, h (ix2 r k) * w (ix2 k f)

/-- The gradient of the layer's product of activations. -/
def da (df : Act) (wd : WOut) (r : Fin 4096) (f : Fin 2816) : EReal := ∑ k : Fin 1024, df (ix2 r k) * wd (ix2 f k)

/-- The logistic function as the kernel writes it. -/
def sig (g : EReal) : EReal := Ideal.div 1 (1 + Ideal.exp (0 - g))

/-- The gradient of the gate's pre-activation, and of the up projection's. -/
def dgate (g u a : EReal) : EReal := a * u * (sig g * (1 + g * (1 - sig g)))
def dup (g a : EReal) : EReal := a * (g * sig g)

def dgateAt (h : Act) (wg wu : WIn) (wd : WOut) (df : Act) (r : Fin 4096) (f : Fin 2816) : EReal :=
  dgate (pre h wg r f) (pre h wu r f) (da df wd r f)
def dupAt (h : Act) (wg : WIn) (wd : WOut) (df : Act) (r : Fin 4096) (f : Fin 2816) : EReal :=
  dup (pre h wg r f) (da df wd r f)

/-- A weight's gradient from its pre-activation's: a sum over the tokens. -/
def dw (h : Act) (d : Fin 4096 → Fin 2816 → EReal) (f : Fin 2816) (k : Fin 1024) : EReal := ∑ r : Fin 4096, d r f * h (ix2 r k)

end Cert.Down
-- ==== Proof.DownArrays.lean ====
/-
  The four arrays that the gradient of the down projection leaves, as the plain mathematics of its arguments.
-/
module

public import proofs.«01_k».proof.Proof.DownCases
public import proofs.«01_k».proof.Proof.DownSpec

@[expose] public section

noncomputable section

open Idealize.ShloMosaic Idealize.ShloMosaic.TcCoe Idealize.SL.Sem
open Idealize.ShloMosaic.Pipeline (Dat)

namespace Cert.KernelIdeal.Down

open Cert.KernelIdeal Cert.KernelIdeal.Gen

variable (m : (ℓ : Loc nD τ sig) → Buf (Elt Ideal) ℓ) (c : Dev nD)

/-! ## The arguments -/

abbrev hA : Cert.Down.Act := m ((c : Thread nD τ).loc main_arg0)
abbrev wgA : Cert.Down.WIn := m ((c : Thread nD τ).loc main_arg1)
abbrev wuA : Cert.Down.WIn := m ((c : Thread nD τ).loc main_arg2)
abbrev wdA : Cert.Down.WOut := m ((c : Thread nD τ).loc main_arg3)
abbrev dfA : Cert.Down.Act := m ((c : Thread nD τ).loc main_arg4)

/-! ## The blocks a point reads -/

theorem idx0 : ∀ t : Fin cfg0.N, win0_0.index t = ![t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)
theorem idx4 : ∀ t : Fin cfg0.N, win0_4.index t = ![t.val % 8, 0] := (by decide +kernel : ∀ t : Fin grid0.N, _)
theorem idx5 : ∀ t : Fin cfg0.N, win0_5.index t = ![t.val % 8, t.val / 8] := (by decide +kernel : ∀ t : Fin grid0.N, _)
theorem idx6 : ∀ t : Fin cfg0.N, win0_6.index t = ![t.val % 8, t.val / 8] := (by decide +kernel : ∀ t : Fin grid0.N, _)
theorem idx7 : ∀ t : Fin cfg0.N, win0_7.index t = ![0, t.val / 8, 0, 0] := (by decide +kernel : ∀ t : Fin grid0.N, _)
theorem idx8 : ∀ t : Fin cfg0.N, win0_8.index t = ![0, t.val / 8, 0, 0] := (by decide +kernel : ∀ t : Fin grid0.N, _)

theorem pt_lt (t : Fin cfg0.N) : t.val < 16 := lt_of_lt_of_eq t.isLt N_0

/-- The token and the hidden channel that a block's row and column are at a point. -/
abbrev row (t : Fin cfg0.N) (r : Fin 512) : Fin 4096 := ⟨t.val % 8 * 512 + r.val, by omega⟩
abbrev col (t : Fin cfg0.N) (f : Fin 1408) : Fin 2816 := ⟨t.val / 8 * 1408 + f.val, by have := pt_lt t; omega⟩

theorem blk_df (t : Fin cfg0.N) (r : Fin 512) (k : Fin 1024) :
    (iblk m c 0 t : Vec Ideal S512x1024 .bf16) (ix2 r k) = dfA m c (ix2 (row t r) k) := by
  blk_ext! [iblk, V, idx0 t]

theorem blk_h (t : Fin cfg0.N) (r : Fin 512) (k : Fin 1024) :
    (iblk m c 4 t : Vec Ideal S512x1024 .bf16) (ix2 r k) = hA m c (ix2 (row t r) k) := by
  blk_ext! [iblk, V, idx4 t]

theorem blk_w (t : Fin cfg0.N) (f : Fin 1408) (k : Fin 1024) (h0 : f.val / 352 < 4) (h1 : f.val % 352 < 352) :
    (iblk m c 1 t : Vec Ideal S4x352x1024 .bf16) (ix3 ⟨f.val / 352, h0⟩ ⟨f.val % 352, h1⟩ k) = wdA m c (ix2 (col t f) k) := by
  blk_ext! [iblk, V, idx1 t]

theorem entry_gate (r : Fin 4096) (f : Fin 2816) : V m c main_v3 (ix2 r f) = Cert.Down.pre (hA m c) (wgA m c) r f := by
  entry_read
  pointwise [Cert.Down.pre]

theorem entry_up (r : Fin 4096) (f : Fin 2816) : V m c main_v6 (ix2 r f) = Cert.Down.pre (hA m c) (wuA m c) r f := by
  entry_read
  pointwise [Cert.Down.pre]

theorem blk_gate (t : Fin cfg0.N) (r : Fin 512) (f : Fin 1408) :
    (iblk m c 2 t : Vec Ideal S512x1408 .bf16) (ix2 r f) = Cert.Down.pre (hA m c) (wgA m c) (row t r) (col t f) := by
  rw [← entry_gate]
  blk_ext [iblk, idx2 t]

theorem blk_up (t : Fin cfg0.N) (r : Fin 512) (f : Fin 1408) :
    (iblk m c 3 t : Vec Ideal S512x1408 .bf16) (ix2 r f) = Cert.Down.pre (hA m c) (wuA m c) (row t r) (col t f) := by
  rw [← entry_up]
  blk_ext [iblk, idx3 t]

/-! ## A point's blocks of gradients -/

theorem dgate_apply (t : Fin cfg0.N) (r : Fin 512) (f : Fin 1408) :
    dgateAt m c t (ix2 r f) = Cert.Down.dgateAt (hA m c) (wgA m c) (wuA m c) (wdA m c) (dfA m c) (row t r) (col t f) := by
  pointwise [dgateAt, k0_pay18, k0_pay15, k0_pay16, k0_pay17]
  simp only [blk_df, blk_w, blk_gate, blk_up]
  rfl

theorem dup_apply (t : Fin cfg0.N) (r : Fin 512) (f : Fin 1408) :
    dupAt m c t (ix2 r f) = Cert.Down.dupAt (hA m c) (wgA m c) (wdA m c) (dfA m c) (row t r) (col t f) := by
  pointwise [dupAt, k0_pay19, k0_pay15, k0_pay16, k0_pay17]
  simp only [blk_df, blk_w, blk_gate]
  rfl

/-! ## The arrays after the run -/

theorem final5 : (dats m 0 c).arrAt 5 cfg0.N
    = fun i : S4096x2816.Idx => Cert.Down.dgateAt (hA m c) (wgA m c) (wuA m c) (wdA m c) (dfA m c) (i 0) (i 1) := by
  refine (dats m 0 c).arrAt_eq_of_covers 5 _ (by decide +kernel) fun t hf y => ?_
  obtain ⟨r, f, rfl⟩ : ∃ (r : Fin 512) (f : Fin 1408), y = (ix2 r f : S512x1408.Idx) := ⟨y 0, y 1, (eq_ix2 y)⟩
  blk_simp
  rw [after0_5]
  rw [dgate_point m c t, dgate_apply m c t r f]
  refine congrArg₂ (Cert.Down.dgateAt (hA m c) (wgA m c) (wuA m c) (wdA m c) (dfA m c)) (Fin.ext ?_) (Fin.ext ?_) <;> blk_simp [idx5 t]

theorem final6 : (dats m 0 c).arrAt 6 cfg0.N
    = fun i : S4096x2816.Idx => Cert.Down.dupAt (hA m c) (wgA m c) (wdA m c) (dfA m c) (i 0) (i 1) := by
  refine (dats m 0 c).arrAt_eq_of_covers 6 _ (by decide +kernel) fun t hf y => ?_
  obtain ⟨r, f, rfl⟩ : ∃ (r : Fin 512) (f : Fin 1408), y = (ix2 r f : S512x1408.Idx) := ⟨y 0, y 1, (eq_ix2 y)⟩
  blk_simp
  rw [after0_6]
  rw [dup_point m c t, dup_apply m c t r f]
  refine congrArg₂ (Cert.Down.dupAt (hA m c) (wgA m c) (wdA m c) (dfA m c)) (Fin.ext ?_) (Fin.ext ?_) <;> blk_simp [idx6 t]

/-- The carried sums at a run's last point, over all the tokens. -/
theorem sums_gate (t : Fin cfg0.N) (h1 : t.val % 8 = 7) (f : Fin 1408) (d : Fin 1024) :
    (outsAt0 m c t.val t.isLt).2.2.2.2 (ix3 0 f d)
      = Cert.Down.dw (hA m c) (Cert.Down.dgateAt (hA m c) (wgA m c) (wuA m c) (wdA m c) (dfA m c)) (col t f) d := by
  have ht := pt_lt t
  rw [sums_last m c t h1]
  refine Fin.sum_mul_add_congr (S := 8) (n := 512) fun s r hl => ?_
  have hs : (8 * (t.val / 8) + s.val) % 8 = s.val := by omega
  have hd : (8 * (t.val / 8) + s.val) / 8 = t.val / 8 := by omega
  refine (congrArg₂ (· * ·) (dgate_apply m c ⟨_, _⟩ r f) (blk_h m c ⟨_, _⟩ r d)).trans ?_
  simp only [row, col, hs, hd]

theorem sums_up (t : Fin cfg0.N) (h1 : t.val % 8 = 7) (f : Fin 1408) (d : Fin 1024) :
    (outsAt0 m c t.val t.isLt).2.2.2.2 (ix3 1 f d)
      = Cert.Down.dw (hA m c) (Cert.Down.dupAt (hA m c) (wgA m c) (wdA m c) (dfA m c)) (col t f) d := by
  have ht := pt_lt t
  rw [sums_last m c t h1]
  refine Fin.sum_mul_add_congr (S := 8) (n := 512) fun s r hl => ?_
  have hs : (8 * (t.val / 8) + s.val) % 8 = s.val := by omega
  have hd : (8 * (t.val / 8) + s.val) / 8 = t.val / 8 := by omega
  refine (congrArg₂ (· * ·) (dup_apply m c ⟨_, _⟩ r f) (blk_h m c ⟨_, _⟩ r d)).trans ?_
  simp only [row, col, hs, hd]

/-- The hidden channel of an element of a weight gradient, laid out by core and chip. -/
abbrev chan (i : S2x4x352x1024.Idx) : Fin 2816 :=
  ⟨(2 * (i 1).val + (i 0).val) * 352 + (i 2).val, by
    have h0 : (i 0).val < 2 := (i 0).isLt
    have h1 : (i 1).val < 4 := (i 1).isLt
    have h2 : (i 2).val < 352 := (i 2).isLt
    omega⟩

theorem final7 : (dats m 0 c).arrAt 7 cfg0.N
    = fun i : S2x4x352x1024.Idx =>
      Cert.Down.dw (hA m c) (Cert.Down.dgateAt (hA m c) (wgA m c) (wuA m c) (wdA m c) (dfA m c)) (chan i) (i 3) := by
  refine (dats m 0 c).arrAt_eq_of_covers 7 _ (by decide +kernel) fun t hf y => ?_
  obtain ⟨core, chip, q, d, rfl⟩ : ∃ (core chip : Fin 2) (q : Fin 352) (d : Fin 1024), y = (ix4 core chip q d : S2x2x352x1024.Idx) :=
    ⟨y 0, y 1, y 2, y 3, (eq_ix4 y)⟩
  have h1 := (flush0_7 t).mp hf
  blk_simp
  rw [after0_7]
  rw [last7 m c t h1 core chip q d, sums_gate m c t h1 _ d]
  refine congrArg₂ (Cert.Down.dw (hA m c) (Cert.Down.dgateAt (hA m c) (wgA m c) (wuA m c) (wdA m c) (dfA m c))) (Fin.ext ?_) (Fin.ext ?_)
  · simp only [col, chan]
    blk_simp [idx7 t]
    omega
  · blk_simp [idx7 t]

theorem final8 : (dats m 0 c).arrAt 8 cfg0.N
    = fun i : S2x4x352x1024.Idx =>
      Cert.Down.dw (hA m c) (Cert.Down.dupAt (hA m c) (wgA m c) (wdA m c) (dfA m c)) (chan i) (i 3) := by
  refine (dats m 0 c).arrAt_eq_of_covers 8 _ (by decide +kernel) fun t hf y => ?_
  obtain ⟨core, chip, q, d, rfl⟩ : ∃ (core chip : Fin 2) (q : Fin 352) (d : Fin 1024), y = (ix4 core chip q d : S2x2x352x1024.Idx) :=
    ⟨y 0, y 1, y 2, y 3, (eq_ix4 y)⟩
  have h1 := (flush0_8 t).mp hf
  blk_simp
  rw [after0_8]
  rw [last8 m c t h1 core chip q d, sums_up m c t h1 _ d]
  refine congrArg₂ (Cert.Down.dw (hA m c) (Cert.Down.dupAt (hA m c) (wgA m c) (wdA m c) (dfA m c))) (Fin.ext ?_) (Fin.ext ?_)
  · simp only [col, chan]
    blk_simp [idx8 t]
    omega
  · blk_simp [idx8 t]

end Cert.KernelIdeal.Down
-- ==== Proof.DownMath.lean ====
/-
  The chain rule through the gated activation over the extended reals, where every argument is a real: the kernel's one
  product and the two terms of the derivative of `gate · sigmoid(gate)` are the same number.
-/
module

public import proofs.«01_k».proof.Proof.DownSpec
public import Idealize.ShloMosaic.PureOps.Ideal

@[expose] public section

noncomputable section

open Idealize.ShloMosaic

namespace Cert.Down

/-- An extended real that is a real. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem pre_real {h : Act} {w : WIn} (hh : ∀ i, IsReal (h i)) (hw : ∀ i, IsReal (w i)) (r : Fin 4096) (f : Fin 2816) :
    IsReal (pre h w r f) := IsReal.sum _ fun _ => (hh _).mul (hw _)

theorem da_real {df : Act} {wd : WOut} (hh : ∀ i, IsReal (df i)) (hw : ∀ i, IsReal (wd i)) (r : Fin 4096) (f : Fin 2816) :
    IsReal (da df wd r f) := IsReal.sum _ fun _ => (hh _).mul (hw _)

theorem sig_coe (g : ℝ) : sig g = ((1 / (1 + Real.exp (-g)) : ℝ) : EReal) := by
  have hp : (1 + Real.exp (-g)) ≠ 0 := by positivity
  have e : (1 : EReal) + Ideal.exp (0 - (g : EReal)) = ((1 + Real.exp (-g) : ℝ) : EReal) := by
    rw [zero_sub, ← EReal.coe_neg, Ideal.exp_coe, EReal.coe_add, EReal.coe_one]
  unfold sig
  rw [e, Ideal.div_coe hp, one_mul]

theorem sig_neg (g : EReal) : Ideal.div 1 (1 + Ideal.exp (-g)) = sig g := by
  unfold sig; rw [zero_sub]

/-- The derivative in two terms, as the chain rule writes it, is the kernel's product. -/
theorem dgate_eq {g u a : EReal} (hg : IsReal g) (hu : IsReal u) (ha : IsReal a) :
    dgate g u a = a * u * sig g + g * (a * u) * (sig g * (1 - sig g)) := by
  obtain ⟨g, rfl⟩ := hg
  obtain ⟨u, rfl⟩ := hu
  obtain ⟨a, rfl⟩ := ha
  unfold dgate
  rw [sig_coe]
  generalize 1 / (1 + Real.exp (-g)) = s
  rw [← EReal.coe_one]
  norm_cast
  ring

theorem dup_eq (g a : EReal) : dup g a = g * sig g * a := mul_comm _ _

end Cert.Down
-- ==== Proof.DownRef.lean ====
/-
  The reference's four results as the plain mathematics of its arguments, and what the precondition says: every element
  of every argument is a real.
-/
module

public import proofs.«01_k».proof.Defs
public import proofs.«01_k».proof.Proof.DownMath
public import proofs.«01_k».proof.Proof.Gen.Pre_finite
public import proofs.«01_k».proof.Proof.Gen.ReferenceIdeal.Run
public import Idealize.ShloMosaic.Lib.Pipeline.ValueKit

@[expose] public section

noncomputable section

open Idealize.ShloMosaic Idealize.SL.Sem

namespace Cert.Down

/-- An extended real whose absolute value is below infinity is a real. -/
theorem real_of_abs_lt {x : EReal} (h : Ideal.cmp .olt (FloatOps.hostAbsf (F := Ideal) (φ := .f32) x) (Ideal.ofBits .f32 0x7F800000#32) = 1#1) :
    IsReal x := by
  have ht : Ideal.ofBits .f32 0x7F800000#32 = (⊤ : EReal) := by simp [Ideal.ofBits, Ideal.ieee]
  rw [ht] at h
  induction x with
  | bot => simp [Ideal.cmp, FloatOps.absf] at h
  | top => simp [Ideal.cmp, FloatOps.absf] at h
  | coe r => exact ⟨r, rfl⟩

theorem args_real {x0 : Act} {x1 x2 : WIn} {x3 : WOut} {x4 : Act}
    (h0 : (Cert.Pre_finite.fn (F := Ideal) x0 x1 x2 x3 x4).1 = fun _ => 1#1)
    (h1 : (Cert.Pre_finite.fn (F := Ideal) x0 x1 x2 x3 x4).2.1 = fun _ => 1#1)
    (h2 : (Cert.Pre_finite.fn (F := Ideal) x0 x1 x2 x3 x4).2.2.1 = fun _ => 1#1)
    (h3 : (Cert.Pre_finite.fn (F := Ideal) x0 x1 x2 x3 x4).2.2.2.1 = fun _ => 1#1)
    (h4 : (Cert.Pre_finite.fn (F := Ideal) x0 x1 x2 x3 x4).2.2.2.2 = fun _ => 1#1) :
    (∀ i, IsReal (x0 i)) ∧ (∀ i, IsReal (x1 i)) ∧ (∀ i, IsReal (x2 i)) ∧ (∀ i, IsReal (x3 i)) ∧ ∀ i, IsReal (x4 i) :=
  ⟨fun i => real_of_abs_lt (congrFun h0 i), fun i => real_of_abs_lt (congrFun h1 i), fun i => real_of_abs_lt (congrFun h2 i),
    fun i => real_of_abs_lt (congrFun h3 i), fun i => real_of_abs_lt (congrFun h4 i)⟩

end Cert.Down

namespace Cert.ReferenceIdeal.Down

open Cert.ReferenceIdeal Cert.Down

variable (m : (ℓ : Loc nD τ sig) → Buf (Elt Ideal) ℓ) (ρ : Dev nD → PrngReg)

abbrev hA (c : Dev nD) : Act := m ((c.tc : Thread nD τ).loc main_arg0)
abbrev wgA (c : Dev nD) : WIn := m ((c.tc : Thread nD τ).loc main_arg1)
abbrev wuA (c : Dev nD) : WIn := m ((c.tc : Thread nD τ).loc main_arg2)
abbrev wdA (c : Dev nD) : WOut := m ((c.tc : Thread nD τ).loc main_arg3)
abbrev dfA (c : Dev nD) : Act := m ((c.tc : Thread nD τ).loc main_arg4)

/-- The hidden channel of an element of a weight gradient, laid out by core and chip. -/
abbrev chan (i : S2x4x352x1024.Idx) : Fin 2816 :=
  ⟨(2 * (i 1).val + (i 0).val) * 352 + (i 2).val, by
    have h0 : (i 0).val < 2 := (i 0).isLt
    have h1 : (i 1).val < 4 := (i 1).isLt
    have h2 : (i 2).val < 352 := (i 2).isLt
    omega⟩

/-- Every argument's elements are reals. -/
def Finite : Prop := ∀ c : Dev nD, (∀ i, IsReal (hA m c i)) ∧ (∀ i, IsReal (wgA m c i)) ∧ (∀ i, IsReal (wuA m c i))
  ∧ (∀ i, IsReal (wdA m c i)) ∧ ∀ i, IsReal (dfA m c i)

theorem run (hfin : Finite m) : θ_run defs (onTc (τ := τ) (main (F := Ideal))) ⟨m, fun _ => 0, ρ⟩ fun r => ∀ c : Dev nD,
    r.2.mem ((c.tc : Thread nD τ).loc main_v13) = (fun i : S4096x2816.Idx => Cert.Down.dgateAt (hA m c) (wgA m c) (wuA m c) (wdA m c) (dfA m c) (i 0) (i 1))
    ∧ r.2.mem ((c.tc : Thread nD τ).loc main_v14) = (fun i : S4096x2816.Idx => Cert.Down.dupAt (hA m c) (wgA m c) (wdA m c) (dfA m c) (i 0) (i 1))
    ∧ r.2.mem ((c.tc : Thread nD τ).loc main_v18) = (fun i : S2x4x352x1024.Idx =>
      Cert.Down.dw (hA m c) (Cert.Down.dgateAt (hA m c) (wgA m c) (wuA m c) (wdA m c) (dfA m c)) (chan i) (i 3))
    ∧ r.2.mem ((c.tc : Thread nD τ).loc main_v22) = (fun i : S2x4x352x1024.Idx =>
      Cert.Down.dw (hA m c) (Cert.Down.dupAt (hA m c) (wgA m c) (wdA m c) (dfA m c)) (chan i) (i 3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ?_) (Value.run m ρ)
  obtain ⟨e13, e14, e18, e22, rest⟩ := h c
  obtain ⟨f0, f1, f2, f3, f4⟩ := hfin c
  have hg : ∀ (r : Fin 4096) (f : Fin 2816), Cert.Down.dgateAt (hA m c) (wgA m c) (wuA m c) (wdA m c) (dfA m c) r f = _ := fun r f =>
    dgate_eq (pre_real f0 f1 r f) (pre_real f0 f2 r f) (da_real f4 f3 r f)
  have hu : ∀ (r : Fin 4096) (f : Fin 2816), Cert.Down.dupAt (hA m c) (wgA m c) (wdA m c) (dfA m c) r f = _ := fun r f => dup_eq _ _
  refine ⟨e13.trans ?_, e14.trans ?_, e18.trans ?_, e22.trans ?_, rest⟩
  · clear e13 e14 e18 e22
    funext i
    obtain ⟨r, f, rfl⟩ : ∃ (r : Fin 4096) (f : Fin 2816), i = (ix2 r f : S4096x2816.Idx) := ⟨i 0, i 1, eq_ix2 i⟩
    pointwise
    simp only [sig_neg]
    exact (hg r f).symm
  · clear e13 e14 e18 e22
    funext i
    obtain ⟨r, f, rfl⟩ : ∃ (r : Fin 4096) (f : Fin 2816), i = (ix2 r f : S4096x2816.Idx) := ⟨i 0, i 1, eq_ix2 i⟩
    pointwise
    simp only [sig_neg]
    exact (hu r f).symm
  · clear e13 e14 e18 e22
    funext i
    obtain ⟨core, chip, q, d, rfl⟩ : ∃ (core : Fin 2) (chip : Fin 4) (q : Fin 352) (d : Fin 1024), i = (ix4 core chip q d : S2x4x352x1024.Idx) :=
      ⟨i 0, i 1, i 2, i 3, eq_ix4 i⟩
    pointwise
    simp only [sig_neg]
    refine Finset.sum_congr rfl fun r _ => congrArg₂ (· * ·) ?_ rfl
    refine Eq.trans ?_ (hg r _).symm
    have e : (⟨chip.val * 704 + core.val * 352 + q.val, by omega⟩ : Fin 2816) = chan (ix4 core chip q d) :=
      Fin.ext (by show chip.val * 704 + core.val * 352 + q.val = (2 * chip.val + core.val) * 352 + q.val; omega)
    rw [← e]; rfl
  · clear e13 e14 e18 e22
    funext i
    obtain ⟨core, chip, q, d, rfl⟩ : ∃ (core : Fin 2) (chip : Fin 4) (q : Fin 352) (d : Fin 1024), i = (ix4 core chip q d : S2x4x352x1024.Idx) :=
      ⟨i 0, i 1, i 2, i 3, eq_ix4 i⟩
    pointwise
    simp only [sig_neg]
    refine Finset.sum_congr rfl fun r _ => congrArg₂ (· * ·) ?_ rfl
    refine Eq.trans ?_ (hu r _).symm
    have e : (⟨chip.val * 704 + core.val * 352 + q.val, by omega⟩ : Fin 2816) = chan (ix4 core chip q d) :=
      Fin.ext (by show chip.val * 704 + core.val * 352 + q.val = (2 * chip.val + core.val) * 352 + q.val; omega)
    rw [← e]; rfl

end Cert.ReferenceIdeal.Down
-- ==== Proof.DownClaim.lean ====
/-
The claims about the gradient of the gated product: the reference's frame and the equality of the four results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.DownArrays
public import proofs.«01_k».proof.Proof.DownRef

@[expose] public section

noncomputable section

namespace Cert.Down

open Idealize.ShloMosaic Idealize.SL.Sem

/-- The reference runs, keeps its arguments, and ends with every semaphore at zero: it declares none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2.2, sem_eq_zero_of_no_sems (by decide) r.2⟩)
    (Cert.ReferenceIdeal.Value.run (F := Ideal) m ρ)

/-- Kernel and reference, from the same finite arguments, end with the same four results. -/
theorem algebraic : Cert.algebraic_KernelIdeal_ReferenceIdeal_pre_finite := by
  intro m g m' g' hpre hargs
  have hk := Cert.KernelIdeal.Value.run_blocks (F := Ideal) m g
  have hfin : Cert.ReferenceIdeal.Down.Finite m' := by
    intro c
    obtain ⟨a0, a1, a2, a3, a4⟩ := hargs c
    obtain ⟨p0, p1, p2, p3, p4⟩ := hpre c
    have := args_real p0 p1 p2 p3 p4
    simpa only [Cert.ReferenceIdeal.Down.hA, Cert.ReferenceIdeal.Down.wgA, Cert.ReferenceIdeal.Down.wuA,
      Cert.ReferenceIdeal.Down.wdA, Cert.ReferenceIdeal.Down.dfA, a0, a1, a2, a3, a4] using this
  have hr := Cert.ReferenceIdeal.Down.run m' g' hfin
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N, hk, ?_⟩
  refine (θ_run _ _ _).mono (fun r h c => ?_) hr
  obtain ⟨a0, a1, a2, a3, a4⟩ := hargs c
  obtain ⟨e0, e1, e2, e3, rest⟩ := h c
  refine ⟨e0.trans ?_, e1.trans ?_, e2.trans ?_, e3.trans ?_, rest⟩
  · refine Eq.trans ?_ (Cert.KernelIdeal.Down.final5 m c).symm
    simp only [Cert.ReferenceIdeal.Down.hA, Cert.ReferenceIdeal.Down.wgA, Cert.ReferenceIdeal.Down.wuA,
      Cert.ReferenceIdeal.Down.wdA, Cert.ReferenceIdeal.Down.dfA, a0, a1, a2, a3, a4]
  · refine Eq.trans ?_ (Cert.KernelIdeal.Down.final6 m c).symm
    simp only [Cert.ReferenceIdeal.Down.hA, Cert.ReferenceIdeal.Down.wgA, Cert.ReferenceIdeal.Down.wuA,
      Cert.ReferenceIdeal.Down.wdA, Cert.ReferenceIdeal.Down.dfA, a0, a1, a2, a3, a4]
  · refine Eq.trans ?_ (Cert.KernelIdeal.Down.final7 m c).symm
    simp only [Cert.ReferenceIdeal.Down.hA, Cert.ReferenceIdeal.Down.wgA, Cert.ReferenceIdeal.Down.wuA,
      Cert.ReferenceIdeal.Down.wdA, Cert.ReferenceIdeal.Down.dfA, a0, a1, a2, a3, a4]
  · refine Eq.trans ?_ (Cert.KernelIdeal.Down.final8 m c).symm
    simp only [Cert.ReferenceIdeal.Down.hA, Cert.ReferenceIdeal.Down.wgA, Cert.ReferenceIdeal.Down.wuA,
      Cert.ReferenceIdeal.Down.wdA, Cert.ReferenceIdeal.Down.dfA, a0, a1, a2, a3, a4]

end Cert.Down

end
-- ==== Proof.NormMath.lean ====
/-
  The gradient of the root-mean-square norm over the extended reals, where every argument is a real: the kernels' one
  product, and the terms that the chain rule gives, are the same number.
-/
module

public import proofs.«01_k».proof.Proof.DownMath
public import Idealize.ShloMosaic.Lib.Pointwise

@[expose] public section

noncomputable section

open Idealize.ShloMosaic

namespace Cert.Norm

open Cert.Down

theorem sum_coe {ι : Type} [Fintype ι] (f : ι → ℝ) : ∑ x, (f x : EReal) = ((∑ x, f x : ℝ) : EReal) := by
  classical
  induction (Finset.univ : Finset ι) using Finset.induction_on with
  | empty => simp
  | insert a s ha ih => rw [Finset.sum_insert ha, Finset.sum_insert ha, ih, EReal.coe_add]

/-- The row length, the norm's small constant and minus one half, as the programs' literals. -/
abbrev width : EReal := Ideal.ofBits .f32 0x44800000#32
abbrev eps : EReal := Ideal.ofBits .f32 0x358637BD#32
abbrev negHalf : EReal := Ideal.ofBits .f32 0xBF000000#32

theorem width_eq : width = ((1024 : ℝ) : EReal) := by simp [width, Ideal.ofBits, Ideal.ieee, -EReal.coe_mul]; norm_num
theorem negHalf_eq : negHalf = ((-(1 / 2) : ℝ) : EReal) := by
  simp [negHalf, Ideal.ofBits, Ideal.ieee, -EReal.coe_mul, -EReal.coe_neg]; norm_num
theorem eps_eq : ∃ e : ℝ, 0 < e ∧ eps = (e : EReal) :=
  ⟨8796093 / 8796093022208, by norm_num, by
    simp [eps, Ideal.ofBits, Ideal.ieee, -EReal.coe_mul]; norm_num⟩

/-- One over the root of a row's mean square. -/
def rstd (v : Fin 1024 → EReal) : EReal := Ideal.rsqrt (Ideal.div (∑ x, v x * v x) width + eps)

/-- The gradient of a row from the gradient `n` of its normed row, as the kernels write it. -/
def rowGrad (v n : Fin 1024 → EReal) (d : Fin 1024) : EReal :=
  rstd v * (n d - v d * rstd v * Ideal.div (∑ x, n x * (v x * rstd v)) width)

/-- The gradient of a row's mean square, halved twice: what the chain rule gives through the norm's factor. -/
def scaleGrad (v n : Fin 1024 → EReal) : EReal :=
  Ideal.div ((∑ x, v x * n x) * (negHalf * Ideal.div (rstd v) (Ideal.div (∑ x, v x * v x) width + eps))) width

/-- The row norm's factor on real rows. -/
theorem rstd_real {v : Fin 1024 → EReal} (a : Fin 1024 → ℝ) (hv : ∀ x, v x = (a x : EReal)) :
    ∃ s r : ℝ, 0 < s ∧ r * r = 1 / s ∧ Ideal.div (∑ x, v x * v x) width + eps = (s : EReal) ∧ rstd v = (r : EReal) := by
  obtain ⟨e, he, hee⟩ := eps_eq
  have hs : 0 < (∑ x, a x * a x) * (1 / 1024) + e :=
    add_pos_of_nonneg_of_pos (mul_nonneg (Finset.sum_nonneg fun x _ => mul_self_nonneg _) (by norm_num)) he
  have h1 : Ideal.div (∑ x, v x * v x) width + eps = (((∑ x, a x * a x) * (1 / 1024) + e : ℝ) : EReal) := by
    rw [width_eq, hee, Ideal.div_coe (by norm_num)]
    simp only [hv, ← EReal.coe_mul, sum_coe, ← EReal.coe_add]
  refine ⟨_, (Real.sqrt ((∑ x, a x * a x) * (1 / 1024) + e))⁻¹, hs, ?_, h1, ?_⟩
  · rw [← mul_inv, Real.mul_self_sqrt hs.le]; exact (one_div _).symm
  · unfold rstd
    rw [h1, Ideal.rsqrt_coe, if_neg (not_lt.mpr hs.le), if_neg hs.ne']

/-- The row norm's factor is not negative. -/
theorem rstd_nonneg {v : Fin 1024 → EReal} {r : ℝ} (h : rstd v = (r : EReal)) : 0 ≤ r := by
  unfold rstd at h
  generalize Ideal.div (∑ x, v x * v x) width + eps = y at h
  induction y with
  | bot => exact absurd h (by rw [show Ideal.rsqrt ⊥ = ⊥ from rfl]; exact EReal.bot_ne_coe r)
  | top => exact (EReal.coe_eq_coe_iff.mp (h.symm.trans (show Ideal.rsqrt ⊤ = ((0 : ℝ) : EReal) from rfl))).ge
  | coe q =>
    rw [Ideal.rsqrt_coe] at h
    split_ifs at h with h1 h2
    · exact absurd h (EReal.bot_ne_coe r)
    · exact absurd h (EReal.top_ne_coe r)
    · exact EReal.coe_eq_coe_iff.mp h ▸ inv_nonneg.mpr (Real.sqrt_nonneg q)

/-- A row with an infinite entry: its factor is zero. -/
theorem rstd_of_not_real {v : Fin 1024 → EReal} (h : ¬∀ x, IsReal (v x)) :
    Ideal.div (∑ x, v x * v x) width + eps = ⊤ ∧ rstd v = 0 := by
  have sq : ∀ y : EReal, 0 ≤ y * y := fun y => by
    induction y with
    | bot => simp
    | top => simp
    | coe r => rw [← EReal.coe_mul]; exact_mod_cast mul_self_nonneg r
  obtain ⟨x, hx⟩ := not_forall.mp h
  have hxx : v x * v x = ⊤ := by
    generalize v x = y at hx
    induction y with
    | bot => simp
    | top => simp
    | coe r => exact absurd ⟨r, rfl⟩ hx
  have hs : ∑ x, v x * v x = ⊤ :=
    top_le_iff.mp (hxx ▸ Finset.single_le_sum (f := fun x => v x * v x) (fun y _ => sq _) (Finset.mem_univ x))
  obtain ⟨e, -, he⟩ := eps_eq
  have h1 : Ideal.div (∑ x, v x * v x) width + eps = ⊤ := by
    rw [hs, width_eq, Ideal.div_coe (by norm_num), EReal.top_mul_coe_of_pos (by norm_num), he, EReal.top_add_coe]
  exact ⟨h1, by unfold rstd; rw [h1]; rfl⟩

/-- Twice a nonnegative multiple, taken away in two halves. -/
theorem neg_two_halves (k : ℝ) (y : EReal) : -(((2 * k : ℝ) : EReal) * y) = -((k : EReal) * y) + -((k : EReal) * y) := by
  rcases lt_trichotomy k 0 with hk | rfl | hk
  · have h2 : 2 * k < 0 := by linarith
    induction y with
    | bot => simp [EReal.coe_mul_bot_of_neg hk, -EReal.coe_mul, EReal.coe_mul_bot_of_neg h2]
    | top => simp [EReal.coe_mul_top_of_neg hk, -EReal.coe_mul, EReal.coe_mul_top_of_neg h2]
    | coe r => simp only [← EReal.coe_mul, ← EReal.coe_neg, ← EReal.coe_add]; refine congrArg _ ?_; ring
  · simp
  · have h2 : 0 < 2 * k := by linarith
    induction y with
    | bot => simp [EReal.coe_mul_bot_of_pos hk, -EReal.coe_mul, EReal.coe_mul_bot_of_pos h2]
    | top => simp [EReal.coe_mul_top_of_pos hk, -EReal.coe_mul, EReal.coe_mul_top_of_pos h2]
    | coe r => simp only [← EReal.coe_mul, ← EReal.coe_neg, ← EReal.coe_add]; refine congrArg _ ?_; ring

/-- A nonnegative real factor comes out of a sum, whatever the summands. -/
theorem mul_sum_of_nonneg {ι : Type} (s : Finset ι) {r : ℝ} (hr : 0 ≤ r) (f : ι → EReal) :
    (r : EReal) * ∑ x ∈ s, f x = ∑ x ∈ s, (r : EReal) * f x := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The chain rule's terms for a row's gradient add up to the kernels' product, infinite entries or not. -/
theorem rowGrad_eq (v n : Fin 1024 → EReal) (d : Fin 1024) :
    rowGrad v n d = n d * rstd v + v d * scaleGrad v n + scaleGrad v n * v d := by
  by_cases hv : ∀ x, IsReal (v x)
  · choose a ha using hv
    obtain ⟨s, r, hs, hr, h1, h2⟩ := rstd_real a ha
    have hr0 : 0 ≤ r := rstd_nonneg h2
    have e1 : ∑ x, n x * (v x * (r : EReal)) = (r : EReal) * ∑ x, v x * n x := by
      rw [mul_sum_of_nonneg _ hr0]
      exact Finset.sum_congr rfl fun x _ => by rw [mul_comm (n x), mul_comm (v x) (r : EReal), mul_assoc]
    unfold rowGrad scaleGrad
    rw [h1, h2, e1, width_eq, negHalf_eq, Ideal.div_coe hs.ne', Ideal.div_coe (by norm_num), Ideal.div_coe (by norm_num)]
    generalize ∑ x, v x * n x = S
    have c1 : v d * (r : EReal) * ((r : EReal) * S * ((1 / 1024 : ℝ) : EReal))
        = ((r * r * (1 / 1024) : ℝ) : EReal) * (v d * S) := by
      simp only [EReal.coe_mul]; ac_rfl
    have c2 : S * (((-(1 / 2) : ℝ) : EReal) * ((r : EReal) * ((1 / s : ℝ) : EReal))) * ((1 / 1024 : ℝ) : EReal)
        = -(((1 / 2 * (r * (r * r)) * (1 / 1024) : ℝ) : EReal) * S) := by
      rw [← hr, ← EReal.neg_mul, ← EReal.coe_neg]
      rw [mul_assoc, mul_comm S]
      refine congrArg (· * S) ?_
      simp only [← EReal.coe_mul]
      refine congrArg _ ?_
      ring
    rw [c1, c2, sub_eq_add_neg, EReal.left_distrib_of_nonneg_of_ne_top (by exact_mod_cast hr0) (EReal.coe_ne_top r)]
    have c3 : (r : EReal) * -(((r * r * (1 / 1024) : ℝ) : EReal) * (v d * S))
        = -(((2 * (1 / 2 * (r * (r * r)) * (1 / 1024)) : ℝ) : EReal) * (v d * S)) := by
      rw [mul_neg, ← mul_assoc, ← EReal.coe_mul]
      refine congrArg (fun q : ℝ => -((q : EReal) * (v d * S))) ?_
      ring
    rw [c3, neg_two_halves, mul_comm (r : EReal) (n d), mul_neg, EReal.neg_mul, add_assoc]
    refine congrArg (n d * (r : EReal) + ·) (congrArg₂ (fun p q : EReal => -p + -q) ?_ ?_) <;> ac_rfl
  · obtain ⟨h1, h2⟩ := rstd_of_not_real hv
    have e : scaleGrad v n = 0 := by
      unfold scaleGrad
      rw [h1, h2, width_eq, Ideal.div_coe (by norm_num)]
      simp [Ideal.div]
    rw [e, h2]
    unfold rowGrad
    rw [h2]
    simp

end Cert.Norm
-- ==== Proof.InprojSpec.lean ====
/-
  The backward pass of the normed input projection, as plain mathematics over the extended reals.
-/
module

public import proofs.«01_k».proof.Proof.NormMath

@[expose] public section

noncomputable section

open Idealize.ShloMosaic

namespace Cert.Inproj

abbrev Act : Type := (⟨2, ![4096, 1024]⟩ : Shape).Idx → EReal
abbrev Proj : Type := (⟨2, ![4096, 1280]⟩ : Shape).Idx → EReal
abbrev Win : Type := (⟨2, ![1024, 1280]⟩ : Shape).Idx → EReal
abbrev Gain : Type := (⟨2, ![1, 1024]⟩ : Shape).Idx → EReal

/-- The gradient of a token's normed row. -/
def dh (dp : Proj) (w : Win) (r : Fin 4096) (d : Fin 1024) : EReal := ∑ x : Fin 1280, dp (ix2 r x) * w (ix2 d x)

/-- A token's row. -/
abbrev tok (x : Act) (r : Fin 4096) : Fin 1024 → EReal := fun k => x (ix2 r k)

/-- The gradient of a token's row before its gain. -/
abbrev dn (dp : Proj) (w : Win) (g : Gain) (r : Fin 4096) : Fin 1024 → EReal := fun k => dh dp w r k * g (ix2 0 k)

/-- The gradient of the layer's input: what comes past the layer, and what comes through the norm. -/
def dxAt (dp : Proj) (w : Win) (x : Act) (g : Gain) (dx1 : Act) (r : Fin 4096) (d : Fin 1024) : EReal :=
  dx1 (ix2 r d) + Cert.Norm.rowGrad (tok x r) (dn dp w g r) d

/-- The gradient of a gain: a sum over the tokens. -/
def dgAt (dp : Proj) (w : Win) (x : Act) (d : Fin 1024) : EReal :=
  ∑ r : Fin 4096, dh dp w r d * (x (ix2 r d) * Cert.Norm.rstd (tok x r))

end Cert.Inproj
-- ==== Proof.InprojArrays.lean ====
/-
  The two arrays that the input projection's backward call leaves, as the plain mathematics of its arguments.
-/
module

public import proofs.«01_k».proof.Proof.InprojSpec
public import proofs.«01_k».proof.Proof.Gen.Kernel2Ideal.Value
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Kernel2Ideal.Inproj

open Cert.Kernel2Ideal Cert.Kernel2Ideal.Gen

variable (m : (ℓ : Loc nD τ sig) → Buf (Elt Ideal) ℓ) (c : Dev nD)

abbrev dpA : Cert.Inproj.Proj := m ((c : Thread nD τ).loc main_arg0)
abbrev wA : Cert.Inproj.Win := m ((c : Thread nD τ).loc main_arg1)
abbrev xA : Cert.Inproj.Act := m ((c : Thread nD τ).loc main_arg2)
abbrev gA : Cert.Inproj.Gain := m ((c : Thread nD τ).loc main_arg3)
abbrev dx1A : Cert.Inproj.Act := m ((c : Thread nD τ).loc main_arg4)

/-! ## The blocks a point reads -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

theorem pt_lt (t : Fin cfg0.N) : t.val < 4 := lt_of_lt_of_eq t.isLt N_0

/-- The token that a block's row is at a point. -/
abbrev row (t : Fin cfg0.N) (r : Fin 1024) : Fin 4096 := ⟨t.val * 1024 + r.val, by have := pt_lt t; omega⟩

theorem blk_dp (t : Fin cfg0.N) (r : Fin 1024) (k : Fin 1280) :
    (iblk m c 0 t : Vec Ideal S1024x1280 .bf16) (ix2 r k) = dpA m c (ix2 (row t r) k) := by
  blk_ext! [iblk, V, idx0 t]

theorem entry_w (k : Fin 1280) (d : Fin 1024) : V m c main_v2 (ix2 k d) = wA m c (ix2 d k) := by
  entry_read
  pointwise

theorem blk_w (t : Fin cfg0.N) (k : Fin 1280) (d : Fin 1024) :
    (iblk m c 1 t : Vec Ideal S1280x1024 .bf16) (ix2 k d) = wA m c (ix2 d k) := by
  rw [← entry_w]
  blk_ext [iblk, idx1 t]

theorem blk_x (t : Fin cfg0.N) (r : Fin 1024) (k : Fin 1024) :
    (iblk m c 2 t : Vec Ideal S1024x1024 .f32) (ix2 r k) = xA m c (ix2 (row t r) k) := by
  blk_ext! [iblk, V, idx2 t]

theorem blk_g (t : Fin cfg0.N) (k : Fin 1024) :
    (iblk m c 3 t : Vec Ideal S1x1024 .f32) (ix2 0 k) = gA m c (ix2 0 k) := by
  blk_ext! [iblk, V, idx3 t]

theorem blk_dx1 (t : Fin cfg0.N) (r : Fin 1024) (k : Fin 1024) :
    (iblk m c 4 t : Vec Ideal S1024x1024 .f32) (ix2 r k) = dx1A m c (ix2 (row t r) k) := by
  blk_ext! [iblk, V, idx4 t]

/-! ## A point's blocks -/

abbrev dxBlk (t : Fin cfg0.N) : FVec Ideal S1024x1024 .f32 :=
  k0_pay7 (iblk m c 0 t) (iblk m c 1 t) (iblk m c 2 t) (iblk m c 3 t) (iblk m c 4 t)
abbrev dgRows (t : Fin cfg0.N) : FVec Ideal S1024x1024 .f32 :=
  k0_pay6 (iblk m c 0 t) (iblk m c 1 t) (iblk m c 2 t)

theorem dx_apply (t : Fin cfg0.N) (r d : Fin 1024) :
    dxBlk m c t (ix2 r d) = Cert.Inproj.dxAt (dpA m c) (wA m c) (xA m c) (gA m c) (dx1A m c) (row t r) d := by
  pointwise [dxBlk, k0_pay7, k0_pay3, k0_pay4, k0_pay5]
  simp only [blk_dp, blk_w, blk_x, blk_g, blk_dx1]
  rfl

theorem dgRows_apply (t : Fin cfg0.N) (r d : Fin 1024) :
    dgRows m c t (ix2 r d) = Cert.Inproj.dh (dpA m c) (wA m c) (row t r) d
      * (xA m c (ix2 (row t r) d) * Cert.Norm.rstd (Cert.Inproj.tok (xA m c) (row t r))) := by
  pointwise [dgRows, k0_pay6, k0_pay3, k0_pay4, k0_pay5]
  simp only [blk_dp, blk_w, blk_x]
  rfl

/-- A row of sums laid out in eight rows of lanes: the sum over the rows, added to what was there. -/
theorem pay1_apply (v : FVec Ideal S1024x1024 .f32) (a : Vec Ideal S8x128 .f32) (r : Fin 8) (d : Fin 128) :
    k0_pay1 v a (ix2 r d) = a (ix2 r d) + ∑ x : Fin 1024, v (ix2 x ⟨r.val * 128 + d.val, by omega⟩) := by
  pointwise [k0_pay1]
  refine congrArg (a (ix2 r d) + ·) ?_
  fin_cases r <;> simp

theorem pay2_apply (j : S8x128.Idx) : k0_pay2 (F := Ideal) j = 0 := by
  pointwise [k0_pay2]

theorem dx_point (t : Fin cfg0.N) : (outsAt0 m c t.val t.isLt).1 = dxBlk m c t := by
  by_cases h0 : t.val % 4 = 0
  · rw [outsAt0_A m c t h0]; frame_out
  · rw [outsAt0_B m c t h0]; frame_out

def term (t : Fin cfg0.N) (j : S8x128.Idx) : EReal :=
  ∑ x : Fin 1024, dgRows m c t (ix2 x ⟨(j 0).val * 128 + (j 1).val, by
    have h0 : (j 0).val < 8 := (j 0).isLt
    have h1 : (j 1).val < 128 := (j 1).isLt
    omega⟩)

theorem dg_first (t : Fin cfg0.N) (h0 : t.val % 4 = 0) (j : S8x128.Idx) :
    (outsAt0 m c t.val t.isLt).2 j = (0 : EReal) + term m c t j := by
  obtain ⟨r, d, rfl⟩ : ∃ (r : Fin 8) (d : Fin 128), j = (ix2 r d : S8x128.Idx) := ⟨j 0, j 1, eq_ix2 j⟩
  rw [outsAt0_A m c t h0]; frame_out
  rw [pay1_apply, pay2_apply]
  rfl

theorem dg_next (t : Fin cfg0.N) (h0 : ¬t.val % 4 = 0) (j : S8x128.Idx) :
    (outsAt0 m c t.val t.isLt).2 j
      = (outsAt0 m c (t.val - 1) (Nat.lt_of_le_of_lt (Nat.sub_le _ _) t.isLt)).2 j + term m c t j := by
  obtain ⟨r, d, rfl⟩ : ∃ (r : Fin 8) (d : Fin 128), j = (ix2 r d : S8x128.Idx) := ⟨j 0, j 1, eq_ix2 j⟩
  rw [outsAt0_B m c t h0]; frame_out
  rw [pay1_apply]
  rfl

theorem dg_last (t : Fin cfg0.N) (h1 : t.val % 4 = 3) (j : S8x128.Idx) :
    (outsAt0 m c t.val t.isLt).2 j
      = ∑ s : Fin 4, term m c ⟨4 * (t.val / 4) + s.val, Pipeline.run_point_lt_of_flush t h1 s⟩ j := by
  have h := Pipeline.eq_sum_fin_of_reset_step_apply_of_flush (fun n h => (outsAt0 m c n h).2) 4 (fun _ => (0 : EReal)) (term m c)
    (dg_first m c) (dg_next m c) t h1 j
  rw [zero_add] at h
  exact h

theorem dg_sum (t : Fin cfg0.N) (h1 : t.val % 4 = 3) (r : Fin 8) (d : Fin 128) :
    (outsAt0 m c t.val t.isLt).2 (ix2 r d) = Cert.Inproj.dgAt (dpA m c) (wA m c) (xA m c) ⟨r.val * 128 + d.val, by omega⟩ := by
  have ht := pt_lt t
  rw [dg_last m c t h1]
  refine Fin.sum_mul_add_congr (S := 4) (n := 1024) fun s r hl => ?_
  refine (dgRows_apply m c ⟨_, _⟩ r _).trans ?_
  have e : 4 * (t.val / 4) + s.val = s.val := by omega
  simp only [row, e]
  rfl

/-! ## The arrays after the run -/

theorem final5 : (dats m 0 c).arrAt 5 cfg0.N
    = fun i : S4096x1024.Idx => Cert.Inproj.dxAt (dpA m c) (wA m c) (xA m c) (gA m c) (dx1A m c) (i 0) (i 1) := by
  refine (dats m 0 c).arrAt_eq_of_covers 5 _ (by decide +kernel) fun t hf y => ?_
  obtain ⟨r, f, rfl⟩ : ∃ (r : Fin 1024) (f : Fin 1024), y = (ix2 r f : S1024x1024.Idx) := ⟨y 0, y 1, (eq_ix2 y)⟩
  blk_simp
  rw [after0_5]
  rw [dx_point m c t, dx_apply m c t r f]
  refine congrArg₂ (Cert.Inproj.dxAt (dpA m c) (wA m c) (xA m c) (gA m c) (dx1A m c)) (Fin.ext ?_) (Fin.ext ?_) <;> blk_simp [idx5 t]

/-- The gain that an element of the laid-out row is. -/
abbrev lane (i : S8x128.Idx) : Fin 1024 := ⟨(i 0).val * 128 + (i 1).val, by
    have h0 : (i 0).val < 8 := (i 0).isLt
    have h1 : (i 1).val < 128 := (i 1).isLt
    omega⟩

theorem final6 : (dats m 0 c).arrAt 6 cfg0.N
    = fun i : S8x128.Idx => Cert.Inproj.dgAt (dpA m c) (wA m c) (xA m c) (lane i) := by
  refine (dats m 0 c).arrAt_eq_of_covers 6 _ (by decide +kernel) fun t hf y => ?_
  obtain ⟨r, f, rfl⟩ : ∃ (r : Fin 8) (f : Fin 128), y = (ix2 r f : S8x128.Idx) := ⟨y 0, y 1, (eq_ix2 y)⟩
  have h1 := (flush0_6 t).mp hf
  blk_simp
  rw [after0_6]
  rw [dg_sum m c t h1 r f]
  refine congrArg (Cert.Inproj.dgAt (dpA m c) (wA m c) (xA m c)) (Fin.ext ?_)
  simp only [lane]
  blk_simp [idx6 t]

end Cert.Kernel2Ideal.Inproj
-- ==== Proof.InprojClaim.lean ====
/-
  The claims about the input projection's backward call: the reference's frame, the reference's two results as plain
  mathematics of its arguments, and the equality of the results.
-/
module

public import proofs.«01_k».proof.Defs
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.NormMath
public import proofs.«01_k».proof.Proof.InprojArrays

@[expose] public section

noncomputable section

open Idealize.ShloMosaic Idealize.SL.Sem

namespace Cert.Inproj

/-- The input's gradient with the norm's part in the order that differentiation leaves it. -/
theorem dxAt_eq (dp : Proj) (w : Win) (x : Act) (g : Gain) (dx1 : Act) (r : Fin 4096) (d : Fin 1024) :
    dxAt dp w x g dx1 r d = dx1 (ix2 r d) + (dn dp w g r d * Cert.Norm.rstd (tok x r)
      + tok x r d * Cert.Norm.scaleGrad (tok x r) (dn dp w g r) + Cert.Norm.scaleGrad (tok x r) (dn dp w g r) * tok x r d) :=
  congrArg (dx1 (ix2 r d) + ·) (Cert.Norm.rowGrad_eq _ _ d)

/-! ## The reference -/

section Reference

open Cert.Reference2Ideal

variable (m : (ℓ : Loc nD τ sig) → Buf (Elt Ideal) ℓ) (ρ : Dev nD → PrngReg)

abbrev rdp (c : Dev nD) : Proj := m ((c.tc : Thread nD τ).loc main_arg0)
abbrev rw' (c : Dev nD) : Win := m ((c.tc : Thread nD τ).loc main_arg1)
abbrev rx (c : Dev nD) : Act := m ((c.tc : Thread nD τ).loc main_arg2)
abbrev rg (c : Dev nD) : Gain := m ((c.tc : Thread nD τ).loc main_arg3)
abbrev rdx1 (c : Dev nD) : Act := m ((c.tc : Thread nD τ).loc main_arg4)

theorem ref_dx (c : Dev nD) :
    Value.res_main_v39 m c = fun i : S4096x1024.Idx => dxAt (rdp m c) (rw' m c) (rx m c) (rg m c) (rdx1 m c) (i 0) (i 1) := by
  funext i
  obtain ⟨r, f, rfl⟩ : ∃ (r : Fin 4096) (f : Fin 1024), i = (ix2 r f : S4096x1024.Idx) := ⟨i 0, i 1, eq_ix2 i⟩
  pointwise [Value.res_main_v39]
  refine Eq.trans ?_ (dxAt_eq _ _ _ _ _ r f).symm
  simp only [Finset.univ_unique, Finset.sum_singleton, ← add_assoc]
  rfl

theorem run :
    θ_run defs (onTc (τ := τ) (main (F := Ideal))) ⟨m, fun _ => 0, ρ⟩ fun r => ∀ c : Dev nD,
    r.2.mem ((c.tc : Thread nD τ).loc main_v39) = (fun i : S4096x1024.Idx => dxAt (rdp m c) (rw' m c) (rx m c) (rg m c) (rdx1 m c) (i 0) (i 1))
    ∧ r.2.mem ((c.tc : Thread nD τ).loc main_v41) = (fun i : S8x128.Idx =>
      dgAt (rdp m c) (rw' m c) (rx m c) (Cert.Kernel2Ideal.Inproj.lane i))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ?_) (Value.run m ρ)
  obtain ⟨e0, e1, rest⟩ := h c
  refine ⟨e0.trans (ref_dx m c), e1.trans ?_, rest⟩
  clear e0 e1
  funext i
  obtain ⟨r, f, rfl⟩ : ∃ (r : Fin 8) (f : Fin 128), i = (ix2 r f : S8x128.Idx) := ⟨i 0, i 1, eq_ix2 i⟩
  pointwise
  simp only [Finset.univ_unique, Finset.sum_singleton]
  exact Finset.sum_congr rfl fun x _ => mul_comm _ _

/-- The reference runs, keeps its arguments, and ends with every semaphore at zero: it declares none. -/
theorem reference_frame : Cert.quiescent_Reference2Ideal := fun m ρ _ =>
  (θ_run _ _ _).mono (fun r h => ⟨fun c => (h c).2.2, sem_eq_zero_of_no_sems (by decide) r.2⟩)
    (Value.run (F := Ideal) m ρ)

end Reference

/-- Kernel and reference, from the same arguments, end with the same two results. -/
theorem algebraic : Cert.algebraic_Kernel2Ideal_Reference2Ideal := by
  intro m g m' g' _ hargs
  have hk := Cert.Kernel2Ideal.Value.run_blocks (F := Ideal) m g
  have hr := run m' g'
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    hk, ?_⟩
  refine (θ_run _ _ _).mono (fun r h c => ?_) hr
  obtain ⟨a0, a1, a2, a3, a4⟩ := hargs c
  obtain ⟨e0, e1, rest⟩ := h c
  refine ⟨e0.trans ?_, e1.trans ?_, rest⟩
  · refine Eq.trans ?_ (Cert.Kernel2Ideal.Inproj.final5 m c).symm
    simp only [rdp, rw', rx, rg, rdx1, a0, a1, a2, a3, a4]
  · refine Eq.trans ?_ (Cert.Kernel2Ideal.Inproj.final6 m c).symm
    simp only [rdp, rw', rx, rg, rdx1, a0, a1, a2, a3, a4]

end Cert.Inproj

end
-- ==== Proof.LossSpec.lean ====
/-
  The last layer's forward product, its norm, the loss and their gradients, as plain mathematics over the extended reals.
-/
module

public import proofs.«01_k».proof.Proof.NormMath
public import Idealize.ShloMosaic.Lib.Pipeline.ValueKit

@[expose] public section

noncomputable section

open Idealize.ShloMosaic

namespace Cert.Loss

open Cert.Norm (width rstd)

abbrev Hid : Type := (⟨2, ![4096, 2816]⟩ : Shape).Idx → EReal
abbrev WOut : Type := (⟨2, ![2816, 1024]⟩ : Shape).Idx → EReal
abbrev Act : Type := (⟨2, ![4096, 1024]⟩ : Shape).Idx → EReal
abbrev Gain : Type := (⟨2, ![1, 1024]⟩ : Shape).Idx → EReal

def half : EReal := Ideal.ofBits .f32 0x3F000000#32
def two : EReal := Ideal.ofBits .f32 0x40000000#32
/-- One over the width. -/
def invWidth : EReal := Ideal.ofBits .f32 0x3A800000#32

theorem half_eq : half = ((1 / 2 : ℝ) : EReal) := by simp [half, Ideal.ofBits, Ideal.ieee, -EReal.coe_mul]; norm_num
theorem two_eq : two = ((2 : ℝ) : EReal) := by simp [two, Ideal.ofBits, Ideal.ieee, -EReal.coe_mul]; norm_num
theorem invWidth_eq : invWidth = ((1 / 1024 : ℝ) : EReal) := by simp [invWidth, Ideal.ofBits, Ideal.ieee, -EReal.coe_mul]; norm_num

/-- The gradient of half a mean of squares: the width's reciprocal, by whichever way it is reached. -/
theorem meanSquare_grad (e : EReal) : Ideal.div half width * (two * e) = e * invWidth := by
  rw [half_eq, two_eq, invWidth_eq, Cert.Norm.width_eq, ← mul_assoc, mul_comm e, Ideal.div_coe (by norm_num), ← EReal.coe_mul,
    ← EReal.coe_mul]
  norm_num

/-- A token's output of the product. -/
def prod (a : Hid) (w : WOut) (r : Fin 4096) (d : Fin 1024) : EReal := ∑ x : Fin 2816, a (ix2 r x) * w (ix2 x d)

/-- The difference from the target after the norm and the residual. -/
def err (a : Hid) (w : WOut) (x1 : Act) (g : Gain) (tg : Act) (r : Fin 4096) (d : Fin 1024) : EReal :=
  x1 (ix2 r d) + prod a w r d * rstd (prod a w r) * g (ix2 0 d) - tg (ix2 r d)

/-- The gradient of the layer's output. -/
def dyAt (a : Hid) (w : WOut) (x1 : Act) (g : Gain) (tg : Act) (r : Fin 4096) (d : Fin 1024) : EReal :=
  err a w x1 g tg r d * invWidth

/-- The gradient of the normed row before its gain. -/
abbrev dn (a : Hid) (w : WOut) (x1 : Act) (g : Gain) (tg : Act) (r : Fin 4096) : Fin 1024 → EReal :=
  fun k => dyAt a w x1 g tg r k * g (ix2 0 k)

/-- The gradient of the product. -/
def dfAt (a : Hid) (w : WOut) (x1 : Act) (g : Gain) (tg : Act) (r : Fin 4096) (d : Fin 1024) : EReal :=
  Cert.Norm.rowGrad (prod a w r) (dn a w x1 g tg r) d

/-- The gradient of a gain: a sum over the tokens. -/
def dgAt (a : Hid) (w : WOut) (x1 : Act) (g : Gain) (tg : Act) (d : Fin 1024) : EReal :=
  ∑ r : Fin 4096, dyAt a w x1 g tg r d * (prod a w r d * rstd (prod a w r))

/-- A token's mean square. -/
def tokLoss (a : Hid) (w : WOut) (x1 : Act) (g : Gain) (tg : Act) (r : Fin 4096) : EReal :=
  Ideal.div (∑ d : Fin 1024, err a w x1 g tg r d * err a w x1 g tg r d) width

/-- The loss. -/
def lossAt (a : Hid) (w : WOut) (x1 : Act) (g : Gain) (tg : Act) : EReal := half * ∑ r : Fin 4096, tokLoss a w x1 g tg r

/-- The loss as it is summed tile by tile, halving every tile's share. -/
def lossTiles (a : Hid) (w : WOut) (x1 : Act) (g : Gain) (tg : Act) : EReal :=
  ∑ s : Fin 8, half * ∑ q : Fin 512, tokLoss a w x1 g tg ⟨s.val * 512 + q.val, by omega⟩

/-- Halving every tile's share is halving the sum. -/
theorem loss_eq (a : Hid) (w : WOut) (x1 : Act) (g : Gain) (tg : Act) : lossTiles a w x1 g tg = lossAt a w x1 g tg := by
  have e : ∑ s : Fin 8, ∑ q : Fin 512, tokLoss a w x1 g tg ⟨s.val * 512 + q.val, by omega⟩ = ∑ r : Fin 4096, tokLoss a w x1 g tg r :=
    Fin.sum_mul_add_congr (S := 8) (n := 512) fun s r hl => rfl
  rw [lossTiles, lossAt, ← e, half_eq, Cert.Norm.mul_sum_of_nonneg _ (by norm_num)]

end Cert.Loss
-- ==== Proof.LossArrays.lean ====
/-
  The four arrays that the last layer's forward call leaves, as the plain mathematics of its arguments.
-/
module

public import proofs.«01_k».proof.Proof.LossSpec
public import proofs.«01_k».proof.Proof.Gen.Kernel3Ideal.Value
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Kernel3Ideal.Loss

open Cert.Kernel3Ideal Cert.Kernel3Ideal.Gen

variable (m : (ℓ : Loc nD τ sig) → Buf (Elt Ideal) ℓ) (c : Dev nD)

abbrev aA : Cert.Loss.Hid := m ((c : Thread nD τ).loc main_arg0)
abbrev wA : Cert.Loss.WOut := m ((c : Thread nD τ).loc main_arg1)
abbrev xA : Cert.Loss.Act := m ((c : Thread nD τ).loc main_arg2)
abbrev gA : Cert.Loss.Gain := m ((c : Thread nD τ).loc main_arg3)
abbrev tA : Cert.Loss.Act := m ((c : Thread nD τ).loc main_arg4)

/-! ## The blocks a point reads -/

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

theorem pt_lt (t : Fin cfg0.N) : t.val < 8 := lt_of_lt_of_eq t.isLt N_0

/-- The token that a block's row is at a point. -/
abbrev row (t : Fin cfg0.N) (r : Fin 512) : Fin 4096 := ⟨t.val * 512 + r.val, by have := pt_lt t; omega⟩

theorem blk_a (t : Fin cfg0.N) (r : Fin 512) (k : Fin 2816) :
    (iblk m c 0 t : Vec Ideal S512x2816 .bf16) (ix2 r k) = aA m c (ix2 (row t r) k) := by
  blk_ext! [iblk, V, idx0 t]

theorem entry_w (i : Fin 8) (j : Fin 352) (d : Fin 1024) :
    V m c main_v1 (ix3 i j d) = wA m c (ix2 ⟨i.val * 352 + j.val, by omega⟩ d) := by
  entry_read
  pointwise

theorem blk_w (t : Fin cfg0.N) (i : Fin 8) (j : Fin 352) (d : Fin 1024) :
    (iblk m c 1 t : Vec Ideal S8x352x1024 .bf16) (ix3 i j d) = wA m c (ix2 ⟨i.val * 352 + j.val, by omega⟩ d) := by
  rw [← entry_w]
  blk_ext [iblk, idx1 t]

theorem blk_x (t : Fin cfg0.N) (r : Fin 512) (k : Fin 1024) :
    (iblk m c 2 t : Vec Ideal S512x1024 .f32) (ix2 r k) = xA m c (ix2 (row t r) k) := by
  blk_ext! [iblk, V, idx2 t]

theorem blk_g (t : Fin cfg0.N) (k : Fin 1024) :
    (iblk m c 3 t : Vec Ideal S1x1024 .f32) (ix2 0 k) = gA m c (ix2 0 k) := by
  blk_ext! [iblk, V, idx3 t]

theorem blk_t (t : Fin cfg0.N) (r : Fin 512) (k : Fin 1024) :
    (iblk m c 4 t : Vec Ideal S512x1024 .f32) (ix2 r k) = tA m c (ix2 (row t r) k) := by
  blk_ext! [iblk, V, idx4 t]

/-! ## A point's blocks -/

abbrev prodBlk (t : Fin cfg0.N) : FVec Ideal S512x1024 .f32 := k0_pay3 (iblk m c 0 t) (iblk m c 1 t)
abbrev rstdBlk (t : Fin cfg0.N) : FVec Ideal S512x1 .f32 := k0_pay4 (iblk m c 0 t) (iblk m c 1 t)
abbrev errBlk (t : Fin cfg0.N) : FVec Ideal S512x1024 .f32 :=
  k0_pay5 (iblk m c 0 t) (iblk m c 1 t) (iblk m c 3 t) (iblk m c 2 t) (iblk m c 4 t)
abbrev lossBlk (t : Fin cfg0.N) : FVec Ideal S1x1x1 .f32 :=
  k0_pay7 (iblk m c 0 t) (iblk m c 1 t) (iblk m c 3 t) (iblk m c 2 t) (iblk m c 4 t)
abbrev dfBlk (t : Fin cfg0.N) : FVec Ideal S512x1024 .bf16 :=
  k0_pay11 (prodBlk m c t) (rstdBlk m c t) (iblk m c 3 t) (errBlk m c t)

theorem prod_apply (t : Fin cfg0.N) (r : Fin 512) (d : Fin 1024) :
    prodBlk m c t (ix2 r d) = Cert.Loss.prod (aA m c) (wA m c) (row t r) d := by
  pointwise [prodBlk, k0_pay3]
  simp only [blk_a, blk_w]
  refine Finset.sum_congr rfl fun x _ => ?_
  have e : (⟨x.val / 352 * 352 + x.val % 352, by omega⟩ : Fin 2816) = x := Fin.ext (Nat.div_add_mod' _ _)
  exact congrArg (fun y : Fin 2816 => aA m c (ix2 (row t r) x) * wA m c (ix2 y d)) e

theorem rstd_apply (t : Fin cfg0.N) (r : Fin 512) :
    rstdBlk m c t (ix2 r 0) = Cert.Norm.rstd (Cert.Loss.prod (aA m c) (wA m c) (row t r)) := by
  have h : ∀ d, k0_pay3 (iblk m c 0 t) (iblk m c 1 t) (ix2 r d) = _ := prod_apply m c t r
  simp only [rstdBlk]
  pointwise [k0_pay4]
  simp only [h]
  rfl

theorem err_apply (t : Fin cfg0.N) (r : Fin 512) (d : Fin 1024) :
    errBlk m c t (ix2 r d) = Cert.Loss.err (aA m c) (wA m c) (xA m c) (gA m c) (tA m c) (row t r) d := by
  have h := prod_apply m c t r d
  have hr := rstd_apply m c t r
  simp only [prodBlk, rstdBlk] at h hr
  simp only [errBlk]
  pointwise [k0_pay5]
  rw [h, hr, blk_x, blk_g, blk_t]
  rfl

theorem dy_apply (t : Fin cfg0.N) (r : Fin 512) (d : Fin 1024) :
    k0_pay9 (errBlk m c t) (ix2 r d) = Cert.Loss.dyAt (aA m c) (wA m c) (xA m c) (gA m c) (tA m c) (row t r) d := by
  have h := err_apply m c t r d
  generalize errBlk m c t = e at h ⊢
  pointwise [k0_pay9]
  rw [h]
  rfl

theorem nrm_apply (t : Fin cfg0.N) (r : Fin 512) (d : Fin 1024) :
    k0_pay10 (prodBlk m c t) (rstdBlk m c t) (ix2 r d) = Cert.Loss.prod (aA m c) (wA m c) (row t r) d
      * Cert.Norm.rstd (Cert.Loss.prod (aA m c) (wA m c) (row t r)) := by
  have h := prod_apply m c t r d
  have hr := rstd_apply m c t r
  generalize prodBlk m c t = p at h ⊢
  generalize rstdBlk m c t = q at hr ⊢
  pointwise [k0_pay10]
  rw [h, hr]

theorem df_apply (t : Fin cfg0.N) (r : Fin 512) (d : Fin 1024) :
    dfBlk m c t (ix2 r d) = Cert.Loss.dfAt (aA m c) (wA m c) (xA m c) (gA m c) (tA m c) (row t r) d := by
  have hn := nrm_apply m c t r
  have hd := dy_apply m c t r
  have hr := rstd_apply m c t r
  have hg := blk_g m c t
  simp only [dfBlk]
  generalize prodBlk m c t = p at hn ⊢
  generalize rstdBlk m c t = q at hn hr ⊢
  generalize errBlk m c t = e at hd ⊢
  generalize (iblk m c 3 t : Vec Ideal S1x1024 .f32) = g at hg ⊢
  pointwise [k0_pay11]
  simp only [hn, hd, hr, hg]
  rfl

theorem loss_apply (t : Fin cfg0.N) :
    lossBlk m c t (ix3 0 0 0) = ∑ q : Fin 512, Cert.Loss.tokLoss (aA m c) (wA m c) (xA m c) (gA m c) (tA m c) (row t q) := by
  have h : ∀ r d, k0_pay5 (iblk m c 0 t) (iblk m c 1 t) (iblk m c 3 t) (iblk m c 2 t) (iblk m c 4 t) (ix2 r d) = _ := err_apply m c t
  simp only [lossBlk]
  pointwise [k0_pay7]
  simp only [h, Finset.univ_unique, Finset.sum_singleton]
  rfl

/-- A row of sums laid out in eight rows of lanes: the sum over the rows, added to what was there. -/
theorem pay12_apply (v : FVec Ideal S512x1024 .f32) (q : FVec Ideal S512x1 .f32) (e : FVec Ideal S512x1024 .f32) (a : Vec Ideal S8x128 .f32)
    (r : Fin 8) (d : Fin 128) :
    k0_pay12 v q e a (ix2 r d) = a (ix2 r d) + ∑ x : Fin 512, k0_pay9 e (ix2 x ⟨r.val * 128 + d.val, by omega⟩)
      * k0_pay10 v q (ix2 x ⟨r.val * 128 + d.val, by omega⟩) := by
  pointwise [k0_pay12, k0_pay9, k0_pay10]
  refine congrArg (a (ix2 r d) + ·) ?_
  fin_cases r <;> simp

theorem pay8_apply (v : FVec Ideal S1x128 .f32) (a : FVec Ideal S1x1x1 .f32) (d : Fin 128) :
    k0_pay8 v a (ix2 0 d) = v (ix2 0 d) + Cert.Loss.half * a (ix3 0 0 0) := by
  pointwise [k0_pay8]
  rfl

theorem pay6_apply (v : Vec Ideal S1x128 .f32) (d : Fin 128) : k0_pay6 v (ix2 0 d) = v (ix2 0 d) := by
  pointwise [k0_pay6]

theorem pay1_apply (j : S8x128.Idx) : k0_pay1 (F := Ideal) j = 0 := by
  pointwise [k0_pay1]

theorem pay2_apply (j : S1x128.Idx) : k0_pay2 (F := Ideal) j = 0 := by
  pointwise [k0_pay2]

theorem df_point (t : Fin cfg0.N) : (outsAt0 m c t.val t.isLt).1 = dfBlk m c t := by
  by_cases h0 : t.val % 8 = 0
  · rw [outsAt0_A m c t h0]; frame_out
  · rw [outsAt0_B m c t h0]; frame_out

theorem dy_point (t : Fin cfg0.N) : (outsAt0 m c t.val t.isLt).2.1 = k0_pay9 (errBlk m c t) := by
  by_cases h0 : t.val % 8 = 0
  · rw [outsAt0_A m c t h0]; frame_out
  · rw [outsAt0_B m c t h0]; frame_out

/-! ## The sums over the points -/

/-- The gain that an element of the laid-out row is. -/
abbrev lane (i : S8x128.Idx) : Fin 1024 := ⟨(i 0).val * 128 + (i 1).val, by
    have h0 : (i 0).val < 8 := (i 0).isLt
    have h1 : (i 1).val < 128 := (i 1).isLt
    omega⟩

def term (t : Fin cfg0.N) (j : S8x128.Idx) : EReal :=
  ∑ x : Fin 512, k0_pay9 (errBlk m c t) (ix2 x (lane j)) * k0_pay10 (prodBlk m c t) (rstdBlk m c t) (ix2 x (lane j))

theorem dg_first (t : Fin cfg0.N) (h0 : t.val % 8 = 0) (j : S8x128.Idx) :
    (outsAt0 m c t.val t.isLt).2.2.1 j = (0 : EReal) + term m c t j := by
  obtain ⟨r, d, rfl⟩ : ∃ (r : Fin 8) (d : Fin 128), j = (ix2 r d : S8x128.Idx) := ⟨j 0, j 1, eq_ix2 j⟩
  rw [outsAt0_A m c t h0]; frame_out
  rw [pay12_apply, pay1_apply]
  rfl

theorem dg_next (t : Fin cfg0.N) (h0 : ¬t.val % 8 = 0) (j : S8x128.Idx) :
    (outsAt0 m c t.val t.isLt).2.2.1 j
      = (outsAt0 m c (t.val - 1) (Nat.lt_of_le_of_lt (Nat.sub_le _ _) t.isLt)).2.2.1 j + term m c t j := by
  obtain ⟨r, d, rfl⟩ : ∃ (r : Fin 8) (d : Fin 128), j = (ix2 r d : S8x128.Idx) := ⟨j 0, j 1, eq_ix2 j⟩
  rw [outsAt0_B m c t h0]; frame_out
  rw [pay12_apply]
  rfl

theorem dg_sum (t : Fin cfg0.N) (h1 : t.val % 8 = 7) (r : Fin 8) (d : Fin 128) :
    (outsAt0 m c t.val t.isLt).2.2.1 (ix2 r d) = Cert.Loss.dgAt (aA m c) (wA m c) (xA m c) (gA m c) (tA m c) (lane (ix2 r d)) := by
  have ht := pt_lt t
  have h := Pipeline.eq_sum_fin_of_reset_step_apply_of_flush (fun n h => (outsAt0 m c n h).2.2.1) 8 (fun _ => (0 : EReal)) (term m c)
    (dg_first m c) (dg_next m c) t h1 (ix2 r d)
  rw [zero_add] at h
  refine h.trans ?_
  refine Fin.sum_mul_add_congr (S := 8) (n := 512) fun s r hl => ?_
  refine (congrArg₂ (· * ·) (dy_apply m c ⟨_, _⟩ r _) (nrm_apply m c ⟨_, _⟩ r _)).trans ?_
  have e : 8 * (t.val / 8) + s.val = s.val := by omega
  simp only [row, e]

theorem lane_eq (j : S1x128.Idx) : j = (ix2 (0 : Fin 1) (j 1 : Fin 128) : S1x128.Idx) :=
  (eq_ix2 j).trans (congrArg (fun y : Fin 1 => (ix2 y (j 1 : Fin 128) : S1x128.Idx)) (Subsingleton.elim (α := Fin 1) (j 0) 0))

def lossTerm (t : Fin cfg0.N) (_ : S1x128.Idx) : EReal := Cert.Loss.half * lossBlk m c t (ix3 0 0 0)

theorem loss_first (t : Fin cfg0.N) (h0 : t.val % 8 = 0) (j : S1x128.Idx) :
    (outsAt0 m c t.val t.isLt).2.2.2 j = (0 : EReal) + lossTerm m c t j := by
  obtain ⟨d, rfl⟩ : ∃ (d : Fin 128), j = (ix2 0 d : S1x128.Idx) := ⟨j 1, lane_eq j⟩
  rw [outsAt0_A m c t h0]; frame_out
  rw [pay8_apply, pay6_apply, pay2_apply]
  rfl

theorem loss_next (t : Fin cfg0.N) (h0 : ¬t.val % 8 = 0) (j : S1x128.Idx) :
    (outsAt0 m c t.val t.isLt).2.2.2 j
      = (outsAt0 m c (t.val - 1) (Nat.lt_of_le_of_lt (Nat.sub_le _ _) t.isLt)).2.2.2 j + lossTerm m c t j := by
  obtain ⟨d, rfl⟩ : ∃ (d : Fin 128), j = (ix2 0 d : S1x128.Idx) := ⟨j 1, lane_eq j⟩
  rw [outsAt0_B m c t h0]; frame_out
  rw [pay8_apply, pay6_apply]
  rfl

theorem loss_sum (t : Fin cfg0.N) (h1 : t.val % 8 = 7) (j : S1x128.Idx) :
    (outsAt0 m c t.val t.isLt).2.2.2 j = Cert.Loss.lossTiles (aA m c) (wA m c) (xA m c) (gA m c) (tA m c) := by
  have ht := pt_lt t
  have h := Pipeline.eq_sum_fin_of_reset_step_apply_of_flush (fun n h => (outsAt0 m c n h).2.2.2) 8 (fun _ => (0 : EReal)) (lossTerm m c)
    (loss_first m c) (loss_next m c) t h1 j
  rw [zero_add] at h
  refine h.trans ?_
  refine Finset.sum_congr rfl fun s _ => congrArg (Cert.Loss.half * ·) ?_
  refine (loss_apply m c ⟨_, _⟩).trans ?_
  have e : 8 * (t.val / 8) + s.val = s.val := by omega
  simp only [row, e]

/-! ## The arrays after the run -/

theorem final5 : (dats m 0 c).arrAt 5 cfg0.N
    = fun i : S4096x1024.Idx => Cert.Loss.dfAt (aA m c) (wA m c) (xA m c) (gA m c) (tA m c) (i 0) (i 1) := by
  refine (dats m 0 c).arrAt_eq_of_covers 5 _ (by decide +kernel) fun t hf y => ?_
  obtain ⟨r, f, rfl⟩ : ∃ (r : Fin 512) (f : Fin 1024), y = (ix2 r f : S512x1024.Idx) := ⟨y 0, y 1, (eq_ix2 y)⟩
  blk_simp
  rw [after0_5]
  rw [df_point m c t, df_apply m c t r f]
  refine congrArg₂ (Cert.Loss.dfAt (aA m c) (wA m c) (xA m c) (gA m c) (tA m c)) (Fin.ext ?_) (Fin.ext ?_) <;> blk_simp [idx5 t]

theorem final6 : (dats m 0 c).arrAt 6 cfg0.N
    = fun i : S4096x1024.Idx => Cert.Loss.dyAt (aA m c) (wA m c) (xA m c) (gA m c) (tA m c) (i 0) (i 1) := by
  refine (dats m 0 c).arrAt_eq_of_covers 6 _ (by decide +kernel) fun t hf y => ?_
  obtain ⟨r, f, rfl⟩ : ∃ (r : Fin 512) (f : Fin 1024), y = (ix2 r f : S512x1024.Idx) := ⟨y 0, y 1, (eq_ix2 y)⟩
  blk_simp
  rw [after0_6]
  rw [dy_point m c t, dy_apply m c t r f]
  refine congrArg₂ (Cert.Loss.dyAt (aA m c) (wA m c) (xA m c) (gA m c) (tA m c)) (Fin.ext ?_) (Fin.ext ?_) <;> blk_simp [idx6 t]

theorem final7 : (dats m 0 c).arrAt 7 cfg0.N
    = fun i : S8x128.Idx => Cert.Loss.dgAt (aA m c) (wA m c) (xA m c) (gA m c) (tA m c) (lane i) := by
  refine (dats m 0 c).arrAt_eq_of_covers 7 _ (by decide +kernel) fun t hf y => ?_
  obtain ⟨r, f, rfl⟩ : ∃ (r : Fin 8) (f : Fin 128), y = (ix2 r f : S8x128.Idx) := ⟨y 0, y 1, (eq_ix2 y)⟩
  have h1 := (flush0_7 t).mp hf
  blk_simp
  rw [after0_7]
  rw [dg_sum m c t h1 r f]
  refine congrArg (Cert.Loss.dgAt (aA m c) (wA m c) (xA m c) (gA m c) (tA m c)) (Fin.ext ?_)
  simp only [lane]
  blk_simp [idx7 t]

theorem final8 : (dats m 0 c).arrAt 8 cfg0.N = fun _ : S1x128.Idx => Cert.Loss.lossTiles (aA m c) (wA m c) (xA m c) (gA m c) (tA m c) := by
  refine (dats m 0 c).arrAt_eq_of_covers 8 _ (by decide +kernel) fun t hf y => ?_
  have h1 := (flush0_8 t).mp hf
  blk_simp
  rw [after0_8]
  rw [loss_sum m c t h1]

end Cert.Kernel3Ideal.Loss
-- ==== Proof.LossClaim.lean ====
/-
  The claims about the last layer's forward call: the reference's frame, the reference's four results as plain
  mathematics of its arguments, and the equality of the results.
-/
module

public import proofs.«01_k».proof.Defs
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.NormMath
public import proofs.«01_k».proof.Proof.LossArrays

@[expose] public section

noncomputable section

open Idealize.ShloMosaic Idealize.SL.Sem

namespace Cert.Loss

/-! ## The reference -/

section Reference

open Cert.Reference3Ideal

variable (m : (ℓ : Loc nD τ sig) → Buf (Elt Ideal) ℓ) (ρ : Dev nD → PrngReg)

abbrev ra (c : Dev nD) : Hid := m ((c.tc : Thread nD τ).loc main_arg0)
abbrev rw' (c : Dev nD) : WOut := m ((c.tc : Thread nD τ).loc main_arg1)
abbrev rx (c : Dev nD) : Act := m ((c.tc : Thread nD τ).loc main_arg2)
abbrev rg (c : Dev nD) : Gain := m ((c.tc : Thread nD τ).loc main_arg3)
abbrev rt (c : Dev nD) : Act := m ((c.tc : Thread nD τ).loc main_arg4)

set_option maxHeartbeats 1000000 in
theorem ref_df (c : Dev nD) :
    Value.res_main_v55 m c = fun i : S4096x1024.Idx => dfAt (ra m c) (rw' m c) (rx m c) (rg m c) (rt m c) (i 0) (i 1) := by
  funext i
  obtain ⟨r, f, rfl⟩ : ∃ (r : Fin 4096) (f : Fin 1024), i = (ix2 r f : S4096x1024.Idx) := ⟨i 0, i 1, eq_ix2 i⟩
  pointwise [Value.res_main_v55]
  have hd : ∀ k : Fin 1024, Ideal.div half Cert.Norm.width * (two * err (ra m c) (rw' m c) (rx m c) (rg m c) (rt m c) r k) = dyAt (ra m c) (rw' m c) (rx m c) (rg m c) (rt m c) r k :=
    fun k => meanSquare_grad _
  simp only [half, Cert.Norm.width, two, err, prod, Cert.Norm.rstd, Cert.Norm.eps] at hd
  simp only [hd]
  refine Eq.trans ?_ (Cert.Norm.rowGrad_eq _ _ f).symm
  simp only [Finset.univ_unique, Finset.sum_singleton]
  rfl

set_option maxHeartbeats 1000000 in
theorem run :
    θ_run defs (onTc (τ := τ) (main (F := Ideal))) ⟨m, fun _ => 0, ρ⟩ fun r => ∀ c : Dev nD,
    r.2.mem ((c.tc : Thread nD τ).loc main_v55) = (fun i : S4096x1024.Idx => dfAt (ra m c) (rw' m c) (rx m c) (rg m c) (rt m c) (i 0) (i 1))
    ∧ r.2.mem ((c.tc : Thread nD τ).loc main_v33) = (fun i : S4096x1024.Idx => dyAt (ra m c) (rw' m c) (rx m c) (rg m c) (rt m c) (i 0) (i 1))
    ∧ r.2.mem ((c.tc : Thread nD τ).loc main_v56) = (fun i : S8x128.Idx => dgAt (ra m c) (rw' m c) (rx m c) (rg m c) (rt m c) (Cert.Kernel3Ideal.Loss.lane i))
    ∧ r.2.mem ((c.tc : Thread nD τ).loc main_v57) = (fun _ : S1x128.Idx => lossTiles (ra m c) (rw' m c) (rx m c) (rg m c) (rt m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ?_) (Value.run m ρ)
  obtain ⟨e0, e1, e2, e3, rest⟩ := h c
  refine ⟨e0.trans (ref_df m c), e1.trans ?_, e2.trans ?_, e3.trans ?_, rest⟩ <;> clear e0 e1 e2 e3 rest h <;> funext i
  · obtain ⟨r, f, rfl⟩ : ∃ (r : Fin 4096) (f : Fin 1024), i = (ix2 r f : S4096x1024.Idx) := ⟨i 0, i 1, eq_ix2 i⟩
    pointwise
    exact meanSquare_grad (err (ra m c) (rw' m c) (rx m c) (rg m c) (rt m c) r f)
  · obtain ⟨r, f, rfl⟩ : ∃ (r : Fin 8) (f : Fin 128), i = (ix2 r f : S8x128.Idx) := ⟨i 0, i 1, eq_ix2 i⟩
    pointwise
    simp only [Finset.univ_unique, Finset.sum_singleton]
    refine Finset.sum_congr rfl fun x _ => ?_
    rw [mul_comm]
    exact congrArg (· * _) (meanSquare_grad (err (ra m c) (rw' m c) (rx m c) (rg m c) (rt m c) x _))
  · obtain ⟨r, f, rfl⟩ : ∃ (r : Fin 1) (f : Fin 128), i = (ix2 r f : S1x128.Idx) := ⟨i 0, i 1, eq_ix2 i⟩
    pointwise
    exact (loss_eq _ _ _ _ _).symm

/-- The reference runs, keeps its arguments, and ends with every semaphore at zero: it declares none. -/
theorem reference_frame : Cert.quiescent_Reference3Ideal := fun m ρ _ =>
  (θ_run _ _ _).mono (fun r h => ⟨fun c => (h c).2.2.2.2, sem_eq_zero_of_no_sems (by decide) r.2⟩)
    (Value.run (F := Ideal) m ρ)

end Reference

/-- Kernel and reference, from the same arguments, end with the same four results. -/
theorem algebraic : Cert.algebraic_Kernel3Ideal_Reference3Ideal := by
  intro m g m' g' _ hargs
  have hk := Cert.Kernel3Ideal.Value.run_blocks (F := Ideal) m g
  have hr := run m' g'
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, fun c => (Cert.Kernel3Ideal.Gen.dats m 0 c).arrAt 8 Cert.Kernel3Ideal.cfg0.N,
    hk, ?_⟩
  refine (θ_run _ _ _).mono (fun r h c => ?_) hr
  obtain ⟨a0, a1, a2, a3, a4⟩ := hargs c
  obtain ⟨e0, e1, e2, e3, rest⟩ := h c
  refine ⟨e0.trans ?_, e1.trans ?_, e2.trans ?_, e3.trans ?_, rest⟩
  · refine Eq.trans ?_ (Cert.Kernel3Ideal.Loss.final5 m c).symm
    simp only [ra, rw', rx, rg, rt, a0, a1, a2, a3, a4]
  · refine Eq.trans ?_ (Cert.Kernel3Ideal.Loss.final6 m c).symm
    simp only [ra, rw', rx, rg, rt, a0, a1, a2, a3, a4]
  · refine Eq.trans ?_ (Cert.Kernel3Ideal.Loss.final7 m c).symm
    simp only [ra, rw', rx, rg, rt, a0, a1, a2, a3, a4]
  · refine Eq.trans ?_ (Cert.Kernel3Ideal.Loss.final8 m c).symm
    simp only [ra, rw', rx, rg, rt, a0, a1, a2, a3, a4]

end Cert.Loss

end
-- ==== Proof.UpRows.lean ====
/-
Rows of the exchanged arrays. An array of the exchange has shape [4, 352, 1024], one row per chip. A row is the
memref the kernel makes of it: the slice of one row, its unit axis dropped. This module says that an array's
memory is its four rows, in terms of what is read through each.
-/
module

public import proofs.«01_k».proof.Proof.Gen.Kernel4Ideal.Frame
public import Idealize.ShloMosaic.Lib.Pipeline.ValueKit

@[expose] public section

set_option maxRecDepth 16384

noncomputable section

namespace Cert.UpProof

open Cert.Kernel4Ideal Cert.Kernel4Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the launch: the pipeline's rounds and the exchange's, the latter with up to three duties a round. -/
abbrev UU : Type := UR sig nD τ × URounds (GSem nD τ sig) (Fin 3)

local notation "𝕄" => MT nD τ sig Unit (Elt F) ℕ UU ℕ

/-! ## A row of an array -/

/-- Where row `n` begins. -/
abbrev offc (n : Fin 4) : Fin 3 → ℕ := ![n.val, 0, 0]
theorem offc_inb (n : Fin 4) : ∀ a, offc n a + S1x352x1024.size a ≤ S4x352x1024.size a := by revert n; decide

/-- The memref of the slice at an offset, its unit axis dropped: the kernel's own text. -/
abbrev rowAt {sp : Space} (M : Memref sig .tc sp S4x352x1024 .bf16) (off : Fin 3 → ℕ) (h : ∀ a, off a + S1x352x1024.size a ≤ S4x352x1024.size a) :
    Memref sig .tc sp S352x1024 .bf16 :=
  (M.slice (Rect.unit (s := S4x352x1024) off S1x352x1024.size h) (fun _ => rfl)).squeeze S352x1024 squeezes_S1x352x1024_S352x1024
/-- Row `n`. -/
abbrev rowM {sp : Space} (M : Memref sig .tc sp S4x352x1024 .bf16) (n : Fin 4) : Memref sig .tc sp S352x1024 .bf16 := rowAt M (offc n) (offc_inb n)

/-- The place in the array of a place in row `n`. -/
def rowIx (n : Fin 4) (j : S352x1024.Idx) : S4x352x1024.Idx :=
  (Rect.unit (s := S4x352x1024) (offc n) S1x352x1024.size (offc_inb n)).emb
    (Shape.reshapeEquiv (Shape.Squeezes.numel_eq (s := S1x352x1024) (s' := S352x1024) squeezes_S1x352x1024_S352x1024) j)
/-- Row `n` of contents. -/
def rowOf {α : Type} (X : S4x352x1024.Idx → α) (n : Fin 4) : S352x1024.Idx → α := fun j => X (rowIx n j)

theorem row_emb {sp : Space} (M : Memref sig .tc sp S4x352x1024 .bf16) (n : Fin 4) (j : S352x1024.Idx) :
    (rowM M n).view.emb j = M.view.emb (rowIx n j) := rfl

theorem row_read {sp : Space} {Val : EltTy → Type} (M : Memref sig .tc sp S4x352x1024 .bf16) (n : Fin 4) (f : M.view.ty.Contents Val) :
    (rowM M n).view.read Val f = rowOf (M.view.read Val f) n := rfl

theorem rowIx_zero (n : Fin 4) (j : S352x1024.Idx) : (rowIx n j 0).val = n.val := by
  unfold rowIx
  rw [ValueKit.rect_emb_unit_val]
  generalize hk' : Shape.reshapeEquiv _ j = k
  have hk : (k 0).val < 1 := (k 0).isLt
  show n.val + (k 0).val = n.val
  omega

theorem exists_rowIx (x : S4x352x1024.Idx) (n : Fin 4) (hn : (x 0).val = n.val) : ∃ j, rowIx n j = x := by
  let k : S1x352x1024.Idx := fun a => match a with
    | ⟨0, _⟩ => (⟨0, by decide⟩ : Fin 1)
    | ⟨1, _⟩ => (x 1 : Fin 352)
    | ⟨2, _⟩ => (x 2 : Fin 1024)
  refine ⟨(Shape.reshapeEquiv (Shape.Squeezes.numel_eq (s := S1x352x1024) (s' := S352x1024) squeezes_S1x352x1024_S352x1024)).symm k, ?_⟩
  unfold rowIx
  rw [Equiv.apply_symm_apply]
  funext a
  apply Fin.ext
  rw [ValueKit.rect_emb_unit_val]
  match a with
  | ⟨0, _⟩ => show n.val + 0 = (x 0).val; omega
  | ⟨1, _⟩ => show 0 + (x 1).val = (x 1).val; omega
  | ⟨2, _⟩ => show 0 + (x 2).val = (x 2).val; omega

theorem mem_row {sp : Space} (M : Memref sig .tc sp S4x352x1024 .bf16) (n : Fin 4) (i : M.view.ty.shape.Idx) :
    i ∈ (rowM M n).view.set ↔ ∃ j, M.view.emb (rowIx n j) = i := by
  unfold View.set
  simp only [Finset.mem_map, Finset.mem_univ, true_and]
  rfl

theorem set_rows {sp : Space} (M : Memref sig .tc sp S4x352x1024 .bf16) :
    M.view.set = Finset.univ.biUnion fun n : Fin 4 => (rowM M n).view.set := by
  ext i
  rw [Finset.mem_biUnion]
  constructor
  · intro h
    obtain ⟨x, -, rfl⟩ := Finset.mem_map.mp h
    obtain ⟨j, hj⟩ := exists_rowIx x (x 0) rfl
    exact ⟨x 0, Finset.mem_univ _, (mem_row M _ _).mpr ⟨j, by rw [hj]⟩⟩
  · rintro ⟨n, -, h⟩
    obtain ⟨j, rfl⟩ := (mem_row M n _).mp h
    exact Finset.mem_map.mpr ⟨_, Finset.mem_univ _, rfl⟩

theorem rows_disjoint {sp : Space} (M : Memref sig .tc sp S4x352x1024 .bf16) :
    ∀ a ∈ (Finset.univ : Finset (Fin 4)), ∀ b ∈ (Finset.univ : Finset (Fin 4)), a ≠ b → Disjoint (rowM M a).view.set (rowM M b).view.set := by
  intro a _ b _ hab
  rw [Finset.disjoint_left]
  intro i ha hb
  obtain ⟨j, rfl⟩ := (mem_row M a _).mp ha
  obtain ⟨j', h'⟩ := (mem_row M b _).mp hb
  have h0 := congrArg (fun x : S4x352x1024.Idx => (x 0).val) (M.view.emb.injective h')
  simp only [rowIx_zero] at h0
  exact hab (Fin.ext h0.symm)

theorem cast_cancel {α β : Type} (h : α = β) {x y : α} (hxy : cast h x = cast h y) : x = y := by subst h; exact hxy

omit [FloatOps F] in
/-- The array's memory falls into its rows. -/
theorem owns_split {sp : Space} (c : Dev nD) (M : Memref sig .tc sp S4x352x1024 .bf16) (X : S4x352x1024.Idx → Elt F .bf16) :
    (owns (c : Thread nD τ) M fullShare X : sProp 𝕄)
      ⊢ bigSep Finset.univ fun n : Fin 4 => owns (c : Thread nD τ) (rowM M n) fullShare (rowOf X n) := by
  have hmono (f : Buf (Elt F) (M.view.loc (c : Thread nD τ))) (hf : M.view.read (Elt F) f = X) :
      (M.view.loc (c : Thread nD τ) ↦[M.view.set]{fullShare} f : sProp 𝕄)
        ⊢ bigSep Finset.univ fun n : Fin 4 => owns (c : Thread nD τ) (rowM M n) fullShare (rowOf X n) := by
    rw [set_rows, pointsTo_biUnion _ _ (rows_disjoint M)]
    refine bigSep_mono fun n _ => (?_ : (_ : sProp 𝕄) ⊢ _)
    unfold owns
    iintro H
    iexists f
    isplitr; · ipureintro; rw [row_read, hf]
    iexact H
  unfold owns at hmono ⊢
  iintro ⟨%f, %hf, H⟩
  iapply (hmono f hf)
  iexact H

omit [FloatOps F] in
/-- The array's memory from its rows; `f₀` is any contents at all. -/
theorem owns_join {sp : Space} (c : Dev nD) (M : Memref sig .tc sp S4x352x1024 .bf16) (f₀ : Buf (Elt F) (M.view.loc (c : Thread nD τ)))
    (X : S4x352x1024.Idx → Elt F .bf16) :
    (bigSep Finset.univ fun n : Fin 4 => owns (c : Thread nD τ) (rowM M n) fullShare (rowOf X n) : sProp 𝕄)
      ⊢ owns (c : Thread nD τ) M fullShare X := by
  have hg : M.view.read (Elt F) (M.view.write (Elt F) f₀ X Finset.univ) = X := View.read_write_univ _ _
  generalize M.view.write (Elt F) f₀ X Finset.univ = g at hg
  unfold owns
  refine BIBase.Entails.trans ?_ (show (M.view.loc (c : Thread nD τ) ↦[M.view.set]{fullShare} g : sProp 𝕄) ⊢ _ from by
    iintro H; iexists g; isplitr; · (ipureintro; exact hg)
    iexact H)
  rw [set_rows, pointsTo_biUnion _ _ (rows_disjoint M)]
  refine bigSep_mono fun n _ => (?_ : (_ : sProp 𝕄) ⊢ _)
  iintro ⟨%f, %hf, H⟩
  have he : (M.view.loc (c : Thread nD τ) ↦[(rowM M n).view.set]{fullShare} f : sProp 𝕄)
      = (M.view.loc (c : Thread nD τ) ↦[(rowM M n).view.set]{fullShare} g) := pointsTo_congr fun i hi => by
    obtain ⟨j, rfl⟩ := (mem_row M n i).mp hi
    have h1 := congrFun hf j
    rw [row_read] at h1
    have h2 : M.view.read (Elt F) f (rowIx n j) = M.view.read (Elt F) g (rowIx n j) := by rw [hg]; exact h1
    rw [View.read_apply, View.read_apply] at h2
    exact cast_cancel _ h2
  iapply (Entails.of_eq he)
  iexact H

end Cert.UpProof
-- ==== Proof.UpProto.lean ====
/-
The exchange of the backward call, as a protocol. Each chip holds four rows of a gate array and of a down array, one
row for each chip; chip `c` keeps its own row and sends the others, so that afterwards its output holds what the four
chips had for it. A device's cells are its barrier, six sending and six receiving semaphores and two for the copies on
the chip. This module names them, says what each hands over, and gives the rule of each operation of the exchange.
-/
module

public import proofs.«01_k».proof.Proof.UpRows
public import Idealize.ShloMosaic.Lib.Pipeline.Launch
public import Idealize.ShloMosaic.Lib.Pipeline.Kit

@[expose] public section

set_option maxRecDepth 16384

noncomputable section

namespace Cert.UpProof

open Cert.Kernel4Ideal Cert.Kernel4Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ) (ρ : Dev nD → PrngReg)

/-! ## Chips and peers -/

/-- A device's chip: two devices (cores) a chip. -/
def chip (c : Dev nD) : Fin 4 := ⟨c.val / 2, by have := c.isLt; have : c.val < 8 := this; omega⟩
/-- The device of chip `q` on the same core. -/
def dv (q : Fin 4) (c : Dev nD) : Dev nD := ⟨2 * q.val + c.val % 2, by have := q.isLt; show _ < 8; omega⟩
/-- The `k`-th peer: the chip whose number differs by `k + 1` in binary without carry. -/
def pr (k : Fin 3) (c : Dev nD) : Dev nD := dv ⟨(chip c).val ^^^ (k.val + 1), by revert k c; decide +kernel⟩ c

theorem pr_pr (k : Fin 3) (c : Dev nD) : pr k (pr k c) = c := by revert k c; decide +kernel
theorem pr_inj (k : Fin 3) {c d : Dev nD} (h : pr k c = pr k d) : c = d := by rw [← pr_pr k c, h, pr_pr]
theorem dv_chip (c : Dev nD) : dv (chip c) c = c := by revert c; decide +kernel
theorem dv_chip_pr (k : Fin 3) (c : Dev nD) : dv (chip (pr k c)) c = pr k c := by revert k c; decide +kernel
/-- A device's four chips: its own and its peers'. -/
def order (c : Dev nD) : Fin 4 → Fin 4 := fun | 0 => chip c | 1 => chip (pr 0 c) | 2 => chip (pr 1 c) | 3 => chip (pr 2 c)
theorem order_bij (c : Dev nD) : Function.Bijective (order c) := by revert c; decide +kernel

/-! ## The memrefs -/

abbrev inM : Fin 2 → Memref sig .tc .hbm S4x352x1024 .bf16 := fun | 0 => Memref.whole main_arg9 | 1 => Memref.whole main_arg10
abbrev outM : Fin 2 → Memref sig .tc .hbm S4x352x1024 .bf16 := fun | 0 => Memref.whole main_v1_4 | 1 => Memref.whole main_v1_5
abbrev bM : Fin 2 → Memref sig .tc .vmem S352x1024 .bf16 := fun | 0 => Memref.whole cc0_scratch3 | 1 => Memref.whole cc0_scratch4

/-- What device `c` has in its array `a` at launch. -/
def inX (a : Fin 2) (c : Dev nD) : S4x352x1024.Idx → Elt F .bf16 := (inM a).view.read (Elt F) (m ((inM a).view.loc (c : Thread nD τ)))
/-- What device `c` has in its output `a` after the exchange: row `q` is what chip `q` had for it. -/
def outX (a : Fin 2) (c : Dev nD) : S4x352x1024.Idx → Elt F .bf16 := fun x =>
  inX m a (dv (x 0) c) (fun b => match b with | ⟨0, _⟩ => (chip c : Fin 4) | ⟨1, _⟩ => (x 1 : Fin 352) | ⟨2, _⟩ => (x 2 : Fin 1024))

abbrev inRow (a : Fin 2) (c : Dev nD) (n : Fin 4) : sProp 𝕄 := owns (c : Thread nD τ) (rowM (inM a) n) fullShare (rowOf (inX m a c) n)
abbrev outRow (a : Fin 2) (c : Dev nD) (n : Fin 4) (Y : S352x1024.Idx → Elt F .bf16) : sProp 𝕄 := owns (c : Thread nD τ) (rowM (outM a) n) fullShare Y
abbrev outAny (a : Fin 2) (c : Dev nD) (n : Fin 4) : sProp 𝕄 := iprop(∃ Y, outRow (F := F) a c n Y)
abbrev bnc (a : Fin 2) (c : Dev nD) (Y : S352x1024.Idx → Elt F .bf16) : sProp 𝕄 := owns (c : Thread nD τ) (bM a) fullShare Y

/-- One row's credit. -/
@[irreducible] def N : ℕ := (bM 0).view.dmaCredit
theorem N_pos : 0 < N := by unfold N; exact View.dmaCredit_pos _ (by decide)
theorem N_bnc (a : Fin 2) : (bM a).view.dmaCredit = N := by unfold N; fin_cases a <;> rfl
theorem N_in (a : Fin 2) (n : Fin 4) : (rowM (inM a) n).view.dmaCredit = N := by unfold N; fin_cases a <;> rfl
theorem N_out (a : Fin 2) (n : Fin 4) : (rowM (outM a) n).view.dmaCredit = N := by unfold N; fin_cases a <;> rfl

/-! ## The cells -/

/-- A device's cells. -/
inductive Kd where
  | bar | snd (k : Fin 3) (a : Fin 2) | rcv (k : Fin 3) (a : Fin 2) | loc (a : Fin 2)
  deriving DecidableEq

def Kd.code : Kd → Fin 15
  | .bar => 0
  | .snd k a => ⟨1 + 2 * k.val + a.val, by omega⟩
  | .rcv k a => ⟨7 + 2 * k.val + a.val, by omega⟩
  | .loc a => ⟨13 + a.val, by omega⟩
def Kd.all : List Kd := [.bar, .snd 0 0, .snd 0 1, .snd 1 0, .snd 1 1, .snd 2 0, .snd 2 1, .rcv 0 0, .rcv 0 1, .rcv 1 0, .rcv 1 1, .rcv 2 0, .rcv 2 1, .loc 0, .loc 1]
instance : Fintype Kd where
  elems := ⟨Kd.all, by decide⟩
  complete k := by
    rcases k with _ | ⟨k, a⟩ | ⟨k, a⟩ | a
    · decide
    · revert k a; decide
    · revert k a; decide
    · revert a; decide

abbrev barS : Sem sig := (SemArray.scalar (sig.barrier 2 rfl) : Sems sig S_).sem

def ksem : Kd → SemLoc sig
  | .bar => .reg barS
  | .snd k a => .dma ⟨20 + 2 * k.val + a.val, by show _ < 34; omega⟩
  | .rcv k a => .dma ⟨26 + 2 * k.val + a.val, by show _ < 34; omega⟩
  | .loc a => .dma ⟨32 + a.val, by show _ < 34; omega⟩

theorem ksem_inj : Function.Injective ksem := by decide +kernel

abbrev cell (c : Dev nD) (k : Kd) : GSem nD τ sig := ((c : Thread nD τ), ksem k)

theorem cell_inj {c d : Dev nD} {k l : Kd} (h : cell c k = cell d l) : c = d ∧ k = l :=
  ⟨congrArg (fun g : GSem nD τ sig => g.1.1) h, ksem_inj (congrArg Prod.snd h)⟩

def dec (s : SemLoc sig) : Option Kd := by
  classical exact if h : ∃ k, ksem k = s then some h.choose else none
theorem dec_ksem (k : Kd) : dec (ksem k) = some k := by
  have h : ∃ l, ksem l = ksem k := ⟨k, rfl⟩
  unfold dec
  rw [dif_pos h]
  exact congrArg some (ksem_inj h.choose_spec)

/-! ## The schedule -/

def dutyK : Kd → ℕ → Finset (Fin 3)
  | .bar, 0 => Finset.univ
  | .snd _ _, 0 => {0}
  | .rcv _ _, 0 => {0}
  | .loc _, 0 => {0}
  | .loc _, 1 => {0}
  | _, _ => ∅
def amtK : Kd → ℕ
  | .bar => 1
  | _ => N
def payK (c : Dev nD) : Kd → ℕ → Fin 3 → sProp 𝕄
  | .bar, _, k => iprop(outAny 0 (pr k c) (chip c) ∗ outAny 1 (pr k c) (chip c))
  | .snd k a, _, _ => inRow m a c (chip (pr k c))
  | .rcv k a, _, _ => outRow a c (chip (pr k c)) (rowOf (inX m a (pr k c)) (chip c))
  | .loc a, 0, _ => iprop(bnc a c (rowOf (inX m a c) (chip c)) ∗ inRow m a c (chip c))
  | .loc a, _, _ => iprop(outRow a c (chip c) (rowOf (inX m a c) (chip c)) ∗ bnc a c (rowOf (inX m a c) (chip c)))

def Rd : Rounds.Schedule (GSem nD τ sig) (Fin 3) 𝕄 where
  duties g r := match dec g.2 with | some k => dutyK k r | none => ∅
  unitless _ := False
  amount g _ _ := match dec g.2 with | some k => amtK k | none => 1
  payload g r d := match dec g.2 with | some k => payK m g.1.1 k r d | none => iprop(emp)
  amount_pos g r d _ := by
    cases dec g.2 with
    | none => exact Nat.one_pos
    | some k => cases k <;> first | exact Nat.one_pos | exact N_pos

omit [FloatOps F] in
instance payK_storable (c : Dev nD) (k : Kd) (r : ℕ) (d : Fin 3) : BI.Storable (upEmb : UEmb _ 𝕄) (payK (F := F) m c k r d) := by
  cases k with
  | bar => unfold payK; infer_instance
  | snd k a => unfold payK; infer_instance
  | rcv k a => unfold payK; infer_instance
  | loc a =>
    cases r with
    | zero =>
      show BI.Storable upEmb iprop(bnc a c (rowOf (inX m a c) (chip c)) ∗ inRow m a c (chip c))
      infer_instance
    | succ r =>
      show BI.Storable upEmb iprop(outRow a c (chip c) (rowOf (inX m a c) (chip c)) ∗ bnc a c (rowOf (inX m a c) (chip c)))
      infer_instance

omit [FloatOps F] in
instance Rd_storable (g : GSem nD τ sig) (r : ℕ) (d : Fin 3) : BI.Storable (upEmb : UEmb _ 𝕄) ((Rd (F := F) m).payload g r d) := by
  show BI.Storable upEmb (match dec g.2 with | some k => payK m g.1.1 k r d | none => iprop(emp))
  cases dec g.2 <;> infer_instance

omit [FloatOps F] in
theorem duties_cell (c : Dev nD) (k : Kd) (r : ℕ) : (Rd (F := F) m).duties (cell c k) r = dutyK k r := by
  show (match dec (ksem k) with | some k => dutyK k r | none => ∅) = _
  rw [dec_ksem]
omit [FloatOps F] in
theorem amount_cell (c : Dev nD) (k : Kd) (r : ℕ) (d : Fin 3) : (Rd (F := F) m).amount (cell c k) r d = amtK k := by
  show (match dec (ksem k) with | some k => amtK k | none => 1) = _
  rw [dec_ksem]
omit [FloatOps F] in
theorem payload_cell (c : Dev nD) (k : Kd) (r : ℕ) (d : Fin 3) : (Rd (F := F) m).payload (cell c k) r d = payK m c k r d := by
  show (match dec (ksem k) with | some k' => payK m c k' r d | none => iprop(emp)) = _
  rw [dec_ksem]
omit [FloatOps F] in
theorem expect_cell (c : Dev nD) (k : Kd) (r : ℕ) : (Rd (F := F) m).expect (cell c k) r = (dutyK k r).card * amtK k := by
  unfold Schedule.expect Schedule.amountOf
  rw [duties_cell, Finset.sum_congr rfl fun d _ => amount_cell m c k r d, Finset.sum_const, smul_eq_mul]
omit [FloatOps F] in
theorem rest_cell (c : Dev nD) (k : Kd) (r : ℕ) :
    bigSep ((Rd (F := F) m).duties (cell c k) r \ ∅) (fun d => (Rd (F := F) m).payload (cell c k) r d) = bigSep (dutyK k r) (payK m c k r) := by
  rw [Finset.sdiff_empty, duties_cell]
  exact bigSep_congr fun d _ => payload_cell m c k r d

/-- How many rounds a cell has. -/
def rounds : Kd → ℕ
  | .loc _ => 2
  | _ => 1
theorem dutyK_later (k : Kd) (r : ℕ) (h : rounds k ≤ r) : dutyK k r = ∅ := by
  rcases k with _ | ⟨k, a⟩ | ⟨k, a⟩ | a <;> simp only [rounds] at h
  all_goals first
    | (obtain ⟨r, rfl⟩ := Nat.exists_eq_add_of_le' h; rfl)

/-! ## What all devices know -/

/-- Every cell's invariant, and that its first round is reached. -/
def records (K : Dev nD × Kd → ℕ) : sProp 𝕄 :=
  iprop((bigSep Finset.univ fun ck : Dev nD × Kd => cellInv ER (Rd m) (K ck) (cell ck.1 ck.2))
    ∗ bigSep Finset.univ fun ck : Dev nD × Kd => reached ER (cell ck.1 ck.2) 0)
instance records_persistent (K : Dev nD × Kd → ℕ) : BI.Persistent (records m K) := by unfold records; infer_instance

omit [FloatOps F] in
theorem inv_at' (K : Dev nD × Kd → ℕ) (c : Dev nD) (k : Kd) :
    (bigSep Finset.univ fun ck : Dev nD × Kd => (cellInv ER (Rd m) (K ck) (cell ck.1 ck.2) : sProp 𝕄)) ⊢ cellInv ER (Rd m) (K (c, k)) (cell c k) :=
  bigSep_elim (Φ := fun ck : Dev nD × Kd => (cellInv ER (Rd m) (K ck) (cell ck.1 ck.2) : sProp 𝕄)) (Finset.mem_univ (c, k))
omit [FloatOps F] in
theorem reached_at' (c : Dev nD) (k : Kd) :
    (bigSep Finset.univ fun ck : Dev nD × Kd => (reached ER (cell ck.1 ck.2) 0 : sProp 𝕄)) ⊢ reached ER (cell c k) 0 :=
  bigSep_elim (Φ := fun ck : Dev nD × Kd => (reached ER (cell ck.1 ck.2) 0 : sProp 𝕄)) (Finset.mem_univ (c, k))
omit [FloatOps F] in
theorem inv_at (K : Dev nD × Kd → ℕ) (c : Dev nD) (k : Kd) : records m K ⊢ cellInv ER (Rd m) (K (c, k)) (cell c k) := by
  unfold records
  iintro ⟨H, -⟩
  iapply (inv_at' m K c k)
  iexact H
omit [FloatOps F] in
theorem reached_at (K : Dev nD × Kd → ℕ) (c : Dev nD) (k : Kd) : records m K ⊢ reached ER (cell c k) 0 := by
  unfold records
  iintro ⟨-, H⟩
  iapply (reached_at' (F := F) c k)
  iexact H

/-- What a core owes, whatever it has waited for. -/
def owesE (c : Dev nD) (O : CellTallies nD τ sig Unit) : sProp 𝕄 := iprop(∃ W, owes (c : Thread nD τ) O W)

abbrev 𝒱₀ : Variants := Variants.none

/-! ## The rules -/

omit [FloatOps F] in
theorem own_of {sp : Space} (c : Dev nD) (M : Memref sig .tc sp S352x1024 .bf16) (f : Buf (Elt F) (M.view.loc (c : Thread nD τ))) (X : S352x1024.Idx → Elt F .bf16)
    (h : M.view.read (Elt F) f = X) : (M.view.loc (c : Thread nD τ) ↦[M.view.set]{fullShare} f : sProp 𝕄) ⊢ owns (c : Thread nD τ) M fullShare X := by
  unfold owns
  iintro H; iexists f; isplitr
  · ipureintro; exact h
  iexact H
omit [FloatOps F] in
theorem own_written {sp sp' : Space} (c : Dev nD) (M : Memref sig .tc sp S352x1024 .bf16) (M' : Memref sig .tc sp' S352x1024 .bf16)
    (f : Buf (Elt F) (M.view.loc (c : Thread nD τ))) (g : M'.view.ty.Contents (Elt F)) (X : S352x1024.Idx → Elt F .bf16)
    (h : M'.view.read (Elt F) g = X) :
    (M.view.loc (c : Thread nD τ) ↦[M.view.set]{fullShare} M.view.write (Elt F) f (M'.view.read (Elt F) g) Finset.univ : sProp 𝕄) ⊢ owns (c : Thread nD τ) M fullShare X :=
  own_of c M _ X ((View.read_write_univ _ _).trans h)

omit [FloatOps F] in
theorem pay_bar (c : Dev nD) (k : Fin 3) :
    iprop(outAny 0 c (chip (pr k c)) ∗ outAny 1 c (chip (pr k c))) = (Rd (F := F) m).payload (cell (pr k c) .bar) 0 k := by
  rw [payload_cell]
  show _ = iprop(outAny 0 (pr k (pr k c)) (chip (pr k c)) ∗ outAny 1 (pr k (pr k c)) (chip (pr k c)))
  rw [pr_pr]
omit [FloatOps F] in
theorem pay_rcv (c : Dev nD) (k : Fin 3) (a : Fin 2) :
    outRow a (pr k c) (chip c) (rowOf (inX m a c) (chip (pr k c))) = (Rd (F := F) m).payload (cell (pr k c) (.rcv k a)) 0 0 := by
  rw [payload_cell]
  show _ = outRow a (pr k c) (chip (pr k (pr k c))) (rowOf (inX m a (pr k (pr k c))) (chip (pr k c)))
  rw [pr_pr]
omit [FloatOps F] in
theorem pay_snd (c : Dev nD) (k : Fin 3) (a : Fin 2) : inRow m a c (chip (pr k c)) = (Rd (F := F) m).payload (cell c (.snd k a)) 0 0 := by
  rw [payload_cell]; rfl
omit [FloatOps F] in
theorem pay_loc0 (c : Dev nD) (a : Fin 2) :
    iprop(bnc a c (rowOf (inX m a c) (chip c)) ∗ inRow m a c (chip c)) = (Rd (F := F) m).payload (cell c (.loc a)) 0 0 := by
  rw [payload_cell]; rfl
omit [FloatOps F] in
theorem pay_loc1 (c : Dev nD) (a : Fin 2) :
    iprop(outRow a c (chip c) (rowOf (inX m a c) (chip c)) ∗ bnc a c (rowOf (inX m a c) (chip c))) = (Rd (F := F) m).payload (cell c (.loc a)) 1 0 := by
  rw [payload_cell]; rfl

section Rules
variable (K : Dev nD × Kd → ℕ) {α : Type} {Q : α → sProp (MT nD τ sig Unit (Elt F) ℕ UU ℕ)} {k' : PUnit → Prog (TpuEff nD τ sig (Elt F) Λ₀ .tc) α}

/-- Telling a peer that this device's output rows for it may be written. -/
theorem wp_bar (c n : Dev nD) (k : Fin 3) (hn : n = pr k c) {s : Sem sig} (hs : s = barS) (O : CellTallies nD τ sig Unit) {u : ℕ} (hu : u = 1) :
    iprop(records m K ∗ owesE c (O + tallyAt (cell (pr k c) .bar) () 1) ∗ dutyTok ER (cell (pr k c) .bar) 0 k
        ∗ outAny 0 c (chip (pr k c)) ∗ outAny 1 c (chip (pr k c)))
      ⊢ iprop((owesE c O -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n : Thread nD τ) s u) k') Q) := by
  subst hn hs hu
  unfold owesE
  iintro ⟨#HR, ⟨%W, HO⟩, Ht, H0, H1⟩ Hk
  iapply (Rounds.wp_signal 𝒱₀ ER (Rd m) (c : Thread nD τ) none (dst := (pr k c : Thread nD τ)) (r := 0) (d := k) (κ := K (pr k c, .bar))
      (show k ∈ (Rd m).duties (cell (pr k c) .bar) 0 by rw [duties_cell]; exact Finset.mem_univ _) (amount_cell m (pr k c) .bar 0 k) () O rfl (W := W)) $$ [HO Ht H0 H1]
  · isplitr; · iapply (inv_at m K (pr k c) .bar); iexact HR
    isplitl [HO]; · iexact HO
    isplitl [Ht]; · iexact Ht
    isplitl [H0 H1]
    · iapply (show iprop(outAny 0 c (chip (pr k c)) ∗ outAny 1 c (chip (pr k c))) ⊢ (Rd m).payload ((pr k c : Thread nD τ), .reg barS) 0 k from Entails.of_eq (pay_bar m c k))
      isplitl [H0] <;> iassumption
    · iapply (reached_at m K (pr k c) .bar); iexact HR
  iintro HO
  iapply Hk
  iexists W; iexact HO

/-- Waiting for a cell's whole round: what the round hands over comes back. -/
theorem wp_round (c : Dev nD) (k : Kd) (r : ℕ) {w : TpuEff nD τ sig (Elt F) Λ₀ .tc PUnit} {s : SemLoc sig} (hs : s = ksem k) {u : ℕ}
    (hw : ∀ Kc : PUnit → sProp 𝕄, wpE (defs₀ (F := F)) 𝒱₀ (c : Thread nD τ) none Set.univ w Kc = waitSpec (c : Thread nD τ) Set.univ s u Kc)
    (hu : u = (dutyK k r).card * amtK k) (O : CellTallies nD τ sig Unit) :
    iprop(records m K ∗ cred (tallyAt (cell c k) () ((dutyK k r).card * amtK k)) ∗ owesE c O ∗ MayWait (c : Thread nD τ) (ksem k) () O ∗ atPos ER (cell c k) r ∅ 0)
      ⊢ iprop(((owesE c O ∗ atPos ER (cell c k) (r + 1) ∅ 0 ∗ reached ER (cell c k) (r + 1) ∗ bigSep (dutyK k r) (payK m c k r))
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  subst hs hu
  unfold owesE
  iintro ⟨#HR, Hc, ⟨%W, HO⟩, Hm, Ha⟩ Hk
  iapply (Rounds.wp_wait_rest_token 𝒱₀ ER (Rd m) (c : Thread nD τ) none (κ := K (c, k)) hw (Set.mem_univ _) () (O := O) (W := W) (R := r) (m := 0) (T := ∅)
      (by rw [Nat.zero_add]; exact (expect_cell m c k r).symm)) $$ [Hc HO Hm Ha]
  · isplitr; · iapply (inv_at m K c k); iexact HR
    isplitl [Hc]; · iexact Hc
    isplitl [HO]; · iexact HO
    isplitl [Hm] <;> iassumption
  iintro ⟨HO, Ha, Hr, Hp⟩
  iapply Hk
  isplitl [HO]; · iexists _; iexact HO
  isplitl [Ha]; · iexact Ha
  isplitl [Hr]; · iexact Hr
  iapply (Entails.of_eq (rest_cell m c k r)); iexact Hp

/-- A transfer to a peer, between any memrefs whose contents are what the two cells hand over. -/
theorem wp_send_gen (c : Dev nD) (k : Fin 3) (a : Fin 2) (Ms Md : Memref sig .tc .hbm S352x1024 .bf16) (hN : Md.view.dmaCredit = N)
    (X : S352x1024.Idx → Elt F .bf16)
    (hp₁ : (owns (c : Thread nD τ) Ms fullShare X : sProp 𝕄) ⊢ (Rd m).payload (cell c (.snd k a)) 0 0)
    (hp₂ : (owns (pr k c : Thread nD τ) Md fullShare X : sProp 𝕄) ⊢ (Rd m).payload (cell (pr k c) (.rcv k a)) 0 0)
    {qS qR : DmaSem sig} (hS : SemLoc.dma qS = ksem (.snd k a)) (hR : SemLoc.dma qR = ksem (.rcv k a))
    (O : CellTallies nD τ sig Unit)
    {hsc : (Md : Memref sig (Dev.tc (pr k c) : Thread nD τ).2.kind .hbm S352x1024 .bf16).view.ref.isScScratch = false}
    {hsrc : Ms.view.WordExact} {hdst : Md.view.WordExact}
    {hsem : DmaTarget.Typed .hbm (.dma qR) (.remote (Dev.tc (pr k c) : Thread nD τ) Md (.dma qS) hsc)} :
    iprop(records m K ∗ owns (c : Thread nD τ) Ms fullShare X ∗ (∃ Y, owns (pr k c : Thread nD τ) Md fullShare Y) ∗ owesE c (O + tallyAt (cell (pr k c) (.rcv k a)) () N)
        ∗ dutyTok ER (cell c (.snd k a)) 0 0 ∗ dutyTok ER (cell (pr k c) (.rcv k a)) 0 0)
      ⊢ iprop(((cred (tallyAt (cell c (.snd k a)) () N) ∗ owesE c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma Ms (.remote (Dev.tc (pr k c) : Thread nD τ) Md (.dma qS) hsc) (.dma qR) hsrc hdst hsem) k') Q) := by
  have hd₁ : (0 : Fin 3) ∈ (Rd (F := F) m).duties (cell c (.snd k a)) 0 := by rw [duties_cell]; exact Finset.mem_singleton_self _
  have hd₂ : (0 : Fin 3) ∈ (Rd (F := F) m).duties (cell (pr k c) (.rcv k a)) 0 := by rw [duties_cell]; exact Finset.mem_singleton_self _
  have ha₁ : (Rd (F := F) m).amount (cell c (.snd k a)) 0 0 = N := amount_cell m c (.snd k a) 0 0
  have ha₂ : (Rd (F := F) m).amount (cell (pr k c) (.rcv k a)) 0 0 = N := amount_cell m (pr k c) (.rcv k a) 0 0
  have hi₁ := inv_at m K c (.snd k a)
  have hi₂ := inv_at m K (pr k c) (.rcv k a)
  have hr₁ := reached_at m K c (.snd k a)
  have hr₂ := reached_at m K (pr k c) (.rcv k a)
  unfold cell at *
  rw [← hS] at hd₁ ha₁ hi₁ hr₁ hp₁ ⊢
  rw [← hR] at hd₂ ha₂ hi₂ hr₂ hp₂ ⊢
  generalize K (c, .snd k a) = κ₁ at hi₁
  generalize K (pr k c, .rcv k a) = κ₂ at hi₂
  generalize hdd : pr k c = d at *
  clear hS hR hdd
  have hw₁ (fs : Buf (Elt F) (Ms.view.loc (c : Thread nD τ))) (hfs : Ms.view.read (Elt F) fs = X) := (own_of (F := F) c Ms fs X hfs).trans hp₁
  have hw₂ (fd : Buf (Elt F) (Md.view.loc (d : Thread nD τ))) (fs : Buf (Elt F) (Ms.view.loc (c : Thread nD τ))) (hfs : Ms.view.read (Elt F) fs = X) :=
    (own_written (F := F) d Md Ms fd fs X hfs).trans hp₂
  unfold owesE owns
  iintro ⟨#HR, ⟨%fs, %hfs, Hi⟩, ⟨%Y, %fd, %hfd, Ho⟩, ⟨%W, HO⟩, Hts, Htr⟩ Hk
  iapply (Rounds.wp_send_pointsTo 𝒱₀ ER (Rd m) (c : Thread nD τ) none (c' := (d : Thread nD τ)) (src := Ms) (dst := Md) (q := fullShare) (κ₁ := κ₁) (κ₂ := κ₂)
    (r₁ := 0) (r₂ := 0) (d₁ := 0) (d₂ := 0) (fd := fd) (fs := fs) hd₁ hd₂ () () N hN ha₁ ha₂ O rfl (W := W) (hw₁ fs hfs) (hw₂ fd fs hfs)) $$ [Hi Ho HO Hts Htr]
  · isplitr; · iapply hi₁; iexact HR
    isplitr; · iapply hi₂; iexact HR
    isplitl [Hi]; · iexact Hi
    isplitl [Ho]; · iexact Ho
    isplitl [HO]; · iexact HO
    isplitl [Hts]; · iexact Hts
    isplitr; · iapply hr₁; iexact HR
    isplitl [Htr]; · iexact Htr
    iapply hr₂; iexact HR
  iintro ⟨Hc, HO⟩
  iapply Hk
  isplitl [Hc]; · iexact Hc
  iexists W; iexact HO

/-- A row sent to a peer. -/
theorem wp_sendrow (c n : Dev nD) (k : Fin 3) (a : Fin 2) (hn : n = pr k c) {offs offd : Fin 3 → ℕ} {his} {hid}
    (hs : offs = offc (chip (pr k c))) (hd : offd = offc (chip c)) {qS qR : DmaSem sig} (hS : SemLoc.dma qS = ksem (.snd k a)) (hR : SemLoc.dma qR = ksem (.rcv k a))
    (O : CellTallies nD τ sig Unit)
    {hsc : (rowAt (outM a) offd hid : Memref sig (Dev.tc n : Thread nD τ).2.kind .hbm S352x1024 .bf16).view.ref.isScScratch = false}
    {hsrc : (rowAt (inM a) offs his).view.WordExact} {hdst : (rowAt (outM a) offd hid).view.WordExact}
    {hsem : DmaTarget.Typed .hbm (.dma qR) (.remote (Dev.tc n : Thread nD τ) (rowAt (outM a) offd hid) (.dma qS) hsc)} :
    iprop(records m K ∗ inRow m a c (chip (pr k c)) ∗ outAny a (pr k c) (chip c) ∗ owesE c (O + tallyAt (cell (pr k c) (.rcv k a)) () N)
        ∗ dutyTok ER (cell c (.snd k a)) 0 0 ∗ dutyTok ER (cell (pr k c) (.rcv k a)) 0 0)
      ⊢ iprop(((cred (tallyAt (cell c (.snd k a)) () N) ∗ owesE c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (rowAt (inM a) offs his) (.remote (Dev.tc n : Thread nD τ) (rowAt (outM a) offd hid) (.dma qS) hsc) (.dma qR) hsrc hdst hsem) k') Q) := by
  subst hn hs hd
  exact wp_send_gen m K c k a (rowM (inM a) (chip (pr k c))) (rowM (outM a) (chip c)) (N_out a (chip c)) _
    (Entails.of_eq (pay_snd m c k a)) (Entails.of_eq (pay_rcv m c k a)) hS hR O

/-- A copy on the device, between any memrefs whose contents are what the cell hands over. -/
theorem wp_copy_gen (c : Dev nD) (a : Fin 2) (r : ℕ) (hr2 : r < 2) {sp sp' : Space} (Ms : Memref sig .tc sp S352x1024 .bf16) (Md : Memref sig .tc sp' S352x1024 .bf16)
    (hN : Md.view.dmaCredit = N) (X : S352x1024.Idx → Elt F .bf16)
    (hp : iprop((owns (c : Thread nD τ) Md fullShare X : sProp 𝕄) ∗ owns (c : Thread nD τ) Ms fullShare X) ⊢ (Rd m).payload (cell c (.loc a)) r 0)
    {q : DmaSem sig} (hs : SemLoc.dma q = ksem (.loc a))
    {hsrc : Ms.view.WordExact} {hdst : Md.view.WordExact} {hsem : DmaTarget.Typed sp (.dma q) (.here Md : DmaTarget nD τ sig .tc sp' S352x1024 .bf16)} :
    iprop(records m K ∗ owns (c : Thread nD τ) Ms fullShare X ∗ (∃ Y, owns (c : Thread nD τ) Md fullShare Y) ∗ dutyTok ER (cell c (.loc a)) r 0 ∗ reached ER (cell c (.loc a)) r)
      ⊢ iprop((cred (tallyAt (cell c (.loc a)) () N) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma Ms (.here Md) (.dma q) hsrc hdst hsem) k') Q) := by
  have hd : (0 : Fin 3) ∈ (Rd (F := F) m).duties (cell c (.loc a)) r := by
    rw [duties_cell]
    match r, hr2 with
    | 0, _ => exact Finset.mem_singleton_self _
    | 1, _ => exact Finset.mem_singleton_self _
  have ha : (Rd (F := F) m).amount (cell c (.loc a)) r 0 = N := amount_cell m c (.loc a) r 0
  have hi := inv_at m K c (.loc a)
  unfold cell at *
  rw [← hs] at hd ha hi hp ⊢
  generalize K (c, .loc a) = κ at hi
  clear hs
  have hw (fd : Buf (Elt F) (Md.view.loc (c : Thread nD τ))) (fs : Buf (Elt F) (Ms.view.loc (c : Thread nD τ))) (hfs : Ms.view.read (Elt F) fs = X) :=
    (BIClass.sep_mono (own_written (F := F) c Md Ms fd fs X hfs) (own_of (F := F) c Ms fs X hfs)).trans hp
  unfold owns
  iintro ⟨#HR, ⟨%fs, %hfs, Hi⟩, ⟨%Y, %fd, %hfd, Ho⟩, Ht, Hr⟩ Hk
  iapply (Rounds.wp_copy_pointsTo 𝒱₀ ER (Rd m) (c : Thread nD τ) none (κ := κ) (r := r) (d := 0) (fd := fd) (fs := fs) hd () N hN ha (hw fd fs hfs)) $$ [Hi Ho Ht Hr]
  · isplitr; · iapply hi; iexact HR
    isplitl [Hi]; · iexact Hi
    isplitl [Ho]; · iexact Ho
    isplitl [Ht] <;> iassumption
  iintro Hc
  iapply Hk; iexact Hc

/-- A device's own row copied to the staging buffer of the copy. -/
theorem wp_copyin (c : Dev nD) (a : Fin 2) {off : Fin 3 → ℕ} {hi} (ho : off = offc (chip c)) {q : DmaSem sig} (hs : SemLoc.dma q = ksem (.loc a))
    {hsrc : (rowAt (inM a) off hi).view.WordExact} {hdst : (bM a).view.WordExact} {hsem : DmaTarget.Typed .hbm (.dma q) (.here (bM a) : DmaTarget nD τ sig .tc .vmem S352x1024 .bf16)} :
    iprop(records m K ∗ inRow m a c (chip c) ∗ (∃ Y, bnc a c Y) ∗ dutyTok ER (cell c (.loc a)) 0 0 ∗ reached ER (cell c (.loc a)) 0)
      ⊢ iprop((cred (tallyAt (cell c (.loc a)) () N) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (rowAt (inM a) off hi) (.here (bM a)) (.dma q) hsrc hdst hsem) k') Q) := by
  subst ho
  exact wp_copy_gen m K c a 0 (by decide) (rowM (inM a) (chip c)) (bM a) (N_bnc a) _ (Entails.of_eq (pay_loc0 m c a)) hs

/-- The staging buffer's row copied to the device's own row of the output. -/
theorem wp_copyout (c : Dev nD) (a : Fin 2) {off : Fin 3 → ℕ} {hi} (ho : off = offc (chip c)) {q : DmaSem sig} (hs : SemLoc.dma q = ksem (.loc a))
    {hsrc : (bM a).view.WordExact} {hdst : (rowAt (outM a) off hi).view.WordExact} {hsem : DmaTarget.Typed .vmem (.dma q) (.here (rowAt (outM a) off hi) : DmaTarget nD τ sig .tc .hbm S352x1024 .bf16)} :
    iprop(records m K ∗ bnc a c (rowOf (inX m a c) (chip c)) ∗ outAny a c (chip c) ∗ dutyTok ER (cell c (.loc a)) 1 0 ∗ reached ER (cell c (.loc a)) 1)
      ⊢ iprop((cred (tallyAt (cell c (.loc a)) () N) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (bM a) (.here (rowAt (outM a) off hi)) (.dma q) hsrc hdst hsem) k') Q) := by
  subst ho
  exact wp_copy_gen m K c a 1 (by decide) (bM a) (rowM (outM a) (chip c)) (N_out a (chip c)) _ (Entails.of_eq (pay_loc1 m c a)) hs

/-- A cell whose rounds are over gives its counter back, at zero. -/
theorem close_cell (c : Dev nD) (k : Kd) (r : ℕ) (hr : rounds k ≤ r) :
    iprop(records m K ∗ atPos ER (cell c k) r ∅ 0) ⊢ |={Set.univ}=> semVal (cell c k) 0 := by
  iintro ⟨#HR, Ha⟩
  imod (Rounds.cell_close ER (Rd m) (Set.mem_univ (K (c, k))) (fun h => h) (R := r) (fun r' hr' => by
    rw [duties_cell]; exact dutyK_later k r' (le_trans hr hr'))) $$ [Ha] with Hz
  · isplitr; · iapply (inv_at m K c k); iexact HR
    iexact Ha
  imodintro; iexact Hz

end Rules

end Cert.UpProof
-- ==== Proof.UpBody.lean ====
/-
One point of the backward call on one device: what the device holds before and after, for the exchange and for its
windows' blocks. At the first point the body signals its peers, starts its copies and sends and clears two
accumulators; at every point it computes; at the last point it waits for all that is under way.
-/
module

public import proofs.«01_k».proof.Proof.UpProto
public import proofs.«01_k».proof.Proof.Gen.Kernel4Ideal.Frame

@[expose] public section

set_option maxRecDepth 16384

noncomputable section

namespace Cert.UpProof

open Cert.Kernel4Ideal Cert.Kernel4Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is owed, and the levels -/

/-- What a device owes one peer's receiving cell, and one peer's barrier. -/
abbrev oweR (c : Dev nD) (k : Fin 3) (a : Fin 2) : CellTallies nD τ sig Unit := tallyAt (cell (pr k c) (.rcv k a)) () N
abbrev oweB (c : Dev nD) (k : Fin 3) : CellTallies nD τ sig Unit := tallyAt (cell (pr k c) .bar) () 1
/-- What it owes after its signals: its six sends. -/
def owe6 (c : Dev nD) : CellTallies nD τ sig Unit :=
  (((((0 + oweR c 2 1) + oweR c 1 1) + oweR c 0 1) + oweR c 2 0) + oweR c 1 0) + oweR c 0 0
/-- What it owes from the start: three signals more. -/
def O₀ (c : Dev nD) : CellTallies nD τ sig Unit := ((owe6 c + oweB c 2) + oweB c 1) + oweB c 0

def lv : GSem nD τ sig → Unit → ℕ := fun g _ =>
  match dec g.2 with | some .bar => 1 | some (.rcv ..) => 2 | _ => 0
def L : GSem nD τ sig → Finset Unit := fun g => if g.1.2 = .tc then {()} else ∅
theorem L_of_ne (g : GSem nD τ sig) (hg : g.1.2 ≠ .tc) : L g = ∅ := if_neg hg
theorem mem_L (c : Dev nD) (s : SemLoc sig) : () ∈ L ((c : Thread nD τ), s) := by show () ∈ (if _ then _ else _); rw [if_pos rfl]; exact Finset.mem_singleton_self ()

theorem lv_cell (c : Dev nD) (k : Kd) : lv (cell c k) () = match k with | .bar => 1 | .rcv .. => 2 | _ => 0 := by
  unfold lv cell; simp only [dec_ksem]; cases k <;> rfl

theorem owe6_pos (c : Dev nD) (g : GSem nD τ sig) (u : Unit) (h : 0 < owe6 c g u) : ∃ k a, g = cell (pr k c) (.rcv k a) := by
  by_contra hne
  push Not at hne
  have h0 : ∀ k a, oweR c k a g u = 0 := fun k a => by show tallyAt _ _ _ _ _ = 0; rw [tallyAt_ne_cell (hne k a)]; rfl
  have : owe6 c g u = 0 := by unfold owe6; simp only [Pi.add_apply, Finsupp.add_apply, h0]; rfl
  omega

theorem O₀_pos (c : Dev nD) (g : GSem nD τ sig) (u : Unit) (h : 0 < O₀ c g u) :
    (∃ k a, g = cell (pr k c) (.rcv k a)) ∨ ∃ k, g = cell (pr k c) .bar := by
  by_contra hne
  push Not at hne
  have h0 : ∀ k, oweB c k g u = 0 := fun k => by show tallyAt _ _ _ _ _ = 0; rw [tallyAt_ne_cell (hne.2 k)]; rfl
  have h6 : owe6 c g u = 0 := by
    by_contra h1
    obtain ⟨k, a, h2⟩ := owe6_pos c g u (Nat.pos_of_ne_zero h1)
    exact hne.1 k a h2
  have : O₀ c g u = 0 := by unfold O₀; simp only [Pi.add_apply, Finsupp.add_apply, h0, h6]
  omega

theorem mayWait_bar (c : Dev nD) : (levAts L lv : sProp 𝕄) ⊢ MayWait (c : Thread nD τ) (ksem .bar) () (owe6 c) :=
  MayOwe.of_cut (L := L) (lev := lv) 1 (fun p hp => by rw [Finset.mem_singleton.mp hp]; exact mem_L c _)
    (fun g u hg => by obtain ⟨k, a, rfl⟩ := owe6_pos c g u hg; exact mem_L _ _)
    (fun p hp => by rw [Finset.mem_singleton.mp hp]; exact le_of_eq (lv_cell c .bar))
    (fun g u hg => by
      obtain ⟨k, a, rfl⟩ := owe6_pos c g u hg
      show 1 < lv _ ()
      rw [lv_cell]; exact (by decide : 1 < 2))

theorem mayWait_stage (c : Dev nD) (q : DmaSem sig) (hq : ∀ k, SemLoc.dma q ≠ ksem k) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _)
      (fun g u hg => by rcases O₀_pos c g u hg with ⟨k, a, rfl⟩ | ⟨k, rfl⟩ <;> exact mem_L _ _)
      (fun p hp => by
        rw [Finset.mem_singleton.mp hp]
        unfold lv
        have : dec (SemLoc.dma q : SemLoc sig) = none := dif_neg fun ⟨k, hk⟩ => hq k hk.symm
        simp only [this]; exact le_refl 0)
      (fun g u hg => by
        rcases O₀_pos c g u hg with ⟨k, a, rfl⟩ | ⟨k, rfl⟩ <;> (show 0 < lv _ (); rw [lv_cell]; first | exact (by decide : 0 < 2) | exact (by decide : 0 < 1)))
  · rw [MayWait_zero]
    iintro -
    iempintro

/-! ## What a device holds for the exchange -/

abbrev all6 (Φ : Fin 3 → Fin 2 → sProp 𝕄) : sProp 𝕄 := iprop(Φ 0 0 ∗ Φ 1 0 ∗ Φ 2 0 ∗ Φ 0 1 ∗ Φ 1 1 ∗ Φ 2 1)
abbrev all2 (Φ : Fin 2 → sProp 𝕄) : sProp 𝕄 := iprop(Φ 0 ∗ Φ 1)
abbrev all3 (Φ : Fin 3 → sProp 𝕄) : sProp 𝕄 := iprop(Φ 0 ∗ Φ 1 ∗ Φ 2)

def link (c : Dev nD) (k : Fin 3) (a : Fin 2) : sProp 𝕄 :=
  iprop(atPos ER (cell c (.snd k a)) 0 ∅ 0 ∗ atPos ER (cell c (.rcv k a)) 0 ∅ 0 ∗ dutyTok ER (cell c (.snd k a)) 0 0
    ∗ dutyTok ER (cell (pr k c) (.rcv k a)) 0 0 ∗ cred (tallyAt (cell c (.rcv k a)) () N))
def home (c : Dev nD) (a : Fin 2) : sProp 𝕄 :=
  iprop(atPos ER (cell c (.loc a)) 0 ∅ 0 ∗ dutyTok ER (cell c (.loc a)) 0 0 ∗ dutyTok ER (cell c (.loc a)) 1 0 ∗ ∃ Y, bnc (F := F) a c Y)
/-- Before the first point. -/
def start (c : Dev nD) : sProp 𝕄 :=
  iprop((∃ K, records m K) ∗ levAts L lv ∗ atPos ER (cell c .bar) 0 ∅ 0 ∗ cred (tallyAt (cell c .bar) () 3)
    ∗ all3 (fun k => dutyTok ER (cell (pr k c) .bar) 0 k) ∗ all6 (link c) ∗ all2 (home c)
    ∗ all2 (fun a => owns (c : Thread nD τ) (inM a) fullShare (inX m a c)) ∗ all2 (fun a => iprop(∃ Y, owns (c : Thread nD τ) (outM a) fullShare Y)))

def wayS (c : Dev nD) (k : Fin 3) (a : Fin 2) : sProp 𝕄 :=
  iprop(atPos ER (cell c (.snd k a)) 0 ∅ 0 ∗ cred (tallyAt (cell c (.snd k a)) () N) ∗ atPos ER (cell c (.rcv k a)) 0 ∅ 0 ∗ cred (tallyAt (cell c (.rcv k a)) () N))
def wayL (c : Dev nD) (a : Fin 2) : sProp 𝕄 :=
  iprop(atPos ER (cell c (.loc a)) 0 ∅ 0 ∗ cred (tallyAt (cell c (.loc a)) () N) ∗ dutyTok ER (cell c (.loc a)) 1 0 ∗ outAny (F := F) a c (chip c))
/-- Between the first point and the last. -/
def under (c : Dev nD) : sProp 𝕄 :=
  iprop((∃ K, records m K) ∗ semVal (cell c .bar) 0 ∗ all6 (wayS c) ∗ all2 (wayL c))

/-- After the last point. -/
def over (c : Dev nD) : sProp 𝕄 :=
  iprop(semVal (cell c .bar) 0 ∗ all6 (fun k a => iprop(semVal (cell c (.snd k a)) 0 ∗ semVal (cell c (.rcv k a)) 0))
    ∗ all2 (fun a => iprop(semVal (cell c (.loc a)) 0 ∗ owns (c : Thread nD τ) (inM a) fullShare (inX m a c)
      ∗ owns (c : Thread nD τ) (outM a) fullShare (outX m a c) ∗ ∃ Y, bnc (F := F) a c Y)))

theorem bigSep_rows (c : Dev nD) (Φ : Fin 4 → sProp 𝕄) :
    bigSep Finset.univ Φ = iprop(Φ (chip c) ∗ all3 (fun k => Φ (chip (pr k c)))) := by
  rw [bigSep_univ_equiv (Equiv.ofBijective (order c) (order_bij c)) Φ,
    bigSep_univ_eq_bigSepL [(0 : Fin 4), 1, 2, 3] (by decide) (by decide)]
  rfl

theorem in_rows (a : Fin 2) (c : Dev nD) :
    owns (c : Thread nD τ) (inM a) fullShare (inX m a c) ⊢ (iprop(inRow m a c (chip c) ∗ all3 (fun k => inRow m a c (chip (pr k c)))) : sProp 𝕄) :=
  (owns_split c (inM a) (inX m a c)).trans (Entails.of_eq (bigSep_rows c _))
theorem in_whole (a : Fin 2) (c : Dev nD) :
    (iprop(inRow m a c (chip c) ∗ all3 (fun k => inRow m a c (chip (pr k c)))) : sProp 𝕄) ⊢ owns (c : Thread nD τ) (inM a) fullShare (inX m a c) :=
  (Entails.of_eq (bigSep_rows c fun n => inRow m a c n).symm).trans (owns_join c (inM a) (m _) (inX m a c))
theorem out_rows (a : Fin 2) (c : Dev nD) :
    iprop(∃ Y, owns (c : Thread nD τ) (outM a) fullShare Y) ⊢ (iprop(outAny a c (chip c) ∗ all3 (fun k => outAny (F := F) a c (chip (pr k c)))) : sProp 𝕄) := by
  iintro ⟨%Y, H⟩
  ihave H' := (owns_split c (outM a) Y).trans (Entails.of_eq (bigSep_rows c _)) $$ H
  icases H' with ⟨H0, H1, H2, H3⟩
  isplitl [H0]; · iexists _; iexact H0
  isplitl [H1]; · iexists _; iexact H1
  isplitl [H2]; · iexists _; iexact H2
  iexists _; iexact H3
theorem out_whole (a : Fin 2) (c : Dev nD) :
    (iprop(outRow a c (chip c) (rowOf (outX m a c) (chip c)) ∗ all3 (fun k => outRow a c (chip (pr k c)) (rowOf (outX m a c) (chip (pr k c))))) : sProp 𝕄)
      ⊢ owns (c : Thread nD τ) (outM a) fullShare (outX m a c) :=
  (Entails.of_eq (bigSep_rows c fun n => outRow a c n (rowOf (outX m a c) n)).symm).trans (owns_join c (outM a) (m _) (outX m a c))

/-! ## The addresses -/

theorem dev1_eq (c : Dev nD) {h} : (⟨k0_dev1 c, h⟩ : Dev nD) = pr 0 c := Fin.ext ((by decide +kernel : ∀ c, k0_dev1 c = (pr 0 c).val) c)
theorem dev2_eq (c : Dev nD) {h} : (⟨k0_dev2 c, h⟩ : Dev nD) = pr 1 c := Fin.ext ((by decide +kernel : ∀ c, k0_dev2 c = (pr 1 c).val) c)
theorem dev3_eq (c : Dev nD) {h} : (⟨k0_dev3 c, h⟩ : Dev nD) = pr 2 c := Fin.ext ((by decide +kernel : ∀ c, k0_dev3 c = (pr 2 c).val) c)
theorem dev4_eq (c : Dev nD) {h} : (⟨k0_dev4 c, h⟩ : Dev nD) = pr 0 c := Fin.ext ((by decide +kernel : ∀ c, k0_dev4 c = (pr 0 c).val) c)
theorem dev5_eq (c : Dev nD) {h} : (⟨k0_dev5 c, h⟩ : Dev nD) = pr 1 c := Fin.ext ((by decide +kernel : ∀ c, k0_dev5 c = (pr 1 c).val) c)
theorem dev6_eq (c : Dev nD) {h} : (⟨k0_dev6 c, h⟩ : Dev nD) = pr 2 c := Fin.ext ((by decide +kernel : ∀ c, k0_dev6 c = (pr 2 c).val) c)
theorem dev7_eq (c : Dev nD) {h} : (⟨k0_dev7 c, h⟩ : Dev nD) = pr 0 c := Fin.ext ((by decide +kernel : ∀ c, k0_dev7 c = (pr 0 c).val) c)
theorem dev8_eq (c : Dev nD) {h} : (⟨k0_dev8 c, h⟩ : Dev nD) = pr 1 c := Fin.ext ((by decide +kernel : ∀ c, k0_dev8 c = (pr 1 c).val) c)
theorem dev9_eq (c : Dev nD) {h} : (⟨k0_dev9 c, h⟩ : Dev nD) = pr 2 c := Fin.ext ((by decide +kernel : ∀ c, k0_dev9 c = (pr 2 c).val) c)
theorem off1_eq (c : Dev nD) : k0_off1 c = offc (chip c) := by revert c; decide +kernel
theorem off3_eq (c : Dev nD) : k0_off3 c = offc (chip c) := by revert c; decide +kernel

end Cert.UpProof
-- ==== Proof.UpStep.lean ====
/-
One point's run on one device, in three cases: the first point, a point in the middle, the last. The loads and stores
go through whole blocks, so that what a point leaves is the text of its stores at the blocks; the exchange is taken one
operation after the other with the protocol's rules.
-/
module

public import proofs.«01_k».proof.Proof.UpBody
public import proofs.«01_k».proof.Proof.Gen.Kernel4Ideal.Skeleton
public import proofs.«01_k».proof.Proof.Gen.Kernel4Ideal.Frame

@[expose] public section

set_option maxRecDepth 16384

noncomputable section

namespace Cert.UpProof

open Cert.Kernel4Ideal Cert.Kernel4Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem off2 : (![0, 0] : Fin 2 → ℕ) = fun _ => 0 := by decide
theorem off3 : (![0, 0, 0] : Fin 3 → ℕ) = fun _ => 0 := by decide

/-! ## Loads and stores of a whole block -/

section Blocks
variable {α : Type} {Q : α → sProp (MT nD τ sig Unit (Elt F) ℕ UU ℕ)}

theorem wp_get (c : Dev nD) {sp : CoreSpace} {s : Shape} {e : EltTy} (M : Memref sig .tc sp s e) {off : Fin s.rank → ℕ} (h0 : off = fun _ => 0)
    {inb : ∀ a, off a + s.size a ≤ s.size a} {hl : M.view.LoadsAt (Rect.unit off s.size inb).toLoadRect} (X : s.Idx → Elt F e)
    {k : (s.Idx → Elt F e) → Prog (TpuEff nD τ sig (Elt F) Λ₀ .tc) α} :
    owns (c : Thread nD τ) M fullShare X
      ⊢ (iprop((owns (c : Thread nD τ) M fullShare X -∗ wp frame (wpE (defs₀ (F := F)) 𝒱₀ (c : Thread nD τ) none) Set.univ (k X) Q)
          -∗ wp frame (wpE (defs₀ (F := F)) 𝒱₀ (c : Thread nD τ) none) Set.univ (.op (.load M (Rect.unit off s.size inb).toLoadRect hl) k) Q) : sProp 𝕄) := by
  subst h0
  unfold owns
  iintro ⟨%f, %hf, H⟩ Hk
  iapply (wp_load (m := M) (r := (Rect.unit (fun _ => 0) s.size inb).toLoadRect) (S := M.view.set) (q := fullShare) (f := f) 𝒱₀ (c : Thread nD τ) none Set.univ (View.setOn_subset_set _ _)) $$ H
  iintro H
  have hr : M.view.readAt (Elt F) (Rect.unit (fun _ => 0) s.size inb).toLoadRect f = X := by
    rw [← hf]; funext x
    show M.view.read (Elt F) f ((Rect.whole s).emb x) = _
    rw [Rect.emb_whole_apply]
  rw [hr]
  iapply Hk
  iexists f
  isplitr
  · ipureintro; exact hf
  iexact H

theorem wp_put (c : Dev nD) {sp : CoreSpace} {s : Shape} {e : EltTy} (M : Memref sig .tc sp s e) {off : Fin s.rank → ℕ} (h0 : off = fun _ => 0)
    {inb : ∀ a, off a + s.size a ≤ s.size a} {w : s.Idx → Elt F e} {hx} {hm} (X : s.Idx → Elt F e)
    {k : PUnit → Prog (TpuEff nD τ sig (Elt F) Λ₀ .tc) α} :
    owns (c : Thread nD τ) M fullShare X
      ⊢ (iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) : sProp 𝕄) := by
  subst h0
  unfold owns
  iintro ⟨%f, %hf, H⟩ Hk
  iapply (wp_store (m := M) (r := Rect.unit (fun _ => 0) s.size inb) (S := M.view.set) (f := f) 𝒱₀ (c : Thread nD τ) none Set.univ (View.set_slice_subset _ _)) $$ H
  iintro H
  iapply Hk
  iexists _
  isplitr
  swap; · iexact H
  ipureintro
  have hv := View.read_write_univ (v := M.access (Rect.unit (fun _ => 0) s.size inb)) (Val := Elt F) f w
  funext x
  have hx' := congrFun hv x
  have he : (Rect.unit (fun _ => 0) s.size inb).emb x = x := Rect.emb_whole_apply s x
  exact (congrArg (M.view.read (Elt F) _) he.symm).trans hx'
end Blocks

/-! ## What a point leaves -/

abbrev c1024 : F .f32 := Scalar.ofBits .f32 0x44800000#32
/-- The gradient of the block's input, from the blocks of the point. -/
def dxOf (x0 x1 : Vec F S512x2816 .bf16) (x2 x3 : Vec F S8x352x1024 .bf16) (x4 : Vec F S512x1024 .f32) (x5 : Vec F S1x1024 .f32) (x6 : Vec F S512x1024 .f32) : Vec F S512x1024 .f32 := k0_pay8 (k0_pay3 x0 x2 x1 x3) (k0_pay4 x4) (k0_pay5 x4) c1024 x5 x6
/-- The sum for the gain before the block, one point further. -/
def dgfOf (x0 x1 : Vec F S512x2816 .bf16) (x2 x3 : Vec F S8x352x1024 .bf16) (x4 : Vec F S512x1024 .f32) (z : Vec F S8x128 .f32) : Vec F S8x128 .f32 := k0_pay9 (k0_pay3 x0 x2 x1 x3) (k0_pay4 x4) (k0_pay5 x4) c1024 z
/-- The gradient of the mixers' output. -/
def dmOf (v : Vec F S512x1024 .f32) (x7 : Vec F S512x1024 .f32) (x8 : Vec F S1x1024 .f32) : Vec F S512x1024 .bf16 := k0_pay13 v x7 x8
/-- The sum for the gain after the mixers, one point further. -/
def dgmOf (v : Vec F S512x1024 .f32) (x7 : Vec F S512x1024 .f32) (z : Vec F S8x128 .f32) : Vec F S8x128 .f32 := k0_pay14 v x7 z

theorem off2_0 (c : Dev nD) : k0_off2 c 0#32 1#32 = offc (chip (pr 0 c)) := by revert c; decide +kernel
theorem off4_0 (c : Dev nD) : k0_off4 c 0#32 1#32 = offc (chip (pr 0 c)) := by revert c; decide +kernel
theorem off2_1 (c : Dev nD) : k0_off2 c 1#32 0#32 = offc (chip (pr 1 c)) := by revert c; decide +kernel
theorem off4_1 (c : Dev nD) : k0_off4 c 1#32 0#32 = offc (chip (pr 1 c)) := by revert c; decide +kernel
theorem off2_2 (c : Dev nD) : k0_off2 c 1#32 1#32 = offc (chip (pr 2 c)) := by revert c; decide +kernel
theorem off4_2 (c : Dev nD) : k0_off4 c 1#32 1#32 = offc (chip (pr 2 c)) := by revert c; decide +kernel

/-! ## The waits of the last point -/

section Waits
variable (K : Dev nD × Kd → ℕ) {α : Type} {Q : α → sProp (MT nD τ sig Unit (Elt F) ℕ UU ℕ)} {k' : PUnit → Prog (TpuEff nD τ sig (Elt F) Λ₀ .tc) α}

theorem N_row {sp sp' : Space} (M : Memref sig .tc sp S352x1024 .bf16) : M.view.dmaCredit = N := by unfold N; rfl

theorem wp_round1 (c : Dev nD) (k : Kd) (r : ℕ) (hk : dutyK k r = {0}) (ha : amtK k = N) {sp sp' : Space} (S : Memref sig .tc sp' S352x1024 .bf16) (D : Memref sig .tc sp S352x1024 .bf16)
    {q : DmaSem sig} (hq : SemLoc.dma q = ksem k) {hs hd} :
    iprop(records m K ∗ cred (tallyAt (cell c k) () N) ∗ owesE c 0 ∗ atPos ER (cell c k) r ∅ 0)
      ⊢ iprop(((owesE c 0 ∗ atPos ER (cell c k) (r + 1) ∅ 0 ∗ reached ER (cell c k) (r + 1) ∗ payK m c k r 0)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q S D hs hd) k') Q) := by
  have hn : (dutyK k r).card * amtK k = N := by rw [hk, ha, Finset.card_singleton, Nat.one_mul]
  have h := wp_round (F := F) m K (Q := Q) (k' := k') c k r (w := .waitDma2 q S D hs hd) hq (wpE_waitDma2_eq 𝒱₀ (c : Thread nD τ) none Set.univ)
    ((N_row (sp' := sp) D).trans hn.symm) 0
  rw [hn, hk, bigSep_singleton, MayWait_zero] at h
  iintro ⟨HR, Hc, HO, Hp⟩ Hk
  iapply h $$ [HR Hc HO Hp]
  · isplitl [HR]; · iexact HR
    isplitl [Hc]; · iexact Hc
    isplitl [HO]; · iexact HO
    isplitr; · iempintro
    iexact Hp
  iexact Hk
end Waits

theorem rowIx_move (n q : Fin 4) (j : S352x1024.Idx) :
    (fun b => match b with | ⟨0, _⟩ => (q : Fin 4) | ⟨1, _⟩ => (rowIx n j 1 : Fin 352) | ⟨2, _⟩ => (rowIx n j 2 : Fin 1024) : S4x352x1024.Idx) = rowIx q j := by
  funext b
  apply Fin.ext
  match b with
  | ⟨0, _⟩ => exact (rowIx_zero q j).symm
  | ⟨1, _⟩ => show (rowIx n j 1).val = (rowIx q j 1).val; unfold rowIx; rw [ValueKit.rect_emb_unit_val, ValueKit.rect_emb_unit_val]; rfl
  | ⟨2, _⟩ => show (rowIx n j 2).val = (rowIx q j 2).val; unfold rowIx; rw [ValueKit.rect_emb_unit_val, ValueKit.rect_emb_unit_val]; rfl
theorem outX_row (a : Fin 2) (c : Dev nD) (n : Fin 4) : rowOf (outX m a c) n = rowOf (inX m a (dv n c)) (chip c) := by
  funext j
  show inX m a (dv (rowIx n j 0) c) _ = inX m a (dv n c) (rowIx (chip c) j)
  rw [show (rowIx n j 0) = n from Fin.ext (rowIx_zero n j)]
  exact congrArg (inX m a (dv n c)) (rowIx_move n (chip c) j)
theorem outX_own (a : Fin 2) (c : Dev nD) : rowOf (outX m a c) (chip c) = rowOf (inX m a c) (chip c) := by rw [outX_row, dv_chip]
theorem outX_peer (a : Fin 2) (k : Fin 3) (c : Dev nD) : rowOf (outX m a c) (chip (pr k c)) = rowOf (inX m a (pr k c)) (chip c) := by
  rw [outX_row, dv_chip_pr]

theorem loc0_hands (c : Dev nD) (a : Fin 2) : payK m c (.loc a) 0 0 ⊢ (iprop(bnc a c (rowOf (inX m a c) (chip c)) ∗ inRow m a c (chip c)) : sProp 𝕄) := Entails.rfl
theorem loc1_hands (c : Dev nD) (a : Fin 2) : payK m c (.loc a) 1 0 ⊢ (iprop(outRow a c (chip c) (rowOf (inX m a c) (chip c)) ∗ bnc a c (rowOf (inX m a c) (chip c))) : sProp 𝕄) := Entails.rfl
theorem snd_hands (c : Dev nD) (k : Fin 3) (a : Fin 2) : payK m c (.snd k a) 0 0 ⊢ (inRow m a c (chip (pr k c)) : sProp 𝕄) := Entails.rfl
theorem rcv_hands (c : Dev nD) (k : Fin 3) (a : Fin 2) : payK m c (.rcv k a) 0 0 ⊢ (outRow a c (chip (pr k c)) (rowOf (inX m a (pr k c)) (chip c)) : sProp 𝕄) := Entails.rfl
theorem bar_hands (c : Dev nD) : (bigSep (dutyK .bar 0) (payK m c .bar 0) : sProp 𝕄)
    ⊢ iprop((outAny (F := F) 0 (pr 0 c) (chip c) ∗ outAny (F := F) 1 (pr 0 c) (chip c)) ∗ (outAny (F := F) 0 (pr 1 c) (chip c) ∗ outAny (F := F) 1 (pr 1 c) (chip c))
        ∗ (outAny (F := F) 0 (pr 2 c) (chip c) ∗ outAny (F := F) 1 (pr 2 c) (chip c))) := by
  show bigSep Finset.univ (payK m c .bar 0) ⊢ _
  rw [bigSep_univ_eq_bigSepL [(0 : Fin 3), 1, 2] (by decide) (by decide)]
  exact Entails.rfl
theorem out_whole' (a : Fin 2) (c : Dev nD) :
    (iprop(outRow a c (chip c) (rowOf (inX m a c) (chip c)) ∗ outRow a c (chip (pr 0 c)) (rowOf (inX m a (pr 0 c)) (chip c))
        ∗ outRow a c (chip (pr 1 c)) (rowOf (inX m a (pr 1 c)) (chip c)) ∗ outRow a c (chip (pr 2 c)) (rowOf (inX m a (pr 2 c)) (chip c))) : sProp 𝕄)
      ⊢ owns (c : Thread nD τ) (outM a) fullShare (outX m a c) := by
  rw [← outX_own m a c, ← outX_peer m a 0 c, ← outX_peer m a 1 c, ← outX_peer m a 2 c]
  exact out_whole m a c

set_option maxHeartbeats 4000000 in
theorem body_mid (c : Dev nD) (i : grid0.Coords) (a1 : Memref sig .tc .vmem S512x2816 .bf16) (h1 : a1.IsWhole) (a2 : Memref sig .tc .vmem S512x2816 .bf16) (h2 : a2.IsWhole) (a3 : Memref sig .tc .vmem S8x352x1024 .bf16) (h3 : a3.IsWhole) (a4 : Memref sig .tc .vmem S8x352x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S1x1024 .f32) (h9 : a9.IsWhole) (a12 : Memref sig .tc .vmem S512x1024 .f32) (h12 : a12.IsWhole) (a13 : Memref sig .tc .vmem S512x1024 .bf16) (h13 : a13.IsWhole) (a14 : Memref sig .tc .vmem S8x128 .f32) (h14 : a14.IsWhole) (a15 : Memref sig .tc .vmem S8x128 .f32) (h15 : a15.IsWhole)
    (H1 : ¬ k0_cond1 i = 1#1) (H2 : ¬ k0_cond2 i = 1#1) (x0 x1 : Vec F S512x2816 .bf16) (x2 x3 : Vec F S8x352x1024 .bf16) (x4 : Vec F S512x1024 .f32) (x5 : Vec F S1x1024 .f32) (x6 x7 : Vec F S512x1024 .f32) (x8 : Vec F S1x1024 .f32) (y z : Vec F S8x128 .f32) {Q : PUnit → sProp (MT nD τ sig Unit (Elt F) ℕ UU ℕ)} :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ u, owns (c : Thread nD τ) a12 fullShare u) ∗ (∃ v, owns (c : Thread nD τ) a13 fullShare v) ∗ owns (c : Thread nD τ) a14 fullShare y ∗ owns (c : Thread nD τ) a15 fullShare z)
      ⊢ (iprop((iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a12 fullShare (dxOf x0 x1 x2 x3 x4 x5 x6) ∗ owns (c : Thread nD τ) a13 fullShare (dmOf (dxOf x0 x1 x2 x3 x4 x5 x6) x7 x8) ∗ owns (c : Thread nD τ) a14 fullShare (dgfOf x0 x1 x2 x3 x4 y) ∗ owns (c : Thread nD τ) a15 fullShare (dgmOf (dxOf x0 x1 x2 x3 x4 x5 x6) x7 z)) -∗ Q ⟨⟩)
          -∗ wp frame (wpE (defs₀ (F := F)) 𝒱₀ (c : Thread nD τ) none) Set.univ
            (cc0_ffn_up_bwd i a1 h1 a2 h2 a3 h3 a4 h4 a5 h5 a6 h6 a7 h7 a8 h8 a9 h9 (Memref.whole main_arg9) (Memref.isWhole_whole _) (Memref.whole main_arg10) (Memref.isWhole_whole _) a12 h12 a13 h13 a14 h14 a15 h15 (Memref.whole main_v1_4) (Memref.isWhole_whole _) (Memref.whole main_v1_5) (Memref.isWhole_whole _) cc0_scratch0 cc0_scratch1 cc0_scratch2 (Memref.whole cc0_scratch3) (Memref.isWhole_whole _) (Memref.whole cc0_scratch4) (Memref.isWhole_whole _)) Q) : sProp 𝕄) := by
  iintro ⟨A1, A2, A3, A4, A5, A6, A7, A8, A9, ⟨%u, A12⟩, ⟨%v, A13⟩, A14, A15⟩ Hk
  simp only [cc0_ffn_up_bwd_eq_skeleton]
  unfold cc0_ffn_up_bwd_skel
  simp only [k0_part10_eq_skeleton, k0_part11_eq_skeleton, k0_part12_eq_skeleton]
  unfold k0_part10_skel k0_part11_skel k0_part12_skel
  simp only [H1, H2, dite_true, dite_false, Prog.lift, Prog.bind_op, Prog.bind_ret, Prog.pure_eq_ret, wp_deviceId]
  iapply (wp_get c a1 off2) $$ A1
  iintro A1
  iapply (wp_get c a3 off3) $$ A3
  iintro A3
  iapply (wp_get c a2 off2) $$ A2
  iintro A2
  iapply (wp_get c a4 off3) $$ A4
  iintro A4
  iapply (wp_get c a5 off2) $$ A5
  iintro A5
  iapply (wp_get c a6 off2) $$ A6
  iintro A6
  iapply (wp_get c a7 off2) $$ A7
  iintro A7
  iapply (wp_get c a12 off2) $$ A12
  iintro A12
  iapply (wp_put c a12 off2) $$ A12
  iintro A12
  iapply (wp_get c a14 off2) $$ A14
  iintro A14
  iapply (wp_get c a14 off2) $$ A14
  iintro A14
  iapply (wp_put c a14 off2) $$ A14
  iintro A14
  iapply (wp_get c a8 off2) $$ A8
  iintro A8
  iapply (wp_get c a9 off2) $$ A9
  iintro A9
  iapply (wp_get c a13 off2) $$ A13
  iintro A13
  iapply (wp_put c a13 off2) $$ A13
  iintro A13
  iapply (wp_get c a15 off2) $$ A15
  iintro A15
  iapply (wp_get c a15 off2) $$ A15
  iintro A15
  iapply (wp_put c a15 off2) $$ A15
  iintro A15
  rw [wp_ret]
  imodintro
  iapply Hk
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A12]; · iexact A12
  isplitl [A13]; · iexact A13
  isplitl [A14]; · iexact A14
  iexact A15

end Cert.UpProof
-- ==== Proof.UpFirst.lean ====
/-
The first point.
-/
module

public import proofs.«01_k».proof.Proof.UpStep
public import proofs.«01_k».proof.Proof.Gen.Kernel4Ideal.Skeleton
public import proofs.«01_k».proof.Proof.Gen.Kernel4Ideal.Frame

@[expose] public section

set_option maxRecDepth 16384

noncomputable section

namespace Cert.UpProof

open Cert.Kernel4Ideal Cert.Kernel4Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
theorem body_first (c : Dev nD) (i : grid0.Coords) (a1 : Memref sig .tc .vmem S512x2816 .bf16) (h1 : a1.IsWhole) (a2 : Memref sig .tc .vmem S512x2816 .bf16) (h2 : a2.IsWhole) (a3 : Memref sig .tc .vmem S8x352x1024 .bf16) (h3 : a3.IsWhole) (a4 : Memref sig .tc .vmem S8x352x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S1x1024 .f32) (h9 : a9.IsWhole) (a12 : Memref sig .tc .vmem S512x1024 .f32) (h12 : a12.IsWhole) (a13 : Memref sig .tc .vmem S512x1024 .bf16) (h13 : a13.IsWhole) (a14 : Memref sig .tc .vmem S8x128 .f32) (h14 : a14.IsWhole) (a15 : Memref sig .tc .vmem S8x128 .f32) (h15 : a15.IsWhole)
    (H1 : k0_cond1 i = 1#1) (H2 : ¬ k0_cond2 i = 1#1) (x0 x1 : Vec F S512x2816 .bf16) (x2 x3 : Vec F S8x352x1024 .bf16) (x4 : Vec F S512x1024 .f32) (x5 : Vec F S1x1024 .f32) (x6 x7 : Vec F S512x1024 .f32) (x8 : Vec F S1x1024 .f32) {Q : PUnit → sProp (MT nD τ sig Unit (Elt F) ℕ UU ℕ)} :
    iprop(owesE c (O₀ c) ∗ start m c ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ u, owns (c : Thread nD τ) a12 fullShare u) ∗ (∃ v, owns (c : Thread nD τ) a13 fullShare v) ∗ (∃ y, owns (c : Thread nD τ) a14 fullShare y) ∗ (∃ z, owns (c : Thread nD τ) a15 fullShare z))
      ⊢ (iprop((iprop(owesE c 0 ∗ under m c ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a12 fullShare (dxOf x0 x1 x2 x3 x4 x5 x6) ∗ owns (c : Thread nD τ) a13 fullShare (dmOf (dxOf x0 x1 x2 x3 x4 x5 x6) x7 x8) ∗ owns (c : Thread nD τ) a14 fullShare (dgfOf x0 x1 x2 x3 x4 k0_pay1) ∗ owns (c : Thread nD τ) a15 fullShare (dgmOf (dxOf x0 x1 x2 x3 x4 x5 x6) x7 k0_pay2)) -∗ Q ⟨⟩)
          -∗ wp frame (wpE (defs₀ (F := F)) 𝒱₀ (c : Thread nD τ) none) Set.univ
            (cc0_ffn_up_bwd i a1 h1 a2 h2 a3 h3 a4 h4 a5 h5 a6 h6 a7 h7 a8 h8 a9 h9 (Memref.whole main_arg9) (Memref.isWhole_whole _) (Memref.whole main_arg10) (Memref.isWhole_whole _) a12 h12 a13 h13 a14 h14 a15 h15 (Memref.whole main_v1_4) (Memref.isWhole_whole _) (Memref.whole main_v1_5) (Memref.isWhole_whole _) cc0_scratch0 cc0_scratch1 cc0_scratch2 (Memref.whole cc0_scratch3) (Memref.isWhole_whole _) (Memref.whole cc0_scratch4) (Memref.isWhole_whole _)) Q) : sProp 𝕄) := by
  dsimp only [start, all6, all2, all3, link, home]
  iintro ⟨HO, ⟨⟨%K, #HR⟩, #Hlv, Pb, Cb, ⟨B0, B1, B2⟩, ⟨⟨Ps00, Pr00, Ts00, Tr00, Cr00⟩, ⟨Ps10, Pr10, Ts10, Tr10, Cr10⟩, ⟨Ps20, Pr20, Ts20, Tr20, Cr20⟩, ⟨Ps01, Pr01, Ts01, Tr01, Cr01⟩, ⟨Ps11, Pr11, Ts11, Tr11, Cr11⟩, ⟨Ps21, Pr21, Ts21, Tr21, Cr21⟩⟩, ⟨⟨Pl0, Tl0, Tm0, Bn0⟩, ⟨Pl1, Tl1, Tm1, Bn1⟩⟩, ⟨I0, I1⟩, ⟨U0, U1⟩⟩, A1, A2, A3, A4, A5, A6, A7, A8, A9, ⟨%u, A12⟩, ⟨%v, A13⟩, ⟨%y, A14⟩, ⟨%z, A15⟩⟩ Hk
  ihave I0 := in_rows m 0 c $$ I0
  icases I0 with ⟨I0s, I00, I10, I20⟩
  ihave U0 := out_rows 0 c $$ U0
  icases U0 with ⟨U0s, U00, U10, U20⟩
  ihave I1 := in_rows m 1 c $$ I1
  icases I1 with ⟨I1s, I01, I11, I21⟩
  ihave U1 := out_rows 1 c $$ U1
  icases U1 with ⟨U1s, U01, U11, U21⟩
  simp only [cc0_ffn_up_bwd_eq_skeleton]
  unfold cc0_ffn_up_bwd_skel
  simp only [k0_part10_eq_skeleton, k0_part11_eq_skeleton, k0_part12_eq_skeleton]
  unfold k0_part10_skel k0_part11_skel k0_part12_skel
  simp only [H1, H2, dite_true, dite_false, k0_part1_eq_skeleton, k0_part2_eq_skeleton, k0_part3_eq_skeleton, k0_part4_eq_skeleton]
  unfold k0_part1_skel k0_part2_skel k0_part3_skel k0_part4_skel
  simp only [H1, H2, dite_true, dite_false, semSignalWord, semWaitWord, Prog.lift, Prog.bind_op, Prog.bind_ret, Prog.pure_eq_ret, wp_deviceId]
  iapply (wp_bar m K c _ 0 (dev1_eq c) rfl ((owe6 c + oweB c 2) + oweB c 1) (by decide)) $$ [HO B0 U00 U01]
  · isplitr; · iexact HR
    isplitl [HO]; · iexact HO
    isplitl [B0]; · iexact B0
    isplitl [U00]; · iexact U00
    iexact U01
  iintro HO
  iapply (wp_bar m K c _ 1 (dev2_eq c) rfl (owe6 c + oweB c 2) (by decide)) $$ [HO B1 U10 U11]
  · isplitr; · iexact HR
    isplitl [HO]; · iexact HO
    isplitl [B1]; · iexact B1
    isplitl [U10]; · iexact U10
    iexact U11
  iintro HO
  iapply (wp_bar m K c _ 2 (dev3_eq c) rfl (owe6 c) (by decide)) $$ [HO B2 U20 U21]
  · isplitr; · iexact HR
    isplitl [HO]; · iexact HO
    isplitl [B2]; · iexact B2
    isplitl [U20]; · iexact U20
    iexact U21
  iintro HO
  iapply (wp_round m K c .bar 0 (s := SemLoc.reg barS) rfl (wpE_semWait_eq 𝒱₀ (c : Thread nD τ) none Set.univ) (by decide) (owe6 c)) $$ [Cb HO Pb]
  · isplitr; · iexact HR
    isplitl [Cb]; · iexact Cb
    isplitl [HO]; · iexact HO
    isplitr; · iapply (mayWait_bar c); iexact Hlv
    iexact Pb
  iintro ⟨HO, Pb, -, HU⟩
  ihave HU := (bar_hands m c) $$ HU
  icases HU with ⟨⟨U00, U01⟩, ⟨U10, U11⟩, ⟨U20, U21⟩⟩
  imod (close_cell m K c .bar 1 (by decide)) $$ [Pb] with Vb
  · isplitr; · iexact HR
    iexact Pb
  iapply (wp_copyin m K c 0 (off1_eq c) rfl) $$ [I0s Bn0 Tl0]
  · isplitr; · iexact HR
    isplitl [I0s]; · iexact I0s
    isplitl [Bn0]; · iexact Bn0
    isplitl [Tl0]; · iexact Tl0
    iapply (reached_at m K c (.loc 0)); iexact HR
  iintro Cl0
  iapply (wp_copyin m K c 1 (off1_eq c) rfl) $$ [I1s Bn1 Tl1]
  · isplitr; · iexact HR
    isplitl [I1s]; · iexact I1s
    isplitl [Bn1]; · iexact Bn1
    isplitl [Tl1]; · iexact Tl1
    iapply (reached_at m K c (.loc 1)); iexact HR
  iintro Cl1
  iapply (wp_sendrow m K c _ 0 0 (dev4_eq c) (off2_0 c) (off1_eq c) rfl rfl ((((((0 + oweR c 2 1) + oweR c 1 1) + oweR c 0 1) + oweR c 2 0) + oweR c 1 0))) $$ [I00 U00 HO Ts00 Tr00]
  · isplitr; · iexact HR
    isplitl [I00]; · iexact I00
    isplitl [U00]; · iexact U00
    isplitl [HO]; · iexact HO
    isplitl [Ts00]; · iexact Ts00
    iexact Tr00
  iintro ⟨Cs00, HO⟩
  iapply (wp_sendrow m K c _ 1 0 (dev5_eq c) (off2_1 c) (off1_eq c) rfl rfl (((((0 + oweR c 2 1) + oweR c 1 1) + oweR c 0 1) + oweR c 2 0))) $$ [I10 U10 HO Ts10 Tr10]
  · isplitr; · iexact HR
    isplitl [I10]; · iexact I10
    isplitl [U10]; · iexact U10
    isplitl [HO]; · iexact HO
    isplitl [Ts10]; · iexact Ts10
    iexact Tr10
  iintro ⟨Cs10, HO⟩
  iapply (wp_sendrow m K c _ 2 0 (dev6_eq c) (off2_2 c) (off1_eq c) rfl rfl ((((0 + oweR c 2 1) + oweR c 1 1) + oweR c 0 1))) $$ [I20 U20 HO Ts20 Tr20]
  · isplitr; · iexact HR
    isplitl [I20]; · iexact I20
    isplitl [U20]; · iexact U20
    isplitl [HO]; · iexact HO
    isplitl [Ts20]; · iexact Ts20
    iexact Tr20
  iintro ⟨Cs20, HO⟩
  iapply (wp_sendrow m K c _ 0 1 (dev7_eq c) (off2_0 c) (off1_eq c) rfl rfl (((0 + oweR c 2 1) + oweR c 1 1))) $$ [I01 U01 HO Ts01 Tr01]
  · isplitr; · iexact HR
    isplitl [I01]; · iexact I01
    isplitl [U01]; · iexact U01
    isplitl [HO]; · iexact HO
    isplitl [Ts01]; · iexact Ts01
    iexact Tr01
  iintro ⟨Cs01, HO⟩
  iapply (wp_sendrow m K c _ 1 1 (dev8_eq c) (off2_1 c) (off1_eq c) rfl rfl ((0 + oweR c 2 1))) $$ [I11 U11 HO Ts11 Tr11]
  · isplitr; · iexact HR
    isplitl [I11]; · iexact I11
    isplitl [U11]; · iexact U11
    isplitl [HO]; · iexact HO
    isplitl [Ts11]; · iexact Ts11
    iexact Tr11
  iintro ⟨Cs11, HO⟩
  iapply (wp_sendrow m K c _ 2 1 (dev9_eq c) (off2_2 c) (off1_eq c) rfl rfl (0)) $$ [I21 U21 HO Ts21 Tr21]
  · isplitr; · iexact HR
    isplitl [I21]; · iexact I21
    isplitl [U21]; · iexact U21
    isplitl [HO]; · iexact HO
    isplitl [Ts21]; · iexact Ts21
    iexact Tr21
  iintro ⟨Cs21, HO⟩
  iapply (wp_get c a14 off2) $$ A14
  iintro A14
  iapply (wp_put c a14 off2) $$ A14
  iintro A14
  iapply (wp_get c a15 off2) $$ A15
  iintro A15
  iapply (wp_put c a15 off2) $$ A15
  iintro A15
  iapply (wp_get c a1 off2) $$ A1
  iintro A1
  iapply (wp_get c a3 off3) $$ A3
  iintro A3
  iapply (wp_get c a2 off2) $$ A2
  iintro A2
  iapply (wp_get c a4 off3) $$ A4
  iintro A4
  iapply (wp_get c a5 off2) $$ A5
  iintro A5
  iapply (wp_get c a6 off2) $$ A6
  iintro A6
  iapply (wp_get c a7 off2) $$ A7
  iintro A7
  iapply (wp_get c a12 off2) $$ A12
  iintro A12
  iapply (wp_put c a12 off2) $$ A12
  iintro A12
  iapply (wp_get c a14 off2) $$ A14
  iintro A14
  iapply (wp_get c a14 off2) $$ A14
  iintro A14
  iapply (wp_put c a14 off2) $$ A14
  iintro A14
  iapply (wp_get c a8 off2) $$ A8
  iintro A8
  iapply (wp_get c a9 off2) $$ A9
  iintro A9
  iapply (wp_get c a13 off2) $$ A13
  iintro A13
  iapply (wp_put c a13 off2) $$ A13
  iintro A13
  iapply (wp_get c a15 off2) $$ A15
  iintro A15
  iapply (wp_get c a15 off2) $$ A15
  iintro A15
  iapply (wp_put c a15 off2) $$ A15
  iintro A15
  rw [wp_ret]
  imodintro
  iapply Hk
  isplitl [HO]; · iexact HO
  isplitr [A1 A2 A3 A4 A5 A6 A7 A8 A9 A12 A13 A14 A15]
  · dsimp only [under, all6, all2, wayS, wayL]
    isplitr; · iexists K; iexact HR
    isplitl [Vb]; · iexact Vb
    isplitr [Pl0 Cl0 Tm0 U0s Pl1 Cl1 Tm1 U1s]
    · isplitl [Ps00 Cs00 Pr00 Cr00]
      · isplitl [Ps00]; · iexact Ps00
        isplitl [Cs00]; · iexact Cs00
        isplitl [Pr00]; · iexact Pr00
        iexact Cr00
      isplitl [Ps10 Cs10 Pr10 Cr10]
      · isplitl [Ps10]; · iexact Ps10
        isplitl [Cs10]; · iexact Cs10
        isplitl [Pr10]; · iexact Pr10
        iexact Cr10
      isplitl [Ps20 Cs20 Pr20 Cr20]
      · isplitl [Ps20]; · iexact Ps20
        isplitl [Cs20]; · iexact Cs20
        isplitl [Pr20]; · iexact Pr20
        iexact Cr20
      isplitl [Ps01 Cs01 Pr01 Cr01]
      · isplitl [Ps01]; · iexact Ps01
        isplitl [Cs01]; · iexact Cs01
        isplitl [Pr01]; · iexact Pr01
        iexact Cr01
      isplitl [Ps11 Cs11 Pr11 Cr11]
      · isplitl [Ps11]; · iexact Ps11
        isplitl [Cs11]; · iexact Cs11
        isplitl [Pr11]; · iexact Pr11
        iexact Cr11
      isplitl [Ps21]; · iexact Ps21
      isplitl [Cs21]; · iexact Cs21
      isplitl [Pr21]; · iexact Pr21
      iexact Cr21
    isplitl [Pl0 Cl0 Tm0 U0s]
    · isplitl [Pl0]; · iexact Pl0
      isplitl [Cl0]; · iexact Cl0
      isplitl [Tm0]; · iexact Tm0
      iexact U0s
    isplitl [Pl1]; · iexact Pl1
    isplitl [Cl1]; · iexact Cl1
    isplitl [Tm1]; · iexact Tm1
    iexact U1s
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A12]; · iexact A12
  isplitl [A13]; · iexact A13
  isplitl [A14]; · iexact A14
  iexact A15

end Cert.UpProof
-- ==== Proof.UpLast.lean ====
/-
The last point.
-/
module

public import proofs.«01_k».proof.Proof.UpStep
public import proofs.«01_k».proof.Proof.Gen.Kernel4Ideal.Skeleton
public import proofs.«01_k».proof.Proof.Gen.Kernel4Ideal.Frame

@[expose] public section

set_option maxRecDepth 16384

noncomputable section

namespace Cert.UpProof

open Cert.Kernel4Ideal Cert.Kernel4Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
theorem body_last (c : Dev nD) (i : grid0.Coords) (a1 : Memref sig .tc .vmem S512x2816 .bf16) (h1 : a1.IsWhole) (a2 : Memref sig .tc .vmem S512x2816 .bf16) (h2 : a2.IsWhole) (a3 : Memref sig .tc .vmem S8x352x1024 .bf16) (h3 : a3.IsWhole) (a4 : Memref sig .tc .vmem S8x352x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S1x1024 .f32) (h9 : a9.IsWhole) (a12 : Memref sig .tc .vmem S512x1024 .f32) (h12 : a12.IsWhole) (a13 : Memref sig .tc .vmem S512x1024 .bf16) (h13 : a13.IsWhole) (a14 : Memref sig .tc .vmem S8x128 .f32) (h14 : a14.IsWhole) (a15 : Memref sig .tc .vmem S8x128 .f32) (h15 : a15.IsWhole)
    (H1 : ¬ k0_cond1 i = 1#1) (H2 : k0_cond2 i = 1#1) (x0 x1 : Vec F S512x2816 .bf16) (x2 x3 : Vec F S8x352x1024 .bf16) (x4 : Vec F S512x1024 .f32) (x5 : Vec F S1x1024 .f32) (x6 x7 : Vec F S512x1024 .f32) (x8 : Vec F S1x1024 .f32) (y z : Vec F S8x128 .f32) {Q : PUnit → sProp (MT nD τ sig Unit (Elt F) ℕ UU ℕ)} :
    iprop(owesE c 0 ∗ under m c ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ u, owns (c : Thread nD τ) a12 fullShare u) ∗ (∃ v, owns (c : Thread nD τ) a13 fullShare v) ∗ owns (c : Thread nD τ) a14 fullShare y ∗ owns (c : Thread nD τ) a15 fullShare z)
      ⊢ (iprop((iprop(owesE c 0 ∗ over m c ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a12 fullShare (dxOf x0 x1 x2 x3 x4 x5 x6) ∗ owns (c : Thread nD τ) a13 fullShare (dmOf (dxOf x0 x1 x2 x3 x4 x5 x6) x7 x8) ∗ owns (c : Thread nD τ) a14 fullShare (dgfOf x0 x1 x2 x3 x4 y) ∗ owns (c : Thread nD τ) a15 fullShare (dgmOf (dxOf x0 x1 x2 x3 x4 x5 x6) x7 z)) -∗ Q ⟨⟩)
          -∗ wp frame (wpE (defs₀ (F := F)) 𝒱₀ (c : Thread nD τ) none) Set.univ
            (cc0_ffn_up_bwd i a1 h1 a2 h2 a3 h3 a4 h4 a5 h5 a6 h6 a7 h7 a8 h8 a9 h9 (Memref.whole main_arg9) (Memref.isWhole_whole _) (Memref.whole main_arg10) (Memref.isWhole_whole _) a12 h12 a13 h13 a14 h14 a15 h15 (Memref.whole main_v1_4) (Memref.isWhole_whole _) (Memref.whole main_v1_5) (Memref.isWhole_whole _) cc0_scratch0 cc0_scratch1 cc0_scratch2 (Memref.whole cc0_scratch3) (Memref.isWhole_whole _) (Memref.whole cc0_scratch4) (Memref.isWhole_whole _)) Q) : sProp 𝕄) := by
  dsimp only [under, all6, all2, wayS, wayL]
  iintro ⟨HO, ⟨⟨%K, #HR⟩, Vb, ⟨⟨Ps00, Cs00, Pr00, Cr00⟩, ⟨Ps10, Cs10, Pr10, Cr10⟩, ⟨Ps20, Cs20, Pr20, Cr20⟩, ⟨Ps01, Cs01, Pr01, Cr01⟩, ⟨Ps11, Cs11, Pr11, Cr11⟩, ⟨Ps21, Cs21, Pr21, Cr21⟩⟩, ⟨⟨Pl0, Cl0, Tm0, U0s⟩, ⟨Pl1, Cl1, Tm1, U1s⟩⟩⟩, A1, A2, A3, A4, A5, A6, A7, A8, A9, ⟨%u, A12⟩, ⟨%v, A13⟩, A14, A15⟩ Hk
  simp only [cc0_ffn_up_bwd_eq_skeleton]
  unfold cc0_ffn_up_bwd_skel
  simp only [k0_part10_eq_skeleton, k0_part11_eq_skeleton, k0_part12_eq_skeleton]
  unfold k0_part10_skel k0_part11_skel k0_part12_skel
  simp only [H1, H2, dite_true, dite_false, k0_part5_eq_skeleton, k0_part6_eq_skeleton, k0_part7_eq_skeleton, k0_part8_eq_skeleton, k0_part9_eq_skeleton]
  unfold k0_part5_skel k0_part6_skel k0_part7_skel k0_part8_skel k0_part9_skel
  simp only [H1, H2, dite_true, dite_false, Prog.lift, Prog.bind_op, Prog.bind_ret, Prog.pure_eq_ret, wp_deviceId]
  iapply (wp_get c a1 off2) $$ A1
  iintro A1
  iapply (wp_get c a3 off3) $$ A3
  iintro A3
  iapply (wp_get c a2 off2) $$ A2
  iintro A2
  iapply (wp_get c a4 off3) $$ A4
  iintro A4
  iapply (wp_get c a5 off2) $$ A5
  iintro A5
  iapply (wp_get c a6 off2) $$ A6
  iintro A6
  iapply (wp_get c a7 off2) $$ A7
  iintro A7
  iapply (wp_get c a12 off2) $$ A12
  iintro A12
  iapply (wp_put c a12 off2) $$ A12
  iintro A12
  iapply (wp_get c a14 off2) $$ A14
  iintro A14
  iapply (wp_get c a14 off2) $$ A14
  iintro A14
  iapply (wp_put c a14 off2) $$ A14
  iintro A14
  iapply (wp_get c a8 off2) $$ A8
  iintro A8
  iapply (wp_get c a9 off2) $$ A9
  iintro A9
  iapply (wp_get c a13 off2) $$ A13
  iintro A13
  iapply (wp_put c a13 off2) $$ A13
  iintro A13
  iapply (wp_get c a15 off2) $$ A15
  iintro A15
  iapply (wp_get c a15 off2) $$ A15
  iintro A15
  iapply (wp_put c a15 off2) $$ A15
  iintro A15
  iapply (wp_round1 m K c (.loc 0) 0 rfl rfl _ _ rfl) $$ [Cl0 HO Pl0]
  · isplitr; · iexact HR
    isplitl [Cl0]; · iexact Cl0
    isplitl [HO]; · iexact HO
    iexact Pl0
  iintro ⟨HO, Pl0, #Rl0, Hp⟩
  ihave Hp := (loc0_hands m c 0) $$ Hp
  icases Hp with ⟨Bn0, I0s⟩
  iapply (wp_copyout m K c 0 (off3_eq c) rfl) $$ [Bn0 U0s Tm0]
  · isplitr; · iexact HR
    isplitl [Bn0]; · iexact Bn0
    isplitl [U0s]; · iexact U0s
    isplitl [Tm0]; · iexact Tm0
    iexact Rl0
  iintro Cl0
  iapply (wp_round1 m K c (.loc 1) 0 rfl rfl _ _ rfl) $$ [Cl1 HO Pl1]
  · isplitr; · iexact HR
    isplitl [Cl1]; · iexact Cl1
    isplitl [HO]; · iexact HO
    iexact Pl1
  iintro ⟨HO, Pl1, #Rl1, Hp⟩
  ihave Hp := (loc0_hands m c 1) $$ Hp
  icases Hp with ⟨Bn1, I1s⟩
  iapply (wp_copyout m K c 1 (off3_eq c) rfl) $$ [Bn1 U1s Tm1]
  · isplitr; · iexact HR
    isplitl [Bn1]; · iexact Bn1
    isplitl [U1s]; · iexact U1s
    isplitl [Tm1]; · iexact Tm1
    iexact Rl1
  iintro Cl1
  iapply (wp_round1 m K c (.snd 0 0) 0 rfl rfl _ _ rfl) $$ [Cs00 HO Ps00]
  · isplitr; · iexact HR
    isplitl [Cs00]; · iexact Cs00
    isplitl [HO]; · iexact HO
    iexact Ps00
  iintro ⟨HO, Ps00, -, Hp⟩
  ihave I00 := (snd_hands m c 0 0) $$ Hp
  iapply (wp_round1 m K c (.rcv 0 0) 0 rfl rfl _ _ rfl) $$ [Cr00 HO Pr00]
  · isplitr; · iexact HR
    isplitl [Cr00]; · iexact Cr00
    isplitl [HO]; · iexact HO
    iexact Pr00
  iintro ⟨HO, Pr00, -, Hp⟩
  ihave U00 := (rcv_hands m c 0 0) $$ Hp
  iapply (wp_round1 m K c (.snd 1 0) 0 rfl rfl _ _ rfl) $$ [Cs10 HO Ps10]
  · isplitr; · iexact HR
    isplitl [Cs10]; · iexact Cs10
    isplitl [HO]; · iexact HO
    iexact Ps10
  iintro ⟨HO, Ps10, -, Hp⟩
  ihave I10 := (snd_hands m c 1 0) $$ Hp
  iapply (wp_round1 m K c (.rcv 1 0) 0 rfl rfl _ _ rfl) $$ [Cr10 HO Pr10]
  · isplitr; · iexact HR
    isplitl [Cr10]; · iexact Cr10
    isplitl [HO]; · iexact HO
    iexact Pr10
  iintro ⟨HO, Pr10, -, Hp⟩
  ihave U10 := (rcv_hands m c 1 0) $$ Hp
  iapply (wp_round1 m K c (.snd 2 0) 0 rfl rfl _ _ rfl) $$ [Cs20 HO Ps20]
  · isplitr; · iexact HR
    isplitl [Cs20]; · iexact Cs20
    isplitl [HO]; · iexact HO
    iexact Ps20
  iintro ⟨HO, Ps20, -, Hp⟩
  ihave I20 := (snd_hands m c 2 0) $$ Hp
  iapply (wp_round1 m K c (.rcv 2 0) 0 rfl rfl _ _ rfl) $$ [Cr20 HO Pr20]
  · isplitr; · iexact HR
    isplitl [Cr20]; · iexact Cr20
    isplitl [HO]; · iexact HO
    iexact Pr20
  iintro ⟨HO, Pr20, -, Hp⟩
  ihave U20 := (rcv_hands m c 2 0) $$ Hp
  iapply (wp_round1 m K c (.snd 0 1) 0 rfl rfl _ _ rfl) $$ [Cs01 HO Ps01]
  · isplitr; · iexact HR
    isplitl [Cs01]; · iexact Cs01
    isplitl [HO]; · iexact HO
    iexact Ps01
  iintro ⟨HO, Ps01, -, Hp⟩
  ihave I01 := (snd_hands m c 0 1) $$ Hp
  iapply (wp_round1 m K c (.rcv 0 1) 0 rfl rfl _ _ rfl) $$ [Cr01 HO Pr01]
  · isplitr; · iexact HR
    isplitl [Cr01]; · iexact Cr01
    isplitl [HO]; · iexact HO
    iexact Pr01
  iintro ⟨HO, Pr01, -, Hp⟩
  ihave U01 := (rcv_hands m c 0 1) $$ Hp
  iapply (wp_round1 m K c (.snd 1 1) 0 rfl rfl _ _ rfl) $$ [Cs11 HO Ps11]
  · isplitr; · iexact HR
    isplitl [Cs11]; · iexact Cs11
    isplitl [HO]; · iexact HO
    iexact Ps11
  iintro ⟨HO, Ps11, -, Hp⟩
  ihave I11 := (snd_hands m c 1 1) $$ Hp
  iapply (wp_round1 m K c (.rcv 1 1) 0 rfl rfl _ _ rfl) $$ [Cr11 HO Pr11]
  · isplitr; · iexact HR
    isplitl [Cr11]; · iexact Cr11
    isplitl [HO]; · iexact HO
    iexact Pr11
  iintro ⟨HO, Pr11, -, Hp⟩
  ihave U11 := (rcv_hands m c 1 1) $$ Hp
  iapply (wp_round1 m K c (.snd 2 1) 0 rfl rfl _ _ rfl) $$ [Cs21 HO Ps21]
  · isplitr; · iexact HR
    isplitl [Cs21]; · iexact Cs21
    isplitl [HO]; · iexact HO
    iexact Ps21
  iintro ⟨HO, Ps21, -, Hp⟩
  ihave I21 := (snd_hands m c 2 1) $$ Hp
  iapply (wp_round1 m K c (.rcv 2 1) 0 rfl rfl _ _ rfl) $$ [Cr21 HO Pr21]
  · isplitr; · iexact HR
    isplitl [Cr21]; · iexact Cr21
    isplitl [HO]; · iexact HO
    iexact Pr21
  iintro ⟨HO, Pr21, -, Hp⟩
  ihave U21 := (rcv_hands m c 2 1) $$ Hp
  iapply (wp_round1 m K c (.loc 0) 1 rfl rfl _ _ rfl) $$ [Cl0 HO Pl0]
  · isplitr; · iexact HR
    isplitl [Cl0]; · iexact Cl0
    isplitl [HO]; · iexact HO
    iexact Pl0
  iintro ⟨HO, Pl0, -, Hp⟩
  ihave Hp := (loc1_hands m c 0) $$ Hp
  icases Hp with ⟨U0s, Bn0⟩
  iapply (wp_round1 m K c (.loc 1) 1 rfl rfl _ _ rfl) $$ [Cl1 HO Pl1]
  · isplitr; · iexact HR
    isplitl [Cl1]; · iexact Cl1
    isplitl [HO]; · iexact HO
    iexact Pl1
  iintro ⟨HO, Pl1, -, Hp⟩
  ihave Hp := (loc1_hands m c 1) $$ Hp
  icases Hp with ⟨U1s, Bn1⟩
  rw [wp_ret]
  imod (close_cell m K c (.snd 0 0) 1 (by decide)) $$ [Ps00] with Ps00
  · isplitr; · iexact HR
    iexact Ps00
  imod (close_cell m K c (.snd 1 0) 1 (by decide)) $$ [Ps10] with Ps10
  · isplitr; · iexact HR
    iexact Ps10
  imod (close_cell m K c (.snd 2 0) 1 (by decide)) $$ [Ps20] with Ps20
  · isplitr; · iexact HR
    iexact Ps20
  imod (close_cell m K c (.snd 0 1) 1 (by decide)) $$ [Ps01] with Ps01
  · isplitr; · iexact HR
    iexact Ps01
  imod (close_cell m K c (.snd 1 1) 1 (by decide)) $$ [Ps11] with Ps11
  · isplitr; · iexact HR
    iexact Ps11
  imod (close_cell m K c (.snd 2 1) 1 (by decide)) $$ [Ps21] with Ps21
  · isplitr; · iexact HR
    iexact Ps21
  imod (close_cell m K c (.rcv 0 0) 1 (by decide)) $$ [Pr00] with Pr00
  · isplitr; · iexact HR
    iexact Pr00
  imod (close_cell m K c (.rcv 1 0) 1 (by decide)) $$ [Pr10] with Pr10
  · isplitr; · iexact HR
    iexact Pr10
  imod (close_cell m K c (.rcv 2 0) 1 (by decide)) $$ [Pr20] with Pr20
  · isplitr; · iexact HR
    iexact Pr20
  imod (close_cell m K c (.rcv 0 1) 1 (by decide)) $$ [Pr01] with Pr01
  · isplitr; · iexact HR
    iexact Pr01
  imod (close_cell m K c (.rcv 1 1) 1 (by decide)) $$ [Pr11] with Pr11
  · isplitr; · iexact HR
    iexact Pr11
  imod (close_cell m K c (.rcv 2 1) 1 (by decide)) $$ [Pr21] with Pr21
  · isplitr; · iexact HR
    iexact Pr21
  imod (close_cell m K c (.loc 0) 2 (by decide)) $$ [Pl0] with Pl0
  · isplitr; · iexact HR
    iexact Pl0
  imod (close_cell m K c (.loc 1) 2 (by decide)) $$ [Pl1] with Pl1
  · isplitr; · iexact HR
    iexact Pl1
  imodintro
  iapply Hk
  isplitl [HO]; · iexact HO
  isplitr [A1 A2 A3 A4 A5 A6 A7 A8 A9 A12 A13 A14 A15]
  · dsimp only [over, all6, all2]
    isplitl [Vb]; · iexact Vb
    isplitl [Ps00 Pr00 Ps10 Pr10 Ps20 Pr20 Ps01 Pr01 Ps11 Pr11 Ps21 Pr21]
    · isplitl [Ps00 Pr00]; · isplitl [Ps00] <;> iassumption
      isplitl [Ps10 Pr10]; · isplitl [Ps10] <;> iassumption
      isplitl [Ps20 Pr20]; · isplitl [Ps20] <;> iassumption
      isplitl [Ps01 Pr01]; · isplitl [Ps01] <;> iassumption
      isplitl [Ps11 Pr11]; · isplitl [Ps11] <;> iassumption
      isplitl [Ps21] <;> iassumption
    isplitl [Pl0 I0s I00 I10 I20 U0s U00 U10 U20 Bn0]
    · isplitl [Pl0]; · iexact Pl0
      isplitl [I0s I00 I10 I20]
      · iapply (in_whole m 0 c)
        isplitl [I0s]; · iexact I0s
        isplitl [I00]; · iexact I00
        isplitl [I10] <;> iassumption
      isplitl [U0s U00 U10 U20]
      · iapply (out_whole' m 0 c)
        isplitl [U0s]; · iexact U0s
        isplitl [U00]; · iexact U00
        isplitl [U10] <;> iassumption
      iexists _; iexact Bn0
    isplitl [Pl1]; · iexact Pl1
    isplitl [I1s I01 I11 I21]
    · iapply (in_whole m 1 c)
      isplitl [I1s]; · iexact I1s
      isplitl [I01]; · iexact I01
      isplitl [I11] <;> iassumption
    isplitl [U1s U01 U11 U21]
    · iapply (out_whole' m 1 c)
      isplitl [U1s]; · iexact U1s
      isplitl [U01]; · iexact U01
      isplitl [U11] <;> iassumption
    iexists _; iexact Bn1
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A12]; · iexact A12
  isplitl [A13]; · iexact A13
  isplitl [A14]; · iexact A14
  iexact A15

end Cert.UpProof
-- ==== Proof.UpRun.lean ====
/-
The points of the backward call together: what every window's block holds after each point, and that the body takes
what the pipeline has before a point to what it has after it.
-/
module

public import proofs.«01_k».proof.Proof.UpFirst
public import proofs.«01_k».proof.Proof.UpLast
public import proofs.«01_k».proof.Proof.Gen.Kernel4Ideal.Points
public import proofs.«01_k».proof.Proof.Gen.Kernel4Ideal.Launch
public import Idealize.ShloMosaic.Lib.Pipeline.FrameBody
public import proofs.«01_k».proof.Proof.Gen.Kernel4Ideal.Skeleton
public import proofs.«01_k».proof.Proof.Gen.Kernel4Ideal.Frame

@[expose] public section

set_option maxRecDepth 16384

noncomputable section

namespace Cert.UpProof

open Cert.Kernel4Ideal Cert.Kernel4Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a point leaves for the gradient entering the layer: -/
def dxAt (c : Dev nD) (t : Fin cfg0.N) : Vec F S512x1024 .f32 := dxOf (iblk m c 0 t) (iblk m c 1 t) (iblk m c 2 t) (iblk m c 3 t) (iblk m c 4 t) (iblk m c 5 t) (iblk m c 6 t)
/-- for the gradient of the mixed values: -/
def dmAt (c : Dev nD) (t : Fin cfg0.N) : Vec F S512x1024 .bf16 := dmOf (dxAt m c t) (iblk m c 7 t) (iblk m c 8 t)
/-- and in the two accumulators, which start again at the first point. -/
def accAt (c : Dev nD) : (n : ℕ) → n < cfg0.N → Vec F S8x128 .f32 × Vec F S8x128 .f32
  | 0, hn => (dgfOf (iblk m c 0 ⟨0, hn⟩) (iblk m c 1 ⟨0, hn⟩) (iblk m c 2 ⟨0, hn⟩) (iblk m c 3 ⟨0, hn⟩) (iblk m c 4 ⟨0, hn⟩) k0_pay1, dgmOf (dxAt m c ⟨0, hn⟩) (iblk m c 7 ⟨0, hn⟩) k0_pay2)
  | n + 1, hn => (dgfOf (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (by omega)).1, dgmOf (dxAt m c ⟨n + 1, hn⟩) (iblk m c 7 ⟨n + 1, hn⟩) (accAt c n (by omega)).2)

theorem accAt_zero (c : Dev nD) (t : Fin cfg0.N) (h0 : t.val = 0) :
    accAt m c t.val t.isLt = (dgfOf (iblk m c 0 t) (iblk m c 1 t) (iblk m c 2 t) (iblk m c 3 t) (iblk m c 4 t) k0_pay1, dgmOf (dxAt m c t) (iblk m c 7 t) k0_pay2) := by
  obtain ⟨n, hn⟩ := t
  dsimp only at h0
  subst h0
  rfl
theorem accAt_pos (c : Dev nD) (t : Fin cfg0.N) (h0 : t.val ≠ 0) :
    accAt m c t.val t.isLt = (dgfOf (iblk m c 0 t) (iblk m c 1 t) (iblk m c 2 t) (iblk m c 3 t) (iblk m c 4 t) (accAt m c (t.val - 1) (Nat.lt_of_le_of_lt (Nat.sub_le _ _) t.isLt)).1,
      dgmOf (dxAt m c t) (iblk m c 7 t) (accAt m c (t.val - 1) (Nat.lt_of_le_of_lt (Nat.sub_le _ _) t.isLt)).2) := by
  obtain ⟨n, hn⟩ := t
  cases n with
  | zero => exact absurd rfl h0
  | succ n => rfl

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxAt m c t
    | ⟨10, _⟩ => dmAt m c t
    | ⟨11, _⟩ => (accAt m c t.val t.isLt).1
    | ⟨12, _⟩ => (accAt m c t.val t.isLt).2
  Φ t := if t.val = 0 then start m c else if t.val < 8 then under m c else over m c
  q _ := fullShare
  owed t := if t.val = 0 then O₀ c else 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = dxAt m c t := by dsimp only [dats]
theorem after_10 (c : Dev nD) (t : Fin cfg0.N) : (dats m 0 c).after 10 t = dmAt m c t := by dsimp only [dats]
theorem after_11 (c : Dev nD) (t : Fin cfg0.N) : (dats m 0 c).after 11 t = (accAt m c t.val t.isLt).1 := by dsimp only [dats]
theorem after_12 (c : Dev nD) (t : Fin cfg0.N) : (dats m 0 c).after 12 t = (accAt m c t.val t.isLt).2 := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_11 (c : Dev nD) (t : Fin cfg0.N) (h0 : t.val ≠ 0) (d) :
    (dats m 0 c).before 11 t d = (accAt m c (t.val - 1) (Nat.lt_of_le_of_lt (Nat.sub_le _ _) t.isLt)).1 := by
  have hN : t.val < 8 := lt_of_lt_of_eq t.isLt (show cfg0.N = 8 from N_0)
  rw [Dat.before_out_kept _ 11 rfl t (by omega) (Bool.eq_false_iff.mpr fun h => by have := (flush0_11 _).mp h; dsimp only at this; omega)
    (fun _ => rfl) (fun _ _ => rfl)]
  dsimp only [dats]
theorem before_12 (c : Dev nD) (t : Fin cfg0.N) (h0 : t.val ≠ 0) (d) :
    (dats m 0 c).before 12 t d = (accAt m c (t.val - 1) (Nat.lt_of_le_of_lt (Nat.sub_le _ _) t.isLt)).2 := by
  have hN : t.val < 8 := lt_of_lt_of_eq t.isLt (show cfg0.N = 8 from N_0)
  rw [Dat.before_out_kept _ 12 rfl t (by omega) (Bool.eq_false_iff.mpr fun h => by have := (flush0_12 _).mp h; dsimp only at this; omega)
    (fun _ => rfl) (fun _ _ => rfl)]
  dsimp only [dats]

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val = 7 :=
  (by decide +kernel : ∀ t : Fin grid0.N, k0_cond2 (grid0.coords t) = 1#1 ↔ t.val = 7)

theorem owes_in (c : Dev nD) (t : Fin (cfg0.N + 1)) : (dats m 0 c).owesAt () t ⊢ owesE c ((dats m 0 c).owed t) := by
  unfold Dat.owesAt Pipeline.owesWithin owesE
  iintro ⟨%W, -, H⟩
  iexists W
  iexact H
theorem owes_out (c : Dev nD) (t : Fin (cfg0.N + 1)) : owesE c ((dats m 0 c).owed t) ⊢ (dats m 0 c).owesAt () t := by
  unfold Dat.owesAt Pipeline.owesWithin owesE
  iintro ⟨%W, H⟩
  iexists W
  isplitr
  · ipureintro; exact fun _ _ => Or.inl trivial
  iexact H

/-! ## The body at a point -/

/-- What the body has before point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))
/-- and after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
theorem sound_body (c : Dev nD) (t : Fin cfg0.N) :
    bodyPre m c t ⊢ wp frame (wpE (defs₀ (F := F)) 𝒱₀ (c : Thread nD τ) none) Set.univ (bodyAt0 t) (fun _ => bodyPost m c t) := by
  have hN : t.val < 8 := lt_of_lt_of_eq t.isLt (show cfg0.N = 8 from N_0)
  have o0 := owes_in m c t.castSucc
  have o1 := owes_out m c t.succ
  have e0 : (dats m 0 c).owed t.castSucc = if t.val = 0 then O₀ c else 0 := rfl
  have e1 : (dats m 0 c).owed t.succ = 0 := by
    show (if t.val + 1 = 0 then O₀ c else 0) = 0
    exact if_neg (Nat.succ_ne_zero t.val)
  have p0 : (dats m 0 c).Φ t.castSucc = if t.val = 0 then start m c else if t.val < 8 then under m c else over m c := rfl
  have p1 : (dats m 0 c).Φ t.succ = if t.val + 1 < 8 then under m c else over m c := by
    show (if t.val + 1 = 0 then start m c else if t.val + 1 < 8 then under m c else over m c) = _
    exact if_neg (Nat.succ_ne_zero t.val)
  rw [e0] at o0
  rw [e1] at o1
  unfold bodyPre bodyPost
  rw [p0, p1]
  simp only [before_0, before_1, before_2, before_3, before_4, before_5, before_6, before_7, before_8]
  rw [after_0, after_1, after_2, after_3, after_4, after_5, after_6, after_7, after_8, after_9, after_10, after_11, after_12]
  by_cases h0 : t.val = 0
  · rw [if_pos h0] at o0
    rw [if_pos h0, if_pos (show t.val + 1 < 8 by omega), accAt_zero m c t h0]
    unfold dmAt dxAt bodyAt0
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    ihave Ho := o0 $$ Ho
    iapply (body_first m c (grid0.coords t) _ _ _ _ _ _ _ _ _ _ _ _ _ _ _ _ _ _ _ _ _ _ _ _ _ _ ((cond1_iff t).mpr h0) (fun h => by have := (cond2_iff t).mp h; omega) (iblk m c 0 t) (iblk m c 1 t) (iblk m c 2 t) (iblk m c 3 t) (iblk m c 4 t) (iblk m c 5 t) (iblk m c 6 t) (iblk m c 7 t) (iblk m c 8 t)) $$ [Ho HΦ H0 H1 H2 H3 H4 H5 H6 H7 H8 H9 H10 H11 H12]
    · isplitl [Ho]; · iexact Ho
      isplitl [HΦ]; · iexact HΦ
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      iexists _; iexact H12
    iintro ⟨Ho, HΦ, H0, H1, H2, H3, H4, H5, H6, H7, H8, H9, H10, H11, H12⟩
    isplitl [HΦ]; · iexact HΦ
    isplitl [Ho]; · iapply o1; iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [if_neg h0] at o0
    rw [if_neg h0, if_pos hN, accAt_pos m c t h0]
    simp only [before_11 m c t h0, before_12 m c t h0]
    unfold dmAt dxAt bodyAt0
    dsimp only
    by_cases h7 : t.val = 7
    · rw [if_neg (show ¬ t.val + 1 < 8 by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      ihave Ho := o0 $$ Ho
      iapply (body_last m c (grid0.coords t) _ _ _ _ _ _ _ _ _ _ _ _ _ _ _ _ _ _ _ _ _ _ _ _ _ _ (fun h => h0 ((cond1_iff t).mp h)) ((cond2_iff t).mpr h7) (iblk m c 0 t) (iblk m c 1 t) (iblk m c 2 t) (iblk m c 3 t) (iblk m c 4 t) (iblk m c 5 t) (iblk m c 6 t) (iblk m c 7 t) (iblk m c 8 t) _ _) $$ [Ho HΦ H0 H1 H2 H3 H4 H5 H6 H7 H8 H9 H10 H11 H12]
      · isplitl [Ho]; · iexact Ho
        isplitl [HΦ]; · iexact HΦ
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexact H11
        iexact H12
      iintro ⟨Ho, HΦ, H0, H1, H2, H3, H4, H5, H6, H7, H8, H9, H10, H11, H12⟩
      isplitl [HΦ]; · iexact HΦ
      isplitl [Ho]; · iapply o1; iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [if_pos (show t.val + 1 < 8 by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_mid c (grid0.coords t) _ _ _ _ _ _ _ _ _ _ _ _ _ _ _ _ _ _ _ _ _ _ _ _ _ _ (fun h => h0 ((cond1_iff t).mp h)) (fun h => h7 ((cond2_iff t).mp h)) (iblk m c 0 t) (iblk m c 1 t) (iblk m c 2 t) (iblk m c 3 t) (iblk m c 4 t) (iblk m c 5 t) (iblk m c 6 t) (iblk m c 7 t) (iblk m c 8 t) _ _) $$ [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexact H11
        iexact H12
      iintro ⟨H0, H1, H2, H3, H4, H5, H6, H7, H8, H9, H10, H11, H12⟩
      isplitl [HΦ]; · iexact HΦ
      isplitl [Ho]; · iapply o1; iapply o0; iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

end Cert.UpProof
-- ==== Proof.UpLaunch.lean ====
/-
The backward call with its exchange, from its launch. Every cell starts with its invariant and its tokens with the
device that pays; each device's credit is what its peers owe it; at the end every counter is zero, the two arrays sent
are as they were and the two received hold what the four chips had for the device.
-/
module

public import proofs.«01_k».proof.Proof.UpRun
public import Idealize.ShloMosaic.Lib.Pipeline.CollectiveSegs
public import proofs.«01_k».proof.Proof.Gen.Kernel4Ideal.Skeleton
public import proofs.«01_k».proof.Proof.Gen.Kernel4Ideal.Frame

@[expose] public section

set_option maxRecDepth 16384

noncomputable section

namespace Cert.UpProof

open Cert.Kernel4Ideal Cert.Kernel4Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Tokens -/

/-- What a device pays: a peer's barrier, its own sends, its peers' receipts, its two copies on the chip (in and out). -/
inductive Tk where
  | bar (k : Fin 3) | snd (k : Fin 3) (a : Fin 2) | rcv (k : Fin 3) (a : Fin 2) | loc (a : Fin 2) (r : Fin 2)
  deriving DecidableEq
def Tk.all : List Tk :=
  [.bar 0, .bar 1, .bar 2, .snd 0 0, .snd 1 0, .snd 2 0, .snd 0 1, .snd 1 1, .snd 2 1, .rcv 0 0, .rcv 1 0, .rcv 2 0, .rcv 0 1, .rcv 1 1, .rcv 2 1,
    .loc 0 0, .loc 0 1, .loc 1 0, .loc 1 1]
instance : Fintype Tk where
  elems := ⟨Tk.all, by decide⟩
  complete t := by
    rcases t with k | ⟨k, a⟩ | ⟨k, a⟩ | ⟨a, r⟩
    · revert k; decide
    · revert k a; decide
    · revert k a; decide
    · revert a r; decide

def tokOf (ct : Dev nD × Tk) : GSem nD τ sig × ℕ × Fin 3 := match ct.2 with
  | .bar k => (cell (pr k ct.1) .bar, 0, k)
  | .snd k a => (cell ct.1 (.snd k a), 0, 0)
  | .rcv k a => (cell (pr k ct.1) (.rcv k a), 0, 0)
  | .loc a r => (cell ct.1 (.loc a), r.val, 0)

theorem tokOf_inj : Function.Injective tokOf := by
  rintro ⟨c, s⟩ ⟨d, t⟩ h
  have h1 := congrArg Prod.fst h
  have h2 := congrArg (fun x => x.2.1) h
  have h3 := congrArg (fun x => x.2.2) h
  rcases s with k | ⟨k, a⟩ | ⟨k, a⟩ | ⟨a, r⟩ <;> rcases t with l | ⟨l, b⟩ | ⟨l, b⟩ | ⟨b, r'⟩ <;>
    dsimp only [tokOf] at h1 h2 h3 <;> obtain ⟨h4, h5⟩ := cell_inj h1 <;>
    first
    | (exfalso; simp at h5; done)
    | skip
  · subst h3; rw [pr_inj _ h4]
  · cases h5; subst h4; rfl
  · cases h5; rw [pr_inj _ h4]
  · cases h5; cases Fin.ext h2; subst h4; rfl

theorem cellP_inj : Function.Injective (fun ck : Dev nD × Kd => cell ck.1 ck.2) := by
  rintro ⟨c, k⟩ ⟨d, l⟩ h
  obtain ⟨rfl, rfl⟩ := cell_inj h
  rfl

def allCells : Finset (GSem nD τ sig) := Finset.univ.map ⟨fun ck : Dev nD × Kd => cell ck.1 ck.2, cellP_inj⟩
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

abbrev tokens (c : Dev nD) : sProp 𝕄 := bigSep Finset.univ fun t : Tk => dutyTok ER (tokOf (c, t)).1 (tokOf (c, t)).2.1 (tokOf (c, t)).2.2
abbrev posns (c : Dev nD) : sProp 𝕄 := bigSep Finset.univ fun k : Kd => atPos ER (cell c k) 0 ∅ 0

/-- What the launch deals a device, -/
def G (c : Dev nD) : sProp 𝕄 :=
  iprop((bigSep Finset.univ fun k : Kd => roundState ER (Rd m) (cell c k) 0)
    ∗ (bigSep Finset.univ fun k : Kd => iprop(atPos ER (cell c k) 0 ∅ 0 ∗ reached ER (cell c k) 0)) ∗ tokens c)
/-- and what the device makes of it with all the others. -/
def G' (c : Dev nD) : sProp 𝕄 := iprop((∃ K, records m K) ∗ posns c ∗ tokens c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (cell c k) := by
    unfold allCells; rw [bigSep_map, bigSep_univ_prod]; rfl
  have hT : bigSep allToks (fun x => (dutyTok ER x.1 x.2.1 x.2.2 : sProp 𝕄)) = bigSep Finset.univ fun c : Dev nD => tokens c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

def osem (i : Fin 14) : SemLoc sig := .dma ⟨20 + i.val, by show _ < 34; omega⟩
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (cell c (.snd 0 0)) 0 ∗ semVal (cell c (.snd 0 1)) 0 ∗ semVal (cell c (.snd 1 0)) 0 ∗ semVal (cell c (.snd 1 1)) 0 ∗ semVal (cell c (.snd 2 0)) 0 ∗ semVal (cell c (.snd 2 1)) 0 ∗ semVal (cell c (.rcv 0 0)) 0 ∗ semVal (cell c (.rcv 0 1)) 0 ∗ semVal (cell c (.rcv 1 0)) 0 ∗ semVal (cell c (.rcv 1 1)) 0 ∗ semVal (cell c (.rcv 2 0)) 0 ∗ semVal (cell c (.rcv 2 1)) 0 ∗ semVal (cell c (.loc 0)) 0 ∗ semVal (cell c (.loc 1)) 0) := by
  rw [Pipeline.ownSems0_eq_of_list c osem [0, 1, 2, 3, 4, 5, 6, 7, 8, 9, 10, 11, 12, 13] (by decide) (by decide)]; rfl
theorem unscopedSems0_eq (c : Dev nD) : (unscopedSems0 c : sProp 𝕄) = semVal (cell c .bar) 0 := by
  unfold unscopedSems0; rw [bigSep_eq_bigSepL_of_eq [SemLoc.reg barS] (by decide) (by decide)]; rfl
theorem bigSep_Kd (Φ : Kd → sProp 𝕄) : bigSep Finset.univ Φ
    = iprop(Φ .bar ∗ Φ (.snd 0 0) ∗ Φ (.snd 0 1) ∗ Φ (.snd 1 0) ∗ Φ (.snd 1 1) ∗ Φ (.snd 2 0) ∗ Φ (.snd 2 1) ∗ Φ (.rcv 0 0) ∗ Φ (.rcv 0 1) ∗ Φ (.rcv 1 0) ∗ Φ (.rcv 1 1) ∗ Φ (.rcv 2 0) ∗ Φ (.rcv 2 1) ∗ Φ (.loc 0) ∗ Φ (.loc 1)) :=
  bigSep_univ_eq_bigSepL Kd.all (by decide) (by decide) Φ
theorem bigSep_Tk (Φ : Tk → sProp 𝕄) : bigSep Finset.univ Φ
    = iprop(Φ (.bar 0) ∗ Φ (.bar 1) ∗ Φ (.bar 2) ∗ Φ (.snd 0 0) ∗ Φ (.snd 1 0) ∗ Φ (.snd 2 0) ∗ Φ (.snd 0 1) ∗ Φ (.snd 1 1) ∗ Φ (.snd 2 1) ∗ Φ (.rcv 0 0) ∗ Φ (.rcv 1 0) ∗ Φ (.rcv 2 0) ∗ Φ (.rcv 0 1) ∗ Φ (.rcv 1 1) ∗ Φ (.rcv 2 1) ∗ Φ (.loc 0 0) ∗ Φ (.loc 0 1) ∗ Φ (.loc 1 0) ∗ Φ (.loc 1 1)) :=
  bigSep_univ_eq_bigSepL Tk.all (by decide) (by decide) Φ

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (cell c k) 0 : sProp 𝕄) := by
  rw [ownSems0_eq, unscopedSems0_eq, bigSep_Kd]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ tokens c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (cell c k) 0) ∗ bigSep Finset.univ fun k : Kd => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ tokens c) : sProp 𝕄)
      ⊢ bigSep Finset.univ (G' m) := by
  rw [bigSep_sep', bigSep_sep', ← bigSep_univ_prod (fun ck : Dev nD × Kd => iprop(∃ κ : ℕ, cellInv ER (Rd m) κ (cell ck.1 ck.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (κ : ℕ) => (cellInv ER (Rd m) κ (cell ck.1 ck.2) : sProp 𝕄))) $$ HI
  icases HK with ⟨%K, #HI⟩
  iapply (with_persistent (R := records m K) (Φ := fun c => iprop(posns c ∗ tokens c)) fun c _ => by
    unfold G'
    iintro ⟨#HR, HP, HT⟩
    isplitr; · iexists K; iexact HR
    isplitl [HP] <;> iassumption)
  isplitr
  · unfold records; isplitl; · iexact HI
    iexact HR
  · iapply (Entails.of_eq (bigSep_sep' Finset.univ (fun c : Dev nD => (posns c : sProp 𝕄)) tokens).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem tally_peer (c d : Dev nD) (k : Fin 3) (x y : Kd) (n : ℕ) :
    tallyAt (cell (pr k d) x) () n (cell c y) () = if d = pr k c then (if x = y then n else 0) else 0 := by
  rw [tallyAt_apply]
  by_cases hd : d = pr k c
  · subst hd
    rw [pr_pr, if_pos rfl]
    by_cases hx : x = y
    · subst hx; rw [if_pos ⟨rfl, rfl⟩, if_pos rfl]
    · rw [if_neg fun h => hx (cell_inj h.1).2.symm, if_neg hx]
  · rw [if_neg fun h => hd (by rw [(cell_inj h.1).1, pr_pr]), if_neg hd]

theorem owed_bar (c : Dev nD) : ∑ d : Dev nD, O₀ d (cell c .bar) () = 3 := by
  have h (d : Dev nD) : O₀ d (cell c .bar) () = (if d = pr 2 c then 1 else 0) + (if d = pr 1 c then 1 else 0) + (if d = pr 0 c then 1 else 0) := by
    unfold O₀ owe6
    simp only [Pi.add_apply, Finsupp.add_apply, tally_peer, Pi.zero_apply, Finsupp.zero_apply, reduceCtorEq, if_true, if_false, ite_self, Nat.zero_add]
  rw [Finset.sum_congr rfl fun d _ => h d, Finset.sum_add_distrib, Finset.sum_add_distrib]
  simp only [Finset.sum_ite_eq', Finset.mem_univ, if_true]

theorem owed_rcv (c : Dev nD) (k : Fin 3) (a : Fin 2) : ∑ d : Dev nD, O₀ d (cell c (.rcv k a)) () = N := by
  have h (d : Dev nD) : O₀ d (cell c (.rcv k a)) () = if d = pr k c then N else 0 := by
    unfold O₀ owe6
    simp only [Pi.add_apply, Finsupp.add_apply, tally_peer, Pi.zero_apply, Finsupp.zero_apply, reduceCtorEq, if_false, ite_self, Nat.zero_add, Nat.add_zero, Kd.rcv.injEq]
    fin_cases k <;> fin_cases a <;> simp
  rw [Finset.sum_congr rfl fun d _ => h d]
  simp only [Finset.sum_ite_eq', Finset.mem_univ, if_true]

theorem launch_at (c : Dev nD) (k : Kd) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem creds (c : Dev nD) :
    (Pipeline.launchCred O₀ c : sProp 𝕄) ⊢ iprop(cred (tallyAt (cell c .bar) () 3) ∗ all6 fun k a => cred (tallyAt (cell c (.rcv k a)) () N)) := by
  unfold Pipeline.launchCred
  refine (BI.bigSep_subset (Finset.subset_univ (Finset.univ.map ⟨ksem, ksem_inj⟩))).trans (?_ : (_ : sProp 𝕄) ⊢ _)
  rw [bigSep_map, bigSep_Kd]
  dsimp only [Function.Embedding.coeFn_mk, all6]
  rw [launch_at c .bar 3 (owed_bar c), launch_at c (.rcv 0 0) N (owed_rcv c 0 0), launch_at c (.rcv 0 1) N (owed_rcv c 0 1), launch_at c (.rcv 1 0) N (owed_rcv c 1 0), launch_at c (.rcv 1 1) N (owed_rcv c 1 1), launch_at c (.rcv 2 0) N (owed_rcv c 2 0), launch_at c (.rcv 2 1) N (owed_rcv c 2 1)]
  iintro ⟨HB, -, -, -, -, -, -, H00, H01, H10, H11, H20, H21, -, -⟩
  isplitl [HB]; · iexact HB
  isplitl [H00]; · iexact H00
  isplitl [H10]; · iexact H10
  isplitl [H20]; · iexact H20
  isplitl [H01]; · iexact H01
  isplitl [H11]; · iexact H11
  iexact H21

/-! ## From the launch to the first point, and from the last point to the end -/

theorem own_whole {sp : Space} {s : Shape} {e : EltTy} (c : Dev nD) (b : Ref sig .tc) (M : Memref sig .tc sp s e) (X : s.Idx → Elt F e)
    (f : Buf (Elt F) (M.view.loc (c : Thread nD τ))) (hs : M.view.set = Finset.univ) (h : M.view.read (Elt F) f = X) :
    (M.view.loc (c : Thread nD τ) ↦{fullShare} f : sProp 𝕄) ⊢ owns (c : Thread nD τ) M fullShare X := by
  unfold owns
  rw [hs]
  iintro H; iexists f; isplitr
  · ipureintro; exact h
  iexact H

/-- What a device holds of the exchange before it has its scratch. -/
def outset (c : Dev nD) : sProp 𝕄 :=
  iprop(G' m c ∗ levAts L lv ∗ (cred (tallyAt (cell c .bar) () 3) ∗ all6 fun k a => cred (tallyAt (cell c (.rcv k a)) () N))
    ∗ all2 (fun a => owns (c : Thread nD τ) (inM a) fullShare (inX m a c)) ∗ all2 (fun a => iprop(∃ Y, owns (c : Thread nD τ) (outM a) fullShare Y)))

theorem outset_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(outset m c ∗ emp) := by
  rw [Pipeline.unscopedRestP_none, show Pipeline.unscopedRest (Ix := Unit) (Name := ℕ) (U := UU) (Lvl := ℕ) cfg0.spec c (fun b => m ((c : Thread nD τ).loc b)) = _ from unscopedRest0_eq c _]
  iintro ⟨⟨H9, H10, H4, H5⟩, Hlev, Hcr, -, HG⟩
  ihave Hc := (creds (F := F) c) $$ Hcr
  imodintro
  isplitl
  · unfold outset
    isplitl [HG]; · iexact HG
    isplitl [Hlev]; · iexact Hlev
    isplitl [Hc]; · iexact Hc
    isplitl [H9 H10]
    · isplitl [H9]
      · iapply (own_whole c main_arg9 (inM 0) (inX m 0 c) (m _) (View.set_whole _) rfl); iexact H9
      · iapply (own_whole c main_arg10 (inM 1) (inX m 1 c) (m _) (View.set_whole _) rfl); iexact H10
    · isplitl [H4]
      · iexists _; iapply (own_whole c main_v1_4 (outM 0) _ (m _) (View.set_whole _) rfl); iexact H4
      · iexists _; iapply (own_whole c main_v1_5 (outM 1) _ (m _) (View.set_whole _) rfl); iexact H5
  · iempintro

theorem start_intro (c : Dev nD) :
    iprop(outset m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from by
      show (if (0 : ℕ) = 0 then start m c else if (0 : ℕ) < 8 then under m c else over m c) = _
      exact if_pos rfl,
    show (Pipeline.scopedRest (Ix := Unit) (Name := ℕ) (U := UU) (Lvl := ℕ) (Val := Elt F) cfg0.spec c : sProp 𝕄) = _ from scopedRest0_eq c]
  unfold outset G' posns tokens
  rw [bigSep_Kd, bigSep_Tk]
  dsimp only [start, all6, all2, all3, link, home, tokOf]
  iintro ⟨⟨⟨HR, ⟨Pb, Ps00, Ps01, Ps10, Ps11, Ps20, Ps21, Pr00, Pr01, Pr10, Pr11, Pr20, Pr21, Pl0, Pl1⟩, B0, B1, B2, Ts00, Ts10, Ts20, Ts01, Ts11, Ts21, Tr00, Tr10, Tr20, Tr01, Tr11, Tr21, Tl0, Tm0, Tl1, Tm1⟩, Hlev, ⟨Cb, Cr00, Cr10, Cr20, Cr01, Cr11, Cr21⟩, ⟨I0, I1⟩, U0, U1⟩, -, ⟨%f0, S0⟩, ⟨%f1, S1⟩⟩
  isplitl [HR]; · iexact HR
  isplitl [Hlev]; · iexact Hlev
  isplitl [Pb]; · iexact Pb
  isplitl [Cb]; · iexact Cb
  isplitl [B0 B1 B2]
  · isplitl [B0]; · iexact B0
    isplitl [B1] <;> iassumption
  isplitl [Ps00 Pr00 Ts00 Tr00 Cr00 Ps10 Pr10 Ts10 Tr10 Cr10 Ps20 Pr20 Ts20 Tr20 Cr20 Ps01 Pr01 Ts01 Tr01 Cr01 Ps11 Pr11 Ts11 Tr11 Cr11 Ps21 Pr21 Ts21 Tr21 Cr21]
  · isplitl [Ps00 Pr00 Ts00 Tr00 Cr00]
    · isplitl [Ps00]; · iexact Ps00
      isplitl [Pr00]; · iexact Pr00
      isplitl [Ts00]; · iexact Ts00
      isplitl [Tr00]; · iexact Tr00
      iexact Cr00
    isplitl [Ps10 Pr10 Ts10 Tr10 Cr10]
    · isplitl [Ps10]; · iexact Ps10
      isplitl [Pr10]; · iexact Pr10
      isplitl [Ts10]; · iexact Ts10
      isplitl [Tr10]; · iexact Tr10
      iexact Cr10
    isplitl [Ps20 Pr20 Ts20 Tr20 Cr20]
    · isplitl [Ps20]; · iexact Ps20
      isplitl [Pr20]; · iexact Pr20
      isplitl [Ts20]; · iexact Ts20
      isplitl [Tr20]; · iexact Tr20
      iexact Cr20
    isplitl [Ps01 Pr01 Ts01 Tr01 Cr01]
    · isplitl [Ps01]; · iexact Ps01
      isplitl [Pr01]; · iexact Pr01
      isplitl [Ts01]; · iexact Ts01
      isplitl [Tr01]; · iexact Tr01
      iexact Cr01
    isplitl [Ps11 Pr11 Ts11 Tr11 Cr11]
    · isplitl [Ps11]; · iexact Ps11
      isplitl [Pr11]; · iexact Pr11
      isplitl [Ts11]; · iexact Ts11
      isplitl [Tr11]; · iexact Tr11
      iexact Cr11
    isplitl [Ps21]; · iexact Ps21
    isplitl [Pr21]; · iexact Pr21
    isplitl [Ts21]; · iexact Ts21
    isplitl [Tr21]; · iexact Tr21
    iexact Cr21
  isplitl [Pl0 Tl0 Tm0 S0 Pl1 Tl1 Tm1 S1]
  · isplitl [Pl0 Tl0 Tm0 S0]
    · isplitl [Pl0]; · iexact Pl0
      isplitl [Tl0]; · iexact Tl0
      isplitl [Tm0]; · iexact Tm0
      iexists _; iapply (own_whole c cc0_scratch3 (bM 0) _ f0 (View.set_whole _) rfl); iexact S0
    · isplitl [Pl1]; · iexact Pl1
      isplitl [Tl1]; · iexact Tl1
      isplitl [Tm1]; · iexact Tm1
      iexists _; iapply (own_whole c cc0_scratch4 (bM 1) _ f1 (View.set_whole _) rfl); iexact S1
  isplitl [I0 I1]
  · isplitl [I0] <;> iassumption
  isplitl [U0] <;> iassumption

/-- What a device has at the end besides its windows' arrays. -/
def ended (c : Dev nD) : sProp 𝕄 :=
  iprop(unscopedSems0 c ∗ all2 fun a => iprop(owns (c : Thread nD τ) (inM a) fullShare (inX m a c) ∗ owns (c : Thread nD τ) (outM a) fullShare (outX m a c)))

theorem own_buf {s : Shape} {e : EltTy} {sp : Space} (c : Dev nD) (M : Memref sig .tc sp s e) (X : s.Idx → Elt F e) (hs : M.view.set = Finset.univ) :
    owns (c : Thread nD τ) M fullShare X ⊢ (iprop(∃ f : Buf (Elt F) (M.view.loc (c : Thread nD τ)), ⌜M.view.read (Elt F) f = X⌝ ∗ (M.view.loc (c : Thread nD τ) ↦{fullShare} f)) : sProp 𝕄) := by
  unfold owns
  rw [hs]

theorem exit (c : Dev nD) :
    (dats m 0 c).Φ (Fin.last cfg0.N) ⊢ iprop(ended m c ∗ Pipeline.ownSems0 osem c ∗ Pipeline.scopedRest cfg0.spec c) := by
  rw [show (dats m 0 c).Φ (Fin.last cfg0.N) = over m c from by
      show (if cfg0.N = 0 then start m c else if cfg0.N < 8 then under m c else over m c) = _
      rw [show cfg0.N = 8 from N_0, if_neg (by decide), if_neg (by decide)],
    show (Pipeline.scopedRest (Ix := Unit) (Name := ℕ) (U := UU) (Lvl := ℕ) (Val := Elt F) cfg0.spec c : sProp 𝕄) = _ from scopedRest0_eq c,
    ownSems0_eq]
  unfold ended
  rw [unscopedSems0_eq]
  dsimp only [over, all6, all2]
  iintro ⟨HB, ⟨⟨S00, R00⟩, ⟨S10, R10⟩, ⟨S20, R20⟩, ⟨S01, R01⟩, ⟨S11, R11⟩, ⟨S21, R21⟩⟩, ⟨L0, I0, U0, ⟨%Y0, B0⟩⟩, ⟨L1, I1, U1, ⟨%Y1, B1⟩⟩⟩
  isplitl [HB I0 U0 I1 U1]
  · isplitl [HB]; · iexact HB
    isplitl [I0 U0]
    · isplitl [I0] <;> iassumption
    · isplitl [I1] <;> iassumption
  isplitl [S00 R00 S10 R10 S20 R20 S01 R01 S11 R11 S21 R21 L0 L1]
  · isplitl [S00]; · iexact S00
    isplitl [S01]; · iexact S01
    isplitl [S10]; · iexact S10
    isplitl [S11]; · iexact S11
    isplitl [S20]; · iexact S20
    isplitl [S21]; · iexact S21
    isplitl [R00]; · iexact R00
    isplitl [R01]; · iexact R01
    isplitl [R10]; · iexact R10
    isplitl [R11]; · iexact R11
    isplitl [R20]; · iexact R20
    isplitl [R21]; · iexact R21
    isplitl [L0]; · iexact L0
    iexact L1
  ihave B0 := own_buf c (bM 0) Y0 (View.set_whole _) $$ B0
  icases B0 with ⟨%f0, -, B0⟩
  ihave B1 := own_buf c (bM 1) Y1 (View.set_whole _) $$ B1
  icases B1 with ⟨%f1, -, B1⟩
  isplitl [B0]
  · iexists f0; iexact B0
  · iexists f1; iexact B1

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      show (if t.val = 0 then O₀ c else 0) = _ ∨ (if t.val = 0 then O₀ c else 0) = _
      by_cases h : t.val = 0
      · exact Or.inl (if_pos h)
      · exact Or.inr (if_neg h))

theorem share_eq (c : Dev nD) (w : Fin cfg0.W) : (dats m 0 c).share w = fullShare := by unfold Dat.share; split <;> rfl

theorem owed_first (c : Dev nD) : (dats m 0 c).owed 0 = O₀ c := by
  show (if (0 : ℕ) = 0 then O₀ c else 0) = _
  exact if_pos rfl
theorem owed_last (c : Dev nD) : (dats m 0 c).owed (Fin.last cfg0.N) = 0 := by
  show (if cfg0.N = 0 then O₀ c else 0) = 0
  rw [show cfg0.N = 8 from N_0]
  exact if_neg (by decide)

/-! ## The run -/

/-- What the memory says of the exchange at the end. -/
def Moved (c : Dev nD) (s : MemSt nD τ sig (Elt F)) : Prop :=
  ∀ a, (inM a).view.read (Elt F) (s.mem ((inM a).view.loc (c : Thread nD τ))) = inX m a c
    ∧ (outM a).view.read (Elt F) (s.mem ((outM a).view.loc (c : Thread nD τ))) = outX m a c

theorem own_says {s : Shape} {e : EltTy} {sp : Space} (c : Dev nD) (M : Memref sig .tc sp s e) (X : s.Idx → Elt F e) (hs : M.view.set = Finset.univ)
    (s' : Phys nD τ sig (Elt F)) :
    iprop(owns (c : Thread nD τ) M fullShare X ∗ SI s') ⊢ (iprop(⌜M.view.read (Elt F) (s'.mem.mem (M.view.loc (c : Thread nD τ))) = X⌝ ∗ SI s') : sProp 𝕄) := by
  iintro ⟨H, HSI⟩
  ihave H := own_buf c M X hs $$ H
  icases H with ⟨%f, %hf, H⟩
  ihave H := (pointsTo_read_all (I := Unit) {()} (fun _ => M.view.loc (c : Thread nD τ)) (fun _ => f) s') $$ [H HSI]
  · isplitl [H]
    · rw [bigSep_singleton]; iexact H
    iexact HSI
  icases H with ⟨%h, HSI⟩
  isplitr
  · ipureintro; rw [h () (Finset.mem_singleton_self ())]; exact hf
  iexact HSI

theorem ended_says (c : Dev nD) (s' : Phys nD τ sig (Elt F)) :
    iprop(ended m c ∗ emp ∗ SI s') ⊢ (|={Set.univ}=> iprop(⌜(∀ sm : SemLoc sig, sm.isScoped .tc = false → s'.mem.sem ((c.tc : Thread nD τ), sm) = 0) ∧ Moved m c s'.mem⌝ ∗ SI s') : sProp 𝕄) := by
  unfold ended
  dsimp only [all2]
  iintro ⟨⟨Hu, ⟨I0, U0⟩, ⟨I1, U1⟩⟩, -, HSI⟩
  ihave H := own_says c (inM 0) _ (View.set_whole _) s' $$ [I0 HSI]
  · isplitl [I0] <;> iassumption
  icases H with ⟨%h0, HSI⟩
  ihave H := own_says c (outM 0) _ (View.set_whole _) s' $$ [U0 HSI]
  · isplitl [U0] <;> iassumption
  icases H with ⟨%k0, HSI⟩
  ihave H := own_says c (inM 1) _ (View.set_whole _) s' $$ [I1 HSI]
  · isplitl [I1] <;> iassumption
  icases H with ⟨%h1, HSI⟩
  ihave H := own_says c (outM 1) _ (View.set_whole _) s' $$ [U1 HSI]
  · isplitl [U1] <;> iassumption
  icases H with ⟨%k1, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨hs, fun a => by
      match a with
      | 0 => exact ⟨h0, k0⟩
      | 1 => exact ⟨h1, k1⟩⟩
  iexact HSI

/-- From any memory with zero counters, every fair execution of the call on the eight devices ends, with every counter
    at zero, every window's array at what the points left and the exchange done. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = (dats m 0 c).arrAt w cfg0.N) ∧ Moved m c r.2)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := owed_first m) (howedN := owed_last m)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := outset m) (Y := ended m) (Z := fun _ => iprop(emp))
    (hX := outset_intro m ρ) (hin := start_intro m) (hout := exit m)
    (QY := fun c s => (∀ sm : SemLoc sig, sm.isScoped .tc = false → s.sem ((c.tc : Thread nD τ), sm) = 0) ∧ Moved m c s)
    (hY := ended_says m)
    (hQ := fun _ h hs => ⟨fun c => ⟨fun w => (h c).1 w, (h c).2.2.2⟩, sem_eq_zero hs fun c => (h c).2.2.1⟩)

end Cert.UpProof
-- ==== Proof.UpFrame.lean ====
/-
  What the call leaves on every device, argument by argument and result by result, and the two frames. The program and its
  idealization have the same text, so one run, over every float, gives both.
-/
module

public import proofs.«01_k».proof.Defs
public import proofs.«01_k».proof.Proof.Gen.Kernel4
public import proofs.«01_k».proof.Proof.Gen.Kernel4Ideal
public import proofs.«01_k».proof.Proof.UpLaunch

@[expose] public section

noncomputable section

namespace Cert.UpProof

open Idealize.ShloMosaic Idealize.ShloMosaic.TcCoe Idealize.SL.Sem
open Cert.Kernel4Ideal Cert.Kernel4Ideal.Gen

variable {F : FTy → Type} [FloatOps F]
variable (m : (ℓ : Loc nD τ sig) → Buf (Elt F) ℓ) (ρ : Dev nD → PrngReg)

/-- The arguments of the call on a device are what they were. -/
def Kept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

/-- The results of the call on a device: the four computed arrays, and the two gathered ones. -/
def Left (c : Dev nD) (s : MemSt nD τ sig (Elt F)) : Prop :=
  s.mem ((c.tc : Thread nD τ).loc main_v1_0) = (dats m 0 c).arrAt 9 cfg0.N
  ∧ s.mem ((c.tc : Thread nD τ).loc main_v1_1) = (dats m 0 c).arrAt 10 cfg0.N
  ∧ s.mem ((c.tc : Thread nD τ).loc main_v1_2) = (dats m 0 c).arrAt 11 cfg0.N
  ∧ s.mem ((c.tc : Thread nD τ).loc main_v1_3) = (dats m 0 c).arrAt 12 cfg0.N
  ∧ s.mem ((c.tc : Thread nD τ).loc main_v1_4) = outX m 0 c
  ∧ s.mem ((c.tc : Thread nD τ).loc main_v1_5) = outX m 1 c

theorem run_left : θ_run defs (onTc (τ := τ) (main (F := F))) ⟨m, fun _ => 0, ρ⟩
    (fun r => (∀ c : Dev nD, Left m c r.2 ∧ Kept m c r.2) ∧ r.2.sem = fun _ => 0) := by
  refine (θ_run defs _ _).mono (fun r h => ⟨fun c => ?_, h.2⟩) (run_main m ρ)
  obtain ⟨hw, hm⟩ := h.1 c
  refine ⟨⟨hw 9, hw 10, hw 11, hw 12, (hm 0).2, (hm 1).2⟩, ?_⟩
  exact ⟨(hw 0).trans (((dats m 0 c).arrAt_in 0 rfl _).trans (A_eq m c 0)),
    (hw 1).trans (((dats m 0 c).arrAt_in 1 rfl _).trans (A_eq m c 1)),
    (hw 2).trans (((dats m 0 c).arrAt_in 2 rfl _).trans (A_eq m c 2)),
    (hw 3).trans (((dats m 0 c).arrAt_in 3 rfl _).trans (A_eq m c 3)),
    (hw 4).trans (((dats m 0 c).arrAt_in 4 rfl _).trans (A_eq m c 4)),
    (hw 5).trans (((dats m 0 c).arrAt_in 5 rfl _).trans (A_eq m c 5)),
    (hw 6).trans (((dats m 0 c).arrAt_in 6 rfl _).trans (A_eq m c 6)),
    (hw 7).trans (((dats m 0 c).arrAt_in 7 rfl _).trans (A_eq m c 7)),
    (hw 8).trans (((dats m 0 c).arrAt_in 8 rfl _).trans (A_eq m c 8)),
    (hm 0).1, (hm 1).1⟩

theorem frame_ideal : Cert.quiescent_Kernel4Ideal := fun m ρ _ =>
  (θ_run Cert.Kernel4Ideal.defs _ _).mono (fun _ h => ⟨fun c => (h.1 c).2, h.2⟩) (run_left (F := Ideal) m ρ)

/-- The two programs' bodies are one text. -/
theorem body_eq (i : grid0.Coords) (arg1 : Memref sig .tc .vmem S512x2816 .bf16) (harg1 : arg1.IsWhole) (arg2 : Memref sig .tc .vmem S512x2816 .bf16) (harg2 : arg2.IsWhole) (arg3 : Memref sig .tc .vmem S8x352x1024 .bf16) (harg3 : arg3.IsWhole) (arg4 : Memref sig .tc .vmem S8x352x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .hbm S4x352x1024 .bf16) (harg10 : arg10.IsWhole) (arg11 : Memref sig .tc .hbm S4x352x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S8x128 .f32) (harg14 : arg14.IsWhole) (arg15 : Memref sig .tc .vmem S8x128 .f32) (harg15 : arg15.IsWhole) (arg16 : Memref sig .tc .hbm S4x352x1024 .bf16) (harg16 : arg16.IsWhole) (arg17 : Memref sig .tc .hbm S4x352x1024 .bf16) (harg17 : arg17.IsWhole) (arg18 : DmaSems sig S6) (arg19 : DmaSems sig S6) (arg20 : DmaSems sig S2) (arg21 : Memref sig .tc .vmem S352x1024 .bf16) (harg21 : arg21.IsWhole) (arg22 : Memref sig .tc .vmem S352x1024 .bf16) (harg22 : arg22.IsWhole) :
    Cert.Kernel4.cc0_ffn_up_bwd (F := Bits) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 harg21 arg22 harg22 = Cert.Kernel4Ideal.cc0_ffn_up_bwd (F := Bits) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 harg21 arg22 harg22 := rfl

theorem defs₀_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) =>
    exact body_eq (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (Memref.whole main_arg9) (Memref.isWhole_whole _) (Memref.whole main_arg10) (Memref.isWhole_whole _) (win0_9.stage (s 9)) (hstage0_9 ((s 9).cast nbuf0_9)) (win0_10.stage (s 10)) (hstage0_10 ((s 10).cast nbuf0_10)) (win0_11.stage (s 11)) (hstage0_11 ((s 11).cast nbuf0_11)) (win0_12.stage (s 12)) (hstage0_12 ((s 12).cast nbuf0_12)) (Memref.whole main_v1_4) (Memref.isWhole_whole _) (Memref.whole main_v1_5) (Memref.isWhole_whole _) cc0_scratch0 cc0_scratch1 cc0_scratch2 (Memref.whole cc0_scratch3) (Memref.isWhole_whole _) (Memref.whole cc0_scratch4) (Memref.isWhole_whole _)

theorem frame_kernel : Cert.quiescent_Kernel4 := by
  intro m ρ _
  unfold Cert.Kernel4.defs
  rw [defs₀_eq]
  exact (θ_run (Cert.Kernel4Ideal.defs (F := Bits)) (onTc (τ := τ) (Cert.Kernel4Ideal.main (F := Bits))) ⟨m, fun _ => 0, ρ⟩).mono
    (fun r h => ⟨fun c => (h.1 c).2, h.2⟩) (run_left (F := Bits) m ρ)

end Cert.UpProof
-- ==== Proof.UpSpec.lean ====
/-
  The backward pass of the two normed projections into the feed-forward layer, as plain mathematics over the extended reals:
  one token at a time, then summed over the tokens where a gain's gradient asks for it.
-/
module

public import proofs.«01_k».proof.Proof.NormMath

@[expose] public section

noncomputable section

open Idealize.ShloMosaic

namespace Cert.Up

abbrev Row : Type := Fin 1024 → EReal
abbrev Hid : Type := Fin 2816 → EReal
abbrev Mat : Type := Fin 2816 → Fin 1024 → EReal

/-- The gradient of a token's normed row: what comes back through the gate, and what comes back through the up projection. -/
def dh (a b : Hid) (p q : Mat) (d : Fin 1024) : EReal := ∑ x : Fin 2816, a x * p x d + ∑ x : Fin 2816, b x * q x d

/-- A row's gradient before its gain. -/
abbrev gained (n g : Row) : Row := fun k => n k * g k

/-- The gradient of the residual stream: what comes past the layer, and what comes through the norm. -/
def dx (n x g dy : Row) (d : Fin 1024) : EReal := dy d + Cert.Norm.rowGrad x (gained n g) d

/-- The gradient of the mixer's output, which is normed and gained before it is added to the stream. -/
def dm (n v g : Row) (d : Fin 1024) : EReal := Cert.Norm.rowGrad v (gained n g) d

/-- A token's term of a gain's gradient. -/
def dgTerm (n v : Row) (d : Fin 1024) : EReal := n d * (v d * Cert.Norm.rstd v)

/-- The residual stream's gradient with the norm's part in the order that differentiation leaves it. -/
theorem dx_eq (n x g dy : Row) (d : Fin 1024) :
    dx n x g dy d = dy d + (gained n g d * Cert.Norm.rstd x + x d * Cert.Norm.scaleGrad x (gained n g)
      + Cert.Norm.scaleGrad x (gained n g) * x d) := congrArg (dy d + ·) (Cert.Norm.rowGrad_eq _ _ d)

theorem dm_eq (n v g : Row) (d : Fin 1024) :
    dm n v g d = gained n g d * Cert.Norm.rstd v + v d * Cert.Norm.scaleGrad v (gained n g)
      + Cert.Norm.scaleGrad v (gained n g) * v d := Cert.Norm.rowGrad_eq _ _ d

end Cert.Up
-- ==== Proof.UpArrays.lean ====
/-
  The four arrays that the call computes, as the plain mathematics of its arguments.
-/
module

public import proofs.«01_k».proof.Proof.UpSpec
public import proofs.«01_k».proof.Proof.UpRun
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.UpProof

open Cert.Kernel4Ideal Cert.Kernel4Ideal.Gen

variable (m : (ℓ : Loc nD τ sig) → Buf (Elt Ideal) ℓ) (c : Dev nD)

abbrev A2816 : Type := (⟨2, ![4096, 2816]⟩ : Shape).Idx → EReal
abbrev A1024 : Type := (⟨2, ![4096, 1024]⟩ : Shape).Idx → EReal
abbrev W3 : Type := (⟨3, ![8, 352, 1024]⟩ : Shape).Idx → EReal
abbrev G1 : Type := (⟨2, ![1, 1024]⟩ : Shape).Idx → EReal

abbrev gateA : A2816 := m ((c : Thread nD τ).loc main_arg0)
abbrev upA : A2816 := m ((c : Thread nD τ).loc main_arg1)
abbrev wgA : W3 := m ((c : Thread nD τ).loc main_arg2)
abbrev wuA : W3 := m ((c : Thread nD τ).loc main_arg3)
abbrev xA : A1024 := m ((c : Thread nD τ).loc main_arg4)
abbrev gfA : G1 := m ((c : Thread nD τ).loc main_arg5)
abbrev dyA : A1024 := m ((c : Thread nD τ).loc main_arg6)
abbrev mixA : A1024 := m ((c : Thread nD τ).loc main_arg7)
abbrev gmA : G1 := m ((c : Thread nD τ).loc main_arg8)

/-- A projection's eight pieces, one under the other. -/
abbrev stack (w : W3) : Cert.Up.Mat := fun x d => w (ix3 ⟨x.val / 352, by omega⟩ ⟨x.val % 352, by omega⟩ d)

/-- The gradient of a token's normed row. -/
abbrev dhA (r : Fin 4096) : Cert.Up.Row :=
  Cert.Up.dh (fun k => gateA m c (ix2 r k)) (fun k => upA m c (ix2 r k)) (stack (wgA m c)) (stack (wuA m c))
abbrev xRow (r : Fin 4096) : Cert.Up.Row := fun k => xA m c (ix2 r k)
abbrev mixRow (r : Fin 4096) : Cert.Up.Row := fun k => mixA m c (ix2 r k)
/-- A token's gradients, of the residual stream and of the mixer's output. -/
abbrev dxA (r : Fin 4096) : Cert.Up.Row :=
  Cert.Up.dx (dhA m c r) (xRow m c r) (fun k => gfA m c (ix2 0 k)) (fun k => dyA m c (ix2 r k))
abbrev dmA (r : Fin 4096) : Cert.Up.Row := Cert.Up.dm (dxA m c r) (mixRow m c r) (fun k => gmA m c (ix2 0 k))

/-! ## The blocks a point reads -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

theorem pt_lt (t : Fin cfg0.N) : t.val < 8 := lt_of_lt_of_eq t.isLt N_0

/-- The token that a block's row is at a point. -/
abbrev row (t : Fin cfg0.N) (r : Fin 512) : Fin 4096 := ⟨t.val * 512 + r.val, by have := pt_lt t; omega⟩

theorem blk_gate (t : Fin cfg0.N) (r : Fin 512) (k : Fin 2816) :
    (iblk m c 0 t : Vec Ideal S512x2816 .bf16) (ix2 r k) = gateA m c (ix2 (row t r) k) := by
  blk_ext! [iblk, V, idx0 t]

theorem blk_up (t : Fin cfg0.N) (r : Fin 512) (k : Fin 2816) :
    (iblk m c 1 t : Vec Ideal S512x2816 .bf16) (ix2 r k) = upA m c (ix2 (row t r) k) := by
  blk_ext! [iblk, V, idx1 t]

theorem blk_wg (t : Fin cfg0.N) (i : Fin 8) (j : Fin 352) (d : Fin 1024) :
    (iblk m c 2 t : Vec Ideal S8x352x1024 .bf16) (ix3 i j d) = wgA m c (ix3 i j d) := by
  blk_ext! [iblk, V, idx2 t]

theorem blk_wu (t : Fin cfg0.N) (i : Fin 8) (j : Fin 352) (d : Fin 1024) :
    (iblk m c 3 t : Vec Ideal S8x352x1024 .bf16) (ix3 i j d) = wuA m c (ix3 i j d) := by
  blk_ext! [iblk, V, idx3 t]

theorem blk_x (t : Fin cfg0.N) (r : Fin 512) (k : Fin 1024) :
    (iblk m c 4 t : Vec Ideal S512x1024 .f32) (ix2 r k) = xA m c (ix2 (row t r) k) := by
  blk_ext! [iblk, V, idx4 t]

theorem blk_gf (t : Fin cfg0.N) (k : Fin 1024) :
    (iblk m c 5 t : Vec Ideal S1x1024 .f32) (ix2 0 k) = gfA m c (ix2 0 k) := by
  blk_ext! [iblk, V, idx5 t]

theorem blk_dy (t : Fin cfg0.N) (r : Fin 512) (k : Fin 1024) :
    (iblk m c 6 t : Vec Ideal S512x1024 .f32) (ix2 r k) = dyA m c (ix2 (row t r) k) := by
  blk_ext! [iblk, V, idx6 t]

theorem blk_mix (t : Fin cfg0.N) (r : Fin 512) (k : Fin 1024) :
    (iblk m c 7 t : Vec Ideal S512x1024 .f32) (ix2 r k) = mixA m c (ix2 (row t r) k) := by
  blk_ext! [iblk, V, idx7 t]

theorem blk_gm (t : Fin cfg0.N) (k : Fin 1024) :
    (iblk m c 8 t : Vec Ideal S1x1024 .f32) (ix2 0 k) = gmA m c (ix2 0 k) := by
  blk_ext! [iblk, V, idx8 t]

/-! ## A point's blocks -/

theorem dh_apply (t : Fin cfg0.N) (r : Fin 512) (d : Fin 1024) :
    k0_pay3 (iblk m c 0 t) (iblk m c 2 t) (iblk m c 1 t) (iblk m c 3 t) (ix2 r d) = dhA m c (row t r) d := by
  pointwise [k0_pay3]
  simp only [blk_gate, blk_up, blk_wg, blk_wu]
  rfl

theorem dx_apply (t : Fin cfg0.N) (r : Fin 512) (d : Fin 1024) : dxAt m c t (ix2 r d) = dxA m c (row t r) d := by
  have h : ∀ k, k0_pay3 (iblk m c 0 t) (iblk m c 2 t) (iblk m c 1 t) (iblk m c 3 t) (ix2 r k) = _ := dh_apply m c t r
  unfold dxAt dxOf
  generalize k0_pay3 (iblk m c 0 t) (iblk m c 2 t) (iblk m c 1 t) (iblk m c 3 t) = p at h ⊢
  pointwise [k0_pay8, k0_pay7, k0_pay6, k0_pay5, k0_pay4, c1024]
  simp only [h, blk_x, blk_gf, blk_dy]
  rfl

theorem dm_apply (t : Fin cfg0.N) (r : Fin 512) (d : Fin 1024) : dmAt m c t (ix2 r d) = dmA m c (row t r) d := by
  have h := dx_apply m c t r
  unfold dmAt dmOf
  generalize dxAt m c t = p at h ⊢
  pointwise [k0_pay13, k0_pay12, k0_pay11, k0_pay10]
  simp only [h, blk_mix, blk_gm]
  rfl

/-! ## The sums over the points -/

/-- The gain that an element of the laid-out row is. -/
abbrev lane (i : S8x128.Idx) : Fin 1024 := ⟨(i 0).val * 128 + (i 1).val, by
    have h0 : (i 0).val < 8 := (i 0).isLt
    have h1 : (i 1).val < 128 := (i 1).isLt
    omega⟩

/-- A row of sums laid out in eight rows of lanes: the sum over the rows, added to what was there. -/
theorem pay9_apply (v x : FVec Ideal S512x1024 .f32) (s : FVec Ideal S512x1 .f32) (k : Ideal .f32) (a : Vec Ideal S8x128 .f32) (r : Fin 8) (d : Fin 128) :
    k0_pay9 v x s k a (ix2 r d) = a (ix2 r d) + ∑ y : Fin 512, v (ix2 y ⟨r.val * 128 + d.val, by omega⟩)
      * k0_pay7 x s k (ix2 y ⟨r.val * 128 + d.val, by omega⟩) := by
  pointwise [k0_pay9, k0_pay7]
  refine congrArg (a (ix2 r d) + ·) ?_
  fin_cases r <;> simp

theorem pay14_apply (v x : FVec Ideal S512x1024 .f32) (a : Vec Ideal S8x128 .f32) (r : Fin 8) (d : Fin 128) :
    k0_pay14 v x a (ix2 r d) = a (ix2 r d) + ∑ y : Fin 512, v (ix2 y ⟨r.val * 128 + d.val, by omega⟩)
      * k0_pay12 x (ix2 y ⟨r.val * 128 + d.val, by omega⟩) := by
  pointwise [k0_pay14, k0_pay12]
  refine congrArg (a (ix2 r d) + ·) ?_
  fin_cases r <;> simp

theorem pay1_apply (j : S8x128.Idx) : k0_pay1 (F := Ideal) j = 0 := by
  pointwise [k0_pay1]

theorem pay2_apply (j : S8x128.Idx) : k0_pay2 (F := Ideal) j = 0 := by
  pointwise [k0_pay2]

theorem nx_apply (t : Fin cfg0.N) (r : Fin 512) (d : Fin 1024) :
    k0_pay7 (k0_pay4 (iblk m c 4 t)) (k0_pay5 (iblk m c 4 t)) c1024 (ix2 r d) = xRow m c (row t r) d * Cert.Norm.rstd (xRow m c (row t r)) := by
  pointwise [k0_pay7, k0_pay6, k0_pay5, k0_pay4, c1024]
  simp only [blk_x]
  rfl

theorem nm_apply (t : Fin cfg0.N) (r : Fin 512) (d : Fin 1024) :
    k0_pay12 (iblk m c 7 t) (ix2 r d) = mixRow m c (row t r) d * Cert.Norm.rstd (mixRow m c (row t r)) := by
  pointwise [k0_pay12, k0_pay11, k0_pay10]
  simp only [blk_mix]
  rfl

def fTerm (t : Fin cfg0.N) (j : S8x128.Idx) : EReal := ∑ y : Fin 512, Cert.Up.dgTerm (dhA m c (row t y)) (xRow m c (row t y)) (lane j)
def mTerm (t : Fin cfg0.N) (j : S8x128.Idx) : EReal := ∑ y : Fin 512, Cert.Up.dgTerm (dxA m c (row t y)) (mixRow m c (row t y)) (lane j)

theorem dgf_apply (t : Fin cfg0.N) (a : Vec Ideal S8x128 .f32) (j : S8x128.Idx) :
    dgfOf (iblk m c 0 t) (iblk m c 1 t) (iblk m c 2 t) (iblk m c 3 t) (iblk m c 4 t) a j = a j + fTerm m c t j := by
  obtain ⟨r, d, rfl⟩ : ∃ (r : Fin 8) (d : Fin 128), j = (ix2 r d : S8x128.Idx) := ⟨j 0, j 1, eq_ix2 j⟩
  unfold dgfOf
  rw [pay9_apply]
  refine congrArg (a (ix2 r d) + ·) (Finset.sum_congr rfl fun y _ => ?_)
  rw [dh_apply, nx_apply]
  rfl

theorem dgm_apply (t : Fin cfg0.N) (a : Vec Ideal S8x128 .f32) (j : S8x128.Idx) :
    dgmOf (dxAt m c t) (iblk m c 7 t) a j = a j + mTerm m c t j := by
  obtain ⟨r, d, rfl⟩ : ∃ (r : Fin 8) (d : Fin 128), j = (ix2 r d : S8x128.Idx) := ⟨j 0, j 1, eq_ix2 j⟩
  unfold dgmOf
  rw [pay14_apply]
  refine congrArg (a (ix2 r d) + ·) (Finset.sum_congr rfl fun y _ => ?_)
  rw [dx_apply, nm_apply]
  rfl

theorem zero_of_mod (t : Fin cfg0.N) (h : t.val % 8 = 0) : t.val = 0 := by have := pt_lt t; omega
theorem pos_of_mod (t : Fin cfg0.N) (h : ¬t.val % 8 = 0) : t.val ≠ 0 := fun e => h (by rw [e])

theorem f_first (t : Fin cfg0.N) (h0 : t.val % 8 = 0) (j : S8x128.Idx) :
    (accAt m c t.val t.isLt).1 j = (0 : EReal) + fTerm m c t j := by
  rw [accAt_zero m c t (zero_of_mod t h0)]
  exact (dgf_apply m c t _ j).trans (by rw [pay1_apply])

theorem m_first (t : Fin cfg0.N) (h0 : t.val % 8 = 0) (j : S8x128.Idx) :
    (accAt m c t.val t.isLt).2 j = (0 : EReal) + mTerm m c t j := by
  rw [accAt_zero m c t (zero_of_mod t h0)]
  exact (dgm_apply m c t _ j).trans (by rw [pay2_apply])

theorem f_next (t : Fin cfg0.N) (h0 : ¬t.val % 8 = 0) (j : S8x128.Idx) :
    (accAt m c t.val t.isLt).1 j = (accAt m c (t.val - 1) (Nat.lt_of_le_of_lt (Nat.sub_le _ _) t.isLt)).1 j + fTerm m c t j := by
  rw [accAt_pos m c t (pos_of_mod t h0)]
  exact dgf_apply m c t _ j

theorem m_next (t : Fin cfg0.N) (h0 : ¬t.val % 8 = 0) (j : S8x128.Idx) :
    (accAt m c t.val t.isLt).2 j = (accAt m c (t.val - 1) (Nat.lt_of_le_of_lt (Nat.sub_le _ _) t.isLt)).2 j + mTerm m c t j := by
  rw [accAt_pos m c t (pos_of_mod t h0)]
  exact dgm_apply m c t _ j

theorem f_sum (t : Fin cfg0.N) (h1 : t.val % 8 = 7) (j : S8x128.Idx) :
    (accAt m c t.val t.isLt).1 j = ∑ r : Fin 4096, Cert.Up.dgTerm (dhA m c r) (xRow m c r) (lane j) := by
  have ht := pt_lt t
  have h := Pipeline.eq_sum_fin_of_reset_step_apply_of_flush (fun n h => (accAt m c n h).1) 8 (fun _ => (0 : EReal)) (fTerm m c)
    (f_first m c) (f_next m c) t h1 j
  rw [zero_add] at h
  refine h.trans ?_
  refine Fin.sum_mul_add_congr (S := 8) (n := 512) fun s r hl => ?_
  have e : 8 * (t.val / 8) + s.val = s.val := by omega
  simp only [row, e]

theorem m_sum (t : Fin cfg0.N) (h1 : t.val % 8 = 7) (j : S8x128.Idx) :
    (accAt m c t.val t.isLt).2 j = ∑ r : Fin 4096, Cert.Up.dgTerm (dxA m c r) (mixRow m c r) (lane j) := by
  have ht := pt_lt t
  have h := Pipeline.eq_sum_fin_of_reset_step_apply_of_flush (fun n h => (accAt m c n h).2) 8 (fun _ => (0 : EReal)) (mTerm m c)
    (m_first m c) (m_next m c) t h1 j
  rw [zero_add] at h
  refine h.trans ?_
  refine Fin.sum_mul_add_congr (S := 8) (n := 512) fun s r hl => ?_
  have e : 8 * (t.val / 8) + s.val = s.val := by omega
  simp only [row, e]

/-! ## The arrays after the run -/

theorem final9 : (dats m 0 c).arrAt 9 cfg0.N = fun i : S4096x1024.Idx => dxA m c (i 0) (i 1) := by
  refine (dats m 0 c).arrAt_eq_of_covers 9 _ (by decide +kernel) fun t hf y => ?_
  obtain ⟨r, f, rfl⟩ : ∃ (r : Fin 512) (f : Fin 1024), y = (ix2 r f : S512x1024.Idx) := ⟨y 0, y 1, (eq_ix2 y)⟩
  blk_simp
  rw [after_9]
  rw [dx_apply m c t r f]
  refine congrArg₂ (dxA m c) (Fin.ext ?_) (Fin.ext ?_) <;> blk_simp [idx9 t]

theorem final10 : (dats m 0 c).arrAt 10 cfg0.N = fun i : S4096x1024.Idx => dmA m c (i 0) (i 1) := by
  refine (dats m 0 c).arrAt_eq_of_covers 10 _ (by decide +kernel) fun t hf y => ?_
  obtain ⟨r, f, rfl⟩ : ∃ (r : Fin 512) (f : Fin 1024), y = (ix2 r f : S512x1024.Idx) := ⟨y 0, y 1, (eq_ix2 y)⟩
  blk_simp
  rw [after_10]
  rw [dm_apply m c t r f]
  refine congrArg₂ (dmA m c) (Fin.ext ?_) (Fin.ext ?_) <;> blk_simp [idx10 t]

theorem final11 : (dats m 0 c).arrAt 11 cfg0.N
    = fun i : S8x128.Idx => ∑ r : Fin 4096, Cert.Up.dgTerm (dhA m c r) (xRow m c r) (lane i) := by
  refine (dats m 0 c).arrAt_eq_of_covers 11 _ (by decide +kernel) fun t hf y => ?_
  have h1 := (flush0_11 t).mp hf
  blk_simp
  rw [after_11]
  rw [f_sum m c t h1 y]
  refine congrArg (fun l : Fin 1024 => ∑ r : Fin 4096, Cert.Up.dgTerm (dhA m c r) (xRow m c r) l) (Fin.ext ?_)
  simp only [lane]
  blk_simp [idx11 t]

theorem final12 : (dats m 0 c).arrAt 12 cfg0.N
    = fun i : S8x128.Idx => ∑ r : Fin 4096, Cert.Up.dgTerm (dxA m c r) (mixRow m c r) (lane i) := by
  refine (dats m 0 c).arrAt_eq_of_covers 12 _ (by decide +kernel) fun t hf y => ?_
  have h1 := (flush0_12 t).mp hf
  blk_simp
  rw [after_12]
  rw [m_sum m c t h1 y]
  refine congrArg (fun l : Fin 1024 => ∑ r : Fin 4096, Cert.Up.dgTerm (dxA m c r) (mixRow m c r) l) (Fin.ext ?_)
  simp only [lane]
  blk_simp [idx12 t]

end Cert.UpProof
-- ==== Proof.UpRef.lean ====
/-
  The reference's results at one token of one device, and the reference's exchange, as the plain mathematics of its
  arguments. The reference keeps the devices' tokens apart in an axis of its own.
-/
module

public import proofs.«01_k».proof.Defs
public import proofs.«01_k».proof.Proof.Gen.Reference4Ideal
public import proofs.«01_k».proof.Proof.Gen.Reference4Ideal.Run
public import proofs.«01_k».proof.Proof.UpSpec
public import Idealize.ShloMosaic.Lib.Pointwise

@[expose] public section

noncomputable section

open Idealize.ShloMosaic Idealize.SL.Sem

namespace Cert.Up

open Cert.Reference4Ideal Cert.Reference4Ideal.Gen

abbrev V3 : Type := FVec Ideal S8x4096x1024 .f32

/-! ## The reference's steps, each once -/

def ms (x : V3) : FVec Ideal S8x4096x1 .f32 :=
  addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))

def nrmF (x : V3) : V3 := broadcastInDim S8x4096x1024 ![0, 1, 2] bcast_S8x4096x1_S8x4096x1024_0_1_2 (Host.rsqrt (ms x))

def withGain (n : V3) (g : FVec Ideal S1x1024 .f32) : V3 :=
  mulf n (broadcastInDim S8x4096x1024 ![0, 1, 2] bcast_S8x1x1024_S8x4096x1024_0_1_2 (broadcastInDim S8x1x1024 ![0, 1, 2] bcast_S1x1x1024_S8x1x1024_0_1_2 (broadcastInDim S1x1x1024 ![1, 2] bcast_S1x1024_S1x1x1024_1_2 g)))

def scl (x n : V3) : V3 :=
  broadcastInDim S8x4096x1024 ![0, 1] bcast_S8x4096_S8x4096x1024_0_1 (Host.reduceAdd (Host.divf (mulf (shapeCast _ (Host.reduceAdd (mulf x n) (constant S_ .f32 0x00000000#32) reducesTo_S8x4096x1024_S8x4096_d2 h_S_) shapeCasts_S8x4096_S8x4096x1) (mulf (broadcastInDim S8x4096x1 ![] bcast_S_S8x4096x1 (constant S_ .f32 0xBF000000#32)) (Host.divf (Host.rsqrt (ms x)) (ms x)))) (broadcastInDim S8x4096x1 ![] bcast_S_S8x4096x1 (constant S_ .f32 0x44800000#32))) (constant S_ .f32 0x00000000#32) reducesTo_S8x4096x1_S8x4096_d2 h_S_)

def dxOf (dy n x : V3) : V3 := addf (addf (addf dy (mulf n (nrmF x))) (mulf x (scl x n))) (mulf (scl x n) x)

def dmOf (n v : V3) : V3 := addf (addf (mulf n (nrmF v)) (mulf v (scl v n))) (mulf (scl v n) v)

def gainOf (v n : V3) : FVec Ideal S64x128 .f32 :=
  shapeCast _ (shapeCast _ (Host.reduceAdd (mulf (mulf v (nrmF v)) n) (constant S_ .f32 0x00000000#32) reducesTo_S8x4096x1024_S8x1024_d1 h_S_) shapeCasts_S8x1024_S8x1x1024) shapeCasts_S8x1x1024_S64x128

def dhOf (a b : FVec Ideal S32768x2816 .bf16) (p q : FVec Ideal S8x352x1024 .bf16) : V3 :=
  addf (Host.dotGeneral dot_S8x4096x2816_S1024x2816_S8x4096x1024_2_1_01_0_n_n none (extf .f32 (shapeCast _ b shapeCasts_S32768x2816_S8x4096x2816) bitsLt_bf16_f32) (transpose S1024x2816 [1, 0] (extf .f32 (shapeCast _ q shapeCasts_S8x352x1024_S2816x1024) bitsLt_bf16_f32) transposes_S2816x1024_S1024x2816_1_0)) (Host.dotGeneral dot_S8x4096x2816_S1024x2816_S8x4096x1024_2_1_01_0_n_n none (extf .f32 (shapeCast _ a shapeCasts_S32768x2816_S8x4096x2816) bitsLt_bf16_f32) (transpose S1024x2816 [1, 0] (extf .f32 (shapeCast _ p shapeCasts_S8x352x1024_S2816x1024) bitsLt_bf16_f32) transposes_S2816x1024_S1024x2816_1_0))

def apart (x : FVec Ideal S32768x1024 .f32) : V3 := shapeCast _ x shapeCasts_S32768x1024_S8x4096x1024
def flat (x : V3) : FVec Ideal S32768x1024 .f32 := shapeCast _ x shapeCasts_S8x4096x1024_S32768x1024
def swap (q : FVec Ideal S32x352x1024 .bf16) : FVec Ideal S32x352x1024 .bf16 :=
  shapeCast _ (transpose S4x2x4x352x1024 [2, 1, 0, 3, 4] (shapeCast _ q shapeCasts_S32x352x1024_S4x2x4x352x1024) transposes_S4x2x4x352x1024_S4x2x4x352x1024_2_1_0_3_4) shapeCasts_S4x2x4x352x1024_S32x352x1024

/-! ## Each step at one place -/

abbrev at3 (x : V3) (a : Fin 8) (r : Fin 4096) : Row := fun k => x (ix3 a r k)

/-- A token of the whole array: the token of a device. -/
abbrev tok (a : Fin 8) (r : Fin 4096) : Fin 32768 := ⟨a.val * 4096 + r.val, by omega⟩

theorem ms_apply (x : V3) (a : Fin 8) (r : Fin 4096) :
    ms x (ix3 a r 0) = Ideal.div (∑ k, x (ix3 a r k) * x (ix3 a r k)) Cert.Norm.width + Cert.Norm.eps := by
  pointwise [ms]

theorem nrmF_apply (x : V3) (a : Fin 8) (r : Fin 4096) (d : Fin 1024) : nrmF x (ix3 a r d) = Cert.Norm.rstd (at3 x a r) := by
  have h := ms_apply x a r
  unfold nrmF
  generalize ms x = y at h ⊢
  pointwise
  rw [h]
  rfl

theorem withGain_apply (n : V3) (g : FVec Ideal S1x1024 .f32) (a : Fin 8) (r : Fin 4096) (d : Fin 1024) :
    withGain n g (ix3 a r d) = gained (at3 n a r) (fun k => g (ix2 0 k)) d := by
  pointwise [withGain]

theorem scl_apply (x n : V3) (a : Fin 8) (r : Fin 4096) (d : Fin 1024) :
    scl x n (ix3 a r d) = Cert.Norm.scaleGrad (at3 x a r) (at3 n a r) := by
  have h := ms_apply x a r
  unfold scl
  generalize ms x = y at h ⊢
  pointwise
  simp only [Finset.univ_unique, Finset.sum_singleton]
  refine Eq.trans ?_ (congrArg (fun z => Ideal.div ((∑ k, x (ix3 a r k) * n (ix3 a r k)) * (Cert.Norm.negHalf * Ideal.div (Ideal.rsqrt z) z)) Cert.Norm.width) h)
  rfl

theorem dxOf_apply (dy n x : V3) (g : FVec Ideal S1x1024 .f32) (a : Fin 8) (r : Fin 4096) (d : Fin 1024) :
    dxOf dy (withGain n g) x (ix3 a r d) = dx (at3 n a r) (at3 x a r) (fun k => g (ix2 0 k)) (at3 dy a r) d := by
  have h1 := nrmF_apply x a r d
  have h2 := scl_apply x (withGain n g) a r d
  have h3 := withGain_apply n g a r
  have h4 : at3 (withGain n g) a r = gained (at3 n a r) (fun k => g (ix2 0 k)) := funext h3
  rw [h4] at h2
  rw [dx_eq]
  show dy (ix3 a r d) + withGain n g (ix3 a r d) * nrmF x (ix3 a r d) + x (ix3 a r d) * scl x (withGain n g) (ix3 a r d)
    + scl x (withGain n g) (ix3 a r d) * x (ix3 a r d) = _
  rw [h1, h2, h3]
  simp only [add_assoc]

theorem dmOf_apply (n v : V3) (g : FVec Ideal S1x1024 .f32) (a : Fin 8) (r : Fin 4096) (d : Fin 1024) :
    dmOf (withGain n g) v (ix3 a r d) = dm (at3 n a r) (at3 v a r) (fun k => g (ix2 0 k)) d := by
  have h1 := nrmF_apply v a r d
  have h2 := scl_apply v (withGain n g) a r d
  have h3 := withGain_apply n g a r
  have h4 : at3 (withGain n g) a r = gained (at3 n a r) (fun k => g (ix2 0 k)) := funext h3
  rw [h4] at h2
  rw [dm_eq]
  show withGain n g (ix3 a r d) * nrmF v (ix3 a r d) + v (ix3 a r d) * scl v (withGain n g) (ix3 a r d)
    + scl v (withGain n g) (ix3 a r d) * v (ix3 a r d) = _
  rw [h1, h2, h3]

theorem dhOf_apply (x y : FVec Ideal S32768x2816 .bf16) (p q : FVec Ideal S8x352x1024 .bf16) (a : Fin 8) (r : Fin 4096) (d : Fin 1024) :
    dhOf x y p q (ix3 a r d) = dh (fun k => x (ix2 (tok a r) k)) (fun k => y (ix2 (tok a r) k))
      (fun k e => p (ix3 ⟨k.val / 352, by omega⟩ ⟨k.val % 352, by omega⟩ e)) (fun k e => q (ix3 ⟨k.val / 352, by omega⟩ ⟨k.val % 352, by omega⟩ e)) d := by
  pointwise [dhOf]
  exact add_comm _ _

theorem apart_apply (x : FVec Ideal S32768x1024 .f32) (a : Fin 8) (r : Fin 4096) (d : Fin 1024) : apart x (ix3 a r d) = x (ix2 (tok a r) d) := by
  pointwise [apart]

theorem flat_apply (x : V3) (a : Fin 8) (r : Fin 4096) (d : Fin 1024) : flat x (ix2 (tok a r) d) = x (ix3 a r d) := by
  pointwise [flat]
  exact congrArg₂ (fun (s : Fin 8) (t : Fin 4096) => x (ix3 s t d))
    (Fin.ext (by show (a.val * 4096 + r.val) / 4096 = a.val; omega)) (Fin.ext (by show (a.val * 4096 + r.val) % 4096 = r.val; omega))

theorem gainOf_apply (v n : V3) (a r : Fin 8) (d : Fin 128) :
    gainOf v n (ix2 ⟨a.val * 8 + r.val, by omega⟩ d)
      = ∑ t : Fin 4096, dgTerm (at3 n a t) (at3 v a t) ⟨r.val * 128 + d.val, by omega⟩ := by
  have h := nrmF_apply v a
  unfold gainOf
  generalize nrmF v = f at h ⊢
  pointwise
  have e : (⟨(a.val * 8 + r.val) % 8 * 128 + d.val, by omega⟩ : Fin 1024) = ⟨r.val * 128 + d.val, by omega⟩ := Fin.ext (by
    show (a.val * 8 + r.val) % 8 * 128 + d.val = r.val * 128 + d.val
    omega)
  refine Finset.sum_congr rfl fun t _ => ?_
  refine (congrArg (fun k : Fin 1024 => v (ix3 a t k) * f (ix3 a t k) * n (ix3 a t k)) e).trans ?_
  show v (ix3 a t _) * f (ix3 a t _) * n (ix3 a t _) = n (ix3 a t _) * (v (ix3 a t _) * Cert.Norm.rstd (at3 v a t))
  rw [h, mul_comm]

theorem swap_apply (q : FVec Ideal S32x352x1024 .bf16) (c : Fin 8) (k : Fin 4) (j : Fin 352) (d : Fin 1024) :
    swap q (ix3 ⟨c.val * 4 + k.val, by omega⟩ j d) = q (ix3 ⟨(2 * k.val + c.val % 2) * 4 + c.val / 2, by omega⟩ j d) := by
  pointwise [swap]
  exact congrArg (fun s : Fin 32 => q (ix3 s j d)) (Fin.ext (by
    show k.val * 8 + (c.val * 4 + k.val) / 4 % 2 * 4 + (c.val * 4 + k.val) / 8 = (2 * k.val + c.val % 2) * 4 + c.val / 2
    omega))

end Cert.Up
-- ==== Proof.UpClaim.lean ====
/-
  The claims about the backward call of the gated projections: the reference's frame, and the equality of the two
  programs' six results, each device's part of the whole.
-/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.UpFrame
public import proofs.«01_k».proof.Proof.UpArrays
public import proofs.«01_k».proof.Proof.UpRef

@[expose] public section

noncomputable section

open Idealize.ShloMosaic Idealize.SL.Sem

namespace Cert.Up

/-! ## A device's part of a whole array, at one place -/

theorem part_2816 (v : (⟨2, ![32768, 2816]⟩ : Shape).Idx → EReal) (c : Fin 8) (r : Fin 4096) (k : Fin 2816) :
    Layout.block ⟨2, ![4096, 2816]⟩ ⟨2, ![32768, 2816]⟩ 0 8 c v (by decide) (ix2 r k) = v (ix2 (tok c r) k) := by
  refine congrArg v (funext fun b => ?_)
  fin_cases b <;> rfl

theorem part_1024 (v : (⟨2, ![32768, 1024]⟩ : Shape).Idx → EReal) (c : Fin 8) (r : Fin 4096) (k : Fin 1024) :
    Layout.block ⟨2, ![4096, 1024]⟩ ⟨2, ![32768, 1024]⟩ 0 8 c v (by decide) (ix2 r k) = v (ix2 (tok c r) k) := by
  refine congrArg v (funext fun b => ?_)
  fin_cases b <;> rfl

theorem part_128 (v : (⟨2, ![64, 128]⟩ : Shape).Idx → EReal) (c : Fin 8) (r : Fin 8) (k : Fin 128) :
    Layout.block ⟨2, ![8, 128]⟩ ⟨2, ![64, 128]⟩ 0 8 c v (by decide) (ix2 r k) = v (ix2 ⟨c.val * 8 + r.val, by omega⟩ k) := by
  refine congrArg v (funext fun b => ?_)
  fin_cases b <;> rfl

theorem part_slot (v : (⟨3, ![32, 352, 1024]⟩ : Shape).Idx → EReal) (c : Fin 8) (q : Fin 4) (j : Fin 352) (d : Fin 1024) :
    Layout.block ⟨3, ![4, 352, 1024]⟩ ⟨3, ![32, 352, 1024]⟩ 0 8 c v (by decide) (ix3 q j d) = v (ix3 ⟨c.val * 4 + q.val, by omega⟩ j d) := by
  refine congrArg v (funext fun b => ?_)
  fin_cases b <;> rfl

/-! ## The reference -/

section Reference

open Cert.Reference4Ideal Cert.Reference4Ideal.Gen

variable (m : (ℓ : Loc nD τ sig) → Buf (Elt Ideal) ℓ) (ρ : Dev nD → PrngReg)

abbrev ra0 : FVec Ideal S32768x2816 .bf16 := m (((0 : Dev nD).tc : Thread nD τ).loc main_arg0)
abbrev ra1 : FVec Ideal S32768x2816 .bf16 := m (((0 : Dev nD).tc : Thread nD τ).loc main_arg1)
abbrev ra2 : FVec Ideal S8x352x1024 .bf16 := m (((0 : Dev nD).tc : Thread nD τ).loc main_arg2)
abbrev ra3 : FVec Ideal S8x352x1024 .bf16 := m (((0 : Dev nD).tc : Thread nD τ).loc main_arg3)
abbrev ra4 : FVec Ideal S32768x1024 .f32 := m (((0 : Dev nD).tc : Thread nD τ).loc main_arg4)
abbrev ra5 : FVec Ideal S1x1024 .f32 := m (((0 : Dev nD).tc : Thread nD τ).loc main_arg5)
abbrev ra6 : FVec Ideal S32768x1024 .f32 := m (((0 : Dev nD).tc : Thread nD τ).loc main_arg6)
abbrev ra7 : FVec Ideal S32768x1024 .f32 := m (((0 : Dev nD).tc : Thread nD τ).loc main_arg7)
abbrev ra8 : FVec Ideal S1x1024 .f32 := m (((0 : Dev nD).tc : Thread nD τ).loc main_arg8)
abbrev ra9 : FVec Ideal S32x352x1024 .bf16 := m (((0 : Dev nD).tc : Thread nD τ).loc main_arg9)
abbrev ra10 : FVec Ideal S32x352x1024 .bf16 := m (((0 : Dev nD).tc : Thread nD τ).loc main_arg10)

def dhR : V3 := dhOf (ra0 m) (ra1 m) (ra2 m) (ra3 m)
def dxR : V3 := dxOf (apart (ra6 m)) (withGain (dhR m) (ra5 m)) (apart (ra4 m))
def dmR : V3 := dmOf (withGain (dxR m) (ra8 m)) (apart (ra7 m))

theorem run :
    θ_run defs (onTc (τ := τ) (main (F := Ideal))) ⟨m, fun _ => 0, ρ⟩ fun r =>
    r.2.mem (((0 : Dev nD).tc : Thread nD τ).loc main_v91) = flat (dxR m)
    ∧ r.2.mem (((0 : Dev nD).tc : Thread nD τ).loc main_v93) = flat (dmR m)
    ∧ r.2.mem (((0 : Dev nD).tc : Thread nD τ).loc main_v94) = gainOf (apart (ra4 m)) (dhR m)
    ∧ r.2.mem (((0 : Dev nD).tc : Thread nD τ).loc main_v95) = gainOf (apart (ra7 m)) (dxR m)
    ∧ r.2.mem (((0 : Dev nD).tc : Thread nD τ).loc main_v98) = swap (ra9 m)
    ∧ r.2.mem (((0 : Dev nD).tc : Thread nD τ).loc main_v101) = swap (ra10 m)
    ∧ r.2.mem (((0 : Dev nD).tc : Thread nD τ).loc main_arg0) = ra0 m
    ∧ r.2.mem (((0 : Dev nD).tc : Thread nD τ).loc main_arg1) = ra1 m
    ∧ r.2.mem (((0 : Dev nD).tc : Thread nD τ).loc main_arg2) = ra2 m
    ∧ r.2.mem (((0 : Dev nD).tc : Thread nD τ).loc main_arg3) = ra3 m
    ∧ r.2.mem (((0 : Dev nD).tc : Thread nD τ).loc main_arg4) = ra4 m
    ∧ r.2.mem (((0 : Dev nD).tc : Thread nD τ).loc main_arg5) = ra5 m
    ∧ r.2.mem (((0 : Dev nD).tc : Thread nD τ).loc main_arg6) = ra6 m
    ∧ r.2.mem (((0 : Dev nD).tc : Thread nD τ).loc main_arg7) = ra7 m
    ∧ r.2.mem (((0 : Dev nD).tc : Thread nD τ).loc main_arg8) = ra8 m
    ∧ r.2.mem (((0 : Dev nD).tc : Thread nD τ).loc main_arg9) = ra9 m
    ∧ r.2.mem (((0 : Dev nD).tc : Thread nD τ).loc main_arg10) = ra10 m := by
  refine (θ_run defs _ _).mono (fun r h => ?_) (Value.run m ρ)
  obtain ⟨e0, e1, e2, e3, e4, e5, rest⟩ := h 0
  exact ⟨e0.trans rfl, e1.trans rfl, e2.trans rfl, e3.trans rfl, e4.trans rfl, e5.trans rfl, rest⟩

/-- The reference runs, keeps its arguments, and ends with every semaphore at zero: it declares none. -/
theorem reference_frame : Cert.quiescent_Reference4Ideal := fun m ρ _ =>
  (θ_run _ _ _).mono (fun r h => ⟨fun c => (h c).2.2.2.2.2.2, sem_eq_zero_of_no_sems (by decide) r.2⟩)
    (Value.run (F := Ideal) m ρ)

end Reference

/-! ## The two programs -/

section Both

open Cert.UpProof

variable (m : (ℓ : Loc Cert.Kernel4Ideal.nD Cert.Kernel4Ideal.τ Cert.Kernel4Ideal.sig) → Buf (Elt Ideal) ℓ)
variable (m' : (ℓ : Loc Cert.Reference4Ideal.nD Cert.Reference4Ideal.τ Cert.Reference4Ideal.sig) → Buf (Elt Ideal) ℓ)

/-- A device of the kernel holds its part of every array cut among the devices, and every other array whole. -/
structure Holds (c : Fin 8) : Prop where
  h0 : gateA m c = Layout.block ⟨2, ![4096, 2816]⟩ ⟨2, ![32768, 2816]⟩ 0 8 c (ra0 m')
  h1 : upA m c = Layout.block ⟨2, ![4096, 2816]⟩ ⟨2, ![32768, 2816]⟩ 0 8 c (ra1 m')
  h2 : wgA m c = ra2 m'
  h3 : wuA m c = ra3 m'
  h4 : xA m c = Layout.block ⟨2, ![4096, 1024]⟩ ⟨2, ![32768, 1024]⟩ 0 8 c (ra4 m')
  h5 : gfA m c = ra5 m'
  h6 : dyA m c = Layout.block ⟨2, ![4096, 1024]⟩ ⟨2, ![32768, 1024]⟩ 0 8 c (ra6 m')
  h7 : mixA m c = Layout.block ⟨2, ![4096, 1024]⟩ ⟨2, ![32768, 1024]⟩ 0 8 c (ra7 m')
  h8 : gmA m c = ra8 m'

variable {m m'} {c : Fin 8} (h : Holds m m' c)
include h

theorem dh_eq (r : Fin 4096) : dhA m c r = at3 (dhR m') c r := by
  funext d
  refine Eq.trans ?_ (dhOf_apply (ra0 m') (ra1 m') (ra2 m') (ra3 m') c r d).symm
  have e0 : (fun k => gateA m c (ix2 r k)) = fun k => ra0 m' (ix2 (tok c r) k) := funext fun k => (congrFun h.h0 _).trans (part_2816 _ c r k)
  have e1 : (fun k => upA m c (ix2 r k)) = fun k => ra1 m' (ix2 (tok c r) k) := funext fun k => (congrFun h.h1 _).trans (part_2816 _ c r k)
  unfold dhA
  rw [e0, e1, h.h2, h.h3]

theorem x_eq (r : Fin 4096) : xRow m c r = at3 (apart (ra4 m')) c r :=
  funext fun k => (congrFun h.h4 _).trans ((part_1024 _ c r k).trans (apart_apply _ c r k).symm)
theorem dy_eq (r : Fin 4096) : (fun k => dyA m c (ix2 r k)) = at3 (apart (ra6 m')) c r :=
  funext fun k => (congrFun h.h6 _).trans ((part_1024 _ c r k).trans (apart_apply _ c r k).symm)
theorem mix_eq (r : Fin 4096) : mixRow m c r = at3 (apart (ra7 m')) c r :=
  funext fun k => (congrFun h.h7 _).trans ((part_1024 _ c r k).trans (apart_apply _ c r k).symm)

theorem dxA_eq (r : Fin 4096) : dxA m c r = at3 (dxR m') c r := by
  funext d
  refine Eq.trans ?_ (dxOf_apply (apart (ra6 m')) (dhR m') (apart (ra4 m')) (ra5 m') c r d).symm
  unfold dxA
  rw [dh_eq h r, x_eq h r, dy_eq h r, h.h5]

theorem dmA_eq (r : Fin 4096) : dmA m c r = at3 (dmR m') c r := by
  funext d
  refine Eq.trans ?_ (dmOf_apply (dxR m') (apart (ra7 m')) (ra8 m') c r d).symm
  unfold dmA
  rw [dxA_eq h r, mix_eq h r, h.h8]

theorem res0 : (dats m 0 c).arrAt 9 Cert.Kernel4Ideal.cfg0.N
    = Layout.block ⟨2, ![4096, 1024]⟩ ⟨2, ![32768, 1024]⟩ 0 8 c (flat (dxR m')) := by
  refine (final9 m c).trans (funext fun i => ?_)
  obtain ⟨r, d, rfl⟩ : ∃ (r : Fin 4096) (d : Fin 1024), i = (ix2 r d : (⟨2, ![4096, 1024]⟩ : Shape).Idx) := ⟨i 0, i 1, eq_ix2 i⟩
  exact (congrFun (dxA_eq h r) d).trans ((flat_apply _ c r d).symm.trans (part_1024 _ c r d).symm)

theorem res1 : (dats m 0 c).arrAt 10 Cert.Kernel4Ideal.cfg0.N
    = Layout.block ⟨2, ![4096, 1024]⟩ ⟨2, ![32768, 1024]⟩ 0 8 c (flat (dmR m')) := by
  refine (final10 m c).trans (funext fun i => ?_)
  obtain ⟨r, d, rfl⟩ : ∃ (r : Fin 4096) (d : Fin 1024), i = (ix2 r d : (⟨2, ![4096, 1024]⟩ : Shape).Idx) := ⟨i 0, i 1, eq_ix2 i⟩
  exact (congrFun (dmA_eq h r) d).trans ((flat_apply _ c r d).symm.trans (part_1024 _ c r d).symm)

theorem res2 : (dats m 0 c).arrAt 11 Cert.Kernel4Ideal.cfg0.N
    = Layout.block ⟨2, ![8, 128]⟩ ⟨2, ![64, 128]⟩ 0 8 c (gainOf (apart (ra4 m')) (dhR m')) := by
  refine (final11 m c).trans (funext fun i => ?_)
  obtain ⟨r, d, rfl⟩ : ∃ (r : Fin 8) (d : Fin 128), i = (ix2 r d : (⟨2, ![8, 128]⟩ : Shape).Idx) := ⟨i 0, i 1, eq_ix2 i⟩
  refine Eq.trans ?_ ((gainOf_apply _ _ c r d).symm.trans (part_128 _ c r d).symm)
  refine Finset.sum_congr rfl fun t _ => ?_
  rw [dh_eq h t, x_eq h t]
  rfl

theorem res3 : (dats m 0 c).arrAt 12 Cert.Kernel4Ideal.cfg0.N
    = Layout.block ⟨2, ![8, 128]⟩ ⟨2, ![64, 128]⟩ 0 8 c (gainOf (apart (ra7 m')) (dxR m')) := by
  refine (final12 m c).trans (funext fun i => ?_)
  obtain ⟨r, d, rfl⟩ : ∃ (r : Fin 8) (d : Fin 128), i = (ix2 r d : (⟨2, ![8, 128]⟩ : Shape).Idx) := ⟨i 0, i 1, eq_ix2 i⟩
  refine Eq.trans ?_ ((gainOf_apply _ _ c r d).symm.trans (part_128 _ c r d).symm)
  refine Finset.sum_congr rfl fun t _ => ?_
  rw [dxA_eq h t, mix_eq h t]
  rfl

end Both

section Exchange

open Cert.UpProof

variable (m : (ℓ : Loc Cert.Kernel4Ideal.nD Cert.Kernel4Ideal.τ Cert.Kernel4Ideal.sig) → Buf (Elt Ideal) ℓ)

/-- A device ends with what the devices of its core, one on each chip, held for its own chip. -/
theorem exchanged (a : Fin 2) (w : FVec Ideal Cert.Reference4Ideal.S32x352x1024 .bf16)
    (hw : ∀ e : Fin 8, inX m a e = Layout.block ⟨3, ![4, 352, 1024]⟩ ⟨3, ![32, 352, 1024]⟩ 0 8 e w) (c : Fin 8) :
    outX m a c = Layout.block ⟨3, ![4, 352, 1024]⟩ ⟨3, ![32, 352, 1024]⟩ 0 8 c (swap w) := by
  funext i
  obtain ⟨q, j, d, rfl⟩ : ∃ (q : Fin 4) (j : Fin 352) (d : Fin 1024), i = (ix3 q j d : (⟨3, ![4, 352, 1024]⟩ : Shape).Idx) := ⟨i 0, i 1, i 2, eq_ix3 i⟩
  refine Eq.trans ?_ ((swap_apply w c q j d).symm.trans (part_slot _ c q j d).symm)
  refine Eq.trans ?_ (part_slot w ⟨2 * q.val + c.val % 2, by omega⟩ ⟨c.val / 2, by omega⟩ j d)
  refine Eq.trans (congrFun (hw (dv q c)) _) ?_
  refine congrArg (Layout.block ⟨3, ![4, 352, 1024]⟩ ⟨3, ![32, 352, 1024]⟩ 0 8 (dv q c) w (by decide)) (funext fun b => ?_)
  fin_cases b <;> rfl

end Exchange

set_option maxHeartbeats 1000000 in
/-- Kernel and reference, from the same arguments, end with the same six results, each device with its part. -/
theorem algebraic : Cert.algebraic_Kernel4Ideal_Reference4Ideal := by
  intro m g m' g' _ hargs
  have hk := Cert.UpProof.run_left (F := Ideal) m g
  refine ⟨flat (dxR m'), flat (dmR m'), gainOf (apart (ra4 m')) (dhR m'), gainOf (apart (ra7 m')) (dxR m'),
    swap (ra9 m'), swap (ra10 m'), ?_, run m' g'⟩
  have hin0 : ∀ e : Fin 8, Cert.UpProof.inX m 0 e = Layout.block ⟨3, ![4, 352, 1024]⟩ ⟨3, ![32, 352, 1024]⟩ 0 8 e (ra9 m') := fun e =>
    Eq.trans rfl (hargs e).2.2.2.2.2.2.2.2.2.1
  have hin1 : ∀ e : Fin 8, Cert.UpProof.inX m 1 e = Layout.block ⟨3, ![4, 352, 1024]⟩ ⟨3, ![32, 352, 1024]⟩ 0 8 e (ra10 m') := fun e =>
    Eq.trans rfl (hargs e).2.2.2.2.2.2.2.2.2.2
  refine (θ_run _ _ _).mono (fun r h c => ?_) hk
  obtain ⟨⟨l0, l1, l2, l3, l4, l5⟩, kept⟩ := h.1 c
  obtain ⟨a0, a1, a2, a3, a4, a5, a6, a7, a8, _, _⟩ := hargs c
  have hh : Holds m m' c := ⟨a0, a1, a2, a3, a4, a5, a6, a7, a8⟩
  exact ⟨l0.trans (res0 hh), l1.trans (res1 hh), l2.trans (res2 hh), l3.trans (res3 hh),
    l4.trans (exchanged m 0 _ hin0 c), l5.trans (exchanged m 1 _ hin1 c), kept⟩

end Cert.Up
-- ==== Proof.PairHalves.lean ====
/-
Halves of the arrays two cores of a chip exchange. An array of partial sums has shape [2, 4, 352, 1024], one half per
core. A half is the memref the kernel makes of it: the slice of one core, its unit axis dropped. This module says that
an array's memory is its two halves, in terms of what is read through each.
-/
module

public import proofs.«01_k».proof.Proof.Gen.Kernel5Ideal.Frame
public import Idealize.ShloMosaic.Lib.Pipeline.ValueKit

@[expose] public section

set_option maxRecDepth 16384

noncomputable section

namespace Cert.PairProof

open Cert.Kernel5Ideal Cert.Kernel5Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the launch: the pipeline's rounds and the exchange's, the latter with one duty a round. -/
abbrev UU : Type := UR sig nD τ × URounds (GSem nD τ sig) (Fin 1)

local notation "𝕄" => MT nD τ sig Unit (Elt F) ℕ UU ℕ

/-! ## A half of an array -/

/-- Where half `n` begins. -/
abbrev offc (n : Fin 2) : Fin 4 → ℕ := ![n.val, 0, 0, 0]
theorem offc_inb (n : Fin 2) : ∀ a, offc n a + S1x4x352x1024.size a ≤ S2x4x352x1024.size a := by revert n; decide

/-- The memref of the slice at an offset, its unit axis dropped: the kernel's own text. -/
abbrev halfAt {sp : Space} (M : Memref sig .tc sp S2x4x352x1024 .bf16) (off : Fin 4 → ℕ) (h : ∀ a, off a + S1x4x352x1024.size a ≤ S2x4x352x1024.size a) :
    Memref sig .tc sp S4x352x1024 .bf16 :=
  (M.slice (Rect.unit (s := S2x4x352x1024) off S1x4x352x1024.size h) (fun _ => rfl)).squeeze S4x352x1024 squeezes_S1x4x352x1024_S4x352x1024
/-- Half `n`. -/
abbrev halfM {sp : Space} (M : Memref sig .tc sp S2x4x352x1024 .bf16) (n : Fin 2) : Memref sig .tc sp S4x352x1024 .bf16 := halfAt M (offc n) (offc_inb n)

/-- The place in the array of a place in half `n`. -/
def halfIx (n : Fin 2) (j : S4x352x1024.Idx) : S2x4x352x1024.Idx :=
  (Rect.unit (s := S2x4x352x1024) (offc n) S1x4x352x1024.size (offc_inb n)).emb
    (Shape.reshapeEquiv (Shape.Squeezes.numel_eq (s := S1x4x352x1024) (s' := S4x352x1024) squeezes_S1x4x352x1024_S4x352x1024) j)
/-- Half `n` of contents. -/
def halfOf {α : Type} (X : S2x4x352x1024.Idx → α) (n : Fin 2) : S4x352x1024.Idx → α := fun j => X (halfIx n j)

theorem half_emb {sp : Space} (M : Memref sig .tc sp S2x4x352x1024 .bf16) (n : Fin 2) (j : S4x352x1024.Idx) :
    (halfM M n).view.emb j = M.view.emb (halfIx n j) := rfl

theorem half_read {sp : Space} {Val : EltTy → Type} (M : Memref sig .tc sp S2x4x352x1024 .bf16) (n : Fin 2) (f : M.view.ty.Contents Val) :
    (halfM M n).view.read Val f = halfOf (M.view.read Val f) n := rfl

theorem halfIx_zero (n : Fin 2) (j : S4x352x1024.Idx) : (halfIx n j 0).val = n.val := by
  unfold halfIx
  rw [ValueKit.rect_emb_unit_val]
  generalize hk' : Shape.reshapeEquiv _ j = k
  have hk : (k 0).val < 1 := (k 0).isLt
  show n.val + (k 0).val = n.val
  omega

theorem exists_halfIx (x : S2x4x352x1024.Idx) (n : Fin 2) (hn : (x 0).val = n.val) : ∃ j, halfIx n j = x := by
  let k : S1x4x352x1024.Idx := fun a => match a with
    | ⟨0, _⟩ => (⟨0, by decide⟩ : Fin 1)
    | ⟨1, _⟩ => (x 1 : Fin 4)
    | ⟨2, _⟩ => (x 2 : Fin 352)
    | ⟨3, _⟩ => (x 3 : Fin 1024)
  refine ⟨(Shape.reshapeEquiv (Shape.Squeezes.numel_eq (s := S1x4x352x1024) (s' := S4x352x1024) squeezes_S1x4x352x1024_S4x352x1024)).symm k, ?_⟩
  unfold halfIx
  rw [Equiv.apply_symm_apply]
  funext a
  apply Fin.ext
  rw [ValueKit.rect_emb_unit_val]
  match a with
  | ⟨0, _⟩ => show n.val + 0 = (x 0).val; omega
  | ⟨1, _⟩ => show 0 + (x 1).val = (x 1).val; omega
  | ⟨2, _⟩ => show 0 + (x 2).val = (x 2).val; omega
  | ⟨3, _⟩ => show 0 + (x 3).val = (x 3).val; omega

theorem mem_half {sp : Space} (M : Memref sig .tc sp S2x4x352x1024 .bf16) (n : Fin 2) (i : M.view.ty.shape.Idx) :
    i ∈ (halfM M n).view.set ↔ ∃ j, M.view.emb (halfIx n j) = i := by
  unfold View.set
  simp only [Finset.mem_map, Finset.mem_univ, true_and]
  rfl

theorem set_halves {sp : Space} (M : Memref sig .tc sp S2x4x352x1024 .bf16) :
    M.view.set = Finset.univ.biUnion fun n : Fin 2 => (halfM M n).view.set := by
  ext i
  rw [Finset.mem_biUnion]
  constructor
  · intro h
    obtain ⟨x, -, rfl⟩ := Finset.mem_map.mp h
    obtain ⟨j, hj⟩ := exists_halfIx x (x 0) rfl
    exact ⟨x 0, Finset.mem_univ _, (mem_half M _ _).mpr ⟨j, by rw [hj]⟩⟩
  · rintro ⟨n, -, h⟩
    obtain ⟨j, rfl⟩ := (mem_half M n _).mp h
    exact Finset.mem_map.mpr ⟨_, Finset.mem_univ _, rfl⟩

theorem halves_disjoint {sp : Space} (M : Memref sig .tc sp S2x4x352x1024 .bf16) :
    ∀ a ∈ (Finset.univ : Finset (Fin 2)), ∀ b ∈ (Finset.univ : Finset (Fin 2)), a ≠ b → Disjoint (halfM M a).view.set (halfM M b).view.set := by
  intro a _ b _ hab
  rw [Finset.disjoint_left]
  intro i ha hb
  obtain ⟨j, rfl⟩ := (mem_half M a _).mp ha
  obtain ⟨j', h'⟩ := (mem_half M b _).mp hb
  have h0 := congrArg (fun x : S2x4x352x1024.Idx => (x 0).val) (M.view.emb.injective h')
  simp only [halfIx_zero] at h0
  exact hab (Fin.ext h0.symm)

theorem cast_cancel {α β : Type} (h : α = β) {x y : α} (hxy : cast h x = cast h y) : x = y := by subst h; exact hxy

omit [FloatOps F] in
/-- The array's memory falls into its halves. -/
theorem owns_split {sp : Space} (c : Dev nD) (M : Memref sig .tc sp S2x4x352x1024 .bf16) (X : S2x4x352x1024.Idx → Elt F .bf16) :
    (owns (c : Thread nD τ) M fullShare X : sProp 𝕄)
      ⊢ bigSep Finset.univ fun n : Fin 2 => owns (c : Thread nD τ) (halfM M n) fullShare (halfOf X n) := by
  have hmono (f : Buf (Elt F) (M.view.loc (c : Thread nD τ))) (hf : M.view.read (Elt F) f = X) :
      (M.view.loc (c : Thread nD τ) ↦[M.view.set]{fullShare} f : sProp 𝕄)
        ⊢ bigSep Finset.univ fun n : Fin 2 => owns (c : Thread nD τ) (halfM M n) fullShare (halfOf X n) := by
    rw [set_halves, pointsTo_biUnion _ _ (halves_disjoint M)]
    refine bigSep_mono fun n _ => (?_ : (_ : sProp 𝕄) ⊢ _)
    unfold owns
    iintro H
    iexists f
    isplitr; · ipureintro; rw [half_read, hf]
    iexact H
  unfold owns at hmono ⊢
  iintro ⟨%f, %hf, H⟩
  iapply (hmono f hf)
  iexact H

omit [FloatOps F] in
/-- The array's memory from its halves; `f₀` is any contents at all. -/
theorem owns_join {sp : Space} (c : Dev nD) (M : Memref sig .tc sp S2x4x352x1024 .bf16) (f₀ : Buf (Elt F) (M.view.loc (c : Thread nD τ)))
    (X : S2x4x352x1024.Idx → Elt F .bf16) :
    (bigSep Finset.univ fun n : Fin 2 => owns (c : Thread nD τ) (halfM M n) fullShare (halfOf X n) : sProp 𝕄)
      ⊢ owns (c : Thread nD τ) M fullShare X := by
  have hg : M.view.read (Elt F) (M.view.write (Elt F) f₀ X Finset.univ) = X := View.read_write_univ _ _
  generalize M.view.write (Elt F) f₀ X Finset.univ = g at hg
  unfold owns
  refine BIBase.Entails.trans ?_ (show (M.view.loc (c : Thread nD τ) ↦[M.view.set]{fullShare} g : sProp 𝕄) ⊢ _ from by
    iintro H; iexists g; isplitr; · (ipureintro; exact hg)
    iexact H)
  rw [set_halves, pointsTo_biUnion _ _ (halves_disjoint M)]
  refine bigSep_mono fun n _ => (?_ : (_ : sProp 𝕄) ⊢ _)
  iintro ⟨%f, %hf, H⟩
  have he : (M.view.loc (c : Thread nD τ) ↦[(halfM M n).view.set]{fullShare} f : sProp 𝕄)
      = (M.view.loc (c : Thread nD τ) ↦[(halfM M n).view.set]{fullShare} g) := pointsTo_congr fun i hi => by
    obtain ⟨j, rfl⟩ := (mem_half M n i).mp hi
    have h1 := congrFun hf j
    rw [half_read] at h1
    have h2 : M.view.read (Elt F) f (halfIx n j) = M.view.read (Elt F) g (halfIx n j) := by rw [hg]; exact h1
    rw [View.read_apply, View.read_apply] at h2
    exact cast_cancel _ h2
  iapply (Entails.of_eq he)
  iexact H

end Cert.PairProof
-- ==== Proof.PairProto.lean ====
/-
The exchange of the weight gradient's call, as a protocol. Each of a chip's two cores holds partial sums for both, in two
arrays; it keeps its own half of each and sends the other half to its peer, so that afterwards its outputs hold what
the peer had for it. A device's cells are its barrier, two sending and two receiving semaphores. This module names
them, says what each hands over, and gives the rule of each operation of the exchange.
-/
module

public import proofs.«01_k».proof.Proof.PairHalves
public import Idealize.ShloMosaic.Lib.Pipeline.Launch
public import Idealize.ShloMosaic.Lib.Pipeline.Kit

@[expose] public section

set_option maxRecDepth 16384

noncomputable section

namespace Cert.PairProof

open Cert.Kernel5Ideal Cert.Kernel5Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 1)) (MT nD τ sig Unit (Elt F) ℕ UU ℕ) := embR

variable (m : (ℓ : Loc nD τ sig) → Buf (Elt F) ℓ) (ρ : Dev nD → PrngReg)

/-! ## Cores and the peer -/

/-- A device's core: the devices of a chip have consecutive numbers. -/
def core (c : Dev nD) : Fin 2 := ⟨c.val % 2, Nat.mod_lt _ (by decide)⟩
/-- The other core of the chip. -/
def pr (c : Dev nD) : Dev nD := ⟨c.val ^^^ 1, by revert c; decide +kernel⟩

theorem pr_pr (c : Dev nD) : pr (pr c) = c := by revert c; decide +kernel
theorem pr_inj {c d : Dev nD} (h : pr c = pr d) : c = d := by rw [← pr_pr c, h, pr_pr]
/-- A device's two cores: its own and its peer's. -/
def order (c : Dev nD) : Fin 2 → Fin 2 := fun | 0 => core c | 1 => core (pr c)
theorem order_bij (c : Dev nD) : Function.Bijective (order c) := by revert c; decide +kernel

/-! ## The memrefs -/

abbrev inM : Fin 2 → Memref sig .tc .hbm S2x4x352x1024 .bf16 := fun | 0 => Memref.whole main_arg2 | 1 => Memref.whole main_arg3
abbrev outM : Fin 2 → Memref sig .tc .hbm S4x352x1024 .bf16 := fun | 0 => Memref.whole main_v1_1 | 1 => Memref.whole main_v1_2

/-- What device `c` has in its array `a` at launch. -/
def inX (a : Fin 2) (c : Dev nD) : S2x4x352x1024.Idx → Elt F .bf16 := (inM a).view.read (Elt F) (m ((inM a).view.loc (c : Thread nD τ)))
/-- What device `c` has in its output `a` after the exchange: the half its peer had for it. -/
def outX (a : Fin 2) (c : Dev nD) : S4x352x1024.Idx → Elt F .bf16 := halfOf (inX m a (pr c)) (core c)

abbrev inHalf (a : Fin 2) (c : Dev nD) (n : Fin 2) : sProp 𝕄 := owns (c : Thread nD τ) (halfM (inM a) n) fullShare (halfOf (inX m a c) n)
abbrev outAny (a : Fin 2) (c : Dev nD) : sProp 𝕄 := iprop(∃ Y : S4x352x1024.Idx → Elt F .bf16, owns (c : Thread nD τ) (outM a) fullShare Y)

/-- One half's credit. -/
@[irreducible] def N : ℕ := (outM 0).view.dmaCredit
theorem N_pos : 0 < N := by unfold N; exact View.dmaCredit_pos _ (by decide)
theorem N_out (a : Fin 2) : (outM a).view.dmaCredit = N := by unfold N; fin_cases a <;> rfl

/-! ## The cells -/

/-- A device's cells. -/
inductive Kd where
  | bar | snd (a : Fin 2) | rcv (a : Fin 2)
  deriving DecidableEq

def Kd.all : List Kd := [.bar, .snd 0, .snd 1, .rcv 0, .rcv 1]
instance : Fintype Kd where
  elems := ⟨Kd.all, by decide⟩
  complete k := by
    rcases k with _ | a | a
    · decide
    · revert a; decide
    · revert a; decide

abbrev barS : Sem sig := (SemArray.scalar (sig.barrier 0 rfl) : Sems sig S_).sem

def ksem : Kd → SemLoc sig
  | .bar => .reg barS
  | .snd a => .dma ⟨6 + a.val, by show _ < 10; omega⟩
  | .rcv a => .dma ⟨8 + a.val, by show _ < 10; omega⟩

theorem ksem_inj : Function.Injective ksem := by decide +kernel

abbrev cell (c : Dev nD) (k : Kd) : GSem nD τ sig := ((c : Thread nD τ), ksem k)

theorem cell_inj {c d : Dev nD} {k l : Kd} (h : cell c k = cell d l) : c = d ∧ k = l :=
  ⟨congrArg (fun g : GSem nD τ sig => g.1.1) h, ksem_inj (congrArg Prod.snd h)⟩

def dec (s : SemLoc sig) : Option Kd := by
  classical exact if h : ∃ k, ksem k = s then some h.choose else none
theorem dec_ksem (k : Kd) : dec (ksem k) = some k := by
  have h : ∃ l, ksem l = ksem k := ⟨k, rfl⟩
  unfold dec
  rw [dif_pos h]
  exact congrArg some (ksem_inj h.choose_spec)

/-! ## The schedule -/

/-- Every cell is used for one round. -/
def dutyK : Kd → ℕ → Finset (Fin 1)
  | _, 0 => {0}
  | _, _ => ∅
def amtK : Kd → ℕ
  | .bar => 1
  | _ => N
def payK (c : Dev nD) : Kd → sProp 𝕄
  | .bar => iprop(outAny 0 (pr c) ∗ outAny 1 (pr c))
  | .snd a => inHalf m a c (core (pr c))
  | .rcv a => owns (c : Thread nD τ) (outM a) fullShare (outX m a c)

def Rd : Rounds.Schedule (GSem nD τ sig) (Fin 1) 𝕄 where
  duties g r := match dec g.2 with | some k => dutyK k r | none => ∅
  unitless _ := False
  amount g _ _ := match dec g.2 with | some k => amtK k | none => 1
  payload g _ _ := match dec g.2 with | some k => payK m g.1.1 k | none => iprop(emp)
  amount_pos g r d _ := by
    cases dec g.2 with
    | none => exact Nat.one_pos
    | some k => cases k <;> first | exact Nat.one_pos | exact N_pos

omit [FloatOps F] in
instance payK_storable (c : Dev nD) (k : Kd) : BI.Storable (upEmb : UEmb _ 𝕄) (payK (F := F) m c k) := by
  cases k <;> (unfold payK; infer_instance)

omit [FloatOps F] in
instance Rd_storable (g : GSem nD τ sig) (r : ℕ) (d : Fin 1) : BI.Storable (upEmb : UEmb _ 𝕄) ((Rd (F := F) m).payload g r d) := by
  show BI.Storable upEmb (match dec g.2 with | some k => payK m g.1.1 k | none => iprop(emp))
  cases dec g.2 <;> infer_instance

omit [FloatOps F] in
theorem duties_cell (c : Dev nD) (k : Kd) (r : ℕ) : (Rd (F := F) m).duties (cell c k) r = dutyK k r := by
  show (match dec (ksem k) with | some k => dutyK k r | none => ∅) = _
  rw [dec_ksem]
omit [FloatOps F] in
theorem amount_cell (c : Dev nD) (k : Kd) (r : ℕ) (d : Fin 1) : (Rd (F := F) m).amount (cell c k) r d = amtK k := by
  show (match dec (ksem k) with | some k => amtK k | none => 1) = _
  rw [dec_ksem]
omit [FloatOps F] in
theorem payload_cell (c : Dev nD) (k : Kd) (r : ℕ) (d : Fin 1) : (Rd (F := F) m).payload (cell c k) r d = payK m c k := by
  show (match dec (ksem k) with | some k' => payK m c k' | none => iprop(emp)) = _
  rw [dec_ksem]
omit [FloatOps F] in
theorem expect_cell (c : Dev nD) (k : Kd) (r : ℕ) : (Rd (F := F) m).expect (cell c k) r = (dutyK k r).card * amtK k := by
  unfold Schedule.expect Schedule.amountOf
  rw [duties_cell, Finset.sum_congr rfl fun d _ => amount_cell m c k r d, Finset.sum_const, smul_eq_mul]
omit [FloatOps F] in
theorem rest_cell (c : Dev nD) (k : Kd) (r : ℕ) :
    bigSep ((Rd (F := F) m).duties (cell c k) r \ ∅) (fun d => (Rd (F := F) m).payload (cell c k) r d) = bigSep (dutyK k r) (fun _ => payK m c k) := by
  rw [Finset.sdiff_empty, duties_cell]
  exact bigSep_congr fun d _ => payload_cell m c k r d

theorem dutyK_later (k : Kd) (r : ℕ) (h : 1 ≤ r) : dutyK k r = ∅ := by
  obtain ⟨r, rfl⟩ := Nat.exists_eq_add_of_le' h
  cases k <;> rfl

/-! ## What all devices know -/

/-- Every cell's invariant, and that its first round is reached. -/
def records (K : Dev nD × Kd → ℕ) : sProp 𝕄 :=
  iprop((bigSep Finset.univ fun ck : Dev nD × Kd => cellInv ER (Rd m) (K ck) (cell ck.1 ck.2))
    ∗ bigSep Finset.univ fun ck : Dev nD × Kd => reached ER (cell ck.1 ck.2) 0)
instance records_persistent (K : Dev nD × Kd → ℕ) : BI.Persistent (records m K) := by unfold records; infer_instance

omit [FloatOps F] in
theorem inv_at' (K : Dev nD × Kd → ℕ) (c : Dev nD) (k : Kd) :
    (bigSep Finset.univ fun ck : Dev nD × Kd => (cellInv ER (Rd m) (K ck) (cell ck.1 ck.2) : sProp 𝕄)) ⊢ cellInv ER (Rd m) (K (c, k)) (cell c k) :=
  bigSep_elim (Φ := fun ck : Dev nD × Kd => (cellInv ER (Rd m) (K ck) (cell ck.1 ck.2) : sProp 𝕄)) (Finset.mem_univ (c, k))
omit [FloatOps F] in
theorem reached_at' (c : Dev nD) (k : Kd) :
    (bigSep Finset.univ fun ck : Dev nD × Kd => (reached ER (cell ck.1 ck.2) 0 : sProp 𝕄)) ⊢ reached ER (cell c k) 0 :=
  bigSep_elim (Φ := fun ck : Dev nD × Kd => (reached ER (cell ck.1 ck.2) 0 : sProp 𝕄)) (Finset.mem_univ (c, k))
omit [FloatOps F] in
theorem inv_at (K : Dev nD × Kd → ℕ) (c : Dev nD) (k : Kd) : records m K ⊢ cellInv ER (Rd m) (K (c, k)) (cell c k) := by
  unfold records
  iintro ⟨H, -⟩
  iapply (inv_at' m K c k)
  iexact H
omit [FloatOps F] in
theorem reached_at (K : Dev nD × Kd → ℕ) (c : Dev nD) (k : Kd) : records m K ⊢ reached ER (cell c k) 0 := by
  unfold records
  iintro ⟨-, H⟩
  iapply (reached_at' (F := F) c k)
  iexact H

/-- What a core owes, whatever it has waited for. -/
def owesE (c : Dev nD) (O : CellTallies nD τ sig Unit) : sProp 𝕄 := iprop(∃ W, owes (c : Thread nD τ) O W)

abbrev 𝒱₀ : Variants := Variants.none

/-! ## The rules -/

omit [FloatOps F] in
theorem own_of {sp : Space} (c : Dev nD) (M : Memref sig .tc sp S4x352x1024 .bf16) (f : Buf (Elt F) (M.view.loc (c : Thread nD τ))) (X : S4x352x1024.Idx → Elt F .bf16)
    (h : M.view.read (Elt F) f = X) : (M.view.loc (c : Thread nD τ) ↦[M.view.set]{fullShare} f : sProp 𝕄) ⊢ owns (c : Thread nD τ) M fullShare X := by
  unfold owns
  iintro H; iexists f; isplitr
  · ipureintro; exact h
  iexact H
omit [FloatOps F] in
theorem own_written {sp sp' : Space} (c : Dev nD) (M : Memref sig .tc sp S4x352x1024 .bf16) (M' : Memref sig .tc sp' S4x352x1024 .bf16)
    (f : Buf (Elt F) (M.view.loc (c : Thread nD τ))) (g : M'.view.ty.Contents (Elt F)) (X : S4x352x1024.Idx → Elt F .bf16)
    (h : M'.view.read (Elt F) g = X) :
    (M.view.loc (c : Thread nD τ) ↦[M.view.set]{fullShare} M.view.write (Elt F) f (M'.view.read (Elt F) g) Finset.univ : sProp 𝕄) ⊢ owns (c : Thread nD τ) M fullShare X :=
  own_of c M _ X ((View.read_write_univ _ _).trans h)

omit [FloatOps F] in
theorem pay_bar (c : Dev nD) : iprop(outAny 0 c ∗ outAny 1 c) = (Rd (F := F) m).payload (cell (pr c) .bar) 0 0 := by
  rw [payload_cell]
  show _ = iprop(outAny 0 (pr (pr c)) ∗ outAny 1 (pr (pr c)))
  rw [pr_pr]
omit [FloatOps F] in
theorem pay_rcv (c : Dev nD) (a : Fin 2) :
    owns (pr c : Thread nD τ) (outM a) fullShare (halfOf (inX m a c) (core (pr c))) = (Rd (F := F) m).payload (cell (pr c) (.rcv a)) 0 0 := by
  rw [payload_cell]
  show _ = owns (pr c : Thread nD τ) (outM a) fullShare (halfOf (inX m a (pr (pr c))) (core (pr c)))
  rw [pr_pr]
omit [FloatOps F] in
theorem pay_snd (c : Dev nD) (a : Fin 2) : inHalf m a c (core (pr c)) = (Rd (F := F) m).payload (cell c (.snd a)) 0 0 := by
  rw [payload_cell]; rfl

section Rules
variable (K : Dev nD × Kd → ℕ) {α : Type} {Q : α → sProp (MT nD τ sig Unit (Elt F) ℕ UU ℕ)} {k' : PUnit → Prog (TpuEff nD τ sig (Elt F) Λ₀ .tc) α}

/-- Telling the peer that this device's outputs may be written. -/
theorem wp_bar (c n : Dev nD) (hn : n = pr c) {s : Sem sig} (hs : s = barS) (O : CellTallies nD τ sig Unit) {u : ℕ} (hu : u = 1) :
    iprop(records m K ∗ owesE c (O + tallyAt (cell (pr c) .bar) () 1) ∗ dutyTok ER (cell (pr c) .bar) 0 0
        ∗ outAny 0 c ∗ outAny 1 c)
      ⊢ iprop((owesE c O -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n : Thread nD τ) s u) k') Q) := by
  subst hn hs hu
  unfold owesE
  iintro ⟨#HR, ⟨%W, HO⟩, Ht, H0, H1⟩ Hk
  iapply (Rounds.wp_signal 𝒱₀ ER (Rd m) (c : Thread nD τ) none (dst := (pr c : Thread nD τ)) (r := 0) (d := 0) (κ := K (pr c, .bar))
      (show (0 : Fin 1) ∈ (Rd m).duties (cell (pr c) .bar) 0 by rw [duties_cell]; exact Finset.mem_singleton_self _) (amount_cell m (pr c) .bar 0 0) () O rfl (W := W)) $$ [HO Ht H0 H1]
  · isplitr; · iapply (inv_at m K (pr c) .bar); iexact HR
    isplitl [HO]; · iexact HO
    isplitl [Ht]; · iexact Ht
    isplitl [H0 H1]
    · iapply (show iprop(outAny 0 c ∗ outAny 1 c) ⊢ (Rd m).payload ((pr c : Thread nD τ), .reg barS) 0 0 from Entails.of_eq (pay_bar m c))
      isplitl [H0] <;> iassumption
    · iapply (reached_at m K (pr c) .bar); iexact HR
  iintro HO
  iapply Hk
  iexists W; iexact HO

/-- Waiting for a cell's whole round: what the round hands over comes back. -/
theorem wp_round (c : Dev nD) (k : Kd) (r : ℕ) {w : TpuEff nD τ sig (Elt F) Λ₀ .tc PUnit} {s : SemLoc sig} (hs : s = ksem k) {u : ℕ}
    (hw : ∀ Kc : PUnit → sProp 𝕄, wpE (defs₀ (F := F)) 𝒱₀ (c : Thread nD τ) none Set.univ w Kc = waitSpec (c : Thread nD τ) Set.univ s u Kc)
    (hu : u = (dutyK k r).card * amtK k) (O : CellTallies nD τ sig Unit) :
    iprop(records m K ∗ cred (tallyAt (cell c k) () ((dutyK k r).card * amtK k)) ∗ owesE c O ∗ MayWait (c : Thread nD τ) (ksem k) () O ∗ atPos ER (cell c k) r ∅ 0)
      ⊢ iprop(((owesE c O ∗ atPos ER (cell c k) (r + 1) ∅ 0 ∗ reached ER (cell c k) (r + 1) ∗ bigSep (dutyK k r) (fun _ => payK m c k))
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  subst hs hu
  unfold owesE
  iintro ⟨#HR, Hc, ⟨%W, HO⟩, Hm, Ha⟩ Hk
  iapply (Rounds.wp_wait_rest_token 𝒱₀ ER (Rd m) (c : Thread nD τ) none (κ := K (c, k)) hw (Set.mem_univ _) () (O := O) (W := W) (R := r) (m := 0) (T := ∅)
      (by rw [Nat.zero_add]; exact (expect_cell m c k r).symm)) $$ [Hc HO Hm Ha]
  · isplitr; · iapply (inv_at m K c k); iexact HR
    isplitl [Hc]; · iexact Hc
    isplitl [HO]; · iexact HO
    isplitl [Hm] <;> iassumption
  iintro ⟨HO, Ha, Hr, Hp⟩
  iapply Hk
  isplitl [HO]; · iexists _; iexact HO
  isplitl [Ha]; · iexact Ha
  isplitl [Hr]; · iexact Hr
  iapply (Entails.of_eq (rest_cell m c k r)); iexact Hp

/-- A transfer to the peer, between any memrefs whose contents are what the two cells hand over. -/
theorem wp_send_gen (c : Dev nD) (a : Fin 2) (Ms Md : Memref sig .tc .hbm S4x352x1024 .bf16) (hN : Md.view.dmaCredit = N)
    (X : S4x352x1024.Idx → Elt F .bf16)
    (hp₁ : (owns (c : Thread nD τ) Ms fullShare X : sProp 𝕄) ⊢ (Rd m).payload (cell c (.snd a)) 0 0)
    (hp₂ : (owns (pr c : Thread nD τ) Md fullShare X : sProp 𝕄) ⊢ (Rd m).payload (cell (pr c) (.rcv a)) 0 0)
    {qS qR : DmaSem sig} (hS : SemLoc.dma qS = ksem (.snd a)) (hR : SemLoc.dma qR = ksem (.rcv a))
    (O : CellTallies nD τ sig Unit)
    {hsc : (Md : Memref sig (Dev.tc (pr c) : Thread nD τ).2.kind .hbm S4x352x1024 .bf16).view.ref.isScScratch = false}
    {hsrc : Ms.view.WordExact} {hdst : Md.view.WordExact}
    {hsem : DmaTarget.Typed .hbm (.dma qR) (.remote (Dev.tc (pr c) : Thread nD τ) Md (.dma qS) hsc)} :
    iprop(records m K ∗ owns (c : Thread nD τ) Ms fullShare X ∗ (∃ Y, owns (pr c : Thread nD τ) Md fullShare Y) ∗ owesE c (O + tallyAt (cell (pr c) (.rcv a)) () N)
        ∗ dutyTok ER (cell c (.snd a)) 0 0 ∗ dutyTok ER (cell (pr c) (.rcv a)) 0 0)
      ⊢ iprop(((cred (tallyAt (cell c (.snd a)) () N) ∗ owesE c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma Ms (.remote (Dev.tc (pr c) : Thread nD τ) Md (.dma qS) hsc) (.dma qR) hsrc hdst hsem) k') Q) := by
  have hd₁ : (0 : Fin 1) ∈ (Rd (F := F) m).duties (cell c (.snd a)) 0 := by rw [duties_cell]; exact Finset.mem_singleton_self _
  have hd₂ : (0 : Fin 1) ∈ (Rd (F := F) m).duties (cell (pr c) (.rcv a)) 0 := by rw [duties_cell]; exact Finset.mem_singleton_self _
  have ha₁ : (Rd (F := F) m).amount (cell c (.snd a)) 0 0 = N := amount_cell m c (.snd a) 0 0
  have ha₂ : (Rd (F := F) m).amount (cell (pr c) (.rcv a)) 0 0 = N := amount_cell m (pr c) (.rcv a) 0 0
  have hi₁ := inv_at m K c (.snd a)
  have hi₂ := inv_at m K (pr c) (.rcv a)
  have hr₁ := reached_at m K c (.snd a)
  have hr₂ := reached_at m K (pr c) (.rcv a)
  unfold cell at *
  rw [← hS] at hd₁ ha₁ hi₁ hr₁ hp₁ ⊢
  rw [← hR] at hd₂ ha₂ hi₂ hr₂ hp₂ ⊢
  generalize K (c, .snd a) = κ₁ at hi₁
  generalize K (pr c, .rcv a) = κ₂ at hi₂
  generalize hdd : pr c = d at *
  clear hS hR hdd
  have hw₁ (fs : Buf (Elt F) (Ms.view.loc (c : Thread nD τ))) (hfs : Ms.view.read (Elt F) fs = X) := (own_of (F := F) c Ms fs X hfs).trans hp₁
  have hw₂ (fd : Buf (Elt F) (Md.view.loc (d : Thread nD τ))) (fs : Buf (Elt F) (Ms.view.loc (c : Thread nD τ))) (hfs : Ms.view.read (Elt F) fs = X) :=
    (own_written (F := F) d Md Ms fd fs X hfs).trans hp₂
  unfold owesE owns
  iintro ⟨#HR, ⟨%fs, %hfs, Hi⟩, ⟨%Y, %fd, %hfd, Ho⟩, ⟨%W, HO⟩, Hts, Htr⟩ Hk
  iapply (Rounds.wp_send_pointsTo 𝒱₀ ER (Rd m) (c : Thread nD τ) none (c' := (d : Thread nD τ)) (src := Ms) (dst := Md) (q := fullShare) (κ₁ := κ₁) (κ₂ := κ₂)
    (r₁ := 0) (r₂ := 0) (d₁ := 0) (d₂ := 0) (fd := fd) (fs := fs) hd₁ hd₂ () () N hN ha₁ ha₂ O rfl (W := W) (hw₁ fs hfs) (hw₂ fd fs hfs)) $$ [Hi Ho HO Hts Htr]
  · isplitr; · iapply hi₁; iexact HR
    isplitr; · iapply hi₂; iexact HR
    isplitl [Hi]; · iexact Hi
    isplitl [Ho]; · iexact Ho
    isplitl [HO]; · iexact HO
    isplitl [Hts]; · iexact Hts
    isplitr; · iapply hr₁; iexact HR
    isplitl [Htr]; · iexact Htr
    iapply hr₂; iexact HR
  iintro ⟨Hc, HO⟩
  iapply Hk
  isplitl [Hc]; · iexact Hc
  iexists W; iexact HO

/-- A half sent to the peer. -/
theorem wp_sendhalf (c n : Dev nD) (a : Fin 2) (hn : n = pr c) {offs : Fin 4 → ℕ} {his}
    (hs : offs = offc (core (pr c))) {qS qR : DmaSem sig} (hS : SemLoc.dma qS = ksem (.snd a)) (hR : SemLoc.dma qR = ksem (.rcv a))
    (O : CellTallies nD τ sig Unit)
    {hsc : (outM a : Memref sig (Dev.tc n : Thread nD τ).2.kind .hbm S4x352x1024 .bf16).view.ref.isScScratch = false}
    {hsrc : (halfAt (inM a) offs his).view.WordExact} {hdst : (outM a).view.WordExact}
    {hsem : DmaTarget.Typed .hbm (.dma qR) (.remote (Dev.tc n : Thread nD τ) (outM a) (.dma qS) hsc)} :
    iprop(records m K ∗ inHalf m a c (core (pr c)) ∗ outAny a (pr c) ∗ owesE c (O + tallyAt (cell (pr c) (.rcv a)) () N)
        ∗ dutyTok ER (cell c (.snd a)) 0 0 ∗ dutyTok ER (cell (pr c) (.rcv a)) 0 0)
      ⊢ iprop(((cred (tallyAt (cell c (.snd a)) () N) ∗ owesE c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (halfAt (inM a) offs his) (.remote (Dev.tc n : Thread nD τ) (outM a) (.dma qS) hsc) (.dma qR) hsrc hdst hsem) k') Q) := by
  subst hn hs
  exact wp_send_gen m K c a (halfM (inM a) (core (pr c))) (outM a) (N_out a) _
    (Entails.of_eq (pay_snd m c a)) (Entails.of_eq (pay_rcv m c a)) hS hR O

/-- A cell whose rounds are over gives its counter back, at zero. -/
theorem close_cell (c : Dev nD) (k : Kd) (r : ℕ) (hr : 1 ≤ r) :
    iprop(records m K ∗ atPos ER (cell c k) r ∅ 0) ⊢ |={Set.univ}=> semVal (cell c k) 0 := by
  iintro ⟨#HR, Ha⟩
  imod (Rounds.cell_close ER (Rd m) (Set.mem_univ (K (c, k))) (fun h => h) (R := r) (fun r' hr' => by
    rw [duties_cell]; exact dutyK_later k r' (le_trans hr hr'))) $$ [Ha] with Hz
  · isplitr; · iapply (inv_at m K c k); iexact HR
    iexact Ha
  imodintro; iexact Hz

end Rules

end Cert.PairProof
-- ==== Proof.PairBody.lean ====
/-
What a device holds before and after the points of the weight gradient's call, for the exchange with the other core and
for its accumulator. At the first point the body signals its peer and starts its two sends; at the last it waits for
all that is under way.
-/
module

public import proofs.«01_k».proof.Proof.PairProto
public import proofs.«01_k».proof.Proof.Gen.Kernel5Ideal.Skeleton
public import proofs.«01_k».proof.Proof.Gen.Kernel5Ideal.Frame

@[expose] public section

set_option maxRecDepth 16384

noncomputable section

namespace Cert.PairProof

open Cert.Kernel5Ideal Cert.Kernel5Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is owed, and the levels -/

/-- What a device owes its peer's receiving cell, and its peer's barrier. -/
abbrev oweR (c : Dev nD) (a : Fin 2) : CellTallies nD τ sig Unit := tallyAt (cell (pr c) (.rcv a)) () N
abbrev oweB (c : Dev nD) : CellTallies nD τ sig Unit := tallyAt (cell (pr c) .bar) () 1
/-- What it owes after its signal: its two sends. -/
def owe2 (c : Dev nD) : CellTallies nD τ sig Unit := (0 + oweR c 1) + oweR c 0
/-- What it owes from the start: a signal more. -/
def O₀ (c : Dev nD) : CellTallies nD τ sig Unit := owe2 c + oweB c

def lv : GSem nD τ sig → Unit → ℕ := fun g _ =>
  match dec g.2 with | some .bar => 1 | some (.rcv ..) => 2 | _ => 0
def L : GSem nD τ sig → Finset Unit := fun g => if g.1.2 = .tc then {()} else ∅
theorem L_of_ne (g : GSem nD τ sig) (hg : g.1.2 ≠ .tc) : L g = ∅ := if_neg hg
theorem mem_L (c : Dev nD) (s : SemLoc sig) : () ∈ L ((c : Thread nD τ), s) := by show () ∈ (if _ then _ else _); rw [if_pos rfl]; exact Finset.mem_singleton_self ()

theorem lv_cell (c : Dev nD) (k : Kd) : lv (cell c k) () = match k with | .bar => 1 | .rcv .. => 2 | _ => 0 := by
  unfold lv cell; simp only [dec_ksem]; cases k <;> rfl

theorem owe2_pos (c : Dev nD) (g : GSem nD τ sig) (u : Unit) (h : 0 < owe2 c g u) : ∃ a, g = cell (pr c) (.rcv a) := by
  by_contra hne
  push Not at hne
  have h0 : ∀ a, oweR c a g u = 0 := fun a => by show tallyAt _ _ _ _ _ = 0; rw [tallyAt_ne_cell (hne a)]; rfl
  have : owe2 c g u = 0 := by unfold owe2; simp only [Pi.add_apply, Finsupp.add_apply, h0]; rfl
  omega

theorem O₀_pos (c : Dev nD) (g : GSem nD τ sig) (u : Unit) (h : 0 < O₀ c g u) :
    (∃ a, g = cell (pr c) (.rcv a)) ∨ g = cell (pr c) .bar := by
  by_contra hne
  push Not at hne
  have h0 : oweB c g u = 0 := by show tallyAt _ _ _ _ _ = 0; rw [tallyAt_ne_cell hne.2]; rfl
  have h6 : owe2 c g u = 0 := by
    by_contra h1
    obtain ⟨a, h2⟩ := owe2_pos c g u (Nat.pos_of_ne_zero h1)
    exact hne.1 a h2
  have : O₀ c g u = 0 := by unfold O₀; simp only [Pi.add_apply, Finsupp.add_apply, h0, h6]
  omega

theorem mayWait_bar (c : Dev nD) : (levAts L lv : sProp 𝕄) ⊢ MayWait (c : Thread nD τ) (ksem .bar) () (owe2 c) :=
  MayOwe.of_cut (L := L) (lev := lv) 1 (fun p hp => by rw [Finset.mem_singleton.mp hp]; exact mem_L c _)
    (fun g u hg => by obtain ⟨a, rfl⟩ := owe2_pos c g u hg; exact mem_L _ _)
    (fun p hp => by rw [Finset.mem_singleton.mp hp]; exact le_of_eq (lv_cell c .bar))
    (fun g u hg => by
      obtain ⟨a, rfl⟩ := owe2_pos c g u hg
      show 1 < lv _ ()
      rw [lv_cell]; exact (by decide : 1 < 2))

theorem mayWait_stage (c : Dev nD) (q : DmaSem sig) (hq : ∀ k, SemLoc.dma q ≠ ksem k) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _)
      (fun g u hg => by rcases O₀_pos c g u hg with ⟨a, rfl⟩ | rfl <;> exact mem_L _ _)
      (fun p hp => by
        rw [Finset.mem_singleton.mp hp]
        unfold lv
        have : dec (SemLoc.dma q : SemLoc sig) = none := dif_neg fun ⟨k, hk⟩ => hq k hk.symm
        simp only [this]; exact le_refl 0)
      (fun g u hg => by
        rcases O₀_pos c g u hg with ⟨a, rfl⟩ | rfl <;> (show 0 < lv _ (); rw [lv_cell]; first | exact (by decide : 0 < 2) | exact (by decide : 0 < 1)))
  · rw [MayWait_zero]
    iintro -
    iempintro

/-! ## What a device holds for the exchange -/

abbrev all2 (Φ : Fin 2 → sProp 𝕄) : sProp 𝕄 := iprop(Φ 0 ∗ Φ 1)

def link (c : Dev nD) (a : Fin 2) : sProp 𝕄 :=
  iprop(atPos ER (cell c (.snd a)) 0 ∅ 0 ∗ atPos ER (cell c (.rcv a)) 0 ∅ 0 ∗ dutyTok ER (cell c (.snd a)) 0 0
    ∗ dutyTok ER (cell (pr c) (.rcv a)) 0 0 ∗ cred (tallyAt (cell c (.rcv a)) () N))
/-- Before the first point. -/
def start (c : Dev nD) : sProp 𝕄 :=
  iprop((∃ K, records m K) ∗ levAts L lv ∗ atPos ER (cell c .bar) 0 ∅ 0 ∗ cred (tallyAt (cell c .bar) () 1)
    ∗ dutyTok ER (cell (pr c) .bar) 0 0 ∗ all2 (link c)
    ∗ all2 (fun a => owns (c : Thread nD τ) (inM a) fullShare (inX m a c)) ∗ all2 (fun a => outAny (F := F) a c))

def way (c : Dev nD) (a : Fin 2) : sProp 𝕄 :=
  iprop(atPos ER (cell c (.snd a)) 0 ∅ 0 ∗ cred (tallyAt (cell c (.snd a)) () N) ∗ atPos ER (cell c (.rcv a)) 0 ∅ 0 ∗ cred (tallyAt (cell c (.rcv a)) () N)
    ∗ inHalf m a c (core c))
/-- Between the first point and the last. -/
def under (c : Dev nD) : sProp 𝕄 :=
  iprop((∃ K, records m K) ∗ semVal (cell c .bar) 0 ∗ all2 (way m c))

/-- After the last point. -/
def over (c : Dev nD) : sProp 𝕄 :=
  iprop(semVal (cell c .bar) 0 ∗ all2 (fun a => iprop(semVal (cell c (.snd a)) 0 ∗ semVal (cell c (.rcv a)) 0))
    ∗ all2 (fun a => iprop(owns (c : Thread nD τ) (inM a) fullShare (inX m a c) ∗ owns (c : Thread nD τ) (outM a) fullShare (outX m a c))))

/-- The accumulator. -/
abbrev accM : Memref sig .tc .vmem S1408x1024 .f32 := Memref.whole cc0_scratch0
abbrev accIs (c : Dev nD) (z : Vec F S1408x1024 .f32) : sProp 𝕄 := owns (c : Thread nD τ) accM fullShare z

theorem bigSep_halves (c : Dev nD) (Φ : Fin 2 → sProp 𝕄) : bigSep Finset.univ Φ = iprop(Φ (core c) ∗ Φ (core (pr c))) := by
  rw [bigSep_univ_equiv (Equiv.ofBijective (order c) (order_bij c)) Φ,
    bigSep_univ_eq_bigSepL [(0 : Fin 2), 1] (by decide) (by decide)]
  rfl

theorem in_halves (a : Fin 2) (c : Dev nD) :
    owns (c : Thread nD τ) (inM a) fullShare (inX m a c) ⊢ (iprop(inHalf m a c (core c) ∗ inHalf m a c (core (pr c))) : sProp 𝕄) :=
  (owns_split c (inM a) (inX m a c)).trans (Entails.of_eq (bigSep_halves c _))
theorem in_whole (a : Fin 2) (c : Dev nD) :
    (iprop(inHalf m a c (core c) ∗ inHalf m a c (core (pr c))) : sProp 𝕄) ⊢ owns (c : Thread nD τ) (inM a) fullShare (inX m a c) :=
  (Entails.of_eq (bigSep_halves c fun n => inHalf m a c n).symm).trans (owns_join c (inM a) (m _) (inX m a c))

/-! ## The addresses -/

theorem dev1_eq (c : Dev nD) {h} : (⟨k0_dev1 c, h⟩ : Dev nD) = pr c := Fin.ext ((by decide +kernel : ∀ c, k0_dev1 c = (pr c).val) c)
theorem dev2_eq (c : Dev nD) {h} : (⟨k0_dev2 c, h⟩ : Dev nD) = pr c := Fin.ext ((by decide +kernel : ∀ c, k0_dev2 c = (pr c).val) c)
theorem dev3_eq (c : Dev nD) {h} : (⟨k0_dev3 c, h⟩ : Dev nD) = pr c := Fin.ext ((by decide +kernel : ∀ c, k0_dev3 c = (pr c).val) c)
theorem off1_eq (c : Dev nD) : k0_off1 c = offc (core (pr c)) := by revert c; decide +kernel

end Cert.PairProof
-- ==== Proof.PairStep.lean ====
/-
One point's run on one device, in five cases: the first point, a point that starts a column, one in the middle, one that
ends a column, and the last. The accumulator is loaded and stored whole; a column's last point stores the four quarters
of its block. The exchange is taken one operation after the other with the protocol's rules.
-/
module

public import proofs.«01_k».proof.Proof.PairBody
public import proofs.«01_k».proof.Proof.Gen.Kernel5Ideal.Skeleton
public import proofs.«01_k».proof.Proof.Gen.Kernel5Ideal.Frame

@[expose] public section

set_option maxRecDepth 16384

noncomputable section

namespace Cert.PairProof

open Cert.Kernel5Ideal Cert.Kernel5Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem off2 : (![0, 0] : Fin 2 → ℕ) = fun _ => 0 := by decide

/-! ## Loads and stores of a whole block -/

section Blocks
variable {α : Type} {Q : α → sProp (MT nD τ sig Unit (Elt F) ℕ UU ℕ)}

theorem wp_get (c : Dev nD) {sp : CoreSpace} {s : Shape} {e : EltTy} (M : Memref sig .tc sp s e) {off : Fin s.rank → ℕ} (h0 : off = fun _ => 0)
    {inb : ∀ a, off a + s.size a ≤ s.size a} {hl : M.view.LoadsAt (Rect.unit off s.size inb).toLoadRect} (X : s.Idx → Elt F e)
    {k : (s.Idx → Elt F e) → Prog (TpuEff nD τ sig (Elt F) Λ₀ .tc) α} :
    owns (c : Thread nD τ) M fullShare X
      ⊢ (iprop((owns (c : Thread nD τ) M fullShare X -∗ wp frame (wpE (defs₀ (F := F)) 𝒱₀ (c : Thread nD τ) none) Set.univ (k X) Q)
          -∗ wp frame (wpE (defs₀ (F := F)) 𝒱₀ (c : Thread nD τ) none) Set.univ (.op (.load M (Rect.unit off s.size inb).toLoadRect hl) k) Q) : sProp 𝕄) := by
  subst h0
  unfold owns
  iintro ⟨%f, %hf, H⟩ Hk
  iapply (wp_load (m := M) (r := (Rect.unit (fun _ => 0) s.size inb).toLoadRect) (S := M.view.set) (q := fullShare) (f := f) 𝒱₀ (c : Thread nD τ) none Set.univ (View.setOn_subset_set _ _)) $$ H
  iintro H
  have hr : M.view.readAt (Elt F) (Rect.unit (fun _ => 0) s.size inb).toLoadRect f = X := by
    rw [← hf]; funext x
    show M.view.read (Elt F) f ((Rect.whole s).emb x) = _
    rw [Rect.emb_whole_apply]
  rw [hr]
  iapply Hk
  iexists f
  isplitr
  · ipureintro; exact hf
  iexact H

theorem wp_put (c : Dev nD) {sp : CoreSpace} {s : Shape} {e : EltTy} (M : Memref sig .tc sp s e) {off : Fin s.rank → ℕ} (h0 : off = fun _ => 0)
    {inb : ∀ a, off a + s.size a ≤ s.size a} {w : s.Idx → Elt F e} {hx} {hm} (X : s.Idx → Elt F e)
    {k : PUnit → Prog (TpuEff nD τ sig (Elt F) Λ₀ .tc) α} :
    owns (c : Thread nD τ) M fullShare X
      ⊢ (iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) : sProp 𝕄) := by
  subst h0
  unfold owns
  iintro ⟨%f, %hf, H⟩ Hk
  iapply (wp_store (m := M) (r := Rect.unit (fun _ => 0) s.size inb) (S := M.view.set) (f := f) 𝒱₀ (c : Thread nD τ) none Set.univ (View.set_slice_subset _ _)) $$ H
  iintro H
  iapply Hk
  iexists _
  isplitr
  swap; · iexact H
  ipureintro
  have hv := View.read_write_univ (v := M.access (Rect.unit (fun _ => 0) s.size inb)) (Val := Elt F) f w
  funext x
  have hx' := congrFun hv x
  have he : (Rect.unit (fun _ => 0) s.size inb).emb x = x := Rect.emb_whole_apply s x
  exact (congrArg (M.view.read (Elt F) _) he.symm).trans hx'

/-- A block some pieces of which have been stored: those pieces, over contents not named. -/
def stored (c : Dev nD) {sp : Space} {s : Shape} {e : EltTy} (M : Memref sig .tc sp s e) (P : List (View.Piece (Elt F) s e)) : sProp (MT nD τ sig Unit (Elt F) ℕ UU ℕ) :=
  iprop(∃ f : Buf (Elt F) (M.view.loc (c : Thread nD τ)), M.view.loc (c : Thread nD τ) ↦[M.view.set]{fullShare} M.view.writes (Elt F) f P)

theorem stored_none (c : Dev nD) {sp : Space} {s : Shape} {e : EltTy} (M : Memref sig .tc sp s e) (X : s.Idx → Elt F e) :
    owns (c : Thread nD τ) M fullShare X ⊢ (stored c M [] : sProp (MT nD τ sig Unit (Elt F) ℕ UU ℕ)) := by
  unfold stored owns
  iintro ⟨%f, -, H⟩
  iexists f
  iexact H

theorem stored_all (c : Dev nD) {sp : Space} {s : Shape} {e : EltTy} (M : Memref sig .tc sp s e) (P : List (View.Piece (Elt F) s e))
    (h : ∀ y, ∃ p ∈ P, y ∈ p.1.set) :
    stored c M P ⊢ (owns (c : Thread nD τ) M fullShare (View.canon P) : sProp (MT nD τ sig Unit (Elt F) ℕ UU ℕ)) := by
  unfold stored owns
  iintro ⟨%f, H⟩
  iexists _
  isplitr
  swap; · iexact H
  ipureintro
  exact View.read_writes_eq_canon M.view f P h

theorem wp_peek (c : Dev nD) {sp : CoreSpace} {s : Shape} {e : EltTy} (M : Memref sig .tc sp s e) {r : Rect s}
    {hl : M.view.LoadsAt r.toLoadRect} (P : List (View.Piece (Elt F) s e)) {p : Prog (TpuEff nD τ sig (Elt F) Λ₀ .tc) α} :
    stored c M P
      ⊢ (iprop((stored c M P -∗ wp frame (wpE (defs₀ (F := F)) 𝒱₀ (c : Thread nD τ) none) Set.univ p Q)
          -∗ wp frame (wpE (defs₀ (F := F)) 𝒱₀ (c : Thread nD τ) none) Set.univ (.op (.load M r.toLoadRect hl) fun _ => p) Q) : sProp 𝕄) := by
  unfold stored
  iintro ⟨%f, H⟩ Hk
  iapply (wp_load (m := M) (r := r.toLoadRect) (S := M.view.set) (q := fullShare) (f := M.view.writes (Elt F) f P) 𝒱₀ (c : Thread nD τ) none Set.univ (View.setOn_subset_set _ _)) $$ H
  iintro H
  iapply Hk
  iexists f
  iexact H

theorem wp_piece (c : Dev nD) {sp : CoreSpace} {s : Shape} {e : EltTy} (M : Memref sig .tc sp s e) {r : Rect s} {w : r.shape.Idx → Elt F e}
    {hx} {hm} (P : List (View.Piece (Elt F) s e)) {k : PUnit → Prog (TpuEff nD τ sig (Elt F) Λ₀ .tc) α} :
    stored c M P
      ⊢ (iprop((stored c M (⟨r, w⟩ :: P) -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) : sProp 𝕄) := by
  unfold stored
  iintro ⟨%f, H⟩ Hk
  iapply (wp_store_writes (m := M) (r := r) (w := w) (L := P) (S := M.view.set) (f := f) 𝒱₀ (c : Thread nD τ) none Set.univ (View.set_slice_subset _ _)) $$ H
  iintro H
  iapply Hk
  iexists f
  iexact H
end Blocks

/-! ## What a point leaves -/

/-- The accumulator after a point, from what it held before and the point's two blocks. -/
def accOf (z : Vec F S1408x1024 .f32) (x0 : Vec F S1024x1408 .bf16) (x1 : Vec F S1024x1024 .bf16) : Vec F S1408x1024 .f32 := k0_pay2 z x0 x1
/-- The four quarters of a block of the result, as stored, the last one first. -/
def quarters (z : Vec F S1408x1024 .f32) : List (View.Piece (Elt F) S2x2x352x1024 .bf16) :=
  [⟨Rect.unit ![1, 1, 0, 0] S1x1x352x1024.size inb_S2x2x352x1024_S1x1x352x1024_1_1_0_0, k0_pay7 z⟩,
    ⟨Rect.unit ![0, 1, 0, 0] S1x1x352x1024.size inb_S2x2x352x1024_S1x1x352x1024_0_1_0_0, k0_pay6 z⟩,
    ⟨Rect.unit ![1, 0, 0, 0] S1x1x352x1024.size inb_S2x2x352x1024_S1x1x352x1024_1_0_0_0, k0_pay5 z⟩,
    ⟨Rect.unit ![0, 0, 0, 0] S1x1x352x1024.size inb_S2x2x352x1024_S1x1x352x1024_0_0_0_0, k0_pay4 z⟩]
/-- A block of the result, from the accumulator. -/
def blockOf (z : Vec F S1408x1024 .f32) : Vec F S2x2x352x1024 .bf16 := View.canon (quarters z)

theorem quarters_cover (z : Vec F S1408x1024 .f32) (y : S2x2x352x1024.Idx) : ∃ p ∈ quarters z, y ∈ p.1.set := by
  have b0 : (y 0).val < 2 := (y 0).isLt
  have b1 : (y 1).val < 2 := (y 1).isLt
  have b2 : (y 2).val < 352 := (y 2).isLt
  have b3 : (y 3).val < 1024 := (y 3).isLt
  have key (p q : ℕ) (inb) (h0 : (y 0).val = p) (h1 : (y 1).val = q) :
      y ∈ (Rect.unit (s := S2x2x352x1024) ![p, q, 0, 0] S1x1x352x1024.size inb).set := by
    rw [Rect.mem_set_unit]
    intro a
    match a with
    | ⟨0, _⟩ => show p ≤ (y 0).val ∧ (y 0).val < p + 1; omega
    | ⟨1, _⟩ => show q ≤ (y 1).val ∧ (y 1).val < q + 1; omega
    | ⟨2, _⟩ => show 0 ≤ (y 2).val ∧ (y 2).val < 0 + 352; omega
    | ⟨3, _⟩ => show 0 ≤ (y 3).val ∧ (y 3).val < 0 + 1024; omega
  unfold quarters
  rcases (show (y 0).val = 0 ∨ (y 0).val = 1 by omega) with h0 | h0 <;> rcases (show (y 1).val = 0 ∨ (y 1).val = 1 by omega) with h1 | h1
  · exact ⟨_, List.mem_cons_of_mem _ (List.mem_cons_of_mem _ (List.mem_cons_of_mem _ List.mem_cons_self)), key 0 0 inb_S2x2x352x1024_S1x1x352x1024_0_0_0_0 h0 h1⟩
  · exact ⟨_, List.mem_cons_of_mem _ List.mem_cons_self, key 0 1 inb_S2x2x352x1024_S1x1x352x1024_0_1_0_0 h0 h1⟩
  · exact ⟨_, List.mem_cons_of_mem _ (List.mem_cons_of_mem _ List.mem_cons_self), key 1 0 inb_S2x2x352x1024_S1x1x352x1024_1_0_0_0 h0 h1⟩
  · exact ⟨_, List.mem_cons_self, key 1 1 inb_S2x2x352x1024_S1x1x352x1024_1_1_0_0 h0 h1⟩

theorem block_stored (c : Dev nD) {sp : Space} (M : Memref sig .tc sp S2x2x352x1024 .bf16) (z : Vec F S1408x1024 .f32) :
    stored c M
        [⟨Rect.unit ![1, 1, 0, 0] ![1, 1, 352, 1024] inb_S2x2x352x1024_S1x1x352x1024_1_1_0_0, k0_pay7 z⟩,
          ⟨Rect.unit ![0, 1, 0, 0] ![1, 1, 352, 1024] inb_S2x2x352x1024_S1x1x352x1024_0_1_0_0, k0_pay6 z⟩,
          ⟨Rect.unit ![1, 0, 0, 0] ![1, 1, 352, 1024] inb_S2x2x352x1024_S1x1x352x1024_1_0_0_0, k0_pay5 z⟩,
          ⟨Rect.unit ![0, 0, 0, 0] ![1, 1, 352, 1024] inb_S2x2x352x1024_S1x1x352x1024_0_0_0_0, k0_pay4 z⟩]
      ⊢ (owns (c : Thread nD τ) M fullShare (blockOf z) : sProp (MT nD τ sig Unit (Elt F) ℕ UU ℕ)) :=
  stored_all c M (quarters z) (quarters_cover z)

/-- A column's first point. -/
abbrev condK (i : grid0.Coords) : BitVec 1 := Scalar.cmpi .ne (Scalar.extui (Scalar.cmpi .eq (BitVec.ofNat 32 (i 1).val) 0#32) : BitVec 32) 0#32

theorem dutyK_zero (k : Kd) : dutyK k 0 = {0} := by cases k <;> rfl

/-! ## The waits of the last point -/

section Waits
variable (K : Dev nD × Kd → ℕ) {α : Type} {Q : α → sProp (MT nD τ sig Unit (Elt F) ℕ UU ℕ)} {k' : PUnit → Prog (TpuEff nD τ sig (Elt F) Λ₀ .tc) α}

theorem N_row {sp sp' : Space} (M : Memref sig .tc sp S4x352x1024 .bf16) : M.view.dmaCredit = N := by unfold N; rfl

theorem wp_round1 (c : Dev nD) (k : Kd) (ha : amtK k = N) {sp sp' : Space} (S : Memref sig .tc sp' S4x352x1024 .bf16) (D : Memref sig .tc sp S4x352x1024 .bf16)
    {q : DmaSem sig} (hq : SemLoc.dma q = ksem k) {hs hd} :
    iprop(records m K ∗ cred (tallyAt (cell c k) () N) ∗ owesE c 0 ∗ atPos ER (cell c k) 0 ∅ 0)
      ⊢ iprop(((owesE c 0 ∗ atPos ER (cell c k) 1 ∅ 0 ∗ reached ER (cell c k) 1 ∗ payK m c k)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q S D hs hd) k') Q) := by
  have hn : (dutyK k 0).card * amtK k = N := by rw [dutyK_zero, ha, Finset.card_singleton, Nat.one_mul]
  have h := wp_round (F := F) m K (Q := Q) (k' := k') c k 0 (w := .waitDma2 q S D hs hd) hq (wpE_waitDma2_eq 𝒱₀ (c : Thread nD τ) none Set.univ)
    ((N_row (sp' := sp) D).trans hn.symm) 0
  rw [hn, dutyK_zero, bigSep_singleton, MayWait_zero] at h
  iintro ⟨HR, Hc, HO, Hp⟩ Hk
  iapply h $$ [HR Hc HO Hp]
  · isplitl [HR]; · iexact HR
    isplitl [Hc]; · iexact Hc
    isplitl [HO]; · iexact HO
    isplitr; · iempintro
    iexact Hp
  iexact Hk
end Waits

theorem snd_hands (c : Dev nD) (a : Fin 2) : payK m c (.snd a) ⊢ (inHalf m a c (core (pr c)) : sProp 𝕄) := Entails.rfl
theorem rcv_hands (c : Dev nD) (a : Fin 2) : payK m c (.rcv a) ⊢ (owns (c : Thread nD τ) (outM a) fullShare (outX m a c) : sProp 𝕄) := Entails.rfl
theorem bar_hands (c : Dev nD) : (bigSep (dutyK .bar 0) (fun _ => payK m c .bar) : sProp 𝕄) ⊢ iprop(outAny (F := F) 0 (pr c) ∗ outAny (F := F) 1 (pr c)) := by
  rw [dutyK_zero, bigSep_singleton]
  exact Entails.rfl

end Cert.PairProof
-- ==== Proof.PairCases.lean ====
/-
The five cases of a point's run.
-/
module

public import proofs.«01_k».proof.Proof.PairStep
public import proofs.«01_k».proof.Proof.Gen.Kernel5Ideal.Skeleton
public import proofs.«01_k».proof.Proof.Gen.Kernel5Ideal.Frame

@[expose] public section

set_option maxRecDepth 16384

noncomputable section

namespace Cert.PairProof

open Cert.Kernel5Ideal Cert.Kernel5Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
/-- The first point: it starts the exchange and the first column. -/
theorem body_first (c : Dev nD) (i : grid0.Coords) (a2 : Memref sig .tc .vmem S1024x1408 .bf16) (h2 : a2.IsWhole) (a3 : Memref sig .tc .vmem S1024x1024 .bf16) (h3 : a3.IsWhole) (a6 : Memref sig .tc .vmem S2x2x352x1024 .bf16) (h6 : a6.IsWhole)
    (H1 : k0_cond1 i = 1#1) (H2 : condK i = 1#1) (H3 : ¬ k0_cond3 i = 1#1) (H4 : ¬ k0_cond4 i = 1#1)
    (x0 : Vec F S1024x1408 .bf16) (x1 : Vec F S1024x1024 .bf16) {Q : PUnit → sProp (MT nD τ sig Unit (Elt F) ℕ UU ℕ)} :
    iprop(owesE c (O₀ c) ∗ start m c ∗ owns (c : Thread nD τ) a2 fullShare x0 ∗ owns (c : Thread nD τ) a3 fullShare x1 ∗ (∃ z, accIs c z))
      ⊢ (iprop((iprop(owesE c 0 ∗ under m c ∗ owns (c : Thread nD τ) a2 fullShare x0 ∗ owns (c : Thread nD τ) a3 fullShare x1 ∗ accIs c (accOf k0_pay1 x0 x1)) -∗ Q ⟨⟩)
          -∗ wp frame (wpE (defs₀ (F := F)) 𝒱₀ (c : Thread nD τ) none) Set.univ
            (cc0_grad_w_down i a2 h2 a3 h3 (Memref.whole main_arg2) (Memref.isWhole_whole _) (Memref.whole main_arg3) (Memref.isWhole_whole _) a6 h6 (Memref.whole main_v1_1) (Memref.isWhole_whole _) (Memref.whole main_v1_2) (Memref.isWhole_whole _) accM (Memref.isWhole_whole _) cc0_scratch1 cc0_scratch2) Q) : sProp 𝕄) := by
  dsimp only [condK] at H2
  dsimp only [start, all2, link]
  iintro ⟨HO, ⟨⟨%K, #HR⟩, #Hlv, Pb, Cb, Tb, ⟨⟨Ps0, Pr0, Ts0, Tr0, Cr0⟩, ⟨Ps1, Pr1, Ts1, Tr1, Cr1⟩⟩, ⟨I0, I1⟩, ⟨U0, U1⟩⟩, A2, A3, ⟨%z, A9⟩⟩ Hk
  ihave I0 := in_halves m 0 c $$ I0
  icases I0 with ⟨J0, I0⟩
  ihave I1 := in_halves m 1 c $$ I1
  icases I1 with ⟨J1, I1⟩
  simp only [cc0_grad_w_down_eq_skeleton]
  unfold cc0_grad_w_down_skel
  simp only [k0_part3_eq_skeleton]
  unfold k0_part3_skel
  simp only [H1, dite_true, k0_part1_eq_skeleton]
  unfold k0_part1_skel
  simp only [H1, H2, H3, H4, dite_true, dite_false, semSignalWord, semWaitWord, Prog.lift, Prog.bind_op, Prog.bind_ret, Prog.pure_eq_ret, wp_deviceId]
  iapply (wp_bar m K c _ (dev1_eq c) rfl (owe2 c) (by decide)) $$ [HO Tb U0 U1]
  · isplitr; · iexact HR
    isplitl [HO]; · iexact HO
    isplitl [Tb]; · iexact Tb
    isplitl [U0]; · iexact U0
    iexact U1
  iintro HO
  iapply (wp_round m K c .bar 0 (s := SemLoc.reg barS) rfl (wpE_semWait_eq 𝒱₀ (c : Thread nD τ) none Set.univ) (by decide) (owe2 c)) $$ [Cb HO Pb]
  · isplitr; · iexact HR
    isplitl [Cb]; · iexact Cb
    isplitl [HO]; · iexact HO
    isplitr; · iapply (mayWait_bar c); iexact Hlv
    iexact Pb
  iintro ⟨HO, Pb, -, HU⟩
  ihave HU := (bar_hands m c) $$ HU
  icases HU with ⟨U0, U1⟩
  imod (close_cell m K c .bar 1 (by decide)) $$ [Pb] with Vb
  · isplitr; · iexact HR
    iexact Pb
  iapply (wp_sendhalf m K c _ 0 (dev2_eq c) (off1_eq c) rfl rfl (0 + oweR c 1)) $$ [I0 U0 HO Ts0 Tr0]
  · isplitr; · iexact HR
    isplitl [I0]; · iexact I0
    isplitl [U0]; · iexact U0
    isplitl [HO]; · iexact HO
    isplitl [Ts0]; · iexact Ts0
    iexact Tr0
  iintro ⟨Cs0, HO⟩
  iapply (wp_sendhalf m K c _ 1 (dev3_eq c) (off1_eq c) rfl rfl (0)) $$ [I1 U1 HO Ts1 Tr1]
  · isplitr; · iexact HR
    isplitl [I1]; · iexact I1
    isplitl [U1]; · iexact U1
    isplitl [HO]; · iexact HO
    isplitl [Ts1]; · iexact Ts1
    iexact Tr1
  iintro ⟨Cs1, HO⟩
  iapply (wp_get c accM off2) $$ A9
  iintro A9
  iapply (wp_put c accM off2) $$ A9
  iintro A9
  iapply (wp_get c accM off2) $$ A9
  iintro A9
  iapply (wp_get c a2 off2) $$ A2
  iintro A2
  iapply (wp_get c a3 off2) $$ A3
  iintro A3
  iapply (wp_get c accM off2) $$ A9
  iintro A9
  iapply (wp_put c accM off2) $$ A9
  iintro A9
  rw [wp_ret]
  imodintro
  iapply Hk
  isplitl [HO]; · iexact HO
  isplitr [A2 A3 A9]
  · dsimp only [under, all2, way]
    isplitr; · iexists K; iexact HR
    isplitl [Vb]; · iexact Vb
    isplitl [Ps0 Cs0 Pr0 Cr0 J0]
    · isplitl [Ps0]; · iexact Ps0
      isplitl [Cs0]; · iexact Cs0
      isplitl [Pr0]; · iexact Pr0
      isplitl [Cr0]; · iexact Cr0
      iexact J0
    isplitl [Ps1]; · iexact Ps1
    isplitl [Cs1]; · iexact Cs1
    isplitl [Pr1]; · iexact Pr1
    isplitl [Cr1]; · iexact Cr1
    iexact J1
  isplitl [A2]; · iexact A2
  isplitl [A3]; · iexact A3
  iexact A9

set_option maxHeartbeats 4000000 in
/-- A later column's first point. -/
theorem body_reset (c : Dev nD) (i : grid0.Coords) (a2 : Memref sig .tc .vmem S1024x1408 .bf16) (h2 : a2.IsWhole) (a3 : Memref sig .tc .vmem S1024x1024 .bf16) (h3 : a3.IsWhole) (a6 : Memref sig .tc .vmem S2x2x352x1024 .bf16) (h6 : a6.IsWhole)
    (H1 : ¬ k0_cond1 i = 1#1) (H2 : condK i = 1#1) (H3 : ¬ k0_cond3 i = 1#1) (H4 : ¬ k0_cond4 i = 1#1)
    (x0 : Vec F S1024x1408 .bf16) (x1 : Vec F S1024x1024 .bf16) {Q : PUnit → sProp (MT nD τ sig Unit (Elt F) ℕ UU ℕ)} :
    iprop(owns (c : Thread nD τ) a2 fullShare x0 ∗ owns (c : Thread nD τ) a3 fullShare x1 ∗ (∃ z, accIs c z))
      ⊢ (iprop((iprop(owns (c : Thread nD τ) a2 fullShare x0 ∗ owns (c : Thread nD τ) a3 fullShare x1 ∗ accIs c (accOf k0_pay1 x0 x1)) -∗ Q ⟨⟩)
          -∗ wp frame (wpE (defs₀ (F := F)) 𝒱₀ (c : Thread nD τ) none) Set.univ
            (cc0_grad_w_down i a2 h2 a3 h3 (Memref.whole main_arg2) (Memref.isWhole_whole _) (Memref.whole main_arg3) (Memref.isWhole_whole _) a6 h6 (Memref.whole main_v1_1) (Memref.isWhole_whole _) (Memref.whole main_v1_2) (Memref.isWhole_whole _) accM (Memref.isWhole_whole _) cc0_scratch1 cc0_scratch2) Q) : sProp 𝕄) := by
  dsimp only [condK] at H2
  iintro ⟨A2, A3, ⟨%z, A9⟩⟩ Hk
  simp only [cc0_grad_w_down_eq_skeleton]
  unfold cc0_grad_w_down_skel
  simp only [k0_part3_eq_skeleton]
  unfold k0_part3_skel
  simp only [H1, H2, H3, H4, dite_true, dite_false, semSignalWord, semWaitWord, Prog.lift, Prog.bind_op, Prog.bind_ret, Prog.pure_eq_ret, wp_deviceId]
  iapply (wp_get c accM off2) $$ A9
  iintro A9
  iapply (wp_put c accM off2) $$ A9
  iintro A9
  iapply (wp_get c accM off2) $$ A9
  iintro A9
  iapply (wp_get c a2 off2) $$ A2
  iintro A2
  iapply (wp_get c a3 off2) $$ A3
  iintro A3
  iapply (wp_get c accM off2) $$ A9
  iintro A9
  iapply (wp_put c accM off2) $$ A9
  iintro A9
  rw [wp_ret]
  imodintro
  iapply Hk
  isplitl [A2]; · iexact A2
  isplitl [A3]; · iexact A3
  iexact A9

set_option maxHeartbeats 4000000 in
/-- A point inside a column. -/
theorem body_mid (c : Dev nD) (i : grid0.Coords) (a2 : Memref sig .tc .vmem S1024x1408 .bf16) (h2 : a2.IsWhole) (a3 : Memref sig .tc .vmem S1024x1024 .bf16) (h3 : a3.IsWhole) (a6 : Memref sig .tc .vmem S2x2x352x1024 .bf16) (h6 : a6.IsWhole)
    (H1 : ¬ k0_cond1 i = 1#1) (H2 : ¬ condK i = 1#1) (H3 : ¬ k0_cond3 i = 1#1) (H4 : ¬ k0_cond4 i = 1#1)
    (x0 : Vec F S1024x1408 .bf16) (x1 : Vec F S1024x1024 .bf16) (z : Vec F S1408x1024 .f32) {Q : PUnit → sProp (MT nD τ sig Unit (Elt F) ℕ UU ℕ)} :
    iprop(owns (c : Thread nD τ) a2 fullShare x0 ∗ owns (c : Thread nD τ) a3 fullShare x1 ∗ accIs c z)
      ⊢ (iprop((iprop(owns (c : Thread nD τ) a2 fullShare x0 ∗ owns (c : Thread nD τ) a3 fullShare x1 ∗ accIs c (accOf z x0 x1)) -∗ Q ⟨⟩)
          -∗ wp frame (wpE (defs₀ (F := F)) 𝒱₀ (c : Thread nD τ) none) Set.univ
            (cc0_grad_w_down i a2 h2 a3 h3 (Memref.whole main_arg2) (Memref.isWhole_whole _) (Memref.whole main_arg3) (Memref.isWhole_whole _) a6 h6 (Memref.whole main_v1_1) (Memref.isWhole_whole _) (Memref.whole main_v1_2) (Memref.isWhole_whole _) accM (Memref.isWhole_whole _) cc0_scratch1 cc0_scratch2) Q) : sProp 𝕄) := by
  dsimp only [condK] at H2
  iintro ⟨A2, A3, A9⟩ Hk
  simp only [cc0_grad_w_down_eq_skeleton]
  unfold cc0_grad_w_down_skel
  simp only [k0_part3_eq_skeleton]
  unfold k0_part3_skel
  simp only [H1, H2, H3, H4, dite_true, dite_false, semSignalWord, semWaitWord, Prog.lift, Prog.bind_op, Prog.bind_ret, Prog.pure_eq_ret, wp_deviceId]
  iapply (wp_get c accM off2) $$ A9
  iintro A9
  iapply (wp_get c a2 off2) $$ A2
  iintro A2
  iapply (wp_get c a3 off2) $$ A3
  iintro A3
  iapply (wp_get c accM off2) $$ A9
  iintro A9
  iapply (wp_put c accM off2) $$ A9
  iintro A9
  rw [wp_ret]
  imodintro
  iapply Hk
  isplitl [A2]; · iexact A2
  isplitl [A3]; · iexact A3
  iexact A9

set_option maxHeartbeats 4000000 in
/-- A column's last point, other points following. -/
theorem body_store (c : Dev nD) (i : grid0.Coords) (a2 : Memref sig .tc .vmem S1024x1408 .bf16) (h2 : a2.IsWhole) (a3 : Memref sig .tc .vmem S1024x1024 .bf16) (h3 : a3.IsWhole) (a6 : Memref sig .tc .vmem S2x2x352x1024 .bf16) (h6 : a6.IsWhole)
    (H1 : ¬ k0_cond1 i = 1#1) (H2 : ¬ condK i = 1#1) (H3 : k0_cond3 i = 1#1) (H4 : ¬ k0_cond4 i = 1#1)
    (x0 : Vec F S1024x1408 .bf16) (x1 : Vec F S1024x1024 .bf16) (z : Vec F S1408x1024 .f32) {Q : PUnit → sProp (MT nD τ sig Unit (Elt F) ℕ UU ℕ)} :
    iprop(owns (c : Thread nD τ) a2 fullShare x0 ∗ owns (c : Thread nD τ) a3 fullShare x1 ∗ accIs c z ∗ (∃ w, owns (c : Thread nD τ) a6 fullShare w))
      ⊢ (iprop((iprop(owns (c : Thread nD τ) a2 fullShare x0 ∗ owns (c : Thread nD τ) a3 fullShare x1 ∗ accIs c (accOf z x0 x1) ∗ owns (c : Thread nD τ) a6 fullShare (blockOf (accOf z x0 x1))) -∗ Q ⟨⟩)
          -∗ wp frame (wpE (defs₀ (F := F)) 𝒱₀ (c : Thread nD τ) none) Set.univ
            (cc0_grad_w_down i a2 h2 a3 h3 (Memref.whole main_arg2) (Memref.isWhole_whole _) (Memref.whole main_arg3) (Memref.isWhole_whole _) a6 h6 (Memref.whole main_v1_1) (Memref.isWhole_whole _) (Memref.whole main_v1_2) (Memref.isWhole_whole _) accM (Memref.isWhole_whole _) cc0_scratch1 cc0_scratch2) Q) : sProp 𝕄) := by
  dsimp only [condK] at H2
  iintro ⟨A2, A3, A9, ⟨%w, A6⟩⟩ Hk
  simp only [cc0_grad_w_down_eq_skeleton]
  unfold cc0_grad_w_down_skel
  simp only [k0_part3_eq_skeleton]
  unfold k0_part3_skel
  simp only [H1, H2, H3, H4, dite_true, dite_false, semSignalWord, semWaitWord, Prog.lift, Prog.bind_op, Prog.bind_ret, Prog.pure_eq_ret, wp_deviceId]
  iapply (wp_get c accM off2) $$ A9
  iintro A9
  iapply (wp_get c a2 off2) $$ A2
  iintro A2
  iapply (wp_get c a3 off2) $$ A3
  iintro A3
  iapply (wp_get c accM off2) $$ A9
  iintro A9
  iapply (wp_put c accM off2) $$ A9
  iintro A9
  iapply (wp_get c accM off2) $$ A9
  iintro A9
  ihave A6 := (stored_none c a6 w) $$ A6
  iapply (wp_peek c a6 _) $$ A6
  iintro A6
  iapply (wp_piece c a6 _) $$ A6
  iintro A6
  iapply (wp_peek c a6 _) $$ A6
  iintro A6
  iapply (wp_piece c a6 _) $$ A6
  iintro A6
  iapply (wp_peek c a6 _) $$ A6
  iintro A6
  iapply (wp_piece c a6 _) $$ A6
  iintro A6
  iapply (wp_peek c a6 _) $$ A6
  iintro A6
  iapply (wp_piece c a6 _) $$ A6
  iintro A6
  ihave A6 := (block_stored c a6 _) $$ A6
  rw [wp_ret]
  imodintro
  iapply Hk
  isplitl [A2]; · iexact A2
  isplitl [A3]; · iexact A3
  isplitl [A9]; · iexact A9
  iexact A6

set_option maxHeartbeats 4000000 in
/-- The last point: it ends the last column and the exchange. -/
theorem body_last (c : Dev nD) (i : grid0.Coords) (a2 : Memref sig .tc .vmem S1024x1408 .bf16) (h2 : a2.IsWhole) (a3 : Memref sig .tc .vmem S1024x1024 .bf16) (h3 : a3.IsWhole) (a6 : Memref sig .tc .vmem S2x2x352x1024 .bf16) (h6 : a6.IsWhole)
    (H1 : ¬ k0_cond1 i = 1#1) (H2 : ¬ condK i = 1#1) (H3 : k0_cond3 i = 1#1) (H4 : k0_cond4 i = 1#1)
    (x0 : Vec F S1024x1408 .bf16) (x1 : Vec F S1024x1024 .bf16) (z : Vec F S1408x1024 .f32) {Q : PUnit → sProp (MT nD τ sig Unit (Elt F) ℕ UU ℕ)} :
    iprop(owesE c 0 ∗ under m c ∗ owns (c : Thread nD τ) a2 fullShare x0 ∗ owns (c : Thread nD τ) a3 fullShare x1 ∗ accIs c z ∗ (∃ w, owns (c : Thread nD τ) a6 fullShare w))
      ⊢ (iprop((iprop(owesE c 0 ∗ over m c ∗ owns (c : Thread nD τ) a2 fullShare x0 ∗ owns (c : Thread nD τ) a3 fullShare x1 ∗ accIs c (accOf z x0 x1) ∗ owns (c : Thread nD τ) a6 fullShare (blockOf (accOf z x0 x1))) -∗ Q ⟨⟩)
          -∗ wp frame (wpE (defs₀ (F := F)) 𝒱₀ (c : Thread nD τ) none) Set.univ
            (cc0_grad_w_down i a2 h2 a3 h3 (Memref.whole main_arg2) (Memref.isWhole_whole _) (Memref.whole main_arg3) (Memref.isWhole_whole _) a6 h6 (Memref.whole main_v1_1) (Memref.isWhole_whole _) (Memref.whole main_v1_2) (Memref.isWhole_whole _) accM (Memref.isWhole_whole _) cc0_scratch1 cc0_scratch2) Q) : sProp 𝕄) := by
  dsimp only [condK] at H2
  dsimp only [under, all2, way]
  iintro ⟨HO, ⟨⟨%K, #HR⟩, Vb, ⟨⟨Ps0, Cs0, Pr0, Cr0, J0⟩, ⟨Ps1, Cs1, Pr1, Cr1, J1⟩⟩⟩, A2, A3, A9, ⟨%w, A6⟩⟩ Hk
  simp only [cc0_grad_w_down_eq_skeleton]
  unfold cc0_grad_w_down_skel
  simp only [k0_part3_eq_skeleton, k0_part2_eq_skeleton]
  unfold k0_part3_skel k0_part2_skel
  simp only [H1, H2, H3, H4, dite_true, dite_false, semSignalWord, semWaitWord, Prog.lift, Prog.bind_op, Prog.bind_ret, Prog.pure_eq_ret, wp_deviceId]
  iapply (wp_get c accM off2) $$ A9
  iintro A9
  iapply (wp_get c a2 off2) $$ A2
  iintro A2
  iapply (wp_get c a3 off2) $$ A3
  iintro A3
  iapply (wp_get c accM off2) $$ A9
  iintro A9
  iapply (wp_put c accM off2) $$ A9
  iintro A9
  iapply (wp_get c accM off2) $$ A9
  iintro A9
  ihave A6 := (stored_none c a6 w) $$ A6
  iapply (wp_peek c a6 _) $$ A6
  iintro A6
  iapply (wp_piece c a6 _) $$ A6
  iintro A6
  iapply (wp_peek c a6 _) $$ A6
  iintro A6
  iapply (wp_piece c a6 _) $$ A6
  iintro A6
  iapply (wp_peek c a6 _) $$ A6
  iintro A6
  iapply (wp_piece c a6 _) $$ A6
  iintro A6
  iapply (wp_peek c a6 _) $$ A6
  iintro A6
  iapply (wp_piece c a6 _) $$ A6
  iintro A6
  ihave A6 := (block_stored c a6 _) $$ A6
  iapply (wp_round1 m K c (.snd 0) rfl _ _ rfl) $$ [Cs0 HO Ps0]
  · isplitr; · iexact HR
    isplitl [Cs0]; · iexact Cs0
    isplitl [HO]; · iexact HO
    iexact Ps0
  iintro ⟨HO, Ps0, -, Hp⟩
  ihave I0 := (snd_hands m c 0) $$ Hp
  iapply (wp_round1 m K c (.rcv 0) rfl _ _ rfl) $$ [Cr0 HO Pr0]
  · isplitr; · iexact HR
    isplitl [Cr0]; · iexact Cr0
    isplitl [HO]; · iexact HO
    iexact Pr0
  iintro ⟨HO, Pr0, -, Hp⟩
  ihave U0 := (rcv_hands m c 0) $$ Hp
  iapply (wp_round1 m K c (.snd 1) rfl _ _ rfl) $$ [Cs1 HO Ps1]
  · isplitr; · iexact HR
    isplitl [Cs1]; · iexact Cs1
    isplitl [HO]; · iexact HO
    iexact Ps1
  iintro ⟨HO, Ps1, -, Hp⟩
  ihave I1 := (snd_hands m c 1) $$ Hp
  iapply (wp_round1 m K c (.rcv 1) rfl _ _ rfl) $$ [Cr1 HO Pr1]
  · isplitr; · iexact HR
    isplitl [Cr1]; · iexact Cr1
    isplitl [HO]; · iexact HO
    iexact Pr1
  iintro ⟨HO, Pr1, -, Hp⟩
  ihave U1 := (rcv_hands m c 1) $$ Hp
  rw [wp_ret]
  imod (close_cell m K c (.snd 0) 1 (by decide)) $$ [Ps0] with Ps0
  · isplitr; · iexact HR
    iexact Ps0
  imod (close_cell m K c (.rcv 0) 1 (by decide)) $$ [Pr0] with Pr0
  · isplitr; · iexact HR
    iexact Pr0
  imod (close_cell m K c (.snd 1) 1 (by decide)) $$ [Ps1] with Ps1
  · isplitr; · iexact HR
    iexact Ps1
  imod (close_cell m K c (.rcv 1) 1 (by decide)) $$ [Pr1] with Pr1
  · isplitr; · iexact HR
    iexact Pr1
  ihave I0 := (in_whole m 0 c) $$ [J0 I0]
  · isplitl [J0] <;> iassumption
  ihave I1 := (in_whole m 1 c) $$ [J1 I1]
  · isplitl [J1] <;> iassumption
  imodintro
  iapply Hk
  isplitl [HO]; · iexact HO
  isplitr [A2 A3 A9 A6]
  · dsimp only [over, all2]
    isplitl [Vb]; · iexact Vb
    isplitl [Ps0 Pr0 Ps1 Pr1]
    · isplitl [Ps0 Pr0]
      · isplitl [Ps0] <;> iassumption
      isplitl [Ps1] <;> iassumption
    isplitl [I0 U0]
    · isplitl [I0] <;> iassumption
    isplitl [I1] <;> iassumption
  isplitl [A2]; · iexact A2
  isplitl [A3]; · iexact A3
  isplitl [A9]; · iexact A9
  iexact A6

end Cert.PairProof
-- ==== Proof.PairRun.lean ====
/-
The points of the weight gradient's call together: the accumulator after each point, what every window's block holds
after it, and that the body takes what the pipeline has before a point to what it has after it.
-/
module

public import proofs.«01_k».proof.Proof.PairCases
public import proofs.«01_k».proof.Proof.Gen.Kernel5Ideal.Points
public import proofs.«01_k».proof.Proof.Gen.Kernel5Ideal.Launch
public import Idealize.ShloMosaic.Lib.Pipeline.FrameBody
public import proofs.«01_k».proof.Proof.Gen.Kernel5Ideal.Skeleton
public import proofs.«01_k».proof.Proof.Gen.Kernel5Ideal.Frame

@[expose] public section

set_option maxRecDepth 16384

noncomputable section

namespace Cert.PairProof

open Cert.Kernel5Ideal Cert.Kernel5Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The accumulator after `n` points; a column's first point starts it again. -/
def accB (c : Dev nD) : ℕ → Vec F S1408x1024 .f32
  | 0 => k0_pay1
  | n + 1 => if h : n < cfg0.N then accOf (if n % 4 = 0 then k0_pay1 else accB c n) (iblk m c 0 ⟨n, h⟩) (iblk m c 1 ⟨n, h⟩) else accB c n

theorem accB_step (c : Dev nD) (t : Fin cfg0.N) :
    accB m c (t.val + 1) = accOf (if t.val % 4 = 0 then k0_pay1 else accB m c t.val) (iblk m c 0 t) (iblk m c 1 t) := by
  show (if h : t.val < cfg0.N then _ else _) = _
  rw [dif_pos t.isLt]
theorem accB_first (c : Dev nD) (t : Fin cfg0.N) (h : t.val % 4 = 0) : accB m c (t.val + 1) = accOf k0_pay1 (iblk m c 0 t) (iblk m c 1 t) := by
  rw [accB_step, if_pos h]
theorem accB_next (c : Dev nD) (t : Fin cfg0.N) (h : ¬ t.val % 4 = 0) : accB m c (t.val + 1) = accOf (accB m c t.val) (iblk m c 0 t) (iblk m c 1 t) := by
  rw [accB_step, if_neg h]

/-- What a device holds before point `n` besides the windows. -/
def held (c : Dev nD) (n : ℕ) : sProp 𝕄 :=
  if n = 0 then iprop(start m c ∗ (∃ z, accIs (F := F) c z)) else if n < 8 then iprop(under m c ∗ accIs c (accB m c n)) else iprop(over m c ∗ (∃ z, accIs (F := F) c z))

theorem held_zero (c : Dev nD) (n : ℕ) (h : n = 0) : held m c n = iprop(start m c ∗ (∃ z, accIs (F := F) c z)) := if_pos h
theorem held_mid (c : Dev nD) (n : ℕ) (h : n ≠ 0) (h8 : n < 8) : held m c n = iprop(under m c ∗ accIs c (accB m c n)) := (if_neg h).trans (if_pos h8)
theorem held_end (c : Dev nD) (n : ℕ) (h8 : ¬ n < 8) : held m c n = iprop(over m c ∗ (∃ z, accIs (F := F) c z)) := (if_neg (by omega)).trans (if_neg h8)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => blockOf (accB m c (t.val + 1))
  Φ t := held m c t.val
  q _ := fullShare
  owed t := if t.val = 0 then O₀ c else 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blockOf (accB m c (t.val + 1)) := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem cond1_iff : ∀ t : Fin cfg0.N, k0_cond1 (grid0.coords t) = 1#1 ↔ t.val = 0 :=
  (by decide +kernel : ∀ t : Fin grid0.N, k0_cond1 (grid0.coords t) = 1#1 ↔ t.val = 0)
theorem condK_iff : ∀ t : Fin cfg0.N, condK (grid0.coords t) = 1#1 ↔ t.val % 4 = 0 :=
  (by decide +kernel : ∀ t : Fin grid0.N, condK (grid0.coords t) = 1#1 ↔ t.val % 4 = 0)
theorem cond3_iff : ∀ t : Fin cfg0.N, k0_cond3 (grid0.coords t) = 1#1 ↔ t.val % 4 = 3 :=
  (by decide +kernel : ∀ t : Fin grid0.N, k0_cond3 (grid0.coords t) = 1#1 ↔ t.val % 4 = 3)
theorem cond4_iff : ∀ t : Fin cfg0.N, k0_cond4 (grid0.coords t) = 1#1 ↔ t.val = 7 :=
  (by decide +kernel : ∀ t : Fin grid0.N, k0_cond4 (grid0.coords t) = 1#1 ↔ t.val = 7)
theorem idle_2 (t : Fin cfg0.N) : cfg0.idle 2 (grid0.coords t) = !(k0_cond3 (grid0.coords t) == 1#1) := rfl

/-- Inside a column the block of the result is handed back as it was found, -/
theorem leaves_kept (c : Dev nD) (t : Fin cfg0.N) (h : ¬ t.val % 4 = 3) :
    (dats m 0 c).leavesExact 2 t = iprop(∃ d, owns (c : Thread nD τ) (st0_2 t) fullShare ((dats m 0 c).before 2 t d)) := by
  refine (dats m 0 c).leavesExact_idle 2 t ?_ ?_
  · show (!(k0_cond3 (grid0.coords t) == 1#1)) = true
    rw [beq_false_of_ne fun h' => h ((cond3_iff t).mp h')]
    rfl
  · exact Bool.eq_false_iff.mpr fun h' => h ((flush0_2 t).mp h')
/-- and at its end it holds the four quarters. -/
theorem leaves_stored (c : Dev nD) (t : Fin cfg0.N) (h : t.val % 4 = 3) :
    (dats m 0 c).leavesExact 2 t = owns (c : Thread nD τ) (st0_2 t) fullShare ((dats m 0 c).after 2 t) := by
  unfold Dat.leavesExact
  rw [show cfg0.idle 2 (cfg0.grid.coords t) = false from by
    show (!(k0_cond3 (grid0.coords t) == 1#1)) = false
    rw [(cond3_iff t).mpr h]
    rfl]

theorem owes_in (c : Dev nD) (t : Fin (cfg0.N + 1)) : (dats m 0 c).owesAt () t ⊢ owesE c ((dats m 0 c).owed t) := by
  unfold Dat.owesAt Pipeline.owesWithin owesE
  iintro ⟨%W, -, H⟩
  iexists W
  iexact H
theorem owes_out (c : Dev nD) (t : Fin (cfg0.N + 1)) : owesE c ((dats m 0 c).owed t) ⊢ (dats m 0 c).owesAt () t := by
  unfold Dat.owesAt Pipeline.owesWithin owesE
  iintro ⟨%W, H⟩
  iexists W
  isplitr
  · ipureintro; exact fun _ _ => Or.inl trivial
  iexact H

/-! ## The body at a point -/

/-- What the body has before point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- and after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leavesExact 2 t)

set_option maxHeartbeats 4000000 in
theorem sound_body (c : Dev nD) (t : Fin cfg0.N) :
    bodyPre m c t ⊢ wp frame (wpE (defs₀ (F := F)) 𝒱₀ (c : Thread nD τ) none) Set.univ (bodyAt0 t) (fun _ => bodyPost m c t) := by
  have hN : t.val < 8 := lt_of_lt_of_eq t.isLt (show cfg0.N = 8 from N_0)
  have o0 := owes_in m c t.castSucc
  have o1 := owes_out m c t.succ
  have e0 : (dats m 0 c).owed t.castSucc = if t.val = 0 then O₀ c else 0 := rfl
  have e1 : (dats m 0 c).owed t.succ = 0 := by
    show (if t.val + 1 = 0 then O₀ c else 0) = 0
    exact if_neg (Nat.succ_ne_zero t.val)
  have p0 : (dats m 0 c).Φ t.castSucc = held m c t.val := rfl
  have p1 : (dats m 0 c).Φ t.succ = held m c (t.val + 1) := rfl
  rw [e0] at o0
  rw [e1] at o1
  unfold bodyPre bodyPost
  rw [p0, p1]
  simp only [before_0, before_1]
  rw [after_0, after_1]
  by_cases h0 : t.val = 0
  · have hK : t.val % 4 = 0 := by omega
    have h3 : ¬ t.val % 4 = 3 := by omega
    have h7 : ¬ t.val = 7 := by omega
    rw [if_pos h0] at o0
    rw [held_zero m c t.val h0, held_mid m c (t.val + 1) (Nat.succ_ne_zero _) (by omega), leaves_kept m c t h3, accB_first m c t hK]
    unfold bodyAt0
    iintro ⟨⟨HΦ, HA⟩, Ho, ⟨%d0, H0⟩, ⟨%d1, H1⟩, ⟨%d2, H2⟩⟩
    ihave Ho := o0 $$ Ho
    iapply (body_first m c (grid0.coords t) _ _ _ _ _ _ ((cond1_iff t).mpr h0) ((condK_iff t).mpr hK) (fun h => h3 ((cond3_iff t).mp h)) (fun h => h7 ((cond4_iff t).mp h)) (iblk m c 0 t) (iblk m c 1 t)) $$ [Ho HΦ H0 H1 HA]
    · isplitl [Ho]; · iexact Ho
      isplitl [HΦ]; · iexact HΦ
      isplitl [H0]; · iexact H0
      isplitl [H1]; · iexact H1
      iexact HA
    iintro ⟨Ho, HΦ, H0, H1, HA⟩
    isplitl [HΦ HA]
    · isplitl [HΦ]; · iexact HΦ
      iexact HA
    isplitl [Ho]; · iapply o1; iexact Ho
    isplitl [H0]; · iexact H0
    isplitl [H1]; · iexact H1
    iexists d2; iexact H2
  · rw [if_neg h0] at o0
    by_cases hK : t.val % 4 = 0
    · have h3 : ¬ t.val % 4 = 3 := by omega
      have h7 : ¬ t.val = 7 := by omega
      rw [held_mid m c t.val h0 hN, held_mid m c (t.val + 1) (Nat.succ_ne_zero _) (by omega), leaves_kept m c t h3, accB_first m c t hK]
      unfold bodyAt0
      iintro ⟨⟨HΦ, HA⟩, Ho, ⟨%d0, H0⟩, ⟨%d1, H1⟩, ⟨%d2, H2⟩⟩
      iapply (body_reset c (grid0.coords t) _ _ _ _ _ _ (fun h => h0 ((cond1_iff t).mp h)) ((condK_iff t).mpr hK) (fun h => h3 ((cond3_iff t).mp h)) (fun h => h7 ((cond4_iff t).mp h)) (iblk m c 0 t) (iblk m c 1 t)) $$ [H0 H1 HA]
      · isplitl [H0]; · iexact H0
        isplitl [H1]; · iexact H1
        iexists _; iexact HA
      iintro ⟨H0, H1, HA⟩
      isplitl [HΦ HA]
      · isplitl [HΦ]; · iexact HΦ
        iexact HA
      isplitl [Ho]; · iapply o1; iapply o0; iexact Ho
      isplitl [H0]; · iexact H0
      isplitl [H1]; · iexact H1
      iexists d2; iexact H2
    · by_cases h3 : t.val % 4 = 3
      · by_cases h7 : t.val = 7
        · rw [held_mid m c t.val h0 hN, held_end m c (t.val + 1) (by omega), leaves_stored m c t h3, after_2, accB_next m c t hK]
          unfold bodyAt0
          iintro ⟨⟨HΦ, HA⟩, Ho, ⟨%d0, H0⟩, ⟨%d1, H1⟩, ⟨%d2, H2⟩⟩
          ihave Ho := o0 $$ Ho
          iapply (body_last m c (grid0.coords t) _ _ _ _ _ _ (fun h => h0 ((cond1_iff t).mp h)) (fun h => hK ((condK_iff t).mp h)) ((cond3_iff t).mpr h3) ((cond4_iff t).mpr h7) (iblk m c 0 t) (iblk m c 1 t) _) $$ [Ho HΦ H0 H1 HA H2]
          · isplitl [Ho]; · iexact Ho
            isplitl [HΦ]; · iexact HΦ
            isplitl [H0]; · iexact H0
            isplitl [H1]; · iexact H1
            isplitl [HA]; · iexact HA
            iexists _; iexact H2
          iintro ⟨Ho, HΦ, H0, H1, HA, H2⟩
          isplitl [HΦ HA]
          · isplitl [HΦ]; · iexact HΦ
            iexists _; iexact HA
          isplitl [Ho]; · iapply o1; iexact Ho
          isplitl [H0]; · iexact H0
          isplitl [H1]; · iexact H1
          iexact H2
        · rw [held_mid m c t.val h0 hN, held_mid m c (t.val + 1) (Nat.succ_ne_zero _) (by omega), leaves_stored m c t h3, after_2, accB_next m c t hK]
          unfold bodyAt0
          iintro ⟨⟨HΦ, HA⟩, Ho, ⟨%d0, H0⟩, ⟨%d1, H1⟩, ⟨%d2, H2⟩⟩
          iapply (body_store c (grid0.coords t) _ _ _ _ _ _ (fun h => h0 ((cond1_iff t).mp h)) (fun h => hK ((condK_iff t).mp h)) ((cond3_iff t).mpr h3) (fun h => h7 ((cond4_iff t).mp h)) (iblk m c 0 t) (iblk m c 1 t) _) $$ [H0 H1 HA H2]
          · isplitl [H0]; · iexact H0
            isplitl [H1]; · iexact H1
            isplitl [HA]; · iexact HA
            iexists _; iexact H2
          iintro ⟨H0, H1, HA, H2⟩
          isplitl [HΦ HA]
          · isplitl [HΦ]; · iexact HΦ
            iexact HA
          isplitl [Ho]; · iapply o1; iapply o0; iexact Ho
          isplitl [H0]; · iexact H0
          isplitl [H1]; · iexact H1
          iexact H2
      · have h7 : ¬ t.val = 7 := by omega
        rw [held_mid m c t.val h0 hN, held_mid m c (t.val + 1) (Nat.succ_ne_zero _) (by omega), leaves_kept m c t h3, accB_next m c t hK]
        unfold bodyAt0
        iintro ⟨⟨HΦ, HA⟩, Ho, ⟨%d0, H0⟩, ⟨%d1, H1⟩, ⟨%d2, H2⟩⟩
        iapply (body_mid c (grid0.coords t) _ _ _ _ _ _ (fun h => h0 ((cond1_iff t).mp h)) (fun h => hK ((condK_iff t).mp h)) (fun h => h3 ((cond3_iff t).mp h)) (fun h => h7 ((cond4_iff t).mp h)) (iblk m c 0 t) (iblk m c 1 t) _) $$ [H0 H1 HA]
        · isplitl [H0]; · iexact H0
          isplitl [H1]; · iexact H1
          iexact HA
        iintro ⟨H0, H1, HA⟩
        isplitl [HΦ HA]
        · isplitl [HΦ]; · iexact HΦ
          iexact HA
        isplitl [Ho]; · iapply o1; iapply o0; iexact Ho
        isplitl [H0]; · iexact H0
        isplitl [H1]; · iexact H1
        iexists d2; iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

end Cert.PairProof
-- ==== Proof.PairLaunch.lean ====
/-
The weight gradient's call with its exchange, from its launch. Every cell starts with its invariant and its tokens with
the device that pays; each device's credit is what its peer owes it; at the end every counter is zero, the two arrays
sent are as they were and the two received hold the halves the other core had for the device.
-/
module

public import proofs.«01_k».proof.Proof.PairRun
public import Idealize.ShloMosaic.Lib.Pipeline.CollectiveSegs
public import proofs.«01_k».proof.Proof.Gen.Kernel5Ideal.Skeleton
public import proofs.«01_k».proof.Proof.Gen.Kernel5Ideal.Frame

@[expose] public section

set_option maxRecDepth 16384

noncomputable section

namespace Cert.PairProof

open Cert.Kernel5Ideal Cert.Kernel5Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Tokens -/

/-- What a device pays: its peer's barrier, its own sends, its peer's receipts. -/
inductive Tk where
  | bar | snd (a : Fin 2) | rcv (a : Fin 2)
  deriving DecidableEq
def Tk.all : List Tk := [.bar, .snd 0, .snd 1, .rcv 0, .rcv 1]
instance : Fintype Tk where
  elems := ⟨Tk.all, by decide⟩
  complete t := by
    rcases t with _ | a | a
    · decide
    · revert a; decide
    · revert a; decide

def tokOf (ct : Dev nD × Tk) : GSem nD τ sig × ℕ × Fin 1 := match ct.2 with
  | .bar => (cell (pr ct.1) .bar, 0, 0)
  | .snd a => (cell ct.1 (.snd a), 0, 0)
  | .rcv a => (cell (pr ct.1) (.rcv a), 0, 0)

theorem tokOf_inj : Function.Injective tokOf := by
  rintro ⟨c, s⟩ ⟨d, t⟩ h
  have h1 := congrArg Prod.fst h
  rcases s with _ | a | a <;> rcases t with _ | b | b <;>
    dsimp only [tokOf] at h1 <;> obtain ⟨h4, h5⟩ := cell_inj h1 <;>
    first
    | (exfalso; simp at h5; done)
    | skip
  · rw [pr_inj h4]
  · cases h5; subst h4; rfl
  · cases h5; rw [pr_inj h4]

theorem cellP_inj : Function.Injective (fun ck : Dev nD × Kd => cell ck.1 ck.2) := by
  rintro ⟨c, k⟩ ⟨d, l⟩ h
  obtain ⟨rfl, rfl⟩ := cell_inj h
  rfl

def allCells : Finset (GSem nD τ sig) := Finset.univ.map ⟨fun ck : Dev nD × Kd => cell ck.1 ck.2, cellP_inj⟩
def allToks : Finset (GSem nD τ sig × ℕ × Fin 1) := Finset.univ.map ⟨tokOf, tokOf_inj⟩

def u₀ : UU := (initOf (Pipeline.cells cfgs cellOf_inj) (Pipeline.launchToks cfgs cellOf_inj), initOf allCells allToks)

abbrev tokens (c : Dev nD) : sProp 𝕄 := bigSep Finset.univ fun t : Tk => dutyTok ER (tokOf (c, t)).1 (tokOf (c, t)).2.1 (tokOf (c, t)).2.2
abbrev posns (c : Dev nD) : sProp 𝕄 := bigSep Finset.univ fun k : Kd => atPos ER (cell c k) 0 ∅ 0

/-- What the launch deals a device, -/
def G (c : Dev nD) : sProp 𝕄 :=
  iprop((bigSep Finset.univ fun k : Kd => roundState ER (Rd m) (cell c k) 0)
    ∗ (bigSep Finset.univ fun k : Kd => iprop(atPos ER (cell c k) 0 ∅ 0 ∗ reached ER (cell c k) 0)) ∗ tokens c)
/-- and what the device makes of it with all the others. -/
def G' (c : Dev nD) : sProp 𝕄 := iprop((∃ K, records m K) ∗ posns c ∗ tokens c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (cell c k) := by
    unfold allCells; rw [bigSep_map, bigSep_univ_prod]; rfl
  have hT : bigSep allToks (fun x => (dutyTok ER x.1 x.2.1 x.2.2 : sProp 𝕄)) = bigSep Finset.univ fun c : Dev nD => tokens c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

def osem (i : Fin 4) : SemLoc sig := .dma ⟨6 + i.val, by show _ < 10; omega⟩
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (cell c (.snd 0)) 0 ∗ semVal (cell c (.snd 1)) 0 ∗ semVal (cell c (.rcv 0)) 0 ∗ semVal (cell c (.rcv 1)) 0) := by
  rw [Pipeline.ownSems0_eq_of_list c osem [0, 1, 2, 3] (by decide) (by decide)]; rfl
theorem unscopedSems0_eq (c : Dev nD) : (unscopedSems0 c : sProp 𝕄) = semVal (cell c .bar) 0 := by
  unfold unscopedSems0; rw [bigSep_eq_bigSepL_of_eq [SemLoc.reg barS] (by decide) (by decide)]; rfl
theorem bigSep_Kd (Φ : Kd → sProp 𝕄) : bigSep Finset.univ Φ
    = iprop(Φ .bar ∗ Φ (.snd 0) ∗ Φ (.snd 1) ∗ Φ (.rcv 0) ∗ Φ (.rcv 1)) :=
  bigSep_univ_eq_bigSepL Kd.all (by decide) (by decide) Φ
theorem bigSep_Tk (Φ : Tk → sProp 𝕄) : bigSep Finset.univ Φ
    = iprop(Φ .bar ∗ Φ (.snd 0) ∗ Φ (.snd 1) ∗ Φ (.rcv 0) ∗ Φ (.rcv 1)) :=
  bigSep_univ_eq_bigSepL Tk.all (by decide) (by decide) Φ

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (cell c k) 0 : sProp 𝕄) := by
  rw [ownSems0_eq, unscopedSems0_eq, bigSep_Kd]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ tokens c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (cell c k) 0) ∗ bigSep Finset.univ fun k : Kd => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ tokens c) : sProp 𝕄)
      ⊢ bigSep Finset.univ (G' m) := by
  rw [bigSep_sep', bigSep_sep', ← bigSep_univ_prod (fun ck : Dev nD × Kd => iprop(∃ κ : ℕ, cellInv ER (Rd m) κ (cell ck.1 ck.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (κ : ℕ) => (cellInv ER (Rd m) κ (cell ck.1 ck.2) : sProp 𝕄))) $$ HI
  icases HK with ⟨%K, #HI⟩
  iapply (with_persistent (R := records m K) (Φ := fun c => iprop(posns c ∗ tokens c)) fun c _ => by
    unfold G'
    iintro ⟨#HR, HP, HT⟩
    isplitr; · iexists K; iexact HR
    isplitl [HP] <;> iassumption)
  isplitr
  · unfold records; isplitl; · iexact HI
    iexact HR
  · iapply (Entails.of_eq (bigSep_sep' Finset.univ (fun c : Dev nD => (posns c : sProp 𝕄)) tokens).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem tally_peer (c d : Dev nD) (x y : Kd) (n : ℕ) :
    tallyAt (cell (pr d) x) () n (cell c y) () = if d = pr c then (if x = y then n else 0) else 0 := by
  rw [tallyAt_apply]
  by_cases hd : d = pr c
  · subst hd
    rw [pr_pr, if_pos rfl]
    by_cases hx : x = y
    · subst hx; rw [if_pos ⟨rfl, rfl⟩, if_pos rfl]
    · rw [if_neg fun h => hx (cell_inj h.1).2.symm, if_neg hx]
  · rw [if_neg fun h => hd (by rw [(cell_inj h.1).1, pr_pr]), if_neg hd]

theorem owed_bar (c : Dev nD) : ∑ d : Dev nD, O₀ d (cell c .bar) () = 1 := by
  have h (d : Dev nD) : O₀ d (cell c .bar) () = if d = pr c then 1 else 0 := by
    unfold O₀ owe2
    simp only [Pi.add_apply, Finsupp.add_apply, tally_peer, Pi.zero_apply, Finsupp.zero_apply, reduceCtorEq, if_true, if_false, ite_self, Nat.zero_add]
  rw [Finset.sum_congr rfl fun d _ => h d]
  simp only [Finset.sum_ite_eq', Finset.mem_univ, if_true]

theorem owed_rcv (c : Dev nD) (a : Fin 2) : ∑ d : Dev nD, O₀ d (cell c (.rcv a)) () = N := by
  have h (d : Dev nD) : O₀ d (cell c (.rcv a)) () = if d = pr c then N else 0 := by
    unfold O₀ owe2
    simp only [Pi.add_apply, Finsupp.add_apply, tally_peer, Pi.zero_apply, Finsupp.zero_apply, reduceCtorEq, if_false, ite_self, Nat.zero_add, Nat.add_zero, Kd.rcv.injEq]
    fin_cases a <;> simp
  rw [Finset.sum_congr rfl fun d _ => h d]
  simp only [Finset.sum_ite_eq', Finset.mem_univ, if_true]

theorem launch_at (c : Dev nD) (k : Kd) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem creds (c : Dev nD) :
    (Pipeline.launchCred O₀ c : sProp 𝕄) ⊢ iprop(cred (tallyAt (cell c .bar) () 1) ∗ all2 fun a => cred (tallyAt (cell c (.rcv a)) () N)) := by
  unfold Pipeline.launchCred
  refine (BI.bigSep_subset (Finset.subset_univ (Finset.univ.map ⟨ksem, ksem_inj⟩))).trans (?_ : (_ : sProp 𝕄) ⊢ _)
  rw [bigSep_map, bigSep_Kd]
  dsimp only [Function.Embedding.coeFn_mk, all2]
  rw [launch_at c .bar 1 (owed_bar c), launch_at c (.rcv 0) N (owed_rcv c 0), launch_at c (.rcv 1) N (owed_rcv c 1)]
  iintro ⟨HB, -, -, H0, H1⟩
  isplitl [HB]; · iexact HB
  isplitl [H0] <;> iassumption

/-! ## From the launch to the first point, and from the last point to the end -/

theorem own_whole {sp : Space} {s : Shape} {e : EltTy} (c : Dev nD) (b : Ref sig .tc) (M : Memref sig .tc sp s e) (X : s.Idx → Elt F e)
    (f : Buf (Elt F) (M.view.loc (c : Thread nD τ))) (hs : M.view.set = Finset.univ) (h : M.view.read (Elt F) f = X) :
    (M.view.loc (c : Thread nD τ) ↦{fullShare} f : sProp 𝕄) ⊢ owns (c : Thread nD τ) M fullShare X := by
  unfold owns
  rw [hs]
  iintro H; iexists f; isplitr
  · ipureintro; exact h
  iexact H

/-- What a device holds of the exchange before it has its accumulator. -/
def outset (c : Dev nD) : sProp 𝕄 :=
  iprop(G' m c ∗ levAts L lv ∗ (cred (tallyAt (cell c .bar) () 1) ∗ all2 fun a => cred (tallyAt (cell c (.rcv a)) () N))
    ∗ all2 (fun a => owns (c : Thread nD τ) (inM a) fullShare (inX m a c)) ∗ all2 (fun a => outAny (F := F) a c))

theorem outset_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(outset m c ∗ emp) := by
  rw [Pipeline.unscopedRestP_none, show Pipeline.unscopedRest (Ix := Unit) (Name := ℕ) (U := UU) (Lvl := ℕ) cfg0.spec c (fun b => m ((c : Thread nD τ).loc b)) = _ from unscopedRest0_eq c _]
  iintro ⟨⟨H9, H10, H4, H5⟩, Hlev, Hcr, -, HG⟩
  ihave Hc := (creds (F := F) c) $$ Hcr
  imodintro
  isplitl
  · unfold outset
    isplitl [HG]; · iexact HG
    isplitl [Hlev]; · iexact Hlev
    isplitl [Hc]; · iexact Hc
    isplitl [H9 H10]
    · isplitl [H9]
      · iapply (own_whole c main_arg2 (inM 0) (inX m 0 c) (m _) (View.set_whole _) rfl); iexact H9
      · iapply (own_whole c main_arg3 (inM 1) (inX m 1 c) (m _) (View.set_whole _) rfl); iexact H10
    · dsimp only [all2]
      isplitl [H4]
      · unfold outAny; iexists _; iapply (own_whole c main_v1_1 (outM 0) _ (m _) (View.set_whole _) rfl); iexact H4
      · unfold outAny; iexists _; iapply (own_whole c main_v1_2 (outM 1) _ (m _) (View.set_whole _) rfl); iexact H5
  · iempintro

theorem start_intro (c : Dev nD) :
    iprop(outset m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = _ from held_zero m c 0 rfl,
    show (Pipeline.scopedRest (Ix := Unit) (Name := ℕ) (U := UU) (Lvl := ℕ) (Val := Elt F) cfg0.spec c : sProp 𝕄) = _ from scopedRest0_eq c]
  unfold outset G' posns tokens
  rw [bigSep_Kd, bigSep_Tk]
  dsimp only [start, all2, link, tokOf]
  iintro ⟨⟨⟨HR, ⟨Pb, Ps0, Ps1, Pr0, Pr1⟩, Tb, Ts0, Ts1, Tr0, Tr1⟩, Hlev, ⟨Cb, Cr0, Cr1⟩, ⟨I0, I1⟩, U0, U1⟩, -, ⟨%f0, S0⟩⟩
  isplitr [S0]
  · isplitl [HR]; · iexact HR
    isplitl [Hlev]; · iexact Hlev
    isplitl [Pb]; · iexact Pb
    isplitl [Cb]; · iexact Cb
    isplitl [Tb]; · iexact Tb
    isplitl [Ps0 Pr0 Ts0 Tr0 Cr0 Ps1 Pr1 Ts1 Tr1 Cr1]
    · isplitl [Ps0 Pr0 Ts0 Tr0 Cr0]
      · isplitl [Ps0]; · iexact Ps0
        isplitl [Pr0]; · iexact Pr0
        isplitl [Ts0]; · iexact Ts0
        isplitl [Tr0] <;> iassumption
      isplitl [Ps1]; · iexact Ps1
      isplitl [Pr1]; · iexact Pr1
      isplitl [Ts1]; · iexact Ts1
      isplitl [Tr1] <;> iassumption
    isplitl [I0 I1]
    · isplitl [I0] <;> iassumption
    isplitl [U0] <;> iassumption
  iexists _; iapply (own_whole c cc0_scratch0 accM _ f0 (View.set_whole _) rfl); iexact S0

/-- What a device has at the end besides its windows' arrays. -/
def ended (c : Dev nD) : sProp 𝕄 :=
  iprop(unscopedSems0 c ∗ all2 fun a => iprop(owns (c : Thread nD τ) (inM a) fullShare (inX m a c) ∗ owns (c : Thread nD τ) (outM a) fullShare (outX m a c)))

theorem own_buf {s : Shape} {e : EltTy} {sp : Space} (c : Dev nD) (M : Memref sig .tc sp s e) (X : s.Idx → Elt F e) (hs : M.view.set = Finset.univ) :
    owns (c : Thread nD τ) M fullShare X ⊢ (iprop(∃ f : Buf (Elt F) (M.view.loc (c : Thread nD τ)), ⌜M.view.read (Elt F) f = X⌝ ∗ (M.view.loc (c : Thread nD τ) ↦{fullShare} f)) : sProp 𝕄) := by
  unfold owns
  rw [hs]

theorem exit (c : Dev nD) :
    (dats m 0 c).Φ (Fin.last cfg0.N) ⊢ iprop(ended m c ∗ Pipeline.ownSems0 osem c ∗ Pipeline.scopedRest cfg0.spec c) := by
  rw [show (dats m 0 c).Φ (Fin.last cfg0.N) = _ from held_end m c cfg0.N (by rw [show cfg0.N = 8 from N_0]; decide),
    show (Pipeline.scopedRest (Ix := Unit) (Name := ℕ) (U := UU) (Lvl := ℕ) (Val := Elt F) cfg0.spec c : sProp 𝕄) = _ from scopedRest0_eq c,
    ownSems0_eq]
  unfold ended
  rw [unscopedSems0_eq]
  dsimp only [over, all2]
  iintro ⟨⟨HB, ⟨⟨S0, R0⟩, ⟨S1, R1⟩⟩, ⟨⟨I0, U0⟩, ⟨I1, U1⟩⟩⟩, ⟨%z, HA⟩⟩
  isplitl [HB I0 U0 I1 U1]
  · isplitl [HB]; · iexact HB
    isplitl [I0 U0]
    · isplitl [I0] <;> iassumption
    · isplitl [I1] <;> iassumption
  isplitl [S0 R0 S1 R1]
  · isplitl [S0]; · iexact S0
    isplitl [S1]; · iexact S1
    isplitl [R0] <;> iassumption
  ihave HA := own_buf c accM z (View.set_whole _) $$ HA
  icases HA with ⟨%f0, -, HA⟩
  iexists f0; iexact HA

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      show (if t.val = 0 then O₀ c else 0) = _ ∨ (if t.val = 0 then O₀ c else 0) = _
      by_cases h : t.val = 0
      · exact Or.inl (if_pos h)
      · exact Or.inr (if_neg h))

theorem share_eq (c : Dev nD) (w : Fin cfg0.W) : (dats m 0 c).share w = fullShare := by unfold Dat.share; split <;> rfl

theorem owed_first (c : Dev nD) : (dats m 0 c).owed 0 = O₀ c := by
  show (if (0 : ℕ) = 0 then O₀ c else 0) = _
  exact if_pos rfl
theorem owed_last (c : Dev nD) : (dats m 0 c).owed (Fin.last cfg0.N) = 0 := by
  show (if cfg0.N = 0 then O₀ c else 0) = 0
  rw [show cfg0.N = 8 from N_0]
  exact if_neg (by decide)

/-! ## The run -/

/-- What the memory says of the exchange at the end. -/
def Moved (c : Dev nD) (s : MemSt nD τ sig (Elt F)) : Prop :=
  ∀ a, (inM a).view.read (Elt F) (s.mem ((inM a).view.loc (c : Thread nD τ))) = inX m a c
    ∧ (outM a).view.read (Elt F) (s.mem ((outM a).view.loc (c : Thread nD τ))) = outX m a c

theorem own_says {s : Shape} {e : EltTy} {sp : Space} (c : Dev nD) (M : Memref sig .tc sp s e) (X : s.Idx → Elt F e) (hs : M.view.set = Finset.univ)
    (s' : Phys nD τ sig (Elt F)) :
    iprop(owns (c : Thread nD τ) M fullShare X ∗ SI s') ⊢ (iprop(⌜M.view.read (Elt F) (s'.mem.mem (M.view.loc (c : Thread nD τ))) = X⌝ ∗ SI s') : sProp 𝕄) := by
  iintro ⟨H, HSI⟩
  ihave H := own_buf c M X hs $$ H
  icases H with ⟨%f, %hf, H⟩
  ihave H := (pointsTo_read_all (I := Unit) {()} (fun _ => M.view.loc (c : Thread nD τ)) (fun _ => f) s') $$ [H HSI]
  · isplitl [H]
    · rw [bigSep_singleton]; iexact H
    iexact HSI
  icases H with ⟨%h, HSI⟩
  isplitr
  · ipureintro; rw [h () (Finset.mem_singleton_self ())]; exact hf
  iexact HSI

theorem ended_says (c : Dev nD) (s' : Phys nD τ sig (Elt F)) :
    iprop(ended m c ∗ emp ∗ SI s') ⊢ (|={Set.univ}=> iprop(⌜(∀ sm : SemLoc sig, sm.isScoped .tc = false → s'.mem.sem ((c.tc : Thread nD τ), sm) = 0) ∧ Moved m c s'.mem⌝ ∗ SI s') : sProp 𝕄) := by
  unfold ended
  dsimp only [all2]
  iintro ⟨⟨Hu, ⟨I0, U0⟩, ⟨I1, U1⟩⟩, -, HSI⟩
  ihave H := own_says c (inM 0) _ (View.set_whole _) s' $$ [I0 HSI]
  · isplitl [I0] <;> iassumption
  icases H with ⟨%h0, HSI⟩
  ihave H := own_says c (outM 0) _ (View.set_whole _) s' $$ [U0 HSI]
  · isplitl [U0] <;> iassumption
  icases H with ⟨%k0, HSI⟩
  ihave H := own_says c (inM 1) _ (View.set_whole _) s' $$ [I1 HSI]
  · isplitl [I1] <;> iassumption
  icases H with ⟨%h1, HSI⟩
  ihave H := own_says c (outM 1) _ (View.set_whole _) s' $$ [U1 HSI]
  · isplitl [U1] <;> iassumption
  icases H with ⟨%k1, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨hs, fun a => by
      match a with
      | 0 => exact ⟨h0, k0⟩
      | 1 => exact ⟨h1, k1⟩⟩
  iexact HSI

/-- From any memory with zero counters, every fair execution of the call on the eight devices ends, with every counter
    at zero, every window's array at what the points left and the exchange done. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = (dats m 0 c).arrAt w cfg0.N) ∧ Moved m c r.2)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := owed_first m) (howedN := owed_last m)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := outset m) (Y := ended m) (Z := fun _ => iprop(emp))
    (hX := outset_intro m ρ) (hin := start_intro m) (hout := exit m)
    (QY := fun c s => (∀ sm : SemLoc sig, sm.isScoped .tc = false → s.sem ((c.tc : Thread nD τ), sm) = 0) ∧ Moved m c s)
    (hY := ended_says m)
    (hQ := fun _ h hs => ⟨fun c => ⟨fun w => (h c).1 w, (h c).2.2.2⟩, sem_eq_zero hs fun c => (h c).2.2.1⟩)

end Cert.PairProof
-- ==== Proof.PairFrame.lean ====
/-
  What the call leaves on every device, argument by argument and result by result, and the two frames. The program and its
  idealization have the same text, so one run, over every float, gives both.
-/
module

public import proofs.«01_k».proof.Defs
public import proofs.«01_k».proof.Proof.Gen.Kernel5
public import proofs.«01_k».proof.Proof.Gen.Kernel5Ideal
public import proofs.«01_k».proof.Proof.PairLaunch

@[expose] public section

noncomputable section

namespace Cert.PairProof

open Idealize.ShloMosaic Idealize.ShloMosaic.TcCoe Idealize.SL.Sem
open Cert.Kernel5Ideal Cert.Kernel5Ideal.Gen

variable {F : FTy → Type} [FloatOps F]
variable (m : (ℓ : Loc nD τ sig) → Buf (Elt F) ℓ) (ρ : Dev nD → PrngReg)

/-- The arguments of the call on a device are what they were. -/
def Kept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

/-- The results of the call on a device: the gradient, and the two received arrays. -/
def Left (c : Dev nD) (s : MemSt nD τ sig (Elt F)) : Prop :=
  s.mem ((c.tc : Thread nD τ).loc main_v1_0) = (dats m 0 c).arrAt 2 cfg0.N
  ∧ s.mem ((c.tc : Thread nD τ).loc main_v1_1) = outX m 0 c
  ∧ s.mem ((c.tc : Thread nD τ).loc main_v1_2) = outX m 1 c

theorem run_left : θ_run defs (onTc (τ := τ) (main (F := F))) ⟨m, fun _ => 0, ρ⟩
    (fun r => (∀ c : Dev nD, Left m c r.2 ∧ Kept m c r.2) ∧ r.2.sem = fun _ => 0) := by
  refine (θ_run defs _ _).mono (fun r h => ⟨fun c => ?_, h.2⟩) (run_main m ρ)
  obtain ⟨hw, hm⟩ := h.1 c
  refine ⟨⟨hw 2, (hm 0).2, (hm 1).2⟩, ?_⟩
  exact ⟨(hw 0).trans (((dats m 0 c).arrAt_in 0 rfl _).trans (A_eq m c 0)),
    (hw 1).trans (((dats m 0 c).arrAt_in 1 rfl _).trans (A_eq m c 1)),
    (hm 0).1, (hm 1).1⟩

theorem frame_ideal : Cert.quiescent_Kernel5Ideal := fun m ρ _ =>
  (θ_run Cert.Kernel5Ideal.defs _ _).mono (fun _ h => ⟨fun c => (h.1 c).2, h.2⟩) (run_left (F := Ideal) m ρ)

/-- The two programs' bodies are one text. -/
theorem body_eq (i : grid0.Coords) (arg2 : Memref sig .tc .vmem S1024x1408 .bf16) (harg2 : arg2.IsWhole) (arg3 : Memref sig .tc .vmem S1024x1024 .bf16) (harg3 : arg3.IsWhole) (arg4 : Memref sig .tc .hbm S2x4x352x1024 .bf16) (harg4 : arg4.IsWhole) (arg5 : Memref sig .tc .hbm S2x4x352x1024 .bf16) (harg5 : arg5.IsWhole) (arg6 : Memref sig .tc .vmem S2x2x352x1024 .bf16) (harg6 : arg6.IsWhole) (arg7 : Memref sig .tc .hbm S4x352x1024 .bf16) (harg7 : arg7.IsWhole) (arg8 : Memref sig .tc .hbm S4x352x1024 .bf16) (harg8 : arg8.IsWhole) (arg9 : Memref sig .tc .vmem S1408x1024 .f32) (harg9 : arg9.IsWhole) (arg10 : DmaSems sig S2) (arg11 : DmaSems sig S2) :
    Cert.Kernel5.cc0_grad_w_down (F := Bits) i arg2 harg2 arg3 harg3 arg4 harg4 arg5 harg5 arg6 harg6 arg7 harg7 arg8 harg8 arg9 harg9 arg10 arg11 = Cert.Kernel5Ideal.cc0_grad_w_down (F := Bits) i arg2 harg2 arg3 harg3 arg4 harg4 arg5 harg5 arg6 harg6 arg7 harg7 arg8 harg8 arg9 harg9 arg10 arg11 := rfl

theorem defs₀_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) =>
    exact body_eq (grid0.coords t) (win0_0.stage (s 0)) (hstage0_0 ((s 0).cast nbuf0_0)) (win0_1.stage (s 1)) (hstage0_1 ((s 1).cast nbuf0_1)) (Memref.whole main_arg2) (Memref.isWhole_whole _) (Memref.whole main_arg3) (Memref.isWhole_whole _) (win0_2.stage (s 2)) (hstage0_2 ((s 2).cast nbuf0_2)) (Memref.whole main_v1_1) (Memref.isWhole_whole _) (Memref.whole main_v1_2) (Memref.isWhole_whole _) (Memref.whole cc0_scratch0) (Memref.isWhole_whole _) cc0_scratch1 cc0_scratch2

theorem frame_kernel : Cert.quiescent_Kernel5 := by
  intro m ρ _
  unfold Cert.Kernel5.defs
  rw [defs₀_eq]
  exact (θ_run (Cert.Kernel5Ideal.defs (F := Bits)) (onTc (τ := τ) (Cert.Kernel5Ideal.main (F := Bits))) ⟨m, fun _ => 0, ρ⟩).mono
    (fun r h => ⟨fun c => (h.1 c).2, h.2⟩) (run_left (F := Bits) m ρ)

end Cert.PairProof
-- ==== Proof.PairArrays.lean ====
/-
  The weight gradient that the call leaves, as the plain mathematics of its arguments: each element is a sum over the
  device's tokens, placed by core and chip.
-/
module

public import proofs.«01_k».proof.Proof.PairRun
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.PairProof

open Cert.Kernel5Ideal Cert.Kernel5Ideal.Gen

variable (m : (ℓ : Loc nD τ sig) → Buf (Elt Ideal) ℓ) (c : Dev nD)

abbrev Acts : Type := (⟨2, ![4096, 2816]⟩ : Shape).Idx → EReal
abbrev Grads : Type := (⟨2, ![4096, 1024]⟩ : Shape).Idx → EReal

abbrev actA : Acts := m ((c : Thread nD τ).loc main_arg0)
abbrev dfA : Grads := m ((c : Thread nD τ).loc main_arg1)

/-- The gradient of a product's weights: a hidden channel's activations against an output channel's gradients. -/
def dw (a : Acts) (b : Grads) (f : Fin 2816) (d : Fin 1024) : EReal := ∑ r : Fin 4096, a (ix2 r f) * b (ix2 r d)

/-! ## The blocks a point reads -/

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, t.val / 4, 0, 0] := (by decide +kernel : ∀ t : Fin grid0.N, _)

theorem pt_lt (t : Fin cfg0.N) : t.val < 8 := lt_of_lt_of_eq t.isLt N_0

/-- The token and the hidden channel that a block's row and column are at a point. -/
abbrev row (t : Fin cfg0.N) (r : Fin 1024) : Fin 4096 := ⟨t.val % 4 * 1024 + r.val, by omega⟩
abbrev col (t : Fin cfg0.N) (f : Fin 1408) : Fin 2816 := ⟨t.val / 4 * 1408 + f.val, by have := pt_lt t; omega⟩

theorem blk_act (t : Fin cfg0.N) (r : Fin 1024) (f : Fin 1408) :
    (iblk m c 0 t : Vec Ideal S1024x1408 .bf16) (ix2 r f) = actA m c (ix2 (row t r) (col t f)) := by
  blk_ext! [iblk, V, idx0 t]

theorem blk_df (t : Fin cfg0.N) (r : Fin 1024) (d : Fin 1024) :
    (iblk m c 1 t : Vec Ideal S1024x1024 .bf16) (ix2 r d) = dfA m c (ix2 (row t r) d) := by
  blk_ext! [iblk, V, idx1 t]

/-! ## The accumulator -/

theorem zero_apply (j : S1408x1024.Idx) : k0_pay1 (F := Ideal) j = 0 := by
  obtain ⟨f, d, rfl⟩ : ∃ (f : Fin 1408) (d : Fin 1024), j = (ix2 f d : S1408x1024.Idx) := ⟨j 0, j 1, eq_ix2 j⟩
  pointwise [k0_pay1]

theorem acc_apply (z : Vec Ideal S1408x1024 .f32) (x : Vec Ideal S1024x1408 .bf16) (y : Vec Ideal S1024x1024 .bf16) (f : Fin 1408) (d : Fin 1024) :
    accOf z x y (ix2 f d) = z (ix2 f d) + ∑ r : Fin 1024, x (ix2 r f) * y (ix2 r d) := by
  pointwise [accOf, k0_pay2]

/-- What a point adds. -/
def term (t : Fin cfg0.N) (j : S1408x1024.Idx) : EReal :=
  ∑ r : Fin 1024, actA m c (ix2 (row t r) (col t (j 0))) * dfA m c (ix2 (row t r) (j 1))

theorem acc_term (t : Fin cfg0.N) (z : Vec Ideal S1408x1024 .f32) (j : S1408x1024.Idx) :
    accOf z (iblk m c 0 t) (iblk m c 1 t) j = z j + term m c t j := by
  obtain ⟨f, d, rfl⟩ : ∃ (f : Fin 1408) (d : Fin 1024), j = (ix2 f d : S1408x1024.Idx) := ⟨j 0, j 1, eq_ix2 j⟩
  rw [acc_apply]
  exact congrArg (z (ix2 f d) + ·) (Finset.sum_congr rfl fun r _ => congrArg₂ (· * ·) (blk_act m c t r f) (blk_df m c t r d))

theorem sums_first (t : Fin cfg0.N) (h0 : t.val % 4 = 0) (j : S1408x1024.Idx) : accB m c (t.val + 1) j = (0 : EReal) + term m c t j := by
  rw [accB_first m c t h0, acc_term, zero_apply]

theorem sums_next (t : Fin cfg0.N) (h0 : ¬t.val % 4 = 0) (j : S1408x1024.Idx) :
    accB m c (t.val + 1) j = accB m c (t.val - 1 + 1) j + term m c t j := by
  rw [accB_next m c t h0, acc_term, show t.val - 1 + 1 = t.val by omega]

/-- At a column's last point the accumulator holds the sums over all the tokens. -/
theorem sums_last (t : Fin cfg0.N) (h1 : t.val % 4 = 3) (f : Fin 1408) (d : Fin 1024) :
    accB m c (t.val + 1) (ix2 f d) = dw (actA m c) (dfA m c) (col t f) d := by
  have ht := pt_lt t
  have h := Pipeline.eq_sum_fin_of_reset_step_apply_of_flush (N := cfg0.N) (fun n _ => accB m c (n + 1)) 4 (fun _ => (0 : EReal)) (term m c)
    (sums_first m c) (sums_next m c) t h1 (ix2 f d)
  rw [zero_add] at h
  refine h.trans ?_
  refine Fin.sum_mul_add_congr (S := 4) (n := 1024) fun s r hl => ?_
  have hs : (4 * (t.val / 4) + s.val) % 4 = s.val := by omega
  have hd : (4 * (t.val / 4) + s.val) / 4 = t.val / 4 := by omega
  simp only [row, col, hs, hd]
  rfl

/-! ## The four quarters -/

theorem pay4_apply (z : Vec Ideal S1408x1024 .f32) (r : Fin 352) (d : Fin 1024) :
    k0_pay4 z (ix4 0 0 r d) = z (ix2 ⟨0 + r.val, by omega⟩ d) := by
  pointwise [k0_pay4, k0_pay3]

theorem pay5_apply (z : Vec Ideal S1408x1024 .f32) (r : Fin 352) (d : Fin 1024) :
    k0_pay5 z (ix4 0 0 r d) = z (ix2 ⟨352 + r.val, by omega⟩ d) := by
  pointwise [k0_pay5, k0_pay3]

theorem pay6_apply (z : Vec Ideal S1408x1024 .f32) (r : Fin 352) (d : Fin 1024) :
    k0_pay6 z (ix4 0 0 r d) = z (ix2 ⟨704 + r.val, by omega⟩ d) := by
  pointwise [k0_pay6, k0_pay3]

theorem pay7_apply (z : Vec Ideal S1408x1024 .f32) (r : Fin 352) (d : Fin 1024) :
    k0_pay7 z (ix4 0 0 r d) = z (ix2 ⟨1056 + r.val, by omega⟩ d) := by
  pointwise [k0_pay7, k0_pay3]

/-- A piece that holds the rows of `z` from row `k` on, at an index of the piece. -/
theorem quarter_apply (z : Vec Ideal S1408x1024 .f32) (P : S1x1x352x1024.Idx → EReal) (k : ℕ) (hk : k + 352 ≤ 1408)
    (hP : ∀ (r : Fin 352) (d : Fin 1024), P (ix4 0 0 r d) = z (ix2 ⟨k + r.val, by omega⟩ d))
    (x : S1x1x352x1024.Idx) (f : Fin 1408) (d : Fin 1024) (hf : f.val = k + (x 2).val) (hd : d.val = (x 3).val) :
    P x = z (ix2 f d) := by
  have h0 : (x 0).val < 1 := (x 0).isLt
  have h1 : (x 1).val < 1 := (x 1).isLt
  have e : x = ix4 (0 : Fin 1) (0 : Fin 1) (x 2) d := by
    funext a; match a with
    | ⟨0, _⟩ => exact Fin.ext (by show (x 0).val = 0; omega)
    | ⟨1, _⟩ => exact Fin.ext (by show (x 1).val = 0; omega)
    | ⟨2, _⟩ => rfl
    | ⟨3, _⟩ => exact Fin.ext hd.symm
  rw [e]
  exact (hP (x 2) d).trans (congrArg (fun f => z (ix2 f d)) (Fin.ext hf.symm))

theorem block_apply (z : Vec Ideal S1408x1024 .f32) (core chip : Fin 2) (q : Fin 352) (d : Fin 1024) :
    blockOf z (ix4 core chip q d) = z (ix2 ⟨(2 * chip.val + core.val) * 352 + q.val, by omega⟩ d) := by
  unfold blockOf quarters
  dsimp only [Matrix.cons_val]
  canon_tiles x h
  · change core.val = _ at h0; change chip.val = _ at h1; change q.val = _ at h2; change d.val = _ at h3
    refine quarter_apply z (k0_pay7 (F := Ideal) z) 1056 (by omega) (pay7_apply z) x _ _ ?_ h3; dsimp only; omega
  · change core.val = _ at h0; change chip.val = _ at h1; change q.val = _ at h2; change d.val = _ at h3
    refine quarter_apply z (k0_pay6 (F := Ideal) z) 704 (by omega) (pay6_apply z) x _ _ ?_ h3; dsimp only; omega
  · change core.val = _ at h0; change chip.val = _ at h1; change q.val = _ at h2; change d.val = _ at h3
    refine quarter_apply z (k0_pay5 (F := Ideal) z) 352 (by omega) (pay5_apply z) x _ _ ?_ h3; dsimp only; omega
  · change core.val = _ at h0; change chip.val = _ at h1; change q.val = _ at h2; change d.val = _ at h3
    refine quarter_apply z (k0_pay4 (F := Ideal) z) 0 (by omega) (pay4_apply z) x _ _ ?_ h3; dsimp only; omega

/-- The hidden channel of an element of the weight gradient. -/
abbrev chan (i : S2x4x352x1024.Idx) : Fin 2816 :=
  ⟨(2 * (i 1).val + (i 0).val) * 352 + (i 2).val, by
    have h0 : (i 0).val < 2 := (i 0).isLt
    have h1 : (i 1).val < 4 := (i 1).isLt
    have h2 : (i 2).val < 352 := (i 2).isLt
    omega⟩

theorem final2 : (dats m 0 c).arrAt 2 cfg0.N = fun i : S2x4x352x1024.Idx => dw (actA m c) (dfA m c) (chan i) (i 3) := by
  refine (dats m 0 c).arrAt_eq_of_covers 2 _ (by decide +kernel) fun t hf y => ?_
  obtain ⟨core, chip, q, d, rfl⟩ : ∃ (core chip : Fin 2) (q : Fin 352) (d : Fin 1024), y = (ix4 core chip q d : S2x2x352x1024.Idx) :=
    ⟨y 0, y 1, y 2, y 3, (eq_ix4 y)⟩
  have h1 := (flush0_2 t).mp hf
  blk_simp
  rw [after_2]
  rw [block_apply (accB m c (t.val + 1)) core chip q d, sums_last m c t h1 _ d]
  refine congrArg₂ (dw (actA m c) (dfA m c)) (Fin.ext ?_) (Fin.ext ?_)
  · simp only [col, chan]
    blk_simp [idx2 t]
    omega
  · blk_simp [idx2 t]

end Cert.PairProof
-- ==== Proof.PairRef.lean ====
/-
  The reference's three results, each at one place, as the plain mathematics of its arguments. The reference keeps the
  devices' tokens apart in an axis of its own, and exchanges the halves of a chip's two cores.
-/
module

public import proofs.«01_k».proof.Defs
public import proofs.«01_k».proof.Proof.Gen.Reference5Ideal
public import proofs.«01_k».proof.Proof.Gen.Reference5Ideal.Run
public import Idealize.ShloMosaic.Lib.Pointwise

@[expose] public section

noncomputable section

open Idealize.ShloMosaic Idealize.SL.Sem

namespace Cert.Pair

open Cert.Reference5Ideal Cert.Reference5Ideal.Gen

/-! ## The reference's steps, each once -/

def grad (a : FVec Ideal S32768x2816 .bf16) (b : FVec Ideal S32768x1024 .bf16) : FVec Ideal S8x2816x1024 .f32 :=
  transpose S8x2816x1024 [0, 2, 1] (Host.dotGeneral dot_S8x4096x1024_S8x4096x2816_S8x1024x2816_1_1_2_2_0_0 none (extf .f32 (shapeCast _ b shapeCasts_S32768x1024_S8x4096x1024) bitsLt_bf16_f32) (extf .f32 (shapeCast _ a shapeCasts_S32768x2816_S8x4096x2816) bitsLt_bf16_f32)) transposes_S8x1024x2816_S8x2816x1024_0_2_1

def byCore (w : FVec Ideal S8x2816x1024 .f32) : FVec Ideal S16x4x352x1024 .bf16 :=
  shapeCast _ (truncf .bf16 (transpose S8x2x4x352x1024 [0, 2, 1, 3, 4] (shapeCast _ w shapeCasts_S8x2816x1024_S8x4x2x352x1024) transposes_S8x4x2x352x1024_S8x2x4x352x1024_0_2_1_3_4) bitsLt_bf16_f32) shapeCasts_S8x2x4x352x1024_S16x4x352x1024

def apart (q : FVec Ideal S16x4x352x1024 .bf16) : FVec Ideal S4x2x2x4x352x1024 .bf16 := shapeCast _ q shapeCasts_S16x4x352x1024_S4x2x2x4x352x1024

def swapCores (q : FVec Ideal S16x4x352x1024 .bf16) : FVec Ideal S32x352x1024 .bf16 :=
  shapeCast _ (concatenate S4x2x4x352x1024 1
    [⟨S4x1x4x352x1024, broadcastInDim S4x1x4x352x1024 ![0, 2, 3, 4] bcast_S4x4x352x1024_S4x1x4x352x1024_0_2_3_4 (shapeCast _ (extractStridedSlice S4x1x1x4x352x1024 ![0, 1, 0, 0, 0, 0] (apart q) slices_S4x2x2x4x352x1024_S4x1x1x4x352x1024_0_1_0_0_0_0) shapeCasts_S4x1x1x4x352x1024_S4x4x352x1024)⟩,
      ⟨S4x1x4x352x1024, broadcastInDim S4x1x4x352x1024 ![0, 2, 3, 4] bcast_S4x4x352x1024_S4x1x4x352x1024_0_2_3_4 (shapeCast _ (extractStridedSlice S4x1x1x4x352x1024 ![0, 0, 1, 0, 0, 0] (apart q) slices_S4x2x2x4x352x1024_S4x1x1x4x352x1024_0_0_1_0_0_0) shapeCasts_S4x1x1x4x352x1024_S4x4x352x1024)⟩]
    concatenates_S4x1x4x352x1024_S4x1x4x352x1024_S4x2x4x352x1024_d1) shapeCasts_S4x2x4x352x1024_S32x352x1024

/-! ## Each step at one place -/

theorem grad_apply (a : FVec Ideal S32768x2816 .bf16) (b : FVec Ideal S32768x1024 .bf16) (c : Fin 8) (f : Fin 2816) (d : Fin 1024) :
    grad a b (ix3 c f d) = ∑ r : Fin 4096, a (ix2 ⟨c.val * 4096 + r.val, by omega⟩ f) * b (ix2 ⟨c.val * 4096 + r.val, by omega⟩ d) := by
  pointwise [grad]
  exact Finset.sum_congr rfl fun r _ => mul_comm _ _

theorem byCore_apply (w : FVec Ideal S8x2816x1024 .f32) (c : Fin 8) (core : Fin 2) (chip : Fin 4) (q : Fin 352) (d : Fin 1024) :
    byCore w (ix4 ⟨c.val * 2 + core.val, by omega⟩ chip q d) = w (ix3 c ⟨(2 * chip.val + core.val) * 352 + q.val, by omega⟩ d) := by
  pointwise [byCore]
  exact congrArg (fun f : Fin 2816 => w (ix3 c f d)) (Fin.ext (by show chip.val * 704 + core.val * 352 + q.val = (2 * chip.val + core.val) * 352 + q.val; omega))

theorem swap_apply (p : FVec Ideal S16x4x352x1024 .bf16) (c : Fin 8) (k : Fin 4) (j : Fin 352) (d : Fin 1024) :
    swapCores p (ix3 ⟨c.val * 4 + k.val, by omega⟩ j d) = p (ix4 ⟨(c.val / 2 * 2 + (1 - c.val % 2)) * 2 + c.val % 2, by omega⟩ k j d) := by
  pointwise [swapCores, apart]
  split
  · exact congrArg (fun s : Fin 16 => p (ix4 s k j d)) (Fin.ext (by
      show (c.val * 4 + k.val) / 8 * 4 + 2 = (c.val / 2 * 2 + (1 - c.val % 2)) * 2 + c.val % 2
      omega))
  · exact congrArg (fun s : Fin 16 => p (ix4 s k j d)) (Fin.ext (by
      show (c.val * 4 + k.val) / 8 * 4 + 1 = (c.val / 2 * 2 + (1 - c.val % 2)) * 2 + c.val % 2
      omega))

end Cert.Pair
-- ==== Proof.PairClaim.lean ====
/-
  The claims about the gradient of the down projection's weights: the reference's frame, and the equality of the two
  programs' three results, each device's part of the whole.
-/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.PairFrame
public import proofs.«01_k».proof.Proof.PairArrays
public import proofs.«01_k».proof.Proof.PairRef
public import Idealize.ShloMosaic.Lib.Pipeline.ValueKit

@[expose] public section

noncomputable section

open Idealize.ShloMosaic Idealize.SL.Sem

namespace Cert.Pair

/-! ## A device's part of a whole array, at one place -/

theorem part_acts (v : (⟨2, ![32768, 2816]⟩ : Shape).Idx → EReal) (c : Fin 8) (r : Fin 4096) (f : Fin 2816) :
    Layout.block ⟨2, ![4096, 2816]⟩ ⟨2, ![32768, 2816]⟩ 0 8 c v (by decide) (ix2 r f) = v (ix2 ⟨c.val * 4096 + r.val, by omega⟩ f) := by
  refine congrArg v (funext fun b => ?_)
  fin_cases b <;> rfl

theorem part_grads (v : (⟨2, ![32768, 1024]⟩ : Shape).Idx → EReal) (c : Fin 8) (r : Fin 4096) (d : Fin 1024) :
    Layout.block ⟨2, ![4096, 1024]⟩ ⟨2, ![32768, 1024]⟩ 0 8 c v (by decide) (ix2 r d) = v (ix2 ⟨c.val * 4096 + r.val, by omega⟩ d) := by
  refine congrArg v (funext fun b => ?_)
  fin_cases b <;> rfl

theorem part_halves (v : (⟨4, ![16, 4, 352, 1024]⟩ : Shape).Idx → EReal) (c : Fin 8) (n : Fin 2) (k : Fin 4) (j : Fin 352) (d : Fin 1024) :
    Layout.block ⟨4, ![2, 4, 352, 1024]⟩ ⟨4, ![16, 4, 352, 1024]⟩ 0 8 c v (by decide) (ix4 n k j d) = v (ix4 ⟨c.val * 2 + n.val, by omega⟩ k j d) := by
  refine congrArg v (funext fun b => ?_)
  fin_cases b <;> rfl

theorem part_half (v : (⟨3, ![32, 352, 1024]⟩ : Shape).Idx → EReal) (c : Fin 8) (k : Fin 4) (j : Fin 352) (d : Fin 1024) :
    Layout.block ⟨3, ![4, 352, 1024]⟩ ⟨3, ![32, 352, 1024]⟩ 0 8 c v (by decide) (ix3 k j d) = v (ix3 ⟨c.val * 4 + k.val, by omega⟩ j d) := by
  refine congrArg v (funext fun b => ?_)
  fin_cases b <;> rfl

/-! ## The reference -/

section Reference

open Cert.Reference5Ideal Cert.Reference5Ideal.Gen

variable (m : (ℓ : Loc nD τ sig) → Buf (Elt Ideal) ℓ) (ρ : Dev nD → PrngReg)

abbrev ra0 : FVec Ideal S32768x2816 .bf16 := m (((0 : Dev nD).tc : Thread nD τ).loc main_arg0)
abbrev ra1 : FVec Ideal S32768x1024 .bf16 := m (((0 : Dev nD).tc : Thread nD τ).loc main_arg1)
abbrev ra2 : FVec Ideal S16x4x352x1024 .bf16 := m (((0 : Dev nD).tc : Thread nD τ).loc main_arg2)
abbrev ra3 : FVec Ideal S16x4x352x1024 .bf16 := m (((0 : Dev nD).tc : Thread nD τ).loc main_arg3)

theorem run :
    θ_run defs (onTc (τ := τ) (main (F := Ideal))) ⟨m, fun _ => 0, ρ⟩ fun r =>
    r.2.mem (((0 : Dev nD).tc : Thread nD τ).loc main_v11) = byCore (grad (ra0 m) (ra1 m))
    ∧ r.2.mem (((0 : Dev nD).tc : Thread nD τ).loc main_v20) = swapCores (ra2 m)
    ∧ r.2.mem (((0 : Dev nD).tc : Thread nD τ).loc main_v29) = swapCores (ra3 m)
    ∧ r.2.mem (((0 : Dev nD).tc : Thread nD τ).loc main_arg0) = ra0 m
    ∧ r.2.mem (((0 : Dev nD).tc : Thread nD τ).loc main_arg1) = ra1 m
    ∧ r.2.mem (((0 : Dev nD).tc : Thread nD τ).loc main_arg2) = ra2 m
    ∧ r.2.mem (((0 : Dev nD).tc : Thread nD τ).loc main_arg3) = ra3 m := by
  refine (θ_run defs _ _).mono (fun r h => ?_) (Value.run m ρ)
  obtain ⟨e0, e1, e2, rest⟩ := h 0
  exact ⟨e0.trans rfl, e1.trans rfl, e2.trans rfl, rest⟩

/-- The reference runs, keeps its arguments, and ends with every semaphore at zero: it declares none. -/
theorem reference_frame : Cert.quiescent_Reference5Ideal := fun m ρ _ =>
  (θ_run _ _ _).mono (fun r h => ⟨fun c => (h c).2.2.2, sem_eq_zero_of_no_sems (by decide) r.2⟩)
    (Value.run (F := Ideal) m ρ)

end Reference

/-! ## The two programs -/

section Both

open Cert.PairProof

variable (m : (ℓ : Loc Cert.Kernel5Ideal.nD Cert.Kernel5Ideal.τ Cert.Kernel5Ideal.sig) → Buf (Elt Ideal) ℓ)

theorem gradient (c : Fin 8) (a : FVec Ideal Cert.Reference5Ideal.S32768x2816 .bf16) (b : FVec Ideal Cert.Reference5Ideal.S32768x1024 .bf16)
    (ha : actA m c = Layout.block ⟨2, ![4096, 2816]⟩ ⟨2, ![32768, 2816]⟩ 0 8 c a)
    (hb : dfA m c = Layout.block ⟨2, ![4096, 1024]⟩ ⟨2, ![32768, 1024]⟩ 0 8 c b) :
    (dats m 0 c).arrAt 2 Cert.Kernel5Ideal.cfg0.N
      = Layout.block ⟨4, ![2, 4, 352, 1024]⟩ ⟨4, ![16, 4, 352, 1024]⟩ 0 8 c (byCore (grad a b)) := by
  refine (final2 m c).trans (funext fun i => ?_)
  obtain ⟨n, k, j, d, rfl⟩ : ∃ (n : Fin 2) (k : Fin 4) (j : Fin 352) (d : Fin 1024), i = (ix4 n k j d : (⟨4, ![2, 4, 352, 1024]⟩ : Shape).Idx) :=
    ⟨i 0, i 1, i 2, i 3, eq_ix4 i⟩
  refine Eq.trans ?_ ((grad_apply a b c _ d).symm.trans ((byCore_apply _ c n k j d).symm.trans (part_halves _ c n k j d).symm))
  rw [ha, hb]
  exact Finset.sum_congr rfl fun r _ => congrArg₂ (· * ·) (part_acts a c r _) (part_grads b c r d)

/-- The place that an index of half `n` has in the whole. -/
theorem halfIx_ix (n : Fin 2) (k : Fin 4) (j : Fin 352) (d : Fin 1024) : halfIx n (ix3 k j d) = ix4 n k j d := by
  have e : Shape.reshapeEquiv (Shape.Squeezes.numel_eq (s := Cert.Kernel5Ideal.S1x4x352x1024) (s' := Cert.Kernel5Ideal.S4x352x1024) Cert.Kernel5Ideal.Gen.squeezes_S1x4x352x1024_S4x352x1024) (ix3 k j d)
      = (ix4 (0 : Fin 1) k j d : Cert.Kernel5Ideal.S1x4x352x1024.Idx) :=
    Shape.reshapeEquiv_eq_of_rowMajor _ (by
      rw [Shape.rowMajor_val_four, Shape.rowMajor_val_three]
      show ((0 * 4 + k.val) * 352 + j.val) * 1024 + d.val = (k.val * 352 + j.val) * 1024 + d.val
      omega)
  funext b
  apply Fin.ext
  unfold halfIx
  rw [ValueKit.rect_emb_unit_val, e]
  fin_cases b
  · rfl
  all_goals exact Nat.zero_add _

theorem peer_val : ∀ c : Fin 8, (pr c).val = c.val / 2 * 2 + (1 - c.val % 2) := by decide +kernel

/-- A device ends with what the chip's other core held for it. -/
theorem exchanged (a : Fin 2) (w : FVec Ideal Cert.Reference5Ideal.S16x4x352x1024 .bf16)
    (hw : ∀ e : Fin 8, inX m a e = Layout.block ⟨4, ![2, 4, 352, 1024]⟩ ⟨4, ![16, 4, 352, 1024]⟩ 0 8 e w) (c : Fin 8) :
    outX m a c = Layout.block ⟨3, ![4, 352, 1024]⟩ ⟨3, ![32, 352, 1024]⟩ 0 8 c (swapCores w) := by
  funext i
  obtain ⟨k, j, d, rfl⟩ : ∃ (k : Fin 4) (j : Fin 352) (d : Fin 1024), i = (ix3 k j d : (⟨3, ![4, 352, 1024]⟩ : Shape).Idx) := ⟨i 0, i 1, i 2, eq_ix3 i⟩
  refine Eq.trans ?_ ((swap_apply w c k j d).symm.trans (part_half _ c k j d).symm)
  refine (congrFun (hw (pr c)) (halfIx (core c) (ix3 k j d))).trans ?_
  rw [halfIx_ix, part_halves]
  exact congrArg (fun s : Fin 16 => w (ix4 s k j d)) (Fin.ext (by
    show (pr c).val * 2 + c.val % 2 = _
    rw [peer_val]))

end Both

set_option maxHeartbeats 1000000 in
/-- Kernel and reference, from the same arguments, end with the same three results, each device with its part. -/
theorem algebraic : Cert.algebraic_Kernel5Ideal_Reference5Ideal := by
  intro m g m' g' _ hargs
  refine ⟨byCore (grad (ra0 m') (ra1 m')), swapCores (ra2 m'), swapCores (ra3 m'), ?_, run m' g'⟩
  have hin0 : ∀ e : Fin 8, Cert.PairProof.inX m 0 e = Layout.block ⟨4, ![2, 4, 352, 1024]⟩ ⟨4, ![16, 4, 352, 1024]⟩ 0 8 e (ra2 m') := fun e =>
    Eq.trans rfl (hargs e).2.2.1
  have hin1 : ∀ e : Fin 8, Cert.PairProof.inX m 1 e = Layout.block ⟨4, ![2, 4, 352, 1024]⟩ ⟨4, ![16, 4, 352, 1024]⟩ 0 8 e (ra3 m') := fun e =>
    Eq.trans rfl (hargs e).2.2.2
  refine (θ_run _ _ _).mono (fun r h c => ?_) (Cert.PairProof.run_left (F := Ideal) m g)
  obtain ⟨⟨l0, l1, l2⟩, kept⟩ := h.1 c
  obtain ⟨a0, a1, _, _⟩ := hargs c
  exact ⟨l0.trans (gradient m c _ _ a0 a1), l1.trans (exchanged m 0 _ hin0 c), l2.trans (exchanged m 1 _ hin1 c), kept⟩

end Cert.Pair
-- ==== Proof.GatherRows.lean ====
/-
Rows of the array the devices gather. It has shape [8, 352, 1024], one row per device's shard. A row is the memref the
kernel makes of it: the slice of one device, its unit axis dropped. This module says that the array's memory is its rows,
in terms of what is read through each, and that a memory may be held in two halves of a share.
-/
module

public import proofs.«01_k».proof.Proof.Gen.Kernel6Ideal.Frame
public import Idealize.ShloMosaic.Lib.Pipeline.ValueKit

@[expose] public section

set_option maxRecDepth 16384

noncomputable section

namespace Cert.GatherProof

open Cert.Kernel6Ideal Cert.Kernel6Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the launch: the pipeline's rounds and the exchange's, the latter with up to four duties a round. -/
abbrev UU : Type := UR sig nD τ × URounds (GSem nD τ sig) (Fin 4)

local notation "𝕄" => MT nD τ sig Unit (Elt F) ℕ UU ℕ

/-! ## A row of an array -/

/-- Where row `n` begins. -/
abbrev offc (n : Fin 8) : Fin 3 → ℕ := ![n.val, 0, 0]
theorem offc_inb (n : Fin 8) : ∀ a, offc n a + S1x352x1024.size a ≤ S8x352x1024.size a := by revert n; decide

/-- The memref of the slice at an offset, its unit axis dropped: the kernel's own text. -/
abbrev rowAt {sp : Space} (M : Memref sig .tc sp S8x352x1024 .bf16) (off : Fin 3 → ℕ) (h : ∀ a, off a + S1x352x1024.size a ≤ S8x352x1024.size a) :
    Memref sig .tc sp S352x1024 .bf16 :=
  (M.slice (Rect.unit (s := S8x352x1024) off S1x352x1024.size h) (fun _ => rfl)).squeeze S352x1024 squeezes_S1x352x1024_S352x1024
/-- Row `n`. -/
abbrev rowM {sp : Space} (M : Memref sig .tc sp S8x352x1024 .bf16) (n : Fin 8) : Memref sig .tc sp S352x1024 .bf16 := rowAt M (offc n) (offc_inb n)

/-- The place in the array of a place in row `n`. -/
def rowIx (n : Fin 8) (j : S352x1024.Idx) : S8x352x1024.Idx :=
  (Rect.unit (s := S8x352x1024) (offc n) S1x352x1024.size (offc_inb n)).emb
    (Shape.reshapeEquiv (Shape.Squeezes.numel_eq (s := S1x352x1024) (s' := S352x1024) squeezes_S1x352x1024_S352x1024) j)
/-- Row `n` of contents. -/
def rowOf {α : Type} (X : S8x352x1024.Idx → α) (n : Fin 8) : S352x1024.Idx → α := fun j => X (rowIx n j)

theorem row_emb {sp : Space} (M : Memref sig .tc sp S8x352x1024 .bf16) (n : Fin 8) (j : S352x1024.Idx) :
    (rowM M n).view.emb j = M.view.emb (rowIx n j) := rfl

theorem row_read {sp : Space} {Val : EltTy → Type} (M : Memref sig .tc sp S8x352x1024 .bf16) (n : Fin 8) (f : M.view.ty.Contents Val) :
    (rowM M n).view.read Val f = rowOf (M.view.read Val f) n := rfl

theorem rowIx_zero (n : Fin 8) (j : S352x1024.Idx) : (rowIx n j 0).val = n.val := by
  unfold rowIx
  rw [ValueKit.rect_emb_unit_val]
  generalize hk' : Shape.reshapeEquiv _ j = k
  have hk : (k 0).val < 1 := (k 0).isLt
  show n.val + (k 0).val = n.val
  omega

theorem exists_rowIx (x : S8x352x1024.Idx) (n : Fin 8) (hn : (x 0).val = n.val) : ∃ j, rowIx n j = x := by
  let k : S1x352x1024.Idx := fun a => match a with
    | ⟨0, _⟩ => (⟨0, by decide⟩ : Fin 1)
    | ⟨1, _⟩ => (x 1 : Fin 352)
    | ⟨2, _⟩ => (x 2 : Fin 1024)
  refine ⟨(Shape.reshapeEquiv (Shape.Squeezes.numel_eq (s := S1x352x1024) (s' := S352x1024) squeezes_S1x352x1024_S352x1024)).symm k, ?_⟩
  unfold rowIx
  rw [Equiv.apply_symm_apply]
  funext a
  apply Fin.ext
  rw [ValueKit.rect_emb_unit_val]
  match a with
  | ⟨0, _⟩ => show n.val + 0 = (x 0).val; omega
  | ⟨1, _⟩ => show 0 + (x 1).val = (x 1).val; omega
  | ⟨2, _⟩ => show 0 + (x 2).val = (x 2).val; omega

theorem mem_row {sp : Space} (M : Memref sig .tc sp S8x352x1024 .bf16) (n : Fin 8) (i : M.view.ty.shape.Idx) :
    i ∈ (rowM M n).view.set ↔ ∃ j, M.view.emb (rowIx n j) = i := by
  unfold View.set
  simp only [Finset.mem_map, Finset.mem_univ, true_and]
  rfl

theorem set_rows {sp : Space} (M : Memref sig .tc sp S8x352x1024 .bf16) :
    M.view.set = Finset.univ.biUnion fun n : Fin 8 => (rowM M n).view.set := by
  ext i
  rw [Finset.mem_biUnion]
  constructor
  · intro h
    obtain ⟨x, -, rfl⟩ := Finset.mem_map.mp h
    obtain ⟨j, hj⟩ := exists_rowIx x (x 0) rfl
    exact ⟨x 0, Finset.mem_univ _, (mem_row M _ _).mpr ⟨j, by rw [hj]⟩⟩
  · rintro ⟨n, -, h⟩
    obtain ⟨j, rfl⟩ := (mem_row M n _).mp h
    exact Finset.mem_map.mpr ⟨_, Finset.mem_univ _, rfl⟩

theorem rows_disjoint {sp : Space} (M : Memref sig .tc sp S8x352x1024 .bf16) :
    ∀ a ∈ (Finset.univ : Finset (Fin 8)), ∀ b ∈ (Finset.univ : Finset (Fin 8)), a ≠ b → Disjoint (rowM M a).view.set (rowM M b).view.set := by
  intro a _ b _ hab
  rw [Finset.disjoint_left]
  intro i ha hb
  obtain ⟨j, rfl⟩ := (mem_row M a _).mp ha
  obtain ⟨j', h'⟩ := (mem_row M b _).mp hb
  have h0 := congrArg (fun x : S8x352x1024.Idx => (x 0).val) (M.view.emb.injective h')
  simp only [rowIx_zero] at h0
  exact hab (Fin.ext h0.symm)

theorem cast_cancel {α β : Type} (h : α = β) {x y : α} (hxy : cast h x = cast h y) : x = y := by subst h; exact hxy

omit [FloatOps F] in
/-- The array's memory falls into its rows. -/
theorem owns_split {sp : Space} (c : Dev nD) (M : Memref sig .tc sp S8x352x1024 .bf16) (X : S8x352x1024.Idx → Elt F .bf16) :
    (owns (c : Thread nD τ) M fullShare X : sProp 𝕄)
      ⊢ bigSep Finset.univ fun n : Fin 8 => owns (c : Thread nD τ) (rowM M n) fullShare (rowOf X n) := by
  have hmono (f : Buf (Elt F) (M.view.loc (c : Thread nD τ))) (hf : M.view.read (Elt F) f = X) :
      (M.view.loc (c : Thread nD τ) ↦[M.view.set]{fullShare} f : sProp 𝕄)
        ⊢ bigSep Finset.univ fun n : Fin 8 => owns (c : Thread nD τ) (rowM M n) fullShare (rowOf X n) := by
    rw [set_rows, pointsTo_biUnion _ _ (rows_disjoint M)]
    refine bigSep_mono fun n _ => (?_ : (_ : sProp 𝕄) ⊢ _)
    unfold owns
    iintro H
    iexists f
    isplitr; · ipureintro; rw [row_read, hf]
    iexact H
  unfold owns at hmono ⊢
  iintro ⟨%f, %hf, H⟩
  iapply (hmono f hf)
  iexact H

omit [FloatOps F] in
/-- The array's memory from its rows; `f₀` is any contents at all. -/
theorem owns_join {sp : Space} (c : Dev nD) (M : Memref sig .tc sp S8x352x1024 .bf16) (f₀ : Buf (Elt F) (M.view.loc (c : Thread nD τ)))
    (X : S8x352x1024.Idx → Elt F .bf16) :
    (bigSep Finset.univ fun n : Fin 8 => owns (c : Thread nD τ) (rowM M n) fullShare (rowOf X n) : sProp 𝕄)
      ⊢ owns (c : Thread nD τ) M fullShare X := by
  have hg : M.view.read (Elt F) (M.view.write (Elt F) f₀ X Finset.univ) = X := View.read_write_univ _ _
  generalize M.view.write (Elt F) f₀ X Finset.univ = g at hg
  unfold owns
  refine BIBase.Entails.trans ?_ (show (M.view.loc (c : Thread nD τ) ↦[M.view.set]{fullShare} g : sProp 𝕄) ⊢ _ from by
    iintro H; iexists g; isplitr; · (ipureintro; exact hg)
    iexact H)
  rw [set_rows, pointsTo_biUnion _ _ (rows_disjoint M)]
  refine bigSep_mono fun n _ => (?_ : (_ : sProp 𝕄) ⊢ _)
  iintro ⟨%f, %hf, H⟩
  have he : (M.view.loc (c : Thread nD τ) ↦[(rowM M n).view.set]{fullShare} f : sProp 𝕄)
      = (M.view.loc (c : Thread nD τ) ↦[(rowM M n).view.set]{fullShare} g) := pointsTo_congr fun i hi => by
    obtain ⟨j, rfl⟩ := (mem_row M n i).mp hi
    have h1 := congrFun hf j
    rw [row_read] at h1
    have h2 : M.view.read (Elt F) f (rowIx n j) = M.view.read (Elt F) g (rowIx n j) := by rw [hg]; exact h1
    rw [View.read_apply, View.read_apply] at h2
    exact cast_cancel _ h2
  iapply (Entails.of_eq he)
  iexact H

omit [FloatOps F] in
/-- A memref's memory at a share is two memories, at the share's halves. -/
theorem owns_cut (c : Dev nD) {sp : Space} {s : Shape} {e : EltTy} (M : Memref sig .tc sp s e) (q : PosShare TreeShare) (X : s.Idx → Elt F e) :
    (owns (c : Thread nD τ) M q X : sProp 𝕄) ⊢ iprop(owns (c : Thread nD τ) M q.left X ∗ owns (c : Thread nD τ) M q.right X) := by
  unfold owns
  iintro ⟨%f, %hf, H⟩
  ihave H := (pointsTo_share (PosShare.mem_left_op_right q)).1 $$ H
  icases H with ⟨H1, H2⟩
  isplitl [H1]
  · iexists f; isplitr; · (ipureintro; exact hf)
    iexact H1
  · iexists f; isplitr; · (ipureintro; exact hf)
    iexact H2
omit [FloatOps F] in
/-- And those two, at one contents, are it. -/
theorem owns_glue (c : Dev nD) {sp : Space} {s : Shape} {e : EltTy} (M : Memref sig .tc sp s e) (q : PosShare TreeShare) (X : s.Idx → Elt F e) :
    iprop(owns (c : Thread nD τ) M q.left X ∗ owns (c : Thread nD τ) M q.right X) ⊢ (owns (c : Thread nD τ) M q X : sProp 𝕄) := by
  unfold owns
  iintro ⟨⟨%f, %hf, H1⟩, ⟨%g, %hg, H2⟩⟩
  have he : (M.view.loc (c : Thread nD τ) ↦[M.view.set]{q.right} g : sProp 𝕄) = (M.view.loc (c : Thread nD τ) ↦[M.view.set]{q.right} f) :=
    pointsTo_congr fun i hi => by
      obtain ⟨x, -, rfl⟩ := Finset.mem_map.mp hi
      have h2 := congrFun (hg.trans hf.symm) x
      rw [View.read_apply, View.read_apply] at h2
      exact cast_cancel _ h2
  ihave H2 := (Entails.of_eq he) $$ H2
  iexists f
  isplitr; · (ipureintro; exact hf)
  iapply (pointsTo_share (PosShare.mem_left_op_right q)).2
  isplitl [H1] <;> iassumption

end Cert.GatherProof
-- ==== Proof.GatherProto.lean ====
/-
The gathering of the forward call, as a protocol. Each of the eight devices has one shard of the down weights and ends
with all eight, one a row of an array. A device tells its four peers that their rows may be written, waits for the four
to say so, and sends its shard to each: the other core of its chip and the same core of the three other chips. It takes
its own shard through a staging buffer. Of what comes from the three other chips it sends each on to the other core of
its chip. The cells of the protocol are a device's barrier, its seven sending and seven receiving counters and the
counter of its copy.
-/
module

public import proofs.«01_k».proof.Proof.GatherRows
public import Idealize.ShloMosaic.Lib.Pipeline.Launch
public import Idealize.ShloMosaic.Lib.Pipeline.Kit

@[expose] public section

set_option maxRecDepth 16384

noncomputable section

namespace Cert.GatherProof

open Cert.Kernel6Ideal Cert.Kernel6Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

variable (m : (ℓ : Loc nD τ sig) → Buf (Elt F) ℓ) (ρ : Dev nD → PrngReg)

/-! ## Peers and transfers -/

/-- The `k`-th peer: the other core of the chip, or the same core of one of the three other chips. -/
def pe (k : Fin 4) (c : Dev nD) : Dev nD := ⟨c.val ^^^ (![1, 4, 2, 6] k), by revert k c; decide +kernel⟩
/-- The receiver of a device's `k`-th transfer: first one to each peer, then three more to the other core of the chip. -/
def rx : Fin 7 → Dev nD → Dev nD
  | 0, c => pe 0 c | 1, c => pe 1 c | 2, c => pe 2 c | 3, c => pe 3 c | 4, c => pe 0 c | 5, c => pe 0 c | 6, c => pe 0 c
/-- The device whose shard the transfer carries: the sender's own, then those of the three other chips. -/
def sl : Fin 7 → Dev nD → Dev nD
  | 0, c => c | 1, c => c | 2, c => c | 3, c => c | 4, c => pe 1 c | 5, c => pe 2 c | 6, c => pe 3 c
/-- The device whose shard a device gets by the `k`-th transfer. -/
def gt (k : Fin 7) (c : Dev nD) : Dev nD := sl k (rx k c)

theorem pe_pe (k : Fin 4) (c : Dev nD) : pe k (pe k c) = c := by revert k c; decide +kernel
theorem rx_rx (k : Fin 7) (c : Dev nD) : rx k (rx k c) = c := by revert k c; decide +kernel
theorem pe_inj (k : Fin 4) {c d : Dev nD} (h : pe k c = pe k d) : c = d := by rw [← pe_pe k c, h, pe_pe]
theorem rx_inj (k : Fin 7) {c d : Dev nD} (h : rx k c = rx k d) : c = d := by rw [← rx_rx k c, h, rx_rx]
theorem gt_rx (k : Fin 7) (c : Dev nD) : gt k (rx k c) = sl k c := by unfold gt; rw [rx_rx]

/-- A device's row in the gathered array, and a row's device. -/
def nm (c : Dev nD) : Fin 8 := ⟨c.val, c.isLt⟩
def dv (n : Fin 8) : Dev nD := ⟨n.val, n.isLt⟩
/-- A device's rows: its own and those it gets. -/
def order (c : Dev nD) : Fin 8 → Fin 8
  | 0 => nm c | 1 => nm (gt 0 c) | 2 => nm (gt 1 c) | 3 => nm (gt 2 c) | 4 => nm (gt 3 c) | 5 => nm (gt 4 c) | 6 => nm (gt 5 c) | 7 => nm (gt 6 c)
theorem order_bij (c : Dev nD) : Function.Bijective (order c) := by revert c; decide +kernel

/-! ## The memrefs -/

abbrev shM : Memref sig .tc .hbm S352x1024 .bf16 := Memref.whole main_arg3
abbrev outM : Memref sig .tc .hbm S8x352x1024 .bf16 := Memref.whole main_v1_3
abbrev bM : Memref sig .tc .vmem S352x1024 .bf16 := Memref.whole cc0_scratch3

/-- Device `c`'s shard at launch. -/
def shX (c : Dev nD) : S352x1024.Idx → Elt F .bf16 := shM.view.read (Elt F) (m (shM.view.loc (c : Thread nD τ)))
/-- What every device has after the exchange: row `q` is device `q`'s shard. -/
def outX : S8x352x1024.Idx → Elt F .bf16 := fun x =>
  shX m (dv (x 0)) (fun b => match b with | ⟨0, _⟩ => (x 1 : Fin 352) | ⟨1, _⟩ => (x 2 : Fin 1024))

/-- The part of a shard's share that the `k`-th transfer holds, and the part the copy holds. -/
def sq : Fin 4 → PosShare TreeShare
  | 0 => fullShare.left.left | 1 => fullShare.left.right | 2 => fullShare.right.left | 3 => fullShare.right.right.left
abbrev ql : PosShare TreeShare := fullShare.right.right.right

abbrev shP (q : PosShare TreeShare) (c : Dev nD) : sProp 𝕄 := owns (c : Thread nD τ) shM q (shX m c)
abbrev outRow (c n : Dev nD) (Y : S352x1024.Idx → Elt F .bf16) : sProp 𝕄 := owns (c : Thread nD τ) (rowM outM (nm n)) fullShare Y
abbrev outAny (c n : Dev nD) : sProp 𝕄 := iprop(∃ Y, outRow (F := F) c n Y)
abbrev bnc (c : Dev nD) (Y : S352x1024.Idx → Elt F .bf16) : sProp 𝕄 := owns (c : Thread nD τ) bM fullShare Y

/-- One shard's credit. -/
@[irreducible] def N : ℕ := bM.view.dmaCredit
theorem N_pos : 0 < N := by unfold N; exact View.dmaCredit_pos _ (by decide)
theorem N_bnc : bM.view.dmaCredit = N := by unfold N; rfl
theorem N_out (n : Dev nD) : (rowM outM (nm n)).view.dmaCredit = N := by unfold N; rfl

/-! ## The cells -/

/-- A device's cells. -/
inductive Kd where
  | bar | snd (k : Fin 7) | rcv (k : Fin 7) | loc
  deriving DecidableEq

def Kd.all : List Kd := [.bar, .snd 0, .snd 1, .snd 2, .snd 3, .snd 4, .snd 5, .snd 6, .rcv 0, .rcv 1, .rcv 2, .rcv 3, .rcv 4, .rcv 5, .rcv 6, .loc]
instance : Fintype Kd where
  elems := ⟨Kd.all, by decide⟩
  complete k := by
    rcases k with _ | k | k | _
    · decide
    · revert k; decide
    · revert k; decide
    · decide

abbrev barS : Sem sig := (SemArray.scalar (sig.barrier 1 rfl) : Sems sig S_).sem

def ksem : Kd → SemLoc sig
  | .bar => .reg barS
  | .snd k => .dma ⟨12 + k.val, by show _ < 27; omega⟩
  | .rcv k => .dma ⟨19 + k.val, by show _ < 27; omega⟩
  | .loc => .dma ⟨26, by show _ < 27; omega⟩

theorem ksem_inj : Function.Injective ksem := by decide +kernel

abbrev cell (c : Dev nD) (k : Kd) : GSem nD τ sig := ((c : Thread nD τ), ksem k)

theorem cell_inj {c d : Dev nD} {k l : Kd} (h : cell c k = cell d l) : c = d ∧ k = l :=
  ⟨congrArg (fun g : GSem nD τ sig => g.1.1) h, ksem_inj (congrArg Prod.snd h)⟩

def dec (s : SemLoc sig) : Option Kd := by
  classical exact if h : ∃ k, ksem k = s then some h.choose else none
theorem dec_ksem (k : Kd) : dec (ksem k) = some k := by
  have h : ∃ l, ksem l = ksem k := ⟨k, rfl⟩
  unfold dec
  rw [dif_pos h]
  exact congrArg some (ksem_inj h.choose_spec)

/-! ## The schedule -/

def dutyK : Kd → ℕ → Finset (Fin 4)
  | .bar, 0 => Finset.univ
  | .snd _, 0 => {0}
  | .rcv _, 0 => {0}
  | .loc, 0 => {0}
  | .loc, 1 => {0}
  | _, _ => ∅
def amtK : Kd → ℕ
  | .bar => 1
  | _ => N
/-- The rows of its array that a device lets its `k`-th peer write. -/
def room (c : Dev nD) : Fin 4 → sProp 𝕄
  | 0 => iprop(outAny (F := F) c (gt 0 c) ∗ outAny (F := F) c (gt 4 c) ∗ outAny (F := F) c (gt 5 c) ∗ outAny (F := F) c (gt 6 c))
  | 1 => outAny (F := F) c (gt 1 c)
  | 2 => outAny (F := F) c (gt 2 c)
  | 3 => outAny (F := F) c (gt 3 c)
/-- What the `k`-th transfer reads. -/
def srcP (c : Dev nD) : Fin 7 → sProp 𝕄
  | 0 => shP m (sq 0) c | 1 => shP m (sq 1) c | 2 => shP m (sq 2) c | 3 => shP m (sq 3) c
  | 4 => outRow c (sl 4 c) (shX m (sl 4 c)) | 5 => outRow c (sl 5 c) (shX m (sl 5 c)) | 6 => outRow c (sl 6 c) (shX m (sl 6 c))
def payK (c : Dev nD) : Kd → ℕ → Fin 4 → sProp 𝕄
  | .bar, _, k => room (F := F) (pe k c) k
  | .snd k, _, _ => srcP m c k
  | .rcv k, _, _ => outRow c (gt k c) (shX m (gt k c))
  | .loc, 0, _ => iprop(bnc c (shX m c) ∗ shP m ql c)
  | .loc, _, _ => iprop(outRow c c (shX m c) ∗ bnc c (shX m c))

def Rd : Rounds.Schedule (GSem nD τ sig) (Fin 4) 𝕄 where
  duties g r := match dec g.2 with | some k => dutyK k r | none => ∅
  unitless _ := False
  amount g _ _ := match dec g.2 with | some k => amtK k | none => 1
  payload g r d := match dec g.2 with | some k => payK m g.1.1 k r d | none => iprop(emp)
  amount_pos g r d _ := by
    cases dec g.2 with
    | none => exact Nat.one_pos
    | some k => cases k <;> first | exact Nat.one_pos | exact N_pos

omit [FloatOps F] in
instance room_storable (c : Dev nD) (k : Fin 4) : BI.Storable (upEmb : UEmb _ 𝕄) (room (F := F) c k) := by
  fin_cases k
  · show BI.Storable upEmb iprop(outAny (F := F) c (gt 0 c) ∗ outAny (F := F) c (gt 4 c) ∗ outAny (F := F) c (gt 5 c) ∗ outAny (F := F) c (gt 6 c))
    infer_instance
  · show BI.Storable upEmb (outAny (F := F) c (gt 1 c)); infer_instance
  · show BI.Storable upEmb (outAny (F := F) c (gt 2 c)); infer_instance
  · show BI.Storable upEmb (outAny (F := F) c (gt 3 c)); infer_instance
omit [FloatOps F] in
instance srcP_storable (c : Dev nD) (k : Fin 7) : BI.Storable (upEmb : UEmb _ 𝕄) (srcP (F := F) m c k) := by
  fin_cases k
  · show BI.Storable upEmb (shP m (sq 0) c); infer_instance
  · show BI.Storable upEmb (shP m (sq 1) c); infer_instance
  · show BI.Storable upEmb (shP m (sq 2) c); infer_instance
  · show BI.Storable upEmb (shP m (sq 3) c); infer_instance
  · show BI.Storable upEmb (outRow c (sl 4 c) (shX m (sl 4 c))); infer_instance
  · show BI.Storable upEmb (outRow c (sl 5 c) (shX m (sl 5 c))); infer_instance
  · show BI.Storable upEmb (outRow c (sl 6 c) (shX m (sl 6 c))); infer_instance
omit [FloatOps F] in
instance payK_storable (c : Dev nD) (k : Kd) (r : ℕ) (d : Fin 4) : BI.Storable (upEmb : UEmb _ 𝕄) (payK (F := F) m c k r d) := by
  cases k with
  | bar => unfold payK; infer_instance
  | snd k => unfold payK; infer_instance
  | rcv k => unfold payK; infer_instance
  | loc =>
    cases r with
    | zero =>
      show BI.Storable upEmb iprop(bnc c (shX m c) ∗ shP m ql c)
      infer_instance
    | succ r =>
      show BI.Storable upEmb iprop(outRow c c (shX m c) ∗ bnc c (shX m c))
      infer_instance

omit [FloatOps F] in
instance Rd_storable (g : GSem nD τ sig) (r : ℕ) (d : Fin 4) : BI.Storable (upEmb : UEmb _ 𝕄) ((Rd (F := F) m).payload g r d) := by
  show BI.Storable upEmb (match dec g.2 with | some k => payK m g.1.1 k r d | none => iprop(emp))
  cases dec g.2 <;> infer_instance

omit [FloatOps F] in
theorem duties_cell (c : Dev nD) (k : Kd) (r : ℕ) : (Rd (F := F) m).duties (cell c k) r = dutyK k r := by
  show (match dec (ksem k) with | some k => dutyK k r | none => ∅) = _
  rw [dec_ksem]
omit [FloatOps F] in
theorem amount_cell (c : Dev nD) (k : Kd) (r : ℕ) (d : Fin 4) : (Rd (F := F) m).amount (cell c k) r d = amtK k := by
  show (match dec (ksem k) with | some k => amtK k | none => 1) = _
  rw [dec_ksem]
omit [FloatOps F] in
theorem payload_cell (c : Dev nD) (k : Kd) (r : ℕ) (d : Fin 4) : (Rd (F := F) m).payload (cell c k) r d = payK m c k r d := by
  show (match dec (ksem k) with | some k' => payK m c k' r d | none => iprop(emp)) = _
  rw [dec_ksem]
omit [FloatOps F] in
theorem expect_cell (c : Dev nD) (k : Kd) (r : ℕ) : (Rd (F := F) m).expect (cell c k) r = (dutyK k r).card * amtK k := by
  unfold Schedule.expect Schedule.amountOf
  rw [duties_cell, Finset.sum_congr rfl fun d _ => amount_cell m c k r d, Finset.sum_const, smul_eq_mul]
omit [FloatOps F] in
theorem rest_cell (c : Dev nD) (k : Kd) (r : ℕ) :
    bigSep ((Rd (F := F) m).duties (cell c k) r \ ∅) (fun d => (Rd (F := F) m).payload (cell c k) r d) = bigSep (dutyK k r) (payK m c k r) := by
  rw [Finset.sdiff_empty, duties_cell]
  exact bigSep_congr fun d _ => payload_cell m c k r d

/-- How many rounds a cell has. -/
def rounds : Kd → ℕ
  | .loc => 2
  | _ => 1
theorem dutyK_later (k : Kd) (r : ℕ) (h : rounds k ≤ r) : dutyK k r = ∅ := by
  rcases k with _ | k | k | _ <;> simp only [rounds] at h
  all_goals first
    | (obtain ⟨r, rfl⟩ := Nat.exists_eq_add_of_le' h; rfl)

/-! ## What all devices know -/

/-- Every cell's invariant, and that its first round is reached. -/
def records (K : Dev nD × Kd → ℕ) : sProp 𝕄 :=
  iprop((bigSep Finset.univ fun ck : Dev nD × Kd => cellInv ER (Rd m) (K ck) (cell ck.1 ck.2))
    ∗ bigSep Finset.univ fun ck : Dev nD × Kd => reached ER (cell ck.1 ck.2) 0)
instance records_persistent (K : Dev nD × Kd → ℕ) : BI.Persistent (records m K) := by unfold records; infer_instance

omit [FloatOps F] in
theorem inv_at' (K : Dev nD × Kd → ℕ) (c : Dev nD) (k : Kd) :
    (bigSep Finset.univ fun ck : Dev nD × Kd => (cellInv ER (Rd m) (K ck) (cell ck.1 ck.2) : sProp 𝕄)) ⊢ cellInv ER (Rd m) (K (c, k)) (cell c k) :=
  bigSep_elim (Φ := fun ck : Dev nD × Kd => (cellInv ER (Rd m) (K ck) (cell ck.1 ck.2) : sProp 𝕄)) (Finset.mem_univ (c, k))
omit [FloatOps F] in
theorem reached_at' (c : Dev nD) (k : Kd) :
    (bigSep Finset.univ fun ck : Dev nD × Kd => (reached ER (cell ck.1 ck.2) 0 : sProp 𝕄)) ⊢ reached ER (cell c k) 0 :=
  bigSep_elim (Φ := fun ck : Dev nD × Kd => (reached ER (cell ck.1 ck.2) 0 : sProp 𝕄)) (Finset.mem_univ (c, k))
omit [FloatOps F] in
theorem inv_at (K : Dev nD × Kd → ℕ) (c : Dev nD) (k : Kd) : records m K ⊢ cellInv ER (Rd m) (K (c, k)) (cell c k) := by
  unfold records
  iintro ⟨H, -⟩
  iapply (inv_at' m K c k)
  iexact H
omit [FloatOps F] in
theorem reached_at (K : Dev nD × Kd → ℕ) (c : Dev nD) (k : Kd) : records m K ⊢ reached ER (cell c k) 0 := by
  unfold records
  iintro ⟨-, H⟩
  iapply (reached_at' (F := F) c k)
  iexact H

/-- What a core owes, whatever it has waited for. -/
def owesE (c : Dev nD) (O : CellTallies nD τ sig Unit) : sProp 𝕄 := iprop(∃ W, owes (c : Thread nD τ) O W)

abbrev 𝒱₀ : Variants := Variants.none

/-! ## The rules -/

omit [FloatOps F] in
theorem own_of {sp : Space} (c : Dev nD) (M : Memref sig .tc sp S352x1024 .bf16) (q : PosShare TreeShare) (f : Buf (Elt F) (M.view.loc (c : Thread nD τ))) (X : S352x1024.Idx → Elt F .bf16)
    (h : M.view.read (Elt F) f = X) : (M.view.loc (c : Thread nD τ) ↦[M.view.set]{q} f : sProp 𝕄) ⊢ owns (c : Thread nD τ) M q X := by
  unfold owns
  iintro H; iexists f; isplitr
  · ipureintro; exact h
  iexact H
omit [FloatOps F] in
theorem own_written {sp sp' : Space} (c : Dev nD) (M : Memref sig .tc sp S352x1024 .bf16) (M' : Memref sig .tc sp' S352x1024 .bf16)
    (f : Buf (Elt F) (M.view.loc (c : Thread nD τ))) (g : M'.view.ty.Contents (Elt F)) (X : S352x1024.Idx → Elt F .bf16)
    (h : M'.view.read (Elt F) g = X) :
    (M.view.loc (c : Thread nD τ) ↦[M.view.set]{fullShare} M.view.write (Elt F) f (M'.view.read (Elt F) g) Finset.univ : sProp 𝕄) ⊢ owns (c : Thread nD τ) M fullShare X :=
  own_of c M fullShare _ X ((View.read_write_univ _ _).trans h)

omit [FloatOps F] in
theorem pay_bar (c : Dev nD) (k : Fin 4) : room (F := F) c k = (Rd (F := F) m).payload (cell (pe k c) .bar) 0 k := by
  rw [payload_cell]
  show _ = room (F := F) (pe k (pe k c)) k
  rw [pe_pe]
omit [FloatOps F] in
theorem pay_rcv (c : Dev nD) (k : Fin 7) : outRow (rx k c) (sl k c) (shX m (sl k c)) = (Rd (F := F) m).payload (cell (rx k c) (.rcv k)) 0 0 := by
  rw [payload_cell]
  show _ = outRow (rx k c) (gt k (rx k c)) (shX m (gt k (rx k c)))
  rw [gt_rx]
omit [FloatOps F] in
theorem pay_snd (c : Dev nD) (k : Fin 7) : srcP m c k = (Rd (F := F) m).payload (cell c (.snd k)) 0 0 := by
  rw [payload_cell]; rfl
omit [FloatOps F] in
theorem pay_loc0 (c : Dev nD) : iprop(bnc c (shX m c) ∗ shP m ql c) = (Rd (F := F) m).payload (cell c .loc) 0 0 := by
  rw [payload_cell]; rfl
omit [FloatOps F] in
theorem pay_loc1 (c : Dev nD) : iprop(outRow c c (shX m c) ∗ bnc c (shX m c)) = (Rd (F := F) m).payload (cell c .loc) 1 0 := by
  rw [payload_cell]; rfl

section Rules
variable (K : Dev nD × Kd → ℕ) {α : Type} {Q : α → sProp (MT nD τ sig Unit (Elt F) ℕ UU ℕ)} {k' : PUnit → Prog (TpuEff nD τ sig (Elt F) Λ₀ .tc) α}

/-- Telling a peer that the rows it is to write may be written. -/
theorem wp_bar (c n : Dev nD) (k : Fin 4) (hn : n = pe k c) {s : Sem sig} (hs : s = barS) (O : CellTallies nD τ sig Unit) {u : ℕ} (hu : u = 1) :
    iprop(records m K ∗ owesE c (O + tallyAt (cell (pe k c) .bar) () 1) ∗ dutyTok ER (cell (pe k c) .bar) 0 k ∗ room (F := F) c k)
      ⊢ iprop((owesE c O -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n : Thread nD τ) s u) k') Q) := by
  subst hn hs hu
  unfold owesE
  iintro ⟨#HR, ⟨%W, HO⟩, Ht, H0⟩ Hk
  iapply (Rounds.wp_signal 𝒱₀ ER (Rd m) (c : Thread nD τ) none (dst := (pe k c : Thread nD τ)) (r := 0) (d := k) (κ := K (pe k c, .bar))
      (show k ∈ (Rd m).duties (cell (pe k c) .bar) 0 by rw [duties_cell]; exact Finset.mem_univ _) (amount_cell m (pe k c) .bar 0 k) () O rfl (W := W)) $$ [HO Ht H0]
  · isplitr; · iapply (inv_at m K (pe k c) .bar); iexact HR
    isplitl [HO]; · iexact HO
    isplitl [Ht]; · iexact Ht
    isplitl [H0]
    · iapply (show room (F := F) c k ⊢ (Rd m).payload ((pe k c : Thread nD τ), .reg barS) 0 k from Entails.of_eq (pay_bar m c k)); iexact H0
    · iapply (reached_at m K (pe k c) .bar); iexact HR
  iintro HO
  iapply Hk
  iexists W; iexact HO

/-- Waiting for a cell's whole round: what the round hands over comes back. -/
theorem wp_round (c : Dev nD) (k : Kd) (r : ℕ) {w : TpuEff nD τ sig (Elt F) Λ₀ .tc PUnit} {s : SemLoc sig} (hs : s = ksem k) {u : ℕ}
    (hw : ∀ Kc : PUnit → sProp 𝕄, wpE (defs₀ (F := F)) 𝒱₀ (c : Thread nD τ) none Set.univ w Kc = waitSpec (c : Thread nD τ) Set.univ s u Kc)
    (hu : u = (dutyK k r).card * amtK k) (O : CellTallies nD τ sig Unit) :
    iprop(records m K ∗ cred (tallyAt (cell c k) () ((dutyK k r).card * amtK k)) ∗ owesE c O ∗ MayWait (c : Thread nD τ) (ksem k) () O ∗ atPos ER (cell c k) r ∅ 0)
      ⊢ iprop(((owesE c O ∗ atPos ER (cell c k) (r + 1) ∅ 0 ∗ reached ER (cell c k) (r + 1) ∗ bigSep (dutyK k r) (payK m c k r))
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  subst hs hu
  unfold owesE
  iintro ⟨#HR, Hc, ⟨%W, HO⟩, Hm, Ha⟩ Hk
  iapply (Rounds.wp_wait_rest_token 𝒱₀ ER (Rd m) (c : Thread nD τ) none (κ := K (c, k)) hw (Set.mem_univ _) () (O := O) (W := W) (R := r) (m := 0) (T := ∅)
      (by rw [Nat.zero_add]; exact (expect_cell m c k r).symm)) $$ [Hc HO Hm Ha]
  · isplitr; · iapply (inv_at m K c k); iexact HR
    isplitl [Hc]; · iexact Hc
    isplitl [HO]; · iexact HO
    isplitl [Hm] <;> iassumption
  iintro ⟨HO, Ha, Hr, Hp⟩
  iapply Hk
  isplitl [HO]; · iexists _; iexact HO
  isplitl [Ha]; · iexact Ha
  isplitl [Hr]; · iexact Hr
  iapply (Entails.of_eq (rest_cell m c k r)); iexact Hp

/-- A transfer to a peer, between any memrefs whose contents are what the two cells hand over. -/
theorem wp_send_gen (c : Dev nD) (k : Fin 7) (Ms Md : Memref sig .tc .hbm S352x1024 .bf16) (hN : Md.view.dmaCredit = N)
    (q : PosShare TreeShare) (X : S352x1024.Idx → Elt F .bf16)
    (hp₁ : (owns (c : Thread nD τ) Ms q X : sProp 𝕄) ⊢ (Rd m).payload (cell c (.snd k)) 0 0)
    (hp₂ : (owns (rx k c : Thread nD τ) Md fullShare X : sProp 𝕄) ⊢ (Rd m).payload (cell (rx k c) (.rcv k)) 0 0)
    {qS qR : DmaSem sig} (hS : SemLoc.dma qS = ksem (.snd k)) (hR : SemLoc.dma qR = ksem (.rcv k))
    (O : CellTallies nD τ sig Unit)
    {hsc : (Md : Memref sig (Dev.tc (rx k c) : Thread nD τ).2.kind .hbm S352x1024 .bf16).view.ref.isScScratch = false}
    {hsrc : Ms.view.WordExact} {hdst : Md.view.WordExact}
    {hsem : DmaTarget.Typed .hbm (.dma qR) (.remote (Dev.tc (rx k c) : Thread nD τ) Md (.dma qS) hsc)} :
    iprop(records m K ∗ owns (c : Thread nD τ) Ms q X ∗ (∃ Y, owns (rx k c : Thread nD τ) Md fullShare Y) ∗ owesE c (O + tallyAt (cell (rx k c) (.rcv k)) () N)
        ∗ dutyTok ER (cell c (.snd k)) 0 0 ∗ dutyTok ER (cell (rx k c) (.rcv k)) 0 0)
      ⊢ iprop(((cred (tallyAt (cell c (.snd k)) () N) ∗ owesE c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma Ms (.remote (Dev.tc (rx k c) : Thread nD τ) Md (.dma qS) hsc) (.dma qR) hsrc hdst hsem) k') Q) := by
  have hd₁ : (0 : Fin 4) ∈ (Rd (F := F) m).duties (cell c (.snd k)) 0 := by rw [duties_cell]; exact Finset.mem_singleton_self _
  have hd₂ : (0 : Fin 4) ∈ (Rd (F := F) m).duties (cell (rx k c) (.rcv k)) 0 := by rw [duties_cell]; exact Finset.mem_singleton_self _
  have ha₁ : (Rd (F := F) m).amount (cell c (.snd k)) 0 0 = N := amount_cell m c (.snd k) 0 0
  have ha₂ : (Rd (F := F) m).amount (cell (rx k c) (.rcv k)) 0 0 = N := amount_cell m (rx k c) (.rcv k) 0 0
  have hi₁ := inv_at m K c (.snd k)
  have hi₂ := inv_at m K (rx k c) (.rcv k)
  have hr₁ := reached_at m K c (.snd k)
  have hr₂ := reached_at m K (rx k c) (.rcv k)
  unfold cell at *
  rw [← hS] at hd₁ ha₁ hi₁ hr₁ hp₁ ⊢
  rw [← hR] at hd₂ ha₂ hi₂ hr₂ hp₂ ⊢
  generalize K (c, .snd k) = κ₁ at hi₁
  generalize K (rx k c, .rcv k) = κ₂ at hi₂
  generalize hdd : rx k c = d at *
  clear hS hR hdd
  have hw₁ (fs : Buf (Elt F) (Ms.view.loc (c : Thread nD τ))) (hfs : Ms.view.read (Elt F) fs = X) := (own_of (F := F) c Ms q fs X hfs).trans hp₁
  have hw₂ (fd : Buf (Elt F) (Md.view.loc (d : Thread nD τ))) (fs : Buf (Elt F) (Ms.view.loc (c : Thread nD τ))) (hfs : Ms.view.read (Elt F) fs = X) :=
    (own_written (F := F) d Md Ms fd fs X hfs).trans hp₂
  unfold owesE owns
  iintro ⟨#HR, ⟨%fs, %hfs, Hi⟩, ⟨%Y, %fd, %hfd, Ho⟩, ⟨%W, HO⟩, Hts, Htr⟩ Hk
  iapply (Rounds.wp_send_pointsTo 𝒱₀ ER (Rd m) (c : Thread nD τ) none (c' := (d : Thread nD τ)) (src := Ms) (dst := Md) (q := q) (κ₁ := κ₁) (κ₂ := κ₂)
    (r₁ := 0) (r₂ := 0) (d₁ := 0) (d₂ := 0) (fd := fd) (fs := fs) hd₁ hd₂ () () N hN ha₁ ha₂ O rfl (W := W) (hw₁ fs hfs) (hw₂ fd fs hfs)) $$ [Hi Ho HO Hts Htr]
  · isplitr; · iapply hi₁; iexact HR
    isplitr; · iapply hi₂; iexact HR
    isplitl [Hi]; · iexact Hi
    isplitl [Ho]; · iexact Ho
    isplitl [HO]; · iexact HO
    isplitl [Hts]; · iexact Hts
    isplitr; · iapply hr₁; iexact HR
    isplitl [Htr]; · iexact Htr
    iapply hr₂; iexact HR
  iintro ⟨Hc, HO⟩
  iapply Hk
  isplitl [Hc]; · iexact Hc
  iexists W; iexact HO

/-- A transfer of a shard: what it reads is what the sending cell gives back, and it writes the sender's row for it at the
    receiver. -/
theorem wp_sendto (c n : Dev nD) (k : Fin 7) (hn : n = rx k c) (Ms : Memref sig .tc .hbm S352x1024 .bf16) (q : PosShare TreeShare)
    (hp : (owns (c : Thread nD τ) Ms q (shX m (sl k c)) : sProp 𝕄) ⊢ srcP m c k) {offd : Fin 3 → ℕ} {hid}
    (hd : offd = offc (nm (sl k c))) {qS qR : DmaSem sig} (hS : SemLoc.dma qS = ksem (.snd k)) (hR : SemLoc.dma qR = ksem (.rcv k))
    (O : CellTallies nD τ sig Unit)
    {hsc : (rowAt outM offd hid : Memref sig (Dev.tc n : Thread nD τ).2.kind .hbm S352x1024 .bf16).view.ref.isScScratch = false}
    {hsrc : Ms.view.WordExact} {hdst : (rowAt outM offd hid).view.WordExact}
    {hsem : DmaTarget.Typed .hbm (.dma qR) (.remote (Dev.tc n : Thread nD τ) (rowAt outM offd hid) (.dma qS) hsc)} :
    iprop(records m K ∗ owns (c : Thread nD τ) Ms q (shX m (sl k c)) ∗ outAny (rx k c) (sl k c) ∗ owesE c (O + tallyAt (cell (rx k c) (.rcv k)) () N)
        ∗ dutyTok ER (cell c (.snd k)) 0 0 ∗ dutyTok ER (cell (rx k c) (.rcv k)) 0 0)
      ⊢ iprop(((cred (tallyAt (cell c (.snd k)) () N) ∗ owesE c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma Ms (.remote (Dev.tc n : Thread nD τ) (rowAt outM offd hid) (.dma qS) hsc) (.dma qR) hsrc hdst hsem) k') Q) := by
  subst hn hd
  exact wp_send_gen m K c k Ms (rowM outM (nm (sl k c))) (N_out (sl k c)) q _
    (hp.trans (Entails.of_eq (pay_snd m c k))) (Entails.of_eq (pay_rcv m c k)) hS hR O
/-- The same, of a row of the device's array. -/
theorem wp_passon (c n : Dev nD) (k : Fin 7) (hn : n = rx k c) (hp : outRow c (sl k c) (shX m (sl k c)) ⊢ srcP m c k) {offs offd : Fin 3 → ℕ} {his} {hid}
    (hs : offs = offc (nm (sl k c))) (hd : offd = offc (nm (sl k c))) {qS qR : DmaSem sig} (hS : SemLoc.dma qS = ksem (.snd k)) (hR : SemLoc.dma qR = ksem (.rcv k))
    (O : CellTallies nD τ sig Unit)
    {hsc : (rowAt outM offd hid : Memref sig (Dev.tc n : Thread nD τ).2.kind .hbm S352x1024 .bf16).view.ref.isScScratch = false}
    {hsrc : (rowAt outM offs his).view.WordExact} {hdst : (rowAt outM offd hid).view.WordExact}
    {hsem : DmaTarget.Typed .hbm (.dma qR) (.remote (Dev.tc n : Thread nD τ) (rowAt outM offd hid) (.dma qS) hsc)} :
    iprop(records m K ∗ outRow c (sl k c) (shX m (sl k c)) ∗ outAny (rx k c) (sl k c) ∗ owesE c (O + tallyAt (cell (rx k c) (.rcv k)) () N)
        ∗ dutyTok ER (cell c (.snd k)) 0 0 ∗ dutyTok ER (cell (rx k c) (.rcv k)) 0 0)
      ⊢ iprop(((cred (tallyAt (cell c (.snd k)) () N) ∗ owesE c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (rowAt outM offs his) (.remote (Dev.tc n : Thread nD τ) (rowAt outM offd hid) (.dma qS) hsc) (.dma qR) hsrc hdst hsem) k') Q) := by
  subst hs
  exact wp_sendto m K c n k hn (rowM outM (nm (sl k c))) fullShare hp hd hS hR O

/-- A copy on the device, between any memrefs whose contents are what the cell hands over. -/
theorem wp_copy_gen (c : Dev nD) (r : ℕ) (hr2 : r < 2) {sp sp' : Space} (Ms : Memref sig .tc sp S352x1024 .bf16) (Md : Memref sig .tc sp' S352x1024 .bf16)
    (hN : Md.view.dmaCredit = N) (qs : PosShare TreeShare) (X : S352x1024.Idx → Elt F .bf16)
    (hp : iprop((owns (c : Thread nD τ) Md fullShare X : sProp 𝕄) ∗ owns (c : Thread nD τ) Ms qs X) ⊢ (Rd m).payload (cell c .loc) r 0)
    {q : DmaSem sig} (hs : SemLoc.dma q = ksem .loc)
    {hsrc : Ms.view.WordExact} {hdst : Md.view.WordExact} {hsem : DmaTarget.Typed sp (.dma q) (.here Md : DmaTarget nD τ sig .tc sp' S352x1024 .bf16)} :
    iprop(records m K ∗ owns (c : Thread nD τ) Ms qs X ∗ (∃ Y, owns (c : Thread nD τ) Md fullShare Y) ∗ dutyTok ER (cell c .loc) r 0 ∗ reached ER (cell c .loc) r)
      ⊢ iprop((cred (tallyAt (cell c .loc) () N) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma Ms (.here Md) (.dma q) hsrc hdst hsem) k') Q) := by
  have hd : (0 : Fin 4) ∈ (Rd (F := F) m).duties (cell c .loc) r := by
    rw [duties_cell]
    match r, hr2 with
    | 0, _ => exact Finset.mem_singleton_self _
    | 1, _ => exact Finset.mem_singleton_self _
  have ha : (Rd (F := F) m).amount (cell c .loc) r 0 = N := amount_cell m c .loc r 0
  have hi := inv_at m K c .loc
  unfold cell at *
  rw [← hs] at hd ha hi hp ⊢
  generalize K (c, .loc) = κ at hi
  clear hs
  have hw (fd : Buf (Elt F) (Md.view.loc (c : Thread nD τ))) (fs : Buf (Elt F) (Ms.view.loc (c : Thread nD τ))) (hfs : Ms.view.read (Elt F) fs = X) :=
    (BIClass.sep_mono (own_written (F := F) c Md Ms fd fs X hfs) (own_of (F := F) c Ms qs fs X hfs)).trans hp
  unfold owns
  iintro ⟨#HR, ⟨%fs, %hfs, Hi⟩, ⟨%Y, %fd, %hfd, Ho⟩, Ht, Hr⟩ Hk
  iapply (Rounds.wp_copy_pointsTo 𝒱₀ ER (Rd m) (c : Thread nD τ) none (q := qs) (κ := κ) (r := r) (d := 0) (fd := fd) (fs := fs) hd () N hN ha (hw fd fs hfs)) $$ [Hi Ho Ht Hr]
  · isplitr; · iapply hi; iexact HR
    isplitl [Hi]; · iexact Hi
    isplitl [Ho]; · iexact Ho
    isplitl [Ht] <;> iassumption
  iintro Hc
  iapply Hk; iexact Hc

/-- A device's shard copied to the staging buffer. -/
theorem wp_copyin (c : Dev nD) {q : DmaSem sig} (hs : SemLoc.dma q = ksem .loc)
    {hsrc : shM.view.WordExact} {hdst : bM.view.WordExact} {hsem : DmaTarget.Typed .hbm (.dma q) (.here bM : DmaTarget nD τ sig .tc .vmem S352x1024 .bf16)} :
    iprop(records m K ∗ shP m ql c ∗ (∃ Y, bnc c Y) ∗ dutyTok ER (cell c .loc) 0 0 ∗ reached ER (cell c .loc) 0)
      ⊢ iprop((cred (tallyAt (cell c .loc) () N) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma shM (.here bM) (.dma q) hsrc hdst hsem) k') Q) :=
  wp_copy_gen m K c 0 (by decide) shM bM N_bnc ql _ (Entails.of_eq (pay_loc0 m c)) hs

/-- The staging buffer copied to the device's own row. -/
theorem wp_copyout (c : Dev nD) {off : Fin 3 → ℕ} {hi} (ho : off = offc (nm c)) {q : DmaSem sig} (hs : SemLoc.dma q = ksem .loc)
    {hsrc : bM.view.WordExact} {hdst : (rowAt outM off hi).view.WordExact} {hsem : DmaTarget.Typed .vmem (.dma q) (.here (rowAt outM off hi) : DmaTarget nD τ sig .tc .hbm S352x1024 .bf16)} :
    iprop(records m K ∗ bnc c (shX m c) ∗ outAny c c ∗ dutyTok ER (cell c .loc) 1 0 ∗ reached ER (cell c .loc) 1)
      ⊢ iprop((cred (tallyAt (cell c .loc) () N) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma bM (.here (rowAt outM off hi)) (.dma q) hsrc hdst hsem) k') Q) := by
  subst ho
  exact wp_copy_gen m K c 1 (by decide) bM (rowM outM (nm c)) (N_out c) fullShare _ (Entails.of_eq (pay_loc1 m c)) hs

/-- A cell whose rounds are over gives its counter back, at zero. -/
theorem close_cell (c : Dev nD) (k : Kd) (r : ℕ) (hr : rounds k ≤ r) :
    iprop(records m K ∗ atPos ER (cell c k) r ∅ 0) ⊢ |={Set.univ}=> semVal (cell c k) 0 := by
  iintro ⟨#HR, Ha⟩
  imod (Rounds.cell_close ER (Rd m) (Set.mem_univ (K (c, k))) (fun h => h) (R := r) (fun r' hr' => by
    rw [duties_cell]; exact dutyK_later k r' (le_trans hr hr'))) $$ [Ha] with Hz
  · isplitr; · iapply (inv_at m K c k); iexact HR
    iexact Ha
  imodintro; iexact Hz

end Rules

end Cert.GatherProof
-- ==== Proof.GatherBody.lean ====
/-
One point of the forward call on one device: what the device holds before and after, for the exchange and for its
windows' blocks. At the first point the body signals its peers, starts the copy of its shard and sends the shard to its
peers; at the last point but one it passes on what came from the other chips; at the last point it waits for all that
is under way.
-/
module

public import proofs.«01_k».proof.Proof.GatherProto
public import proofs.«01_k».proof.Proof.Gen.Kernel6Ideal.Frame

@[expose] public section

set_option maxRecDepth 16384

noncomputable section

namespace Cert.GatherProof

open Cert.Kernel6Ideal Cert.Kernel6Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is owed, and the levels -/

/-- What a device owes a receiving cell, and one peer's barrier. -/
abbrev oweR (c : Dev nD) (k : Fin 7) : CellTallies nD τ sig Unit := tallyAt (cell (rx k c) (.rcv k)) () N
abbrev oweB (c : Dev nD) (k : Fin 4) : CellTallies nD τ sig Unit := tallyAt (cell (pe k c) .bar) () 1
/-- What it owes after its own sends: the three it passes on. -/
def owe3 (c : Dev nD) : CellTallies nD τ sig Unit := ((0 + oweR c 6) + oweR c 5) + oweR c 4
/-- What it owes after its signals: its own four sends more. -/
def owe7 (c : Dev nD) : CellTallies nD τ sig Unit := (((owe3 c + oweR c 3) + oweR c 2) + oweR c 1) + oweR c 0
/-- What it owes from the start: four signals more. -/
def O₀ (c : Dev nD) : CellTallies nD τ sig Unit := (((owe7 c + oweB c 3) + oweB c 2) + oweB c 1) + oweB c 0

/-- A cell's level: what is passed on lies above what is sent first, and that above the barriers. -/
def lvK : Kd → ℕ
  | .bar => 1
  | .rcv k => if k.val < 4 then 2 else 3
  | _ => 0
def lv : GSem nD τ sig → Unit → ℕ := fun g _ =>
  match dec g.2 with | some k => lvK k | _ => 0
def L : GSem nD τ sig → Finset Unit := fun g => if g.1.2 = .tc then {()} else ∅
theorem L_of_ne (g : GSem nD τ sig) (hg : g.1.2 ≠ .tc) : L g = ∅ := if_neg hg
theorem mem_L (c : Dev nD) (s : SemLoc sig) : () ∈ L ((c : Thread nD τ), s) := by show () ∈ (if _ then _ else _); rw [if_pos rfl]; exact Finset.mem_singleton_self ()

theorem lv_cell (c : Dev nD) (k : Kd) : lv (cell c k) () = lvK k := by
  unfold lv cell; simp only [dec_ksem]

/-- All that is owed is owed to cells above a level. -/
def Above (l : ℕ) (O : CellTallies nD τ sig Unit) : Prop := ∀ g u, 0 < O g u → ∃ d k, g = cell d k ∧ l < lvK k
theorem above_zero (l : ℕ) : Above l 0 := fun g u h => absurd h (by show ¬ 0 < 0; omega)
theorem above_add {l : ℕ} {O : CellTallies nD τ sig Unit} (h : Above l O) (d : Dev nD) (k : Kd) (n : ℕ) (hk : l < lvK k) :
    Above l (O + tallyAt (cell d k) () n) := fun g u hg => by
  by_cases he : g = cell d k
  · exact ⟨d, k, he, hk⟩
  · refine h g u ?_
    have h0 : (tallyAt (cell d k) () n : CellTallies nD τ sig Unit) g u = 0 := by rw [tallyAt_ne_cell he]; rfl
    simp only [Pi.add_apply, Finsupp.add_apply, h0] at hg
    exact hg
theorem above_one {l : ℕ} (hl : l < 3) (c : Dev nD) : Above l (0 + oweR c 6) := above_add (above_zero l) _ (.rcv 6) N hl
theorem above_two {l : ℕ} (hl : l < 3) (c : Dev nD) : Above l ((0 + oweR c 6) + oweR c 5) := above_add (above_one hl c) _ (.rcv 5) N hl
theorem above_owe3 {l : ℕ} (hl : l < 3) (c : Dev nD) : Above l (owe3 c) := above_add (above_two hl c) _ (.rcv 4) N hl
theorem above_owe7 {l : ℕ} (hl : l < 2) (c : Dev nD) : Above l (owe7 c) :=
  above_add (above_add (above_add (above_add (above_owe3 (by omega) c) _ (.rcv 3) N hl) _ (.rcv 2) N hl) _ (.rcv 1) N hl) _ (.rcv 0) N hl
theorem above_O₀ (c : Dev nD) : Above 0 (O₀ c) :=
  above_add (above_add (above_add (above_add (above_owe7 (by omega) c) _ .bar 1 Nat.one_pos) _ .bar 1 Nat.one_pos) _ .bar 1 Nat.one_pos) _ .bar 1 Nat.one_pos

theorem mayWait_at (c : Dev nD) (s : SemLoc sig) (l : ℕ) (hs : lv ((c : Thread nD τ), s) () ≤ l) (O : CellTallies nD τ sig Unit) (h : Above l O) :
    (levAts L lv : sProp 𝕄) ⊢ MayWait (c : Thread nD τ) s () O :=
  MayOwe.of_cut (L := L) (lev := lv) l (fun p hp => by rw [Finset.mem_singleton.mp hp]; exact mem_L c _)
    (fun g u hg => by obtain ⟨d, k, rfl, -⟩ := h g u hg; exact mem_L _ _)
    (fun p hp => by rw [Finset.mem_singleton.mp hp]; exact hs)
    (fun g u hg => by
      obtain ⟨d, k, rfl, hk⟩ := h g u hg
      show l < lv _ ()
      rw [lv_cell]; exact hk)
theorem mayWait_cell (c : Dev nD) (k : Kd) (O : CellTallies nD τ sig Unit) (h : Above (lvK k) O) :
    (levAts L lv : sProp 𝕄) ⊢ MayWait (c : Thread nD τ) (ksem k) () O := mayWait_at c (ksem k) _ (le_of_eq (lv_cell c k)) O h
theorem mayWait_stage (c : Dev nD) (q : DmaSem sig) (hq : ∀ k, SemLoc.dma q ≠ ksem k) (O : CellTallies nD τ sig Unit) (hO : Above 0 O) :
    (levAts L lv : sProp 𝕄) ⊢ MayWait (c : Thread nD τ) (.dma q) () O :=
  mayWait_at c _ 0 (by
    unfold lv
    have : dec (SemLoc.dma q : SemLoc sig) = none := dif_neg fun ⟨k, hk⟩ => hq k hk.symm
    simp only [this]; exact le_refl 0) O hO

/-! ## What a device holds for the exchange -/

abbrev all7 (Φ : Fin 7 → sProp 𝕄) : sProp 𝕄 := iprop(Φ 0 ∗ Φ 1 ∗ Φ 2 ∗ Φ 3 ∗ Φ 4 ∗ Φ 5 ∗ Φ 6)
abbrev all4 (Φ : Fin 4 → sProp 𝕄) : sProp 𝕄 := iprop(Φ 0 ∗ Φ 1 ∗ Φ 2 ∗ Φ 3)

def link (c : Dev nD) (k : Fin 7) : sProp 𝕄 :=
  iprop(atPos ER (cell c (.snd k)) 0 ∅ 0 ∗ atPos ER (cell c (.rcv k)) 0 ∅ 0 ∗ dutyTok ER (cell c (.snd k)) 0 0
    ∗ dutyTok ER (cell (rx k c) (.rcv k)) 0 0 ∗ cred (tallyAt (cell c (.rcv k)) () N))
def home (c : Dev nD) : sProp 𝕄 :=
  iprop(atPos ER (cell c .loc) 0 ∅ 0 ∗ dutyTok ER (cell c .loc) 0 0 ∗ dutyTok ER (cell c .loc) 1 0 ∗ ∃ Y, bnc (F := F) c Y)
/-- Before the first point. -/
def start (c : Dev nD) : sProp 𝕄 :=
  iprop((∃ K, records m K) ∗ levAts L lv ∗ atPos ER (cell c .bar) 0 ∅ 0 ∗ cred (tallyAt (cell c .bar) () 4)
    ∗ all4 (fun k => dutyTok ER (cell (pe k c) .bar) 0 k) ∗ all7 (link c) ∗ home c
    ∗ owns (c : Thread nD τ) shM fullShare (shX m c) ∗ ∃ Y, owns (c : Thread nD τ) outM fullShare Y)

/-- A transfer under way, both of a device's ends. -/
def way (c : Dev nD) (k : Fin 7) : sProp 𝕄 :=
  iprop(atPos ER (cell c (.snd k)) 0 ∅ 0 ∗ cred (tallyAt (cell c (.snd k)) () N) ∗ atPos ER (cell c (.rcv k)) 0 ∅ 0 ∗ cred (tallyAt (cell c (.rcv k)) () N))
/-- A transfer yet to be passed on. -/
def wait (c : Dev nD) (k : Fin 7) : sProp 𝕄 := iprop(link (F := F) c k ∗ outAny (F := F) (rx k c) (sl k c))
/-- A transfer received whose sending is under way. -/
def came (c : Dev nD) (k : Fin 7) : sProp 𝕄 :=
  iprop(atPos ER (cell c (.snd k)) 0 ∅ 0 ∗ cred (tallyAt (cell c (.snd k)) () N) ∗ semVal (cell c (.rcv k)) 0)
/-- Between the first point and the last but one. -/
def under (c : Dev nD) : sProp 𝕄 :=
  iprop((∃ K, records m K) ∗ levAts L lv ∗ semVal (cell c .bar) 0 ∗ (way (F := F) c 0 ∗ way (F := F) c 1 ∗ way (F := F) c 2 ∗ way (F := F) c 3)
    ∗ (wait (F := F) c 4 ∗ wait (F := F) c 5 ∗ wait (F := F) c 6)
    ∗ (atPos ER (cell c .loc) 0 ∅ 0 ∗ cred (tallyAt (cell c .loc) () N) ∗ dutyTok ER (cell c .loc) 1 0 ∗ outAny (F := F) c c))
/-- Between the last point but one and the last. -/
def passed (c : Dev nD) : sProp 𝕄 :=
  iprop((∃ K, records m K) ∗ semVal (cell c .bar) 0 ∗ way (F := F) c 0 ∗ (came (F := F) c 1 ∗ came (F := F) c 2 ∗ came (F := F) c 3)
    ∗ (way (F := F) c 4 ∗ way (F := F) c 5 ∗ way (F := F) c 6) ∗ (atPos ER (cell c .loc) 1 ∅ 0 ∗ cred (tallyAt (cell c .loc) () N) ∗ shP m ql c))

/-- After the last point. -/
def over (c : Dev nD) : sProp 𝕄 :=
  iprop(semVal (cell c .bar) 0 ∗ all7 (fun k => iprop(semVal (cell c (.snd k)) 0 ∗ semVal (cell c (.rcv k)) 0))
    ∗ (semVal (cell c .loc) 0 ∗ owns (c : Thread nD τ) shM fullShare (shX m c)
      ∗ owns (c : Thread nD τ) outM fullShare (outX m) ∗ ∃ Y, bnc (F := F) c Y))

/-! ## The shard's shares and the array's rows -/

omit [FloatOps F] in
theorem sh_parts (c : Dev nD) : shP m fullShare c ⊢ (iprop(shP m (sq 0) c ∗ shP m (sq 1) c ∗ shP m (sq 2) c ∗ shP m (sq 3) c ∗ shP m ql c) : sProp 𝕄) := by
  iintro H
  ihave H := (owns_cut c shM fullShare (shX m c)) $$ H
  icases H with ⟨H1, H2⟩
  ihave H1 := (owns_cut c shM fullShare.left (shX m c)) $$ H1
  icases H1 with ⟨A, B⟩
  ihave H2 := (owns_cut c shM fullShare.right (shX m c)) $$ H2
  icases H2 with ⟨C, H2⟩
  ihave H2 := (owns_cut c shM fullShare.right.right (shX m c)) $$ H2
  icases H2 with ⟨D, E⟩
  isplitl [A]; · iexact A
  isplitl [B]; · iexact B
  isplitl [C]; · iexact C
  isplitl [D]; · iexact D
  iexact E
omit [FloatOps F] in
theorem sh_whole (c : Dev nD) : (iprop(shP m (sq 0) c ∗ shP m (sq 1) c ∗ shP m (sq 2) c ∗ shP m (sq 3) c ∗ shP m ql c) : sProp 𝕄) ⊢ shP m fullShare c := by
  iintro ⟨A, B, C, D, E⟩
  iapply (owns_glue c shM fullShare (shX m c))
  isplitl [A B]
  · iapply (owns_glue c shM fullShare.left (shX m c))
    isplitl [A]; · iexact A
    iexact B
  iapply (owns_glue c shM fullShare.right (shX m c))
  isplitl [C]; · iexact C
  iapply (owns_glue c shM fullShare.right.right (shX m c))
  isplitl [D]; · iexact D
  iexact E

theorem bigSep_rows (c : Dev nD) (Φ : Fin 8 → sProp 𝕄) :
    bigSep Finset.univ Φ = iprop(Φ (nm c) ∗ all7 (fun k => Φ (nm (gt k c)))) := by
  rw [bigSep_univ_equiv (Equiv.ofBijective (order c) (order_bij c)) Φ,
    bigSep_univ_eq_bigSepL [(0 : Fin 8), 1, 2, 3, 4, 5, 6, 7] (by decide) (by decide)]
  rfl
theorem out_rows (c : Dev nD) :
    iprop(∃ Y, owns (c : Thread nD τ) outM fullShare Y) ⊢ (iprop(outAny c c ∗ all7 (fun k => outAny (F := F) c (gt k c))) : sProp 𝕄) := by
  iintro ⟨%Y, H⟩
  ihave H' := (owns_split c outM Y).trans (Entails.of_eq (bigSep_rows c _)) $$ H
  icases H' with ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7
theorem rowIx_one (n : Fin 8) (j : S352x1024.Idx) : (rowIx n j 1).val = (j 0).val ∧ (rowIx n j 2).val = (j 1).val := by
  let k : S1x352x1024.Idx := fun a => match a with
    | ⟨0, _⟩ => (⟨0, by decide⟩ : Fin 1)
    | ⟨1, _⟩ => (j 0 : Fin 352)
    | ⟨2, _⟩ => (j 1 : Fin 1024)
  have e : Shape.reshapeEquiv (Shape.Squeezes.numel_eq (s := S1x352x1024) (s' := S352x1024) squeezes_S1x352x1024_S352x1024) j = k :=
    Shape.reshapeEquiv_eq_of_rowMajor _ (by
      rw [Shape.rowMajor_val_three, Shape.rowMajor_val_two]
      show (0 * 352 + (j 0).val) * 1024 + (j 1).val = (j 0).val * 1024 + (j 1).val
      omega)
  unfold rowIx
  rw [ValueKit.rect_emb_unit_val, ValueKit.rect_emb_unit_val, e]
  exact ⟨Nat.zero_add _, Nat.zero_add _⟩
theorem outX_row (n : Dev nD) : rowOf (outX m) (nm n) = shX m n := by
  funext j
  have h := rowIx_one (nm n) j
  show shX m (dv (rowIx (nm n) j 0)) _ = shX m n j
  rw [show dv (rowIx (nm n) j 0) = n from Fin.ext (rowIx_zero (nm n) j)]
  refine congrArg (shX m n) (funext fun b => Fin.ext ?_)
  match b with
  | ⟨0, _⟩ => exact h.1
  | ⟨1, _⟩ => exact h.2
theorem out_whole (c : Dev nD) :
    (iprop(outRow c c (shX m c) ∗ all7 (fun k => outRow c (gt k c) (shX m (gt k c)))) : sProp 𝕄) ⊢ owns (c : Thread nD τ) outM fullShare (outX m) := by
  have h := (Entails.of_eq (bigSep_rows c fun n => (owns (c : Thread nD τ) (rowM outM n) fullShare (rowOf (outX m) n) : sProp 𝕄)).symm).trans
    (owns_join c outM (m _) (outX m))
  simp only [← outX_row m]
  exact h

/-! ## The addresses -/

theorem dev1_eq (c : Dev nD) {h} : (⟨k0_dev1 c, h⟩ : Dev nD) = pe 0 c := Fin.ext ((by decide +kernel : ∀ c, k0_dev1 c = (pe 0 c).val) c)
theorem dev2_eq (c : Dev nD) {h} : (⟨k0_dev2 c, h⟩ : Dev nD) = pe 1 c := Fin.ext ((by decide +kernel : ∀ c, k0_dev2 c = (pe 1 c).val) c)
theorem dev3_eq (c : Dev nD) {h} : (⟨k0_dev3 c, h⟩ : Dev nD) = pe 2 c := Fin.ext ((by decide +kernel : ∀ c, k0_dev3 c = (pe 2 c).val) c)
theorem dev4_eq (c : Dev nD) {h} : (⟨k0_dev4 c, h⟩ : Dev nD) = pe 3 c := Fin.ext ((by decide +kernel : ∀ c, k0_dev4 c = (pe 3 c).val) c)
theorem dev5_eq (c : Dev nD) {h} : (⟨k0_dev5 c, h⟩ : Dev nD) = rx 0 c := Fin.ext ((by decide +kernel : ∀ c, k0_dev5 c = (rx 0 c).val) c)
theorem dev6_eq (c : Dev nD) {h} : (⟨k0_dev6 c, h⟩ : Dev nD) = rx 1 c := Fin.ext ((by decide +kernel : ∀ c, k0_dev6 c = (rx 1 c).val) c)
theorem dev7_eq (c : Dev nD) {h} : (⟨k0_dev7 c, h⟩ : Dev nD) = rx 2 c := Fin.ext ((by decide +kernel : ∀ c, k0_dev7 c = (rx 2 c).val) c)
theorem dev8_eq (c : Dev nD) {h} : (⟨k0_dev8 c, h⟩ : Dev nD) = rx 3 c := Fin.ext ((by decide +kernel : ∀ c, k0_dev8 c = (rx 3 c).val) c)
theorem dev9_eq (c : Dev nD) {h} : (⟨k0_dev9 c, h⟩ : Dev nD) = rx 4 c := Fin.ext ((by decide +kernel : ∀ c, k0_dev9 c = (rx 4 c).val) c)
theorem dev10_eq (c : Dev nD) {h} : (⟨k0_dev10 c, h⟩ : Dev nD) = rx 5 c := Fin.ext ((by decide +kernel : ∀ c, k0_dev10 c = (rx 5 c).val) c)
theorem dev11_eq (c : Dev nD) {h} : (⟨k0_dev11 c, h⟩ : Dev nD) = rx 6 c := Fin.ext ((by decide +kernel : ∀ c, k0_dev11 c = (rx 6 c).val) c)
theorem off1_eq (c : Dev nD) : k0_off1 c = offc (nm c) := by revert c; decide +kernel
theorem off2_eq (c : Dev nD) : k0_off2 c = offc (nm c) := by revert c; decide +kernel
theorem off3_eq (c : Dev nD) : k0_off3 c = offc (nm (sl 4 c)) := by revert c; decide +kernel
theorem off4_eq (c : Dev nD) : k0_off4 c = offc (nm (sl 5 c)) := by revert c; decide +kernel
theorem off5_eq (c : Dev nD) : k0_off5 c = offc (nm (sl 6 c)) := by revert c; decide +kernel

end Cert.GatherProof
-- ==== Proof.GatherStep.lean ====
/-
The steps of one point: loads and stores of whole blocks, the rule of a wait, and what each wait hands over.
-/
module

public import proofs.«01_k».proof.Proof.GatherBody
public import proofs.«01_k».proof.Proof.Gen.Kernel6Ideal.Skeleton
public import proofs.«01_k».proof.Proof.Gen.Kernel6Ideal.Frame

@[expose] public section

set_option maxRecDepth 16384

noncomputable section

namespace Cert.GatherProof

open Cert.Kernel6Ideal Cert.Kernel6Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem off2 : (![0, 0] : Fin 2 → ℕ) = fun _ => 0 := by decide
theorem off3 : (![0, 0, 0] : Fin 3 → ℕ) = fun _ => 0 := by decide

/-! ## Loads and stores of a whole block -/

section Blocks
variable {α : Type} {Q : α → sProp (MT nD τ sig Unit (Elt F) ℕ UU ℕ)}

theorem wp_get (c : Dev nD) {sp : CoreSpace} {s : Shape} {e : EltTy} (M : Memref sig .tc sp s e) {off : Fin s.rank → ℕ} (h0 : off = fun _ => 0)
    {inb : ∀ a, off a + s.size a ≤ s.size a} {hl : M.view.LoadsAt (Rect.unit off s.size inb).toLoadRect} (X : s.Idx → Elt F e)
    {k : (s.Idx → Elt F e) → Prog (TpuEff nD τ sig (Elt F) Λ₀ .tc) α} :
    owns (c : Thread nD τ) M fullShare X
      ⊢ (iprop((owns (c : Thread nD τ) M fullShare X -∗ wp frame (wpE (defs₀ (F := F)) 𝒱₀ (c : Thread nD τ) none) Set.univ (k X) Q)
          -∗ wp frame (wpE (defs₀ (F := F)) 𝒱₀ (c : Thread nD τ) none) Set.univ (.op (.load M (Rect.unit off s.size inb).toLoadRect hl) k) Q) : sProp 𝕄) := by
  subst h0
  unfold owns
  iintro ⟨%f, %hf, H⟩ Hk
  iapply (wp_load (m := M) (r := (Rect.unit (fun _ => 0) s.size inb).toLoadRect) (S := M.view.set) (q := fullShare) (f := f) 𝒱₀ (c : Thread nD τ) none Set.univ (View.setOn_subset_set _ _)) $$ H
  iintro H
  have hr : M.view.readAt (Elt F) (Rect.unit (fun _ => 0) s.size inb).toLoadRect f = X := by
    rw [← hf]; funext x
    show M.view.read (Elt F) f ((Rect.whole s).emb x) = _
    rw [Rect.emb_whole_apply]
  rw [hr]
  iapply Hk
  iexists f
  isplitr
  · ipureintro; exact hf
  iexact H

theorem wp_put (c : Dev nD) {sp : CoreSpace} {s : Shape} {e : EltTy} (M : Memref sig .tc sp s e) {off : Fin s.rank → ℕ} (h0 : off = fun _ => 0)
    {inb : ∀ a, off a + s.size a ≤ s.size a} {w : s.Idx → Elt F e} {hx} {hm} (X : s.Idx → Elt F e)
    {k : PUnit → Prog (TpuEff nD τ sig (Elt F) Λ₀ .tc) α} :
    owns (c : Thread nD τ) M fullShare X
      ⊢ (iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) : sProp 𝕄) := by
  subst h0
  unfold owns
  iintro ⟨%f, %hf, H⟩ Hk
  iapply (wp_store (m := M) (r := Rect.unit (fun _ => 0) s.size inb) (S := M.view.set) (f := f) 𝒱₀ (c : Thread nD τ) none Set.univ (View.set_slice_subset _ _)) $$ H
  iintro H
  iapply Hk
  iexists _
  isplitr
  swap; · iexact H
  ipureintro
  have hv := View.read_write_univ (v := M.access (Rect.unit (fun _ => 0) s.size inb)) (Val := Elt F) f w
  funext x
  have hx' := congrFun hv x
  have he : (Rect.unit (fun _ => 0) s.size inb).emb x = x := Rect.emb_whole_apply s x
  exact (congrArg (M.view.read (Elt F) _) he.symm).trans hx'
end Blocks

/-! ## What a point leaves -/

abbrev gateOf (x0 : Vec F S1024x1024 .bf16) (x1 : Vec F S4x352x1024 .bf16) : Vec F S1024x1408 .bf16 := k0_pay6 x0 x1
abbrev upOf (x0 : Vec F S1024x1024 .bf16) (x2 : Vec F S4x352x1024 .bf16) : Vec F S1024x1408 .bf16 := k0_pay1 (k0_pay5 x0 x2)
abbrev actOf (x0 : Vec F S1024x1024 .bf16) (x1 x2 : Vec F S4x352x1024 .bf16) : Vec F S1024x1408 .bf16 := k0_pay2 (k0_pay4 x0 x1) (k0_pay5 x0 x2)

/-! ## The waits -/

section Waits
variable (K : Dev nD × Kd → ℕ) {α : Type} {Q : α → sProp (MT nD τ sig Unit (Elt F) ℕ UU ℕ)} {k' : PUnit → Prog (TpuEff nD τ sig (Elt F) Λ₀ .tc) α}

theorem N_row {sp : Space} (M : Memref sig .tc sp S352x1024 .bf16) : M.view.dmaCredit = N := by unfold N; rfl

theorem wp_round1 (c : Dev nD) (k : Kd) (r : ℕ) (hk : dutyK k r = {0}) (ha : amtK k = N) {sp sp' : Space} (S : Memref sig .tc sp' S352x1024 .bf16) (D : Memref sig .tc sp S352x1024 .bf16)
    {q : DmaSem sig} (hq : SemLoc.dma q = ksem k) (O : CellTallies nD τ sig Unit) {hs hd} :
    iprop(records m K ∗ cred (tallyAt (cell c k) () N) ∗ owesE c O ∗ MayWait (c : Thread nD τ) (ksem k) () O ∗ atPos ER (cell c k) r ∅ 0)
      ⊢ iprop(((owesE c O ∗ atPos ER (cell c k) (r + 1) ∅ 0 ∗ reached ER (cell c k) (r + 1) ∗ payK m c k r 0)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q S D hs hd) k') Q) := by
  have hn : (dutyK k r).card * amtK k = N := by rw [hk, ha, Finset.card_singleton, Nat.one_mul]
  have h := wp_round (F := F) m K (Q := Q) (k' := k') c k r (w := .waitDma2 q S D hs hd) hq (wpE_waitDma2_eq 𝒱₀ (c : Thread nD τ) none Set.univ)
    ((N_row D).trans hn.symm) O
  rw [hn, hk, bigSep_singleton] at h
  exact h
/-- The same where nothing is owed. -/
theorem wp_round0 (c : Dev nD) (k : Kd) (r : ℕ) (hk : dutyK k r = {0}) (ha : amtK k = N) {sp sp' : Space} (S : Memref sig .tc sp' S352x1024 .bf16) (D : Memref sig .tc sp S352x1024 .bf16)
    {q : DmaSem sig} (hq : SemLoc.dma q = ksem k) {hs hd} :
    iprop(records m K ∗ cred (tallyAt (cell c k) () N) ∗ owesE c 0 ∗ atPos ER (cell c k) r ∅ 0)
      ⊢ iprop(((owesE c 0 ∗ atPos ER (cell c k) (r + 1) ∅ 0 ∗ reached ER (cell c k) (r + 1) ∗ payK m c k r 0)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q S D hs hd) k') Q) := by
  have h := wp_round1 (F := F) m K (Q := Q) (k' := k') c k r hk ha S D hq 0 (hs := hs) (hd := hd)
  rw [MayWait_zero] at h
  iintro ⟨HR, Hc, HO, Hp⟩ Hk
  iapply h $$ [HR Hc HO Hp]
  · isplitl [HR]; · iexact HR
    isplitl [Hc]; · iexact Hc
    isplitl [HO]; · iexact HO
    isplitr; · iempintro
    iexact Hp
  iexact Hk
end Waits

theorem loc0_hands (c : Dev nD) : payK m c .loc 0 0 ⊢ (iprop(bnc c (shX m c) ∗ shP m ql c) : sProp 𝕄) := Entails.rfl
theorem loc1_hands (c : Dev nD) : payK m c .loc 1 0 ⊢ (iprop(outRow c c (shX m c) ∗ bnc c (shX m c)) : sProp 𝕄) := Entails.rfl
theorem snd_hands (c : Dev nD) (k : Fin 7) : payK m c (.snd k) 0 0 ⊢ (srcP m c k : sProp 𝕄) := Entails.rfl
theorem rcv_hands (c : Dev nD) (k : Fin 7) : payK m c (.rcv k) 0 0 ⊢ (outRow c (gt k c) (shX m (gt k c)) : sProp 𝕄) := Entails.rfl
theorem bar_hands (c : Dev nD) : (bigSep (dutyK .bar 0) (payK m c .bar 0) : sProp 𝕄)
    ⊢ all7 (fun k => outAny (F := F) (rx k c) (sl k c)) := by
  show bigSep Finset.univ (payK m c .bar 0) ⊢ _
  rw [bigSep_univ_eq_bigSepL [(0 : Fin 4), 1, 2, 3] (by decide) (by decide)]
  dsimp only [all7]
  rw [← gt_rx 0 c, ← gt_rx 1 c, ← gt_rx 2 c, ← gt_rx 3 c, ← gt_rx 4 c, ← gt_rx 5 c, ← gt_rx 6 c]
  show iprop((outAny (F := F) (rx 0 c) (gt 0 (rx 0 c)) ∗ outAny (F := F) (rx 4 c) (gt 4 (rx 4 c)) ∗ outAny (F := F) (rx 5 c) (gt 5 (rx 5 c)) ∗ outAny (F := F) (rx 6 c) (gt 6 (rx 6 c)))
    ∗ outAny (F := F) (rx 1 c) (gt 1 (rx 1 c)) ∗ outAny (F := F) (rx 2 c) (gt 2 (rx 2 c)) ∗ outAny (F := F) (rx 3 c) (gt 3 (rx 3 c))) ⊢ _
  iintro ⟨⟨H0, H4, H5, H6⟩, H1, H2, H3⟩
  isplitl [H0]; · iexact H0
  isplitl [H1]; · iexact H1
  isplitl [H2]; · iexact H2
  isplitl [H3]; · iexact H3
  isplitl [H4]; · iexact H4
  isplitl [H5]; · iexact H5
  iexact H6

end Cert.GatherProof
-- ==== Proof.GatherCases.lean ====
/-
One point's run on one device, in four cases: the first point, a point in the middle, the last but one and the last. The
loads and stores go through whole blocks, so that what a point leaves is the text of its stores at the blocks; the
exchange is taken one operation after the other with the protocol's rules.
-/
module

public import proofs.«01_k».proof.Proof.GatherStep
public import proofs.«01_k».proof.Proof.Gen.Kernel6Ideal.Skeleton
public import proofs.«01_k».proof.Proof.Gen.Kernel6Ideal.Frame

@[expose] public section

set_option maxRecDepth 16384

noncomputable section

namespace Cert.GatherProof

open Cert.Kernel6Ideal Cert.Kernel6Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
/-- A point that only computes. -/
theorem body_mid (c : Dev nD) (i : grid0.Coords) (a2 : Memref sig .tc .vmem S1024x1024 .bf16) (h2 : a2.IsWhole) (a3 : Memref sig .tc .vmem S4x352x1024 .bf16) (h3 : a3.IsWhole) (a4 : Memref sig .tc .vmem S4x352x1024 .bf16) (h4 : a4.IsWhole) (a6 : Memref sig .tc .vmem S1024x1408 .bf16) (h6 : a6.IsWhole) (a7 : Memref sig .tc .vmem S1024x1408 .bf16) (h7 : a7.IsWhole) (a8 : Memref sig .tc .vmem S1024x1408 .bf16) (h8 : a8.IsWhole)
    (H1 : ¬ k0_cond1 i = 1#1) (H2 : ¬ k0_cond2 i = 1#1) (H3 : ¬ k0_cond3 i = 1#1) (x0 : Vec F S1024x1024 .bf16) (x1 x2 : Vec F S4x352x1024 .bf16) {Q : PUnit → sProp (MT nD τ sig Unit (Elt F) ℕ UU ℕ)} :
    iprop(owns (c : Thread nD τ) a2 fullShare x0 ∗ owns (c : Thread nD τ) a3 fullShare x1 ∗ owns (c : Thread nD τ) a4 fullShare x2 ∗ (∃ u, owns (c : Thread nD τ) a6 fullShare u) ∗ (∃ u, owns (c : Thread nD τ) a7 fullShare u) ∗ (∃ u, owns (c : Thread nD τ) a8 fullShare u))
      ⊢ (iprop((iprop(owns (c : Thread nD τ) a2 fullShare x0 ∗ owns (c : Thread nD τ) a3 fullShare x1 ∗ owns (c : Thread nD τ) a4 fullShare x2 ∗ owns (c : Thread nD τ) a6 fullShare (gateOf x0 x1) ∗ owns (c : Thread nD τ) a7 fullShare (upOf x0 x2) ∗ owns (c : Thread nD τ) a8 fullShare (actOf x0 x1 x2)) -∗ Q ⟨⟩)
          -∗ wp frame (wpE (defs₀ (F := F)) 𝒱₀ (c : Thread nD τ) none) Set.univ
            (cc0_ffn_up i a2 h2 a3 h3 a4 h4 (Memref.whole main_arg3) (Memref.isWhole_whole _) a6 h6 a7 h7 a8 h8 (Memref.whole main_v1_3) (Memref.isWhole_whole _) cc0_scratch0 cc0_scratch1 cc0_scratch2 (Memref.whole cc0_scratch3) (Memref.isWhole_whole _)) Q) : sProp 𝕄) := by
  iintro ⟨A2, A3, A4, ⟨%u6, A6⟩, ⟨%u7, A7⟩, ⟨%u8, A8⟩⟩ Hk
  simp only [cc0_ffn_up_eq_skeleton]
  unfold cc0_ffn_up_skel
  simp only [k0_part11_eq_skeleton]
  unfold k0_part11_skel
  simp only [H1, H2, H3, dite_true, dite_false, Prog.lift, Prog.bind_op, Prog.bind_ret, Prog.pure_eq_ret, wp_deviceId]
  iapply (wp_get c a2 off2) $$ A2
  iintro A2
  iapply (wp_get c a3 off3) $$ A3
  iintro A3
  iapply (wp_get c a4 off3) $$ A4
  iintro A4
  iapply (wp_get c a6 off2) $$ A6
  iintro A6
  iapply (wp_put c a6 off2) $$ A6
  iintro A6
  iapply (wp_get c a7 off2) $$ A7
  iintro A7
  iapply (wp_put c a7 off2) $$ A7
  iintro A7
  iapply (wp_get c a8 off2) $$ A8
  iintro A8
  iapply (wp_put c a8 off2) $$ A8
  iintro A8
  rw [wp_ret]
  imodintro
  iapply Hk
  isplitl [A2]; · iexact A2
  isplitl [A3]; · iexact A3
  isplitl [A4]; · iexact A4
  isplitl [A6]; · iexact A6
  isplitl [A7]; · iexact A7
  iexact A8

set_option maxHeartbeats 4000000 in
/-- The first point: signals, the copy of the shard begun, the shard sent to the four peers. -/
theorem body_first (c : Dev nD) (i : grid0.Coords) (a2 : Memref sig .tc .vmem S1024x1024 .bf16) (h2 : a2.IsWhole) (a3 : Memref sig .tc .vmem S4x352x1024 .bf16) (h3 : a3.IsWhole) (a4 : Memref sig .tc .vmem S4x352x1024 .bf16) (h4 : a4.IsWhole) (a6 : Memref sig .tc .vmem S1024x1408 .bf16) (h6 : a6.IsWhole) (a7 : Memref sig .tc .vmem S1024x1408 .bf16) (h7 : a7.IsWhole) (a8 : Memref sig .tc .vmem S1024x1408 .bf16) (h8 : a8.IsWhole)
    (H1 : k0_cond1 i = 1#1) (H2 : ¬ k0_cond2 i = 1#1) (H3 : ¬ k0_cond3 i = 1#1) (x0 : Vec F S1024x1024 .bf16) (x1 x2 : Vec F S4x352x1024 .bf16) {Q : PUnit → sProp (MT nD τ sig Unit (Elt F) ℕ UU ℕ)} :
    iprop(owesE c (O₀ c) ∗ start m c ∗ owns (c : Thread nD τ) a2 fullShare x0 ∗ owns (c : Thread nD τ) a3 fullShare x1 ∗ owns (c : Thread nD τ) a4 fullShare x2 ∗ (∃ u, owns (c : Thread nD τ) a6 fullShare u) ∗ (∃ u, owns (c : Thread nD τ) a7 fullShare u) ∗ (∃ u, owns (c : Thread nD τ) a8 fullShare u))
      ⊢ (iprop((iprop(owesE c (owe3 c) ∗ under m c ∗ owns (c : Thread nD τ) a2 fullShare x0 ∗ owns (c : Thread nD τ) a3 fullShare x1 ∗ owns (c : Thread nD τ) a4 fullShare x2 ∗ owns (c : Thread nD τ) a6 fullShare (gateOf x0 x1) ∗ owns (c : Thread nD τ) a7 fullShare (upOf x0 x2) ∗ owns (c : Thread nD τ) a8 fullShare (actOf x0 x1 x2)) -∗ Q ⟨⟩)
          -∗ wp frame (wpE (defs₀ (F := F)) 𝒱₀ (c : Thread nD τ) none) Set.univ
            (cc0_ffn_up i a2 h2 a3 h3 a4 h4 (Memref.whole main_arg3) (Memref.isWhole_whole _) a6 h6 a7 h7 a8 h8 (Memref.whole main_v1_3) (Memref.isWhole_whole _) cc0_scratch0 cc0_scratch1 cc0_scratch2 (Memref.whole cc0_scratch3) (Memref.isWhole_whole _)) Q) : sProp 𝕄) := by
  dsimp only [start, all7, all4, link, home]
  iintro ⟨HO, ⟨⟨%K, #HR⟩, #Hlv, Pb, Cb, ⟨B0, B1, B2, B3⟩, ⟨⟨Ps0, Pr0, Ts0, Tr0, Cr0⟩, ⟨Ps1, Pr1, Ts1, Tr1, Cr1⟩, ⟨Ps2, Pr2, Ts2, Tr2, Cr2⟩, ⟨Ps3, Pr3, Ts3, Tr3, Cr3⟩, ⟨Ps4, Pr4, Ts4, Tr4, Cr4⟩, ⟨Ps5, Pr5, Ts5, Tr5, Cr5⟩, ⟨Ps6, Pr6, Ts6, Tr6, Cr6⟩⟩, ⟨Pl, Tl, Tm, Bn⟩, I, U⟩, A2, A3, A4, ⟨%u6, A6⟩, ⟨%u7, A7⟩, ⟨%u8, A8⟩⟩ Hk
  ihave I := sh_parts m c $$ I
  icases I with ⟨I0, I1, I2, I3, Il⟩
  ihave U := out_rows c $$ U
  icases U with ⟨Us, U0, U1, U2, U3, U4, U5, U6⟩
  simp only [cc0_ffn_up_eq_skeleton]
  unfold cc0_ffn_up_skel
  simp only [k0_part11_eq_skeleton]
  unfold k0_part11_skel
  simp only [H1, H2, H3, dite_true, dite_false, k0_part1_eq_skeleton, k0_part2_eq_skeleton]
  unfold k0_part1_skel k0_part2_skel
  simp only [H1, H2, H3, dite_true, dite_false, semSignalWord, semWaitWord, Prog.lift, Prog.bind_op, Prog.bind_ret, Prog.pure_eq_ret, wp_deviceId]
  iapply (wp_bar m K c _ 0 (dev1_eq c) rfl (((owe7 c + oweB c 3) + oweB c 2) + oweB c 1) (by decide)) $$ [HO B0 U0 U4 U5 U6]
  · isplitr; · iexact HR
    isplitl [HO]; · iexact HO
    isplitl [B0]; · iexact B0
    dsimp only [room]
    isplitl [U0]; · iexact U0
    isplitl [U4]; · iexact U4
    isplitl [U5]; · iexact U5
    iexact U6
  iintro HO
  iapply (wp_bar m K c _ 1 (dev2_eq c) rfl ((owe7 c + oweB c 3) + oweB c 2) (by decide)) $$ [HO B1 U1]
  · isplitr; · iexact HR
    isplitl [HO]; · iexact HO
    isplitl [B1]; · iexact B1
    dsimp only [room]
    iexact U1
  iintro HO
  iapply (wp_bar m K c _ 2 (dev3_eq c) rfl (owe7 c + oweB c 3) (by decide)) $$ [HO B2 U2]
  · isplitr; · iexact HR
    isplitl [HO]; · iexact HO
    isplitl [B2]; · iexact B2
    dsimp only [room]
    iexact U2
  iintro HO
  iapply (wp_bar m K c _ 3 (dev4_eq c) rfl (owe7 c) (by decide)) $$ [HO B3 U3]
  · isplitr; · iexact HR
    isplitl [HO]; · iexact HO
    isplitl [B3]; · iexact B3
    dsimp only [room]
    iexact U3
  iintro HO
  iapply (wp_round m K c .bar 0 (s := SemLoc.reg barS) rfl (wpE_semWait_eq 𝒱₀ (c : Thread nD τ) none Set.univ) (by decide) (owe7 c)) $$ [Cb HO Pb]
  · isplitr; · iexact HR
    isplitl [Cb]; · iexact Cb
    isplitl [HO]; · iexact HO
    isplitr; · iapply (mayWait_cell c .bar (owe7 c) (above_owe7 (by decide) c)); iexact Hlv
    iexact Pb
  iintro ⟨HO, Pb, -, HU⟩
  ihave HU := (bar_hands m c) $$ HU
  icases HU with ⟨U0, U1, U2, U3, U4, U5, U6⟩
  imod (close_cell m K c .bar 1 (by decide)) $$ [Pb] with Vb
  · isplitr; · iexact HR
    iexact Pb
  iapply (wp_copyin m K c rfl) $$ [Il Bn Tl]
  · isplitr; · iexact HR
    isplitl [Il]; · iexact Il
    isplitl [Bn]; · iexact Bn
    isplitl [Tl]; · iexact Tl
    iapply (reached_at m K c .loc); iexact HR
  iintro Cl
  iapply (wp_sendto m K c _ 0 (dev5_eq c) shM (sq 0) Entails.rfl (off1_eq c) rfl rfl (((owe3 c + oweR c 3) + oweR c 2) + oweR c 1)) $$ [I0 U0 HO Ts0 Tr0]
  · isplitr; · iexact HR
    isplitl [I0]; · iexact I0
    isplitl [U0]; · iexact U0
    isplitl [HO]; · iexact HO
    isplitl [Ts0]; · iexact Ts0
    iexact Tr0
  iintro ⟨Cs0, HO⟩
  iapply (wp_sendto m K c _ 1 (dev6_eq c) shM (sq 1) Entails.rfl (off1_eq c) rfl rfl ((owe3 c + oweR c 3) + oweR c 2)) $$ [I1 U1 HO Ts1 Tr1]
  · isplitr; · iexact HR
    isplitl [I1]; · iexact I1
    isplitl [U1]; · iexact U1
    isplitl [HO]; · iexact HO
    isplitl [Ts1]; · iexact Ts1
    iexact Tr1
  iintro ⟨Cs1, HO⟩
  iapply (wp_sendto m K c _ 2 (dev7_eq c) shM (sq 2) Entails.rfl (off1_eq c) rfl rfl (owe3 c + oweR c 3)) $$ [I2 U2 HO Ts2 Tr2]
  · isplitr; · iexact HR
    isplitl [I2]; · iexact I2
    isplitl [U2]; · iexact U2
    isplitl [HO]; · iexact HO
    isplitl [Ts2]; · iexact Ts2
    iexact Tr2
  iintro ⟨Cs2, HO⟩
  iapply (wp_sendto m K c _ 3 (dev8_eq c) shM (sq 3) Entails.rfl (off1_eq c) rfl rfl (owe3 c)) $$ [I3 U3 HO Ts3 Tr3]
  · isplitr; · iexact HR
    isplitl [I3]; · iexact I3
    isplitl [U3]; · iexact U3
    isplitl [HO]; · iexact HO
    isplitl [Ts3]; · iexact Ts3
    iexact Tr3
  iintro ⟨Cs3, HO⟩
  iapply (wp_get c a2 off2) $$ A2
  iintro A2
  iapply (wp_get c a3 off3) $$ A3
  iintro A3
  iapply (wp_get c a4 off3) $$ A4
  iintro A4
  iapply (wp_get c a6 off2) $$ A6
  iintro A6
  iapply (wp_put c a6 off2) $$ A6
  iintro A6
  iapply (wp_get c a7 off2) $$ A7
  iintro A7
  iapply (wp_put c a7 off2) $$ A7
  iintro A7
  iapply (wp_get c a8 off2) $$ A8
  iintro A8
  iapply (wp_put c a8 off2) $$ A8
  iintro A8
  rw [wp_ret]
  imodintro
  iapply Hk
  isplitl [HO]; · iexact HO
  isplitr [A2 A3 A4 A6 A7 A8]
  · dsimp only [under, way, wait, link]
    isplitr; · iexists K; iexact HR
    isplitr; · iexact Hlv
    isplitl [Vb]; · iexact Vb
    isplitl [Ps0 Cs0 Pr0 Cr0 Ps1 Cs1 Pr1 Cr1 Ps2 Cs2 Pr2 Cr2 Ps3 Cs3 Pr3 Cr3]
    · isplitl [Ps0 Cs0 Pr0 Cr0]
      · isplitl [Ps0]; · iexact Ps0
        isplitl [Cs0]; · iexact Cs0
        isplitl [Pr0]; · iexact Pr0
        iexact Cr0
      isplitl [Ps1 Cs1 Pr1 Cr1]
      · isplitl [Ps1]; · iexact Ps1
        isplitl [Cs1]; · iexact Cs1
        isplitl [Pr1]; · iexact Pr1
        iexact Cr1
      isplitl [Ps2 Cs2 Pr2 Cr2]
      · isplitl [Ps2]; · iexact Ps2
        isplitl [Cs2]; · iexact Cs2
        isplitl [Pr2]; · iexact Pr2
        iexact Cr2
      isplitl [Ps3]; · iexact Ps3
      isplitl [Cs3]; · iexact Cs3
      isplitl [Pr3]; · iexact Pr3
      iexact Cr3
    isplitl [Ps4 Pr4 Ts4 Tr4 Cr4 U4 Ps5 Pr5 Ts5 Tr5 Cr5 U5 Ps6 Pr6 Ts6 Tr6 Cr6 U6]
    · isplitl [Ps4 Pr4 Ts4 Tr4 Cr4 U4]
      · isplitl [Ps4 Pr4 Ts4 Tr4 Cr4]
        · isplitl [Ps4]; · iexact Ps4
          isplitl [Pr4]; · iexact Pr4
          isplitl [Ts4]; · iexact Ts4
          isplitl [Tr4]; · iexact Tr4
          iexact Cr4
        iexact U4
      isplitl [Ps5 Pr5 Ts5 Tr5 Cr5 U5]
      · isplitl [Ps5 Pr5 Ts5 Tr5 Cr5]
        · isplitl [Ps5]; · iexact Ps5
          isplitl [Pr5]; · iexact Pr5
          isplitl [Ts5]; · iexact Ts5
          isplitl [Tr5]; · iexact Tr5
          iexact Cr5
        iexact U5
      isplitl [Ps6 Pr6 Ts6 Tr6 Cr6]
      · isplitl [Ps6]; · iexact Ps6
        isplitl [Pr6]; · iexact Pr6
        isplitl [Ts6]; · iexact Ts6
        isplitl [Tr6]; · iexact Tr6
        iexact Cr6
      iexact U6
    isplitl [Pl]; · iexact Pl
    isplitl [Cl]; · iexact Cl
    isplitl [Tm]; · iexact Tm
    iexact Us
  isplitl [A2]; · iexact A2
  isplitl [A3]; · iexact A3
  isplitl [A4]; · iexact A4
  isplitl [A6]; · iexact A6
  isplitl [A7]; · iexact A7
  iexact A8

set_option maxHeartbeats 4000000 in
/-- The last point but one: the shard put in its place, and what came from the other chips passed on. -/
theorem body_forward (c : Dev nD) (i : grid0.Coords) (a2 : Memref sig .tc .vmem S1024x1024 .bf16) (h2 : a2.IsWhole) (a3 : Memref sig .tc .vmem S4x352x1024 .bf16) (h3 : a3.IsWhole) (a4 : Memref sig .tc .vmem S4x352x1024 .bf16) (h4 : a4.IsWhole) (a6 : Memref sig .tc .vmem S1024x1408 .bf16) (h6 : a6.IsWhole) (a7 : Memref sig .tc .vmem S1024x1408 .bf16) (h7 : a7.IsWhole) (a8 : Memref sig .tc .vmem S1024x1408 .bf16) (h8 : a8.IsWhole)
    (H1 : ¬ k0_cond1 i = 1#1) (H2 : k0_cond2 i = 1#1) (H3 : ¬ k0_cond3 i = 1#1) (x0 : Vec F S1024x1024 .bf16) (x1 x2 : Vec F S4x352x1024 .bf16) {Q : PUnit → sProp (MT nD τ sig Unit (Elt F) ℕ UU ℕ)} :
    iprop(owesE c (owe3 c) ∗ under m c ∗ owns (c : Thread nD τ) a2 fullShare x0 ∗ owns (c : Thread nD τ) a3 fullShare x1 ∗ owns (c : Thread nD τ) a4 fullShare x2 ∗ (∃ u, owns (c : Thread nD τ) a6 fullShare u) ∗ (∃ u, owns (c : Thread nD τ) a7 fullShare u) ∗ (∃ u, owns (c : Thread nD τ) a8 fullShare u))
      ⊢ (iprop((iprop(owesE c 0 ∗ passed m c ∗ owns (c : Thread nD τ) a2 fullShare x0 ∗ owns (c : Thread nD τ) a3 fullShare x1 ∗ owns (c : Thread nD τ) a4 fullShare x2 ∗ owns (c : Thread nD τ) a6 fullShare (gateOf x0 x1) ∗ owns (c : Thread nD τ) a7 fullShare (upOf x0 x2) ∗ owns (c : Thread nD τ) a8 fullShare (actOf x0 x1 x2)) -∗ Q ⟨⟩)
          -∗ wp frame (wpE (defs₀ (F := F)) 𝒱₀ (c : Thread nD τ) none) Set.univ
            (cc0_ffn_up i a2 h2 a3 h3 a4 h4 (Memref.whole main_arg3) (Memref.isWhole_whole _) a6 h6 a7 h7 a8 h8 (Memref.whole main_v1_3) (Memref.isWhole_whole _) cc0_scratch0 cc0_scratch1 cc0_scratch2 (Memref.whole cc0_scratch3) (Memref.isWhole_whole _)) Q) : sProp 𝕄) := by
  dsimp only [under, way, wait, link]
  iintro ⟨HO, ⟨⟨%K, #HR⟩, #Hlv, Vb, ⟨⟨Ps0, Cs0, Pr0, Cr0⟩, ⟨Ps1, Cs1, Pr1, Cr1⟩, ⟨Ps2, Cs2, Pr2, Cr2⟩, ⟨Ps3, Cs3, Pr3, Cr3⟩⟩, ⟨⟨⟨Ps4, Pr4, Ts4, Tr4, Cr4⟩, U4⟩, ⟨⟨Ps5, Pr5, Ts5, Tr5, Cr5⟩, U5⟩, ⟨⟨Ps6, Pr6, Ts6, Tr6, Cr6⟩, U6⟩⟩, ⟨Pl, Cl, Tm, Us⟩⟩, A2, A3, A4, ⟨%u6, A6⟩, ⟨%u7, A7⟩, ⟨%u8, A8⟩⟩ Hk
  simp only [cc0_ffn_up_eq_skeleton]
  unfold cc0_ffn_up_skel
  simp only [k0_part11_eq_skeleton]
  unfold k0_part11_skel
  simp only [H1, H2, H3, dite_true, dite_false, k0_part3_eq_skeleton, k0_part4_eq_skeleton, k0_part5_eq_skeleton]
  unfold k0_part3_skel k0_part4_skel k0_part5_skel
  simp only [H1, H2, H3, dite_true, dite_false, Prog.lift, Prog.bind_op, Prog.bind_ret, Prog.pure_eq_ret, wp_deviceId]
  iapply (wp_get c a2 off2) $$ A2
  iintro A2
  iapply (wp_get c a3 off3) $$ A3
  iintro A3
  iapply (wp_get c a4 off3) $$ A4
  iintro A4
  iapply (wp_get c a6 off2) $$ A6
  iintro A6
  iapply (wp_put c a6 off2) $$ A6
  iintro A6
  iapply (wp_get c a7 off2) $$ A7
  iintro A7
  iapply (wp_put c a7 off2) $$ A7
  iintro A7
  iapply (wp_get c a8 off2) $$ A8
  iintro A8
  iapply (wp_put c a8 off2) $$ A8
  iintro A8
  iapply (wp_round1 m K c .loc 0 rfl rfl _ _ rfl (owe3 c)) $$ [Cl HO Pl]
  · isplitr; · iexact HR
    isplitl [Cl]; · iexact Cl
    isplitl [HO]; · iexact HO
    isplitr; · iapply (mayWait_cell c .loc (owe3 c) (above_owe3 (by decide) c)); iexact Hlv
    iexact Pl
  iintro ⟨HO, Pl, #Rl, Hp⟩
  ihave Hp := (loc0_hands m c) $$ Hp
  icases Hp with ⟨Bn, Il⟩
  iapply (wp_copyout m K c (off2_eq c) rfl) $$ [Bn Us Tm]
  · isplitr; · iexact HR
    isplitl [Bn]; · iexact Bn
    isplitl [Us]; · iexact Us
    isplitl [Tm]; · iexact Tm
    iexact Rl
  iintro Cl
  iapply (wp_round1 m K c (.rcv 1) 0 rfl rfl _ _ rfl (owe3 c)) $$ [Cr1 HO Pr1]
  · isplitr; · iexact HR
    isplitl [Cr1]; · iexact Cr1
    isplitl [HO]; · iexact HO
    isplitr; · iapply (mayWait_cell c (.rcv 1) (owe3 c) (above_owe3 (by decide) c)); iexact Hlv
    iexact Pr1
  iintro ⟨HO, Pr1, -, Hp⟩
  ihave R1 := (rcv_hands m c 1) $$ Hp
  imod (close_cell m K c (.rcv 1) 1 (by decide)) $$ [Pr1] with Vr1
  · isplitr; · iexact HR
    iexact Pr1
  iapply (wp_passon m K c _ 4 (dev9_eq c) Entails.rfl (off3_eq c) (off3_eq c) rfl rfl ((0 + oweR c 6) + oweR c 5)) $$ [R1 U4 HO Ts4 Tr4]
  · isplitr; · iexact HR
    isplitl [R1]; · iexact R1
    isplitl [U4]; · iexact U4
    isplitl [HO]; · iexact HO
    isplitl [Ts4]; · iexact Ts4
    iexact Tr4
  iintro ⟨Cs4, HO⟩
  iapply (wp_round1 m K c (.rcv 2) 0 rfl rfl _ _ rfl ((0 + oweR c 6) + oweR c 5)) $$ [Cr2 HO Pr2]
  · isplitr; · iexact HR
    isplitl [Cr2]; · iexact Cr2
    isplitl [HO]; · iexact HO
    isplitr; · iapply (mayWait_cell c (.rcv 2) ((0 + oweR c 6) + oweR c 5) (above_two (by decide) c)); iexact Hlv
    iexact Pr2
  iintro ⟨HO, Pr2, -, Hp⟩
  ihave R2 := (rcv_hands m c 2) $$ Hp
  imod (close_cell m K c (.rcv 2) 1 (by decide)) $$ [Pr2] with Vr2
  · isplitr; · iexact HR
    iexact Pr2
  iapply (wp_passon m K c _ 5 (dev10_eq c) Entails.rfl (off4_eq c) (off4_eq c) rfl rfl (0 + oweR c 6)) $$ [R2 U5 HO Ts5 Tr5]
  · isplitr; · iexact HR
    isplitl [R2]; · iexact R2
    isplitl [U5]; · iexact U5
    isplitl [HO]; · iexact HO
    isplitl [Ts5]; · iexact Ts5
    iexact Tr5
  iintro ⟨Cs5, HO⟩
  iapply (wp_round1 m K c (.rcv 3) 0 rfl rfl _ _ rfl (0 + oweR c 6)) $$ [Cr3 HO Pr3]
  · isplitr; · iexact HR
    isplitl [Cr3]; · iexact Cr3
    isplitl [HO]; · iexact HO
    isplitr; · iapply (mayWait_cell c (.rcv 3) (0 + oweR c 6) (above_one (by decide) c)); iexact Hlv
    iexact Pr3
  iintro ⟨HO, Pr3, -, Hp⟩
  ihave R3 := (rcv_hands m c 3) $$ Hp
  imod (close_cell m K c (.rcv 3) 1 (by decide)) $$ [Pr3] with Vr3
  · isplitr; · iexact HR
    iexact Pr3
  iapply (wp_passon m K c _ 6 (dev11_eq c) Entails.rfl (off5_eq c) (off5_eq c) rfl rfl (0)) $$ [R3 U6 HO Ts6 Tr6]
  · isplitr; · iexact HR
    isplitl [R3]; · iexact R3
    isplitl [U6]; · iexact U6
    isplitl [HO]; · iexact HO
    isplitl [Ts6]; · iexact Ts6
    iexact Tr6
  iintro ⟨Cs6, HO⟩
  rw [wp_ret]
  imodintro
  iapply Hk
  isplitl [HO]; · iexact HO
  isplitr [A2 A3 A4 A6 A7 A8]
  · dsimp only [passed, way, came]
    isplitr; · iexists K; iexact HR
    isplitl [Vb]; · iexact Vb
    isplitl [Ps0 Cs0 Pr0 Cr0]
    · isplitl [Ps0]; · iexact Ps0
      isplitl [Cs0]; · iexact Cs0
      isplitl [Pr0]; · iexact Pr0
      iexact Cr0
    isplitl [Ps1 Cs1 Vr1 Ps2 Cs2 Vr2 Ps3 Cs3 Vr3]
    · isplitl [Ps1 Cs1 Vr1]
      · isplitl [Ps1]; · iexact Ps1
        isplitl [Cs1]; · iexact Cs1
        iexact Vr1
      isplitl [Ps2 Cs2 Vr2]
      · isplitl [Ps2]; · iexact Ps2
        isplitl [Cs2]; · iexact Cs2
        iexact Vr2
      isplitl [Ps3]; · iexact Ps3
      isplitl [Cs3]; · iexact Cs3
      iexact Vr3
    isplitl [Ps4 Cs4 Pr4 Cr4 Ps5 Cs5 Pr5 Cr5 Ps6 Cs6 Pr6 Cr6]
    · isplitl [Ps4 Cs4 Pr4 Cr4]
      · isplitl [Ps4]; · iexact Ps4
        isplitl [Cs4]; · iexact Cs4
        isplitl [Pr4]; · iexact Pr4
        iexact Cr4
      isplitl [Ps5 Cs5 Pr5 Cr5]
      · isplitl [Ps5]; · iexact Ps5
        isplitl [Cs5]; · iexact Cs5
        isplitl [Pr5]; · iexact Pr5
        iexact Cr5
      isplitl [Ps6]; · iexact Ps6
      isplitl [Cs6]; · iexact Cs6
      isplitl [Pr6]; · iexact Pr6
      iexact Cr6
    isplitl [Pl]; · iexact Pl
    isplitl [Cl]; · iexact Cl
    iexact Il
  isplitl [A2]; · iexact A2
  isplitl [A3]; · iexact A3
  isplitl [A4]; · iexact A4
  isplitl [A6]; · iexact A6
  isplitl [A7]; · iexact A7
  iexact A8

set_option maxHeartbeats 4000000 in
/-- The last point: all that is under way is waited for. -/
theorem body_last (c : Dev nD) (i : grid0.Coords) (a2 : Memref sig .tc .vmem S1024x1024 .bf16) (h2 : a2.IsWhole) (a3 : Memref sig .tc .vmem S4x352x1024 .bf16) (h3 : a3.IsWhole) (a4 : Memref sig .tc .vmem S4x352x1024 .bf16) (h4 : a4.IsWhole) (a6 : Memref sig .tc .vmem S1024x1408 .bf16) (h6 : a6.IsWhole) (a7 : Memref sig .tc .vmem S1024x1408 .bf16) (h7 : a7.IsWhole) (a8 : Memref sig .tc .vmem S1024x1408 .bf16) (h8 : a8.IsWhole)
    (H1 : ¬ k0_cond1 i = 1#1) (H2 : ¬ k0_cond2 i = 1#1) (H3 : k0_cond3 i = 1#1) (x0 : Vec F S1024x1024 .bf16) (x1 x2 : Vec F S4x352x1024 .bf16) {Q : PUnit → sProp (MT nD τ sig Unit (Elt F) ℕ UU ℕ)} :
    iprop(owesE c 0 ∗ passed m c ∗ owns (c : Thread nD τ) a2 fullShare x0 ∗ owns (c : Thread nD τ) a3 fullShare x1 ∗ owns (c : Thread nD τ) a4 fullShare x2 ∗ (∃ u, owns (c : Thread nD τ) a6 fullShare u) ∗ (∃ u, owns (c : Thread nD τ) a7 fullShare u) ∗ (∃ u, owns (c : Thread nD τ) a8 fullShare u))
      ⊢ (iprop((iprop(owesE c 0 ∗ over m c ∗ owns (c : Thread nD τ) a2 fullShare x0 ∗ owns (c : Thread nD τ) a3 fullShare x1 ∗ owns (c : Thread nD τ) a4 fullShare x2 ∗ owns (c : Thread nD τ) a6 fullShare (gateOf x0 x1) ∗ owns (c : Thread nD τ) a7 fullShare (upOf x0 x2) ∗ owns (c : Thread nD τ) a8 fullShare (actOf x0 x1 x2)) -∗ Q ⟨⟩)
          -∗ wp frame (wpE (defs₀ (F := F)) 𝒱₀ (c : Thread nD τ) none) Set.univ
            (cc0_ffn_up i a2 h2 a3 h3 a4 h4 (Memref.whole main_arg3) (Memref.isWhole_whole _) a6 h6 a7 h7 a8 h8 (Memref.whole main_v1_3) (Memref.isWhole_whole _) cc0_scratch0 cc0_scratch1 cc0_scratch2 (Memref.whole cc0_scratch3) (Memref.isWhole_whole _)) Q) : sProp 𝕄) := by
  dsimp only [passed, way, came]
  iintro ⟨HO, ⟨⟨%K, #HR⟩, Vb, ⟨Ps0, Cs0, Pr0, Cr0⟩, ⟨⟨Ps1, Cs1, Vr1⟩, ⟨Ps2, Cs2, Vr2⟩, ⟨Ps3, Cs3, Vr3⟩⟩, ⟨⟨Ps4, Cs4, Pr4, Cr4⟩, ⟨Ps5, Cs5, Pr5, Cr5⟩, ⟨Ps6, Cs6, Pr6, Cr6⟩⟩, ⟨Pl, Cl, Il⟩⟩, A2, A3, A4, ⟨%u6, A6⟩, ⟨%u7, A7⟩, ⟨%u8, A8⟩⟩ Hk
  simp only [cc0_ffn_up_eq_skeleton]
  unfold cc0_ffn_up_skel
  simp only [k0_part11_eq_skeleton]
  unfold k0_part11_skel
  simp only [H1, H2, H3, dite_true, dite_false, k0_part6_eq_skeleton, k0_part7_eq_skeleton, k0_part8_eq_skeleton, k0_part9_eq_skeleton, k0_part10_eq_skeleton]
  unfold k0_part6_skel k0_part7_skel k0_part8_skel k0_part9_skel k0_part10_skel
  simp only [H1, H2, H3, dite_true, dite_false, Prog.lift, Prog.bind_op, Prog.bind_ret, Prog.pure_eq_ret, wp_deviceId]
  iapply (wp_get c a2 off2) $$ A2
  iintro A2
  iapply (wp_get c a3 off3) $$ A3
  iintro A3
  iapply (wp_get c a4 off3) $$ A4
  iintro A4
  iapply (wp_get c a6 off2) $$ A6
  iintro A6
  iapply (wp_put c a6 off2) $$ A6
  iintro A6
  iapply (wp_get c a7 off2) $$ A7
  iintro A7
  iapply (wp_put c a7 off2) $$ A7
  iintro A7
  iapply (wp_get c a8 off2) $$ A8
  iintro A8
  iapply (wp_put c a8 off2) $$ A8
  iintro A8
  iapply (wp_round0 m K c (.rcv 0) 0 rfl rfl _ _ rfl) $$ [Cr0 HO Pr0]
  · isplitr; · iexact HR
    isplitl [Cr0]; · iexact Cr0
    isplitl [HO]; · iexact HO
    iexact Pr0
  iintro ⟨HO, Pr0, -, Hp⟩
  ihave R0 := (rcv_hands m c 0) $$ Hp
  iapply (wp_round0 m K c (.rcv 4) 0 rfl rfl _ _ rfl) $$ [Cr4 HO Pr4]
  · isplitr; · iexact HR
    isplitl [Cr4]; · iexact Cr4
    isplitl [HO]; · iexact HO
    iexact Pr4
  iintro ⟨HO, Pr4, -, Hp⟩
  ihave R4 := (rcv_hands m c 4) $$ Hp
  iapply (wp_round0 m K c (.rcv 5) 0 rfl rfl _ _ rfl) $$ [Cr5 HO Pr5]
  · isplitr; · iexact HR
    isplitl [Cr5]; · iexact Cr5
    isplitl [HO]; · iexact HO
    iexact Pr5
  iintro ⟨HO, Pr5, -, Hp⟩
  ihave R5 := (rcv_hands m c 5) $$ Hp
  iapply (wp_round0 m K c (.rcv 6) 0 rfl rfl _ _ rfl) $$ [Cr6 HO Pr6]
  · isplitr; · iexact HR
    isplitl [Cr6]; · iexact Cr6
    isplitl [HO]; · iexact HO
    iexact Pr6
  iintro ⟨HO, Pr6, -, Hp⟩
  ihave R6 := (rcv_hands m c 6) $$ Hp
  iapply (wp_round0 m K c (.snd 0) 0 rfl rfl _ _ rfl) $$ [Cs0 HO Ps0]
  · isplitr; · iexact HR
    isplitl [Cs0]; · iexact Cs0
    isplitl [HO]; · iexact HO
    iexact Ps0
  iintro ⟨HO, Ps0, -, Hp⟩
  ihave I0 := (snd_hands m c 0) $$ Hp
  iapply (wp_round0 m K c (.snd 1) 0 rfl rfl _ _ rfl) $$ [Cs1 HO Ps1]
  · isplitr; · iexact HR
    isplitl [Cs1]; · iexact Cs1
    isplitl [HO]; · iexact HO
    iexact Ps1
  iintro ⟨HO, Ps1, -, Hp⟩
  ihave I1 := (snd_hands m c 1) $$ Hp
  iapply (wp_round0 m K c (.snd 2) 0 rfl rfl _ _ rfl) $$ [Cs2 HO Ps2]
  · isplitr; · iexact HR
    isplitl [Cs2]; · iexact Cs2
    isplitl [HO]; · iexact HO
    iexact Ps2
  iintro ⟨HO, Ps2, -, Hp⟩
  ihave I2 := (snd_hands m c 2) $$ Hp
  iapply (wp_round0 m K c (.snd 3) 0 rfl rfl _ _ rfl) $$ [Cs3 HO Ps3]
  · isplitr; · iexact HR
    isplitl [Cs3]; · iexact Cs3
    isplitl [HO]; · iexact HO
    iexact Ps3
  iintro ⟨HO, Ps3, -, Hp⟩
  ihave I3 := (snd_hands m c 3) $$ Hp
  iapply (wp_round0 m K c (.snd 4) 0 rfl rfl _ _ rfl) $$ [Cs4 HO Ps4]
  · isplitr; · iexact HR
    isplitl [Cs4]; · iexact Cs4
    isplitl [HO]; · iexact HO
    iexact Ps4
  iintro ⟨HO, Ps4, -, Hp⟩
  ihave I4 := (snd_hands m c 4) $$ Hp
  iapply (wp_round0 m K c (.snd 5) 0 rfl rfl _ _ rfl) $$ [Cs5 HO Ps5]
  · isplitr; · iexact HR
    isplitl [Cs5]; · iexact Cs5
    isplitl [HO]; · iexact HO
    iexact Ps5
  iintro ⟨HO, Ps5, -, Hp⟩
  ihave I5 := (snd_hands m c 5) $$ Hp
  iapply (wp_round0 m K c (.snd 6) 0 rfl rfl _ _ rfl) $$ [Cs6 HO Ps6]
  · isplitr; · iexact HR
    isplitl [Cs6]; · iexact Cs6
    isplitl [HO]; · iexact HO
    iexact Ps6
  iintro ⟨HO, Ps6, -, Hp⟩
  ihave I6 := (snd_hands m c 6) $$ Hp
  iapply (wp_round0 m K c .loc 1 rfl rfl _ _ rfl) $$ [Cl HO Pl]
  · isplitr; · iexact HR
    isplitl [Cl]; · iexact Cl
    isplitl [HO]; · iexact HO
    iexact Pl
  iintro ⟨HO, Pl, -, Hp⟩
  ihave Hp := (loc1_hands m c) $$ Hp
  icases Hp with ⟨Us, Bn⟩
  imod (close_cell m K c (.rcv 0) 1 (by decide)) $$ [Pr0] with Vr0
  · isplitr; · iexact HR
    iexact Pr0
  imod (close_cell m K c (.rcv 4) 1 (by decide)) $$ [Pr4] with Vr4
  · isplitr; · iexact HR
    iexact Pr4
  imod (close_cell m K c (.rcv 5) 1 (by decide)) $$ [Pr5] with Vr5
  · isplitr; · iexact HR
    iexact Pr5
  imod (close_cell m K c (.rcv 6) 1 (by decide)) $$ [Pr6] with Vr6
  · isplitr; · iexact HR
    iexact Pr6
  imod (close_cell m K c (.snd 0) 1 (by decide)) $$ [Ps0] with Vs0
  · isplitr; · iexact HR
    iexact Ps0
  imod (close_cell m K c (.snd 1) 1 (by decide)) $$ [Ps1] with Vs1
  · isplitr; · iexact HR
    iexact Ps1
  imod (close_cell m K c (.snd 2) 1 (by decide)) $$ [Ps2] with Vs2
  · isplitr; · iexact HR
    iexact Ps2
  imod (close_cell m K c (.snd 3) 1 (by decide)) $$ [Ps3] with Vs3
  · isplitr; · iexact HR
    iexact Ps3
  imod (close_cell m K c (.snd 4) 1 (by decide)) $$ [Ps4] with Vs4
  · isplitr; · iexact HR
    iexact Ps4
  imod (close_cell m K c (.snd 5) 1 (by decide)) $$ [Ps5] with Vs5
  · isplitr; · iexact HR
    iexact Ps5
  imod (close_cell m K c (.snd 6) 1 (by decide)) $$ [Ps6] with Vs6
  · isplitr; · iexact HR
    iexact Ps6
  imod (close_cell m K c .loc 2 (by decide)) $$ [Pl] with Vl
  · isplitr; · iexact HR
    iexact Pl
  ihave I := (sh_whole m c) $$ [I0 I1 I2 I3 Il]
  · isplitl [I0]; · iapply (Entails.of_eq (show srcP m c 0 = shP m (sq 0) c from rfl)); iexact I0
    isplitl [I1]; · iapply (Entails.of_eq (show srcP m c 1 = shP m (sq 1) c from rfl)); iexact I1
    isplitl [I2]; · iapply (Entails.of_eq (show srcP m c 2 = shP m (sq 2) c from rfl)); iexact I2
    isplitl [I3]; · iapply (Entails.of_eq (show srcP m c 3 = shP m (sq 3) c from rfl)); iexact I3
    iexact Il
  ihave U := (out_whole m c) $$ [Us R0 I4 I5 I6 R4 R5 R6]
  · isplitl [Us]; · iexact Us
    isplitl [R0]; · iexact R0
    isplitl [I4]; · iapply (Entails.of_eq (show srcP m c 4 = outRow c (gt 1 c) (shX m (gt 1 c)) from rfl)); iexact I4
    isplitl [I5]; · iapply (Entails.of_eq (show srcP m c 5 = outRow c (gt 2 c) (shX m (gt 2 c)) from rfl)); iexact I5
    isplitl [I6]; · iapply (Entails.of_eq (show srcP m c 6 = outRow c (gt 3 c) (shX m (gt 3 c)) from rfl)); iexact I6
    isplitl [R4]; · iexact R4
    isplitl [R5]; · iexact R5
    iexact R6
  rw [wp_ret]
  imodintro
  iapply Hk
  isplitl [HO]; · iexact HO
  isplitr [A2 A3 A4 A6 A7 A8]
  · dsimp only [over, all7]
    isplitl [Vb]; · iexact Vb
    isplitl [Vs0 Vr0 Vs1 Vr1 Vs2 Vr2 Vs3 Vr3 Vs4 Vr4 Vs5 Vr5 Vs6 Vr6]
    · isplitl [Vs0 Vr0]
      · isplitl [Vs0]; · iexact Vs0
        iexact Vr0
      isplitl [Vs1 Vr1]
      · isplitl [Vs1]; · iexact Vs1
        iexact Vr1
      isplitl [Vs2 Vr2]
      · isplitl [Vs2]; · iexact Vs2
        iexact Vr2
      isplitl [Vs3 Vr3]
      · isplitl [Vs3]; · iexact Vs3
        iexact Vr3
      isplitl [Vs4 Vr4]
      · isplitl [Vs4]; · iexact Vs4
        iexact Vr4
      isplitl [Vs5 Vr5]
      · isplitl [Vs5]; · iexact Vs5
        iexact Vr5
      isplitl [Vs6]; · iexact Vs6
      iexact Vr6
    isplitl [Vl]; · iexact Vl
    isplitl [I]; · iexact I
    isplitl [U]; · iexact U
    iexists _; iexact Bn
  isplitl [A2]; · iexact A2
  isplitl [A3]; · iexact A3
  isplitl [A4]; · iexact A4
  isplitl [A6]; · iexact A6
  isplitl [A7]; · iexact A7
  iexact A8

end Cert.GatherProof
-- ==== Proof.GatherRun.lean ====
/-
The points of the forward call together: what every window's block holds after each point, and that the body takes what
the pipeline has before a point to what it has after it.
-/
module

public import proofs.«01_k».proof.Proof.GatherCases
public import proofs.«01_k».proof.Proof.Gen.Kernel6Ideal.Points
public import proofs.«01_k».proof.Proof.Gen.Kernel6Ideal.Launch
public import Idealize.ShloMosaic.Lib.Pipeline.FrameBody
public import proofs.«01_k».proof.Proof.Gen.Kernel6Ideal.Skeleton
public import proofs.«01_k».proof.Proof.Gen.Kernel6Ideal.Frame

@[expose] public section

set_option maxRecDepth 16384

noncomputable section

namespace Cert.GatherProof

open Cert.Kernel6Ideal Cert.Kernel6Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device holds for the exchange before point `n`. -/
def held (c : Dev nD) (n : ℕ) : sProp 𝕄 :=
  if n = 0 then start m c else if n < 7 then under m c else if n = 7 then passed m c else over m c
theorem held_zero (c : Dev nD) (n : ℕ) (h : n = 0) : held m c n = start m c := if_pos h
theorem held_mid (c : Dev nD) (n : ℕ) (h : n ≠ 0) (h7 : n < 7) : held m c n = under m c := (if_neg h).trans (if_pos h7)
theorem held_late (c : Dev nD) (n : ℕ) (h : n = 7) : held m c n = passed m c :=
  (if_neg (by omega)).trans ((if_neg (by omega)).trans (if_pos h))
theorem held_end (c : Dev nD) (n : ℕ) (h : 7 < n) : held m c n = over m c :=
  (if_neg (by omega)).trans ((if_neg (by omega)).trans (if_neg (by omega)))

/-- What a device owes its peers before point `n`. -/
def dueAt (c : Dev nD) (n : ℕ) : CellTallies nD τ sig Unit := if n = 0 then O₀ c else if n < 7 then owe3 c else 0
theorem dueAt_zero (c : Dev nD) (n : ℕ) (h : n = 0) : dueAt c n = O₀ c := if_pos h
theorem dueAt_mid (c : Dev nD) (n : ℕ) (h : n ≠ 0) (h7 : n < 7) : dueAt c n = owe3 c := (if_neg h).trans (if_pos h7)
theorem dueAt_end (c : Dev nD) (n : ℕ) (h : 7 ≤ n) : dueAt c n = 0 := (if_neg (by omega)).trans (if_neg (by omega))

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gateOf (iblk m c 0 t) (iblk m c 1 t)
    | ⟨4, _⟩ => upOf (iblk m c 0 t) (iblk m c 2 t)
    | ⟨5, _⟩ => actOf (iblk m c 0 t) (iblk m c 1 t) (iblk m c 2 t)
  Φ t := held m c t.val
  q _ := fullShare
  owed t := dueAt c t.val

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = gateOf (iblk m c 0 t) (iblk m c 1 t) := by dsimp only [dats]
theorem after_4 (c : Dev nD) (t : Fin cfg0.N) : (dats m 0 c).after 4 t = upOf (iblk m c 0 t) (iblk m c 2 t) := by dsimp only [dats]
theorem after_5 (c : Dev nD) (t : Fin cfg0.N) : (dats m 0 c).after 5 t = actOf (iblk m c 0 t) (iblk m c 1 t) (iblk m c 2 t) := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val = 6 :=
  (by decide +kernel : ∀ t : Fin grid0.N, k0_cond2 (grid0.coords t) = 1#1 ↔ t.val = 6)
theorem cond3_iff : ∀ t : Fin cfg0.N, k0_cond3 (grid0.coords t) = 1#1 ↔ t.val = 7 :=
  (by decide +kernel : ∀ t : Fin grid0.N, k0_cond3 (grid0.coords t) = 1#1 ↔ t.val = 7)

theorem owes_in (c : Dev nD) (t : Fin (cfg0.N + 1)) : (dats m 0 c).owesAt () t ⊢ owesE c ((dats m 0 c).owed t) := by
  unfold Dat.owesAt Pipeline.owesWithin owesE
  iintro ⟨%W, -, H⟩
  iexists W
  iexact H
theorem owes_out (c : Dev nD) (t : Fin (cfg0.N + 1)) : owesE c ((dats m 0 c).owed t) ⊢ (dats m 0 c).owesAt () t := by
  unfold Dat.owesAt Pipeline.owesWithin owesE
  iintro ⟨%W, H⟩
  iexists W
  isplitr
  · ipureintro; exact fun _ _ => Or.inl trivial
  iexact H

/-! ## The body at a point -/

/-- What the body has before point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
theorem sound_body (c : Dev nD) (t : Fin cfg0.N) :
    bodyPre m c t ⊢ wp frame (wpE (defs₀ (F := F)) 𝒱₀ (c : Thread nD τ) none) Set.univ (bodyAt0 t) (fun _ => bodyPost m c t) := by
  have hN : t.val < 8 := lt_of_lt_of_eq t.isLt (show cfg0.N = 8 from N_0)
  have o0 := owes_in m c t.castSucc
  have o1 := owes_out m c t.succ
  have e0 : (dats m 0 c).owed t.castSucc = dueAt c t.val := rfl
  have e1 : (dats m 0 c).owed t.succ = dueAt c (t.val + 1) := rfl
  have p0 : (dats m 0 c).Φ t.castSucc = held m c t.val := rfl
  have p1 : (dats m 0 c).Φ t.succ = held m c (t.val + 1) := rfl
  rw [e0] at o0
  rw [e1] at o1
  unfold bodyPre bodyPost
  rw [p0, p1]
  simp only [before_0, before_1, before_2]
  rw [after_0, after_1, after_2, after_3, after_4, after_5]
  by_cases h0 : t.val = 0
  · have h6 : ¬ t.val = 6 := by omega
    have h7 : ¬ t.val = 7 := by omega
    rw [dueAt_zero c t.val h0] at o0
    rw [dueAt_mid c (t.val + 1) (Nat.succ_ne_zero _) (by omega)] at o1
    rw [held_zero m c t.val h0, held_mid m c (t.val + 1) (Nat.succ_ne_zero _) (by omega)]
    unfold bodyAt0
    iintro ⟨HΦ, Ho, ⟨%d0, H0⟩, ⟨%d1, H1⟩, ⟨%d2, H2⟩, ⟨%d3, H3⟩, ⟨%d4, H4⟩, ⟨%d5, H5⟩⟩
    ihave Ho := o0 $$ Ho
    iapply (body_first m c (grid0.coords t) _ _ _ _ _ _ _ _ _ _ _ _ ((cond1_iff t).mpr h0) (fun h => h6 ((cond2_iff t).mp h)) (fun h => h7 ((cond3_iff t).mp h)) (iblk m c 0 t) (iblk m c 1 t) (iblk m c 2 t)) $$ [Ho HΦ H0 H1 H2 H3 H4 H5]
    · isplitl [Ho]; · iexact Ho
      isplitl [HΦ]; · iexact HΦ
      isplitl [H0]; · iexact H0
      isplitl [H1]; · iexact H1
      isplitl [H2]; · iexact H2
      isplitl [H3]; · iexists _; iexact H3
      isplitl [H4]; · iexists _; iexact H4
      iexists _; iexact H5
    iintro ⟨Ho, HΦ, H0, H1, H2, H3, H4, H5⟩
    isplitl [HΦ]; · iexact HΦ
    isplitl [Ho]; · iapply o1; iexact Ho
    isplitl [H0]; · iexact H0
    isplitl [H1]; · iexact H1
    isplitl [H2]; · iexact H2
    isplitl [H3]; · iexact H3
    isplitl [H4]; · iexact H4
    iexact H5
  by_cases h6 : t.val = 6
  · have h7 : ¬ t.val = 7 := by omega
    rw [dueAt_mid c t.val h0 (by omega)] at o0
    rw [dueAt_end c (t.val + 1) (by omega)] at o1
    rw [held_mid m c t.val h0 (by omega), held_late m c (t.val + 1) (by omega)]
    unfold bodyAt0
    iintro ⟨HΦ, Ho, ⟨%d0, H0⟩, ⟨%d1, H1⟩, ⟨%d2, H2⟩, ⟨%d3, H3⟩, ⟨%d4, H4⟩, ⟨%d5, H5⟩⟩
    ihave Ho := o0 $$ Ho
    iapply (body_forward m c (grid0.coords t) _ _ _ _ _ _ _ _ _ _ _ _ (fun h => h0 ((cond1_iff t).mp h)) ((cond2_iff t).mpr h6) (fun h => h7 ((cond3_iff t).mp h)) (iblk m c 0 t) (iblk m c 1 t) (iblk m c 2 t)) $$ [Ho HΦ H0 H1 H2 H3 H4 H5]
    · isplitl [Ho]; · iexact Ho
      isplitl [HΦ]; · iexact HΦ
      isplitl [H0]; · iexact H0
      isplitl [H1]; · iexact H1
      isplitl [H2]; · iexact H2
      isplitl [H3]; · iexists _; iexact H3
      isplitl [H4]; · iexists _; iexact H4
      iexists _; iexact H5
    iintro ⟨Ho, HΦ, H0, H1, H2, H3, H4, H5⟩
    isplitl [HΦ]; · iexact HΦ
    isplitl [Ho]; · iapply o1; iexact Ho
    isplitl [H0]; · iexact H0
    isplitl [H1]; · iexact H1
    isplitl [H2]; · iexact H2
    isplitl [H3]; · iexact H3
    isplitl [H4]; · iexact H4
    iexact H5
  by_cases h7 : t.val = 7
  · rw [dueAt_end c t.val (by omega)] at o0
    rw [dueAt_end c (t.val + 1) (by omega)] at o1
    rw [held_late m c t.val h7, held_end m c (t.val + 1) (by omega)]
    unfold bodyAt0
    iintro ⟨HΦ, Ho, ⟨%d0, H0⟩, ⟨%d1, H1⟩, ⟨%d2, H2⟩, ⟨%d3, H3⟩, ⟨%d4, H4⟩, ⟨%d5, H5⟩⟩
    ihave Ho := o0 $$ Ho
    iapply (body_last m c (grid0.coords t) _ _ _ _ _ _ _ _ _ _ _ _ (fun h => h0 ((cond1_iff t).mp h)) (fun h => h6 ((cond2_iff t).mp h)) ((cond3_iff t).mpr h7) (iblk m c 0 t) (iblk m c 1 t) (iblk m c 2 t)) $$ [Ho HΦ H0 H1 H2 H3 H4 H5]
    · isplitl [Ho]; · iexact Ho
      isplitl [HΦ]; · iexact HΦ
      isplitl [H0]; · iexact H0
      isplitl [H1]; · iexact H1
      isplitl [H2]; · iexact H2
      isplitl [H3]; · iexists _; iexact H3
      isplitl [H4]; · iexists _; iexact H4
      iexists _; iexact H5
    iintro ⟨Ho, HΦ, H0, H1, H2, H3, H4, H5⟩
    isplitl [HΦ]; · iexact HΦ
    isplitl [Ho]; · iapply o1; iexact Ho
    isplitl [H0]; · iexact H0
    isplitl [H1]; · iexact H1
    isplitl [H2]; · iexact H2
    isplitl [H3]; · iexact H3
    isplitl [H4]; · iexact H4
    iexact H5
  · rw [dueAt_mid c t.val h0 (by omega)] at o0
    rw [dueAt_mid c (t.val + 1) (Nat.succ_ne_zero _) (by omega)] at o1
    rw [held_mid m c t.val h0 (by omega), held_mid m c (t.val + 1) (Nat.succ_ne_zero _) (by omega)]
    unfold bodyAt0
    iintro ⟨HΦ, Ho, ⟨%d0, H0⟩, ⟨%d1, H1⟩, ⟨%d2, H2⟩, ⟨%d3, H3⟩, ⟨%d4, H4⟩, ⟨%d5, H5⟩⟩
    ihave Ho := o0 $$ Ho
    iapply (body_mid c (grid0.coords t) _ _ _ _ _ _ _ _ _ _ _ _ (fun h => h0 ((cond1_iff t).mp h)) (fun h => h6 ((cond2_iff t).mp h)) (fun h => h7 ((cond3_iff t).mp h)) (iblk m c 0 t) (iblk m c 1 t) (iblk m c 2 t)) $$ [H0 H1 H2 H3 H4 H5]
    · isplitl [H0]; · iexact H0
      isplitl [H1]; · iexact H1
      isplitl [H2]; · iexact H2
      isplitl [H3]; · iexists _; iexact H3
      isplitl [H4]; · iexists _; iexact H4
      iexists _; iexact H5
    iintro ⟨H0, H1, H2, H3, H4, H5⟩
    isplitl [HΦ]; · iexact HΦ
    isplitl [Ho]; · iapply o1; iexact Ho
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

end Cert.GatherProof
-- ==== Proof.GatherLaunch.lean ====
/-
The forward call with its exchange, from its launch. Every cell starts with its invariant and its tokens with the device
that pays; each device's credit is what its peers owe it; at the end every counter is zero, the shard sent is as it was
and the gathered array holds the shards of all the devices.
-/
module

public import proofs.«01_k».proof.Proof.GatherRun
public import Idealize.ShloMosaic.Lib.Pipeline.CollectiveSegs
public import proofs.«01_k».proof.Proof.Gen.Kernel6Ideal.Skeleton
public import proofs.«01_k».proof.Proof.Gen.Kernel6Ideal.Frame

@[expose] public section

set_option maxRecDepth 16384

noncomputable section

namespace Cert.GatherProof

open Cert.Kernel6Ideal Cert.Kernel6Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Tokens -/

/-- What a device pays: its peers' barriers, its own sends, the receipts of its transfers, its two copies on the chip. -/
inductive Tk where
  | bar (k : Fin 4) | snd (k : Fin 7) | rcv (k : Fin 7) | loc (r : Fin 2)
  deriving DecidableEq
def Tk.all : List Tk :=
  [.bar 0, .bar 1, .bar 2, .bar 3, .snd 0, .snd 1, .snd 2, .snd 3, .snd 4, .snd 5, .snd 6, .rcv 0, .rcv 1, .rcv 2, .rcv 3, .rcv 4, .rcv 5, .rcv 6, .loc 0, .loc 1]
instance : Fintype Tk where
  elems := ⟨Tk.all, by decide⟩
  complete t := by
    rcases t with k | k | k | r
    · revert k; decide
    · revert k; decide
    · revert k; decide
    · revert r; decide

def tokOf (ct : Dev nD × Tk) : GSem nD τ sig × ℕ × Fin 4 := match ct.2 with
  | .bar k => (cell (pe k ct.1) .bar, 0, k)
  | .snd k => (cell ct.1 (.snd k), 0, 0)
  | .rcv k => (cell (rx k ct.1) (.rcv k), 0, 0)
  | .loc r => (cell ct.1 .loc, r.val, 0)

theorem tokOf_inj : Function.Injective tokOf := by
  rintro ⟨c, s⟩ ⟨d, t⟩ h
  have h1 := congrArg Prod.fst h
  have h2 := congrArg (fun x => x.2.1) h
  have h3 := congrArg (fun x => x.2.2) h
  rcases s with k | k | k | r <;> rcases t with l | l | l | r' <;>
    dsimp only [tokOf] at h1 h2 h3 <;> obtain ⟨h4, h5⟩ := cell_inj h1 <;>
    first
    | (exfalso; simp at h5; done)
    | skip
  · subst h3; rw [pe_inj _ h4]
  · cases h5; subst h4; rfl
  · cases h5; rw [rx_inj _ h4]
  · subst h4; rw [Fin.ext h2]

theorem cellP_inj : Function.Injective (fun ck : Dev nD × Kd => cell ck.1 ck.2) := by
  rintro ⟨c, k⟩ ⟨d, l⟩ h
  obtain ⟨rfl, rfl⟩ := cell_inj h
  rfl

def allCells : Finset (GSem nD τ sig) := Finset.univ.map ⟨fun ck : Dev nD × Kd => cell ck.1 ck.2, cellP_inj⟩
def allToks : Finset (GSem nD τ sig × ℕ × Fin 4) := Finset.univ.map ⟨tokOf, tokOf_inj⟩

def u₀ : UU := (initOf (Pipeline.cells cfgs cellOf_inj) (Pipeline.launchToks cfgs cellOf_inj), initOf allCells allToks)

abbrev tokens (c : Dev nD) : sProp 𝕄 := bigSep Finset.univ fun t : Tk => dutyTok ER (tokOf (c, t)).1 (tokOf (c, t)).2.1 (tokOf (c, t)).2.2
abbrev posns (c : Dev nD) : sProp 𝕄 := bigSep Finset.univ fun k : Kd => atPos ER (cell c k) 0 ∅ 0

/-- What the launch deals a device, -/
def G (c : Dev nD) : sProp 𝕄 :=
  iprop((bigSep Finset.univ fun k : Kd => roundState ER (Rd m) (cell c k) 0)
    ∗ (bigSep Finset.univ fun k : Kd => iprop(atPos ER (cell c k) 0 ∅ 0 ∗ reached ER (cell c k) 0)) ∗ tokens c)
/-- and what the device makes of it with all the others. -/
def G' (c : Dev nD) : sProp 𝕄 := iprop((∃ K, records m K) ∗ posns c ∗ tokens c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (cell c k) := by
    unfold allCells; rw [bigSep_map, bigSep_univ_prod]; rfl
  have hT : bigSep allToks (fun x => (dutyTok ER x.1 x.2.1 x.2.2 : sProp 𝕄)) = bigSep Finset.univ fun c : Dev nD => tokens c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

def osem (i : Fin 15) : SemLoc sig := .dma ⟨12 + i.val, by show _ < 27; omega⟩
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (cell c (.snd 0)) 0 ∗ semVal (cell c (.snd 1)) 0 ∗ semVal (cell c (.snd 2)) 0 ∗ semVal (cell c (.snd 3)) 0 ∗ semVal (cell c (.snd 4)) 0 ∗ semVal (cell c (.snd 5)) 0 ∗ semVal (cell c (.snd 6)) 0 ∗ semVal (cell c (.rcv 0)) 0 ∗ semVal (cell c (.rcv 1)) 0 ∗ semVal (cell c (.rcv 2)) 0 ∗ semVal (cell c (.rcv 3)) 0 ∗ semVal (cell c (.rcv 4)) 0 ∗ semVal (cell c (.rcv 5)) 0 ∗ semVal (cell c (.rcv 6)) 0 ∗ semVal (cell c .loc) 0) := by
  rw [Pipeline.ownSems0_eq_of_list c osem [0, 1, 2, 3, 4, 5, 6, 7, 8, 9, 10, 11, 12, 13, 14] (by decide) (by decide)]; rfl
theorem unscopedSems0_eq (c : Dev nD) : (unscopedSems0 c : sProp 𝕄) = semVal (cell c .bar) 0 := by
  unfold unscopedSems0; rw [bigSep_eq_bigSepL_of_eq [SemLoc.reg barS] (by decide) (by decide)]; rfl
theorem bigSep_Kd (Φ : Kd → sProp 𝕄) : bigSep Finset.univ Φ
    = iprop(Φ .bar ∗ Φ (.snd 0) ∗ Φ (.snd 1) ∗ Φ (.snd 2) ∗ Φ (.snd 3) ∗ Φ (.snd 4) ∗ Φ (.snd 5) ∗ Φ (.snd 6) ∗ Φ (.rcv 0) ∗ Φ (.rcv 1) ∗ Φ (.rcv 2) ∗ Φ (.rcv 3) ∗ Φ (.rcv 4) ∗ Φ (.rcv 5) ∗ Φ (.rcv 6) ∗ Φ .loc) :=
  bigSep_univ_eq_bigSepL Kd.all (by decide) (by decide) Φ
theorem bigSep_Tk (Φ : Tk → sProp 𝕄) : bigSep Finset.univ Φ
    = iprop(Φ (.bar 0) ∗ Φ (.bar 1) ∗ Φ (.bar 2) ∗ Φ (.bar 3) ∗ Φ (.snd 0) ∗ Φ (.snd 1) ∗ Φ (.snd 2) ∗ Φ (.snd 3) ∗ Φ (.snd 4) ∗ Φ (.snd 5) ∗ Φ (.snd 6) ∗ Φ (.rcv 0) ∗ Φ (.rcv 1) ∗ Φ (.rcv 2) ∗ Φ (.rcv 3) ∗ Φ (.rcv 4) ∗ Φ (.rcv 5) ∗ Φ (.rcv 6) ∗ Φ (.loc 0) ∗ Φ (.loc 1)) :=
  bigSep_univ_eq_bigSepL Tk.all (by decide) (by decide) Φ

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (cell c k) 0 : sProp 𝕄) := by
  rw [ownSems0_eq, unscopedSems0_eq, bigSep_Kd]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ tokens c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (cell c k) 0) ∗ bigSep Finset.univ fun k : Kd => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ tokens c) : sProp 𝕄)
      ⊢ bigSep Finset.univ (G' m) := by
  rw [bigSep_sep', bigSep_sep', ← bigSep_univ_prod (fun ck : Dev nD × Kd => iprop(∃ κ : ℕ, cellInv ER (Rd m) κ (cell ck.1 ck.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (κ : ℕ) => (cellInv ER (Rd m) κ (cell ck.1 ck.2) : sProp 𝕄))) $$ HI
  icases HK with ⟨%K, #HI⟩
  iapply (with_persistent (R := records m K) (Φ := fun c => iprop(posns c ∗ tokens c)) fun c _ => by
    unfold G'
    iintro ⟨#HR, HP, HT⟩
    isplitr; · iexists K; iexact HR
    isplitl [HP] <;> iassumption)
  isplitr
  · unfold records; isplitl; · iexact HI
    iexact HR
  · iapply (Entails.of_eq (bigSep_sep' Finset.univ (fun c : Dev nD => (posns c : sProp 𝕄)) tokens).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem tally_pe (c d : Dev nD) (k : Fin 4) (x y : Kd) (n : ℕ) :
    tallyAt (cell (pe k d) x) () n (cell c y) () = if d = pe k c then (if x = y then n else 0) else 0 := by
  rw [tallyAt_apply]
  by_cases hd : d = pe k c
  · subst hd
    rw [pe_pe, if_pos rfl]
    by_cases hx : x = y
    · subst hx; rw [if_pos ⟨rfl, rfl⟩, if_pos rfl]
    · rw [if_neg fun h => hx (cell_inj h.1).2.symm, if_neg hx]
  · rw [if_neg fun h => hd (by rw [(cell_inj h.1).1, pe_pe]), if_neg hd]

theorem tally_rx (c d : Dev nD) (k : Fin 7) (x y : Kd) (n : ℕ) :
    tallyAt (cell (rx k d) x) () n (cell c y) () = if d = rx k c then (if x = y then n else 0) else 0 := by
  rw [tallyAt_apply]
  by_cases hd : d = rx k c
  · subst hd
    rw [rx_rx, if_pos rfl]
    by_cases hx : x = y
    · subst hx; rw [if_pos ⟨rfl, rfl⟩, if_pos rfl]
    · rw [if_neg fun h => hx (cell_inj h.1).2.symm, if_neg hx]
  · rw [if_neg fun h => hd (by rw [(cell_inj h.1).1, rx_rx]), if_neg hd]

theorem owed_bar (c : Dev nD) : ∑ d : Dev nD, O₀ d (cell c .bar) () = 4 := by
  have h (d : Dev nD) : O₀ d (cell c .bar) ()
      = (if d = pe 3 c then 1 else 0) + (if d = pe 2 c then 1 else 0) + (if d = pe 1 c then 1 else 0) + (if d = pe 0 c then 1 else 0) := by
    unfold O₀ owe7 owe3
    simp only [oweR, oweB, Pi.add_apply, Finsupp.add_apply, tally_pe, tally_rx, Pi.zero_apply, Finsupp.zero_apply, reduceCtorEq, if_true, if_false, ite_self, Nat.zero_add]
  rw [Finset.sum_congr rfl fun d _ => h d, Finset.sum_add_distrib, Finset.sum_add_distrib, Finset.sum_add_distrib]
  simp only [Finset.sum_ite_eq', Finset.mem_univ, if_true]

theorem owed_rcv (c : Dev nD) (k : Fin 7) : ∑ d : Dev nD, O₀ d (cell c (.rcv k)) () = N := by
  have h (d : Dev nD) : O₀ d (cell c (.rcv k)) () = if d = rx k c then N else 0 := by
    unfold O₀ owe7 owe3
    simp only [oweR, oweB, Pi.add_apply, Finsupp.add_apply, tally_pe, tally_rx, Pi.zero_apply, Finsupp.zero_apply, reduceCtorEq, if_false, ite_self, Nat.zero_add, Nat.add_zero, Kd.rcv.injEq]
    fin_cases k <;> simp
  rw [Finset.sum_congr rfl fun d _ => h d]
  simp only [Finset.sum_ite_eq', Finset.mem_univ, if_true]

theorem launch_at (c : Dev nD) (k : Kd) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem creds (c : Dev nD) :
    (Pipeline.launchCred O₀ c : sProp 𝕄) ⊢ iprop(cred (tallyAt (cell c .bar) () 4) ∗ all7 fun k => cred (tallyAt (cell c (.rcv k)) () N)) := by
  unfold Pipeline.launchCred
  refine (BI.bigSep_subset (Finset.subset_univ (Finset.univ.map ⟨ksem, ksem_inj⟩))).trans (?_ : (_ : sProp 𝕄) ⊢ _)
  rw [bigSep_map, bigSep_Kd]
  dsimp only [Function.Embedding.coeFn_mk, all7]
  rw [launch_at c .bar 4 (owed_bar c), launch_at c (.rcv 0) N (owed_rcv c 0), launch_at c (.rcv 1) N (owed_rcv c 1), launch_at c (.rcv 2) N (owed_rcv c 2), launch_at c (.rcv 3) N (owed_rcv c 3), launch_at c (.rcv 4) N (owed_rcv c 4), launch_at c (.rcv 5) N (owed_rcv c 5), launch_at c (.rcv 6) N (owed_rcv c 6)]
  iintro ⟨HB, -, -, -, -, -, -, -, H0, H1, H2, H3, H4, H5, H6, -⟩
  isplitl [HB]; · iexact HB
  isplitl [H0]; · iexact H0
  isplitl [H1]; · iexact H1
  isplitl [H2]; · iexact H2
  isplitl [H3]; · iexact H3
  isplitl [H4]; · iexact H4
  isplitl [H5]; · iexact H5
  iexact H6

/-! ## From the launch to the first point, and from the last point to the end -/

theorem own_whole {sp : Space} {s : Shape} {e : EltTy} (c : Dev nD) (b : Ref sig .tc) (M : Memref sig .tc sp s e) (X : s.Idx → Elt F e)
    (f : Buf (Elt F) (M.view.loc (c : Thread nD τ))) (hs : M.view.set = Finset.univ) (h : M.view.read (Elt F) f = X) :
    (M.view.loc (c : Thread nD τ) ↦{fullShare} f : sProp 𝕄) ⊢ owns (c : Thread nD τ) M fullShare X := by
  unfold owns
  rw [hs]
  iintro H; iexists f; isplitr
  · ipureintro; exact h
  iexact H

/-- What a device holds of the exchange before it has its buffer on the chip. -/
def outset (c : Dev nD) : sProp 𝕄 :=
  iprop(G' m c ∗ levAts L lv ∗ (cred (tallyAt (cell c .bar) () 4) ∗ all7 fun k => cred (tallyAt (cell c (.rcv k)) () N))
    ∗ owns (c : Thread nD τ) shM fullShare (shX m c) ∗ ∃ Y, owns (c : Thread nD τ) outM fullShare Y)

theorem outset_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(outset m c ∗ emp) := by
  rw [Pipeline.unscopedRestP_none, show Pipeline.unscopedRest (Ix := Unit) (Name := ℕ) (U := UU) (Lvl := ℕ) cfg0.spec c (fun b => m ((c : Thread nD τ).loc b)) = _ from unscopedRest0_eq c _]
  iintro ⟨⟨HI, HU⟩, Hlev, Hcr, -, HG⟩
  ihave Hc := (creds (F := F) c) $$ Hcr
  imodintro
  isplitl
  · unfold outset
    isplitl [HG]; · iexact HG
    isplitl [Hlev]; · iexact Hlev
    isplitl [Hc]; · iexact Hc
    isplitl [HI]
    · iapply (own_whole c main_arg3 shM (shX m c) (m _) (View.set_whole _) rfl); iexact HI
    · iexists _; iapply (own_whole c main_v1_3 outM _ (m _) (View.set_whole _) rfl); iexact HU
  · iempintro

theorem start_intro (c : Dev nD) :
    iprop(outset m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = _ from held_zero m c 0 rfl,
    show (Pipeline.scopedRest (Ix := Unit) (Name := ℕ) (U := UU) (Lvl := ℕ) (Val := Elt F) cfg0.spec c : sProp 𝕄) = _ from scopedRest0_eq c]
  unfold outset G' posns tokens
  rw [bigSep_Kd, bigSep_Tk]
  dsimp only [start, all4, all7, link, home, tokOf]
  iintro ⟨⟨⟨HR, ⟨Pb, Ps0, Ps1, Ps2, Ps3, Ps4, Ps5, Ps6, Pr0, Pr1, Pr2, Pr3, Pr4, Pr5, Pr6, Pl⟩, Tb0, Tb1, Tb2, Tb3, Ts0, Ts1, Ts2, Ts3, Ts4, Ts5, Ts6, Tr0, Tr1, Tr2, Tr3, Tr4, Tr5, Tr6, Tl, Tm⟩, Hlev, ⟨Cb, Cr0, Cr1, Cr2, Cr3, Cr4, Cr5, Cr6⟩, I, U⟩, -, ⟨%f0, S0⟩⟩
  isplitl [HR]; · iexact HR
  isplitl [Hlev]; · iexact Hlev
  isplitl [Pb]; · iexact Pb
  isplitl [Cb]; · iexact Cb
  isplitl [Tb0 Tb1 Tb2 Tb3]
  · isplitl [Tb0]; · iexact Tb0
    isplitl [Tb1]; · iexact Tb1
    isplitl [Tb2]; · iexact Tb2
    iexact Tb3
  isplitl [Ps0 Pr0 Ts0 Tr0 Cr0 Ps1 Pr1 Ts1 Tr1 Cr1 Ps2 Pr2 Ts2 Tr2 Cr2 Ps3 Pr3 Ts3 Tr3 Cr3 Ps4 Pr4 Ts4 Tr4 Cr4 Ps5 Pr5 Ts5 Tr5 Cr5 Ps6 Pr6 Ts6 Tr6 Cr6]
  · isplitl [Ps0 Pr0 Ts0 Tr0 Cr0]
    · isplitl [Ps0]; · iexact Ps0
      isplitl [Pr0]; · iexact Pr0
      isplitl [Ts0]; · iexact Ts0
      isplitl [Tr0]; · iexact Tr0
      iexact Cr0
    isplitl [Ps1 Pr1 Ts1 Tr1 Cr1]
    · isplitl [Ps1]; · iexact Ps1
      isplitl [Pr1]; · iexact Pr1
      isplitl [Ts1]; · iexact Ts1
      isplitl [Tr1]; · iexact Tr1
      iexact Cr1
    isplitl [Ps2 Pr2 Ts2 Tr2 Cr2]
    · isplitl [Ps2]; · iexact Ps2
      isplitl [Pr2]; · iexact Pr2
      isplitl [Ts2]; · iexact Ts2
      isplitl [Tr2]; · iexact Tr2
      iexact Cr2
    isplitl [Ps3 Pr3 Ts3 Tr3 Cr3]
    · isplitl [Ps3]; · iexact Ps3
      isplitl [Pr3]; · iexact Pr3
      isplitl [Ts3]; · iexact Ts3
      isplitl [Tr3]; · iexact Tr3
      iexact Cr3
    isplitl [Ps4 Pr4 Ts4 Tr4 Cr4]
    · isplitl [Ps4]; · iexact Ps4
      isplitl [Pr4]; · iexact Pr4
      isplitl [Ts4]; · iexact Ts4
      isplitl [Tr4]; · iexact Tr4
      iexact Cr4
    isplitl [Ps5 Pr5 Ts5 Tr5 Cr5]
    · isplitl [Ps5]; · iexact Ps5
      isplitl [Pr5]; · iexact Pr5
      isplitl [Ts5]; · iexact Ts5
      isplitl [Tr5]; · iexact Tr5
      iexact Cr5
    isplitl [Ps6]; · iexact Ps6
    isplitl [Pr6]; · iexact Pr6
    isplitl [Ts6]; · iexact Ts6
    isplitl [Tr6]; · iexact Tr6
    iexact Cr6
  isplitl [Pl Tl Tm S0]
  · isplitl [Pl]; · iexact Pl
    isplitl [Tl]; · iexact Tl
    isplitl [Tm]; · iexact Tm
    iexists _; iapply (own_whole c cc0_scratch3 bM _ f0 (View.set_whole _) rfl); iexact S0
  isplitl [I]; · iexact I
  iexact U

/-- What a device has at the end besides its windows' arrays. -/
def ended (c : Dev nD) : sProp 𝕄 :=
  iprop(unscopedSems0 c ∗ owns (c : Thread nD τ) shM fullShare (shX m c) ∗ owns (c : Thread nD τ) outM fullShare (outX m))

theorem own_buf {s : Shape} {e : EltTy} {sp : Space} (c : Dev nD) (M : Memref sig .tc sp s e) (X : s.Idx → Elt F e) (hs : M.view.set = Finset.univ) :
    owns (c : Thread nD τ) M fullShare X ⊢ (iprop(∃ f : Buf (Elt F) (M.view.loc (c : Thread nD τ)), ⌜M.view.read (Elt F) f = X⌝ ∗ (M.view.loc (c : Thread nD τ) ↦{fullShare} f)) : sProp 𝕄) := by
  unfold owns
  rw [hs]

theorem exit (c : Dev nD) :
    (dats m 0 c).Φ (Fin.last cfg0.N) ⊢ iprop(ended m c ∗ Pipeline.ownSems0 osem c ∗ Pipeline.scopedRest cfg0.spec c) := by
  rw [show (dats m 0 c).Φ (Fin.last cfg0.N) = _ from held_end m c cfg0.N (by rw [show cfg0.N = 8 from N_0]; decide),
    show (Pipeline.scopedRest (Ix := Unit) (Name := ℕ) (U := UU) (Lvl := ℕ) (Val := Elt F) cfg0.spec c : sProp 𝕄) = _ from scopedRest0_eq c,
    ownSems0_eq]
  unfold ended
  rw [unscopedSems0_eq]
  dsimp only [over, all7]
  iintro ⟨HB, ⟨⟨S0, R0⟩, ⟨S1, R1⟩, ⟨S2, R2⟩, ⟨S3, R3⟩, ⟨S4, R4⟩, ⟨S5, R5⟩, ⟨S6, R6⟩⟩, HL, I, U, ⟨%Y, HY⟩⟩
  isplitl [HB I U]
  · isplitl [HB]; · iexact HB
    isplitl [I] <;> iassumption
  isplitl [S0 S1 S2 S3 S4 S5 S6 R0 R1 R2 R3 R4 R5 R6 HL]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [R0]; · iexact R0
    isplitl [R1]; · iexact R1
    isplitl [R2]; · iexact R2
    isplitl [R3]; · iexact R3
    isplitl [R4]; · iexact R4
    isplitl [R5]; · iexact R5
    isplitl [R6]; · iexact R6
    iexact HL
  ihave HY := own_buf c bM Y (View.set_whole _) $$ HY
  icases HY with ⟨%f0, -, HY⟩
  iexists f0; iexact HY

theorem above_dueAt (c : Dev nD) (n : ℕ) : Above 0 (dueAt c n) := by
  unfold dueAt
  split
  · exact above_O₀ c
  split
  · exact above_owe3 (by decide) c
  exact above_zero 0
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (above_dueAt c t.val)

theorem share_eq (c : Dev nD) (w : Fin cfg0.W) : (dats m 0 c).share w = fullShare := by unfold Dat.share; split <;> rfl

theorem owed_first (c : Dev nD) : (dats m 0 c).owed 0 = O₀ c := dueAt_zero c 0 rfl
theorem owed_last (c : Dev nD) : (dats m 0 c).owed (Fin.last cfg0.N) = 0 :=
  dueAt_end c cfg0.N (by rw [show cfg0.N = 8 from N_0]; decide)

/-! ## The run -/

/-- What the memory says of the exchange at the end. -/
def Moved (c : Dev nD) (s : MemSt nD τ sig (Elt F)) : Prop :=
  shM.view.read (Elt F) (s.mem (shM.view.loc (c : Thread nD τ))) = shX m c
    ∧ outM.view.read (Elt F) (s.mem (outM.view.loc (c : Thread nD τ))) = outX m

theorem own_says {s : Shape} {e : EltTy} {sp : Space} (c : Dev nD) (M : Memref sig .tc sp s e) (X : s.Idx → Elt F e) (hs : M.view.set = Finset.univ)
    (s' : Phys nD τ sig (Elt F)) :
    iprop(owns (c : Thread nD τ) M fullShare X ∗ SI s') ⊢ (iprop(⌜M.view.read (Elt F) (s'.mem.mem (M.view.loc (c : Thread nD τ))) = X⌝ ∗ SI s') : sProp 𝕄) := by
  iintro ⟨H, HSI⟩
  ihave H := own_buf c M X hs $$ H
  icases H with ⟨%f, %hf, H⟩
  ihave H := (pointsTo_read_all (I := Unit) {()} (fun _ => M.view.loc (c : Thread nD τ)) (fun _ => f) s') $$ [H HSI]
  · isplitl [H]
    · rw [bigSep_singleton]; iexact H
    iexact HSI
  icases H with ⟨%h, HSI⟩
  isplitr
  · ipureintro; rw [h () (Finset.mem_singleton_self ())]; exact hf
  iexact HSI

theorem ended_says (c : Dev nD) (s' : Phys nD τ sig (Elt F)) :
    iprop(ended m c ∗ emp ∗ SI s') ⊢ (|={Set.univ}=> iprop(⌜(∀ sm : SemLoc sig, sm.isScoped .tc = false → s'.mem.sem ((c.tc : Thread nD τ), sm) = 0) ∧ Moved m c s'.mem⌝ ∗ SI s') : sProp 𝕄) := by
  unfold ended
  iintro ⟨⟨Hu, I, U⟩, -, HSI⟩
  ihave H := own_says c shM _ (View.set_whole _) s' $$ [I HSI]
  · isplitl [I] <;> iassumption
  icases H with ⟨%h0, HSI⟩
  ihave H := own_says c outM _ (View.set_whole _) s' $$ [U HSI]
  · isplitl [U] <;> iassumption
  icases H with ⟨%k0, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨hs, h0, k0⟩
  iexact HSI

/-- From any memory with zero counters, every fair execution of the call on the eight devices ends, with every counter
    at zero, every window's array at what the points left and the exchange done. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = (dats m 0 c).arrAt w cfg0.N) ∧ Moved m c r.2)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := owed_first m) (howedN := owed_last m)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := outset m) (Y := ended m) (Z := fun _ => iprop(emp))
    (hX := outset_intro m ρ) (hin := start_intro m) (hout := exit m)
    (QY := fun c s => (∀ sm : SemLoc sig, sm.isScoped .tc = false → s.sem ((c.tc : Thread nD τ), sm) = 0) ∧ Moved m c s)
    (hY := ended_says m)
    (hQ := fun _ h hs => ⟨fun c => ⟨fun w => (h c).1 w, (h c).2.2.2⟩, sem_eq_zero hs fun c => (h c).2.2.1⟩)

end Cert.GatherProof
-- ==== Proof.GatherFrame.lean ====
/-
  What the call leaves on every device, argument by argument and result by result, and the two frames. The program and its
  idealization have the same text, so one run, over every float, gives both.
-/
module

public import proofs.«01_k».proof.Defs
public import proofs.«01_k».proof.Proof.Gen.Kernel6
public import proofs.«01_k».proof.Proof.Gen.Kernel6Ideal
public import proofs.«01_k».proof.Proof.GatherLaunch

@[expose] public section

noncomputable section

namespace Cert.GatherProof

open Idealize.ShloMosaic Idealize.ShloMosaic.TcCoe Idealize.SL.Sem
open Cert.Kernel6Ideal Cert.Kernel6Ideal.Gen

variable {F : FTy → Type} [FloatOps F]
variable (m : (ℓ : Loc nD τ sig) → Buf (Elt F) ℓ) (ρ : Dev nD → PrngReg)

/-- The arguments of the call on a device are what they were. -/
def Kept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

/-- The results of the call on a device: the two pre-activations, the activation, and the gathered weights. -/
def Left (c : Dev nD) (s : MemSt nD τ sig (Elt F)) : Prop :=
  s.mem ((c.tc : Thread nD τ).loc main_v1_0) = (dats m 0 c).arrAt 3 cfg0.N
  ∧ s.mem ((c.tc : Thread nD τ).loc main_v1_1) = (dats m 0 c).arrAt 4 cfg0.N
  ∧ s.mem ((c.tc : Thread nD τ).loc main_v1_2) = (dats m 0 c).arrAt 5 cfg0.N
  ∧ s.mem ((c.tc : Thread nD τ).loc main_v1_3) = outX m

theorem run_left : θ_run defs (onTc (τ := τ) (main (F := F))) ⟨m, fun _ => 0, ρ⟩
    (fun r => (∀ c : Dev nD, Left m c r.2 ∧ Kept m c r.2) ∧ r.2.sem = fun _ => 0) := by
  refine (θ_run defs _ _).mono (fun r h => ⟨fun c => ?_, h.2⟩) (run_main m ρ)
  obtain ⟨hw, hm⟩ := h.1 c
  refine ⟨⟨hw 3, hw 4, hw 5, hm.2⟩, ?_⟩
  exact ⟨(hw 0).trans (((dats m 0 c).arrAt_in 0 rfl _).trans (A_eq m c 0)),
    (hw 1).trans (((dats m 0 c).arrAt_in 1 rfl _).trans (A_eq m c 1)),
    (hw 2).trans (((dats m 0 c).arrAt_in 2 rfl _).trans (A_eq m c 2)), hm.1⟩

theorem frame_ideal : Cert.quiescent_Kernel6Ideal := fun m ρ _ =>
  (θ_run Cert.Kernel6Ideal.defs _ _).mono (fun _ h => ⟨fun c => (h.1 c).2, h.2⟩) (run_left (F := Ideal) m ρ)

/-- The two programs' bodies are one text. -/
theorem body_eq (i : grid0.Coords) (arg2 : Memref sig .tc .vmem S1024x1024 .bf16) (harg2 : arg2.IsWhole) (arg3 : Memref sig .tc .vmem S4x352x1024 .bf16) (harg3 : arg3.IsWhole) (arg4 : Memref sig .tc .vmem S4x352x1024 .bf16) (harg4 : arg4.IsWhole) (arg5 : Memref sig .tc .hbm S352x1024 .bf16) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1024x1408 .bf16) (harg8 : arg8.IsWhole) (arg9 : Memref sig .tc .hbm S8x352x1024 .bf16) (harg9 : arg9.IsWhole) (arg10 : DmaSems sig S7) (arg11 : DmaSems sig S7) (arg12 : DmaSems sig S1) (arg13 : Memref sig .tc .vmem S352x1024 .bf16) (harg13 : arg13.IsWhole) :
    Cert.Kernel6.cc0_ffn_up (F := Bits) i arg2 harg2 arg3 harg3 arg4 harg4 arg5 harg5 arg6 harg6 arg7 harg7 arg8 harg8 arg9 harg9 arg10 arg11 arg12 arg13 harg13 = Cert.Kernel6Ideal.cc0_ffn_up (F := Bits) i arg2 harg2 arg3 harg3 arg4 harg4 arg5 harg5 arg6 harg6 arg7 harg7 arg8 harg8 arg9 harg9 arg10 arg11 arg12 arg13 harg13 := rfl

theorem defs₀_eq : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) =>
    exact body_eq (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (Memref.whole main_arg3) (Memref.isWhole_whole _) (win0_3.stage (s 3)) (hstage0_3 ((s 3).cast nbuf0_3)) (win0_4.stage (s 4)) (hstage0_4 ((s 4).cast nbuf0_4)) (win0_5.stage (s 5)) (hstage0_5 ((s 5).cast nbuf0_5)) (Memref.whole main_v1_3) (Memref.isWhole_whole _) cc0_scratch0 cc0_scratch1 cc0_scratch2 (Memref.whole cc0_scratch3) (Memref.isWhole_whole _)

theorem frame_kernel : Cert.quiescent_Kernel6 := by
  intro m ρ _
  unfold Cert.Kernel6.defs
  rw [defs₀_eq]
  exact (θ_run (Cert.Kernel6Ideal.defs (F := Bits)) (onTc (τ := τ) (Cert.Kernel6Ideal.main (F := Bits))) ⟨m, fun _ => 0, ρ⟩).mono
    (fun r h => ⟨fun c => (h.1 c).2, h.2⟩) (run_left (F := Bits) m ρ)

end Cert.GatherProof
-- ==== Proof.GatherSpec.lean ====
/-
  The forward pass of the gated feed-forward layer's up projection, as plain mathematics over the extended reals: the two
  pre-activations of a token at a hidden channel, and their gated product.
-/
module

public import proofs.«01_k».proof.Proof.DownSpec

@[expose] public section

noncomputable section

open Idealize.ShloMosaic

namespace Cert.Gather

/-- A projection's weights, in the eight devices' pieces. -/
abbrev Pieces : Type := (⟨3, ![8, 352, 1024]⟩ : Shape).Idx → EReal

/-- A token's row against a hidden channel's weights. -/
def pre (x : Fin 1024 → EReal) (w : Pieces) (f : Fin 2816) : EReal :=
  ∑ k : Fin 1024, x k * w (ix3 ⟨f.val / 352, by omega⟩ ⟨f.val % 352, by omega⟩ k)

/-- The gated product. -/
def gated (g u : EReal) : EReal := g * Cert.Down.sig g * u

end Cert.Gather
-- ==== Proof.GatherArrays.lean ====
/-
  The three arrays that the call computes, as the plain mathematics of its arguments.
-/
module

public import proofs.«01_k».proof.Proof.GatherSpec
public import proofs.«01_k».proof.Proof.GatherRun
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.GatherProof

open Cert.Kernel6Ideal Cert.Kernel6Ideal.Gen
open Cert.Gather (pre gated)

variable (m : (ℓ : Loc nD τ sig) → Buf (Elt Ideal) ℓ) (c : Dev nD)

abbrev Tokens : Type := (⟨2, ![4096, 1024]⟩ : Shape).Idx → EReal

abbrev hA : Tokens := m ((c : Thread nD τ).loc main_arg0)
abbrev wgA : Cert.Gather.Pieces := m ((c : Thread nD τ).loc main_arg1)
abbrev wuA : Cert.Gather.Pieces := m ((c : Thread nD τ).loc main_arg2)

/-- A device's pre-activations, of the gate and of the up projection, and its gated products. -/
def gateA (r : Fin 4096) (f : Fin 2816) : EReal := pre (fun k => hA m c (ix2 r k)) (wgA m c) f
def upA (r : Fin 4096) (f : Fin 2816) : EReal := pre (fun k => hA m c (ix2 r k)) (wuA m c) f
def actA (r : Fin 4096) (f : Fin 2816) : EReal := gated (gateA m c r f) (upA m c r f)

/-! ## The blocks a point reads -/

theorem idx0 : ∀ t : Fin cfg0.N, win0_0.index t = ![t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val % 4, t.val / 4] := (by decide +kernel : ∀ t : Fin grid0.N, _)
theorem idx4 : ∀ t : Fin cfg0.N, win0_4.index t = ![t.val % 4, t.val / 4] := (by decide +kernel : ∀ t : Fin grid0.N, _)
theorem idx5 : ∀ t : Fin cfg0.N, win0_5.index t = ![t.val % 4, t.val / 4] := (by decide +kernel : ∀ t : Fin grid0.N, _)

theorem pt_lt (t : Fin cfg0.N) : t.val < 8 := lt_of_lt_of_eq t.isLt N_0

/-- The token and the hidden channel that a block's row and column are at a point. -/
abbrev row (t : Fin cfg0.N) (r : Fin 1024) : Fin 4096 := ⟨t.val % 4 * 1024 + r.val, by omega⟩
abbrev col (t : Fin cfg0.N) (f : Fin 1408) : Fin 2816 := ⟨t.val / 4 * 1408 + f.val, by have := pt_lt t; omega⟩

theorem blk_h (t : Fin cfg0.N) (r : Fin 1024) (k : Fin 1024) :
    (iblk m c 0 t : Vec Ideal S1024x1024 .bf16) (ix2 r k) = hA m c (ix2 (row t r) k) := by
  blk_ext! [iblk, V, idx0 t]

theorem chan_piece (t : Fin cfg0.N) (f : Fin 1408) : (col t f).val / 352 = t.val / 4 * 4 + f.val / 352 ∧ (col t f).val % 352 = f.val % 352 := by
  constructor
  · show (t.val / 4 * 1408 + f.val) / 352 = _; omega
  · show (t.val / 4 * 1408 + f.val) % 352 = _; omega

theorem blk_gate (t : Fin cfg0.N) (f : Fin 1408) (k : Fin 1024) (h0 : f.val / 352 < 4) (h1 : f.val % 352 < 352) :
    (iblk m c 1 t : Vec Ideal S4x352x1024 .bf16) (ix3 ⟨f.val / 352, h0⟩ ⟨f.val % 352, h1⟩ k)
      = wgA m c (ix3 ⟨(col t f).val / 352, by omega⟩ ⟨(col t f).val % 352, by omega⟩ k) := by
  obtain ⟨e0, e1⟩ := chan_piece t f
  simp only [e0, e1]
  blk_ext! [iblk, V, idx1 t]

theorem blk_up (t : Fin cfg0.N) (f : Fin 1408) (k : Fin 1024) (h0 : f.val / 352 < 4) (h1 : f.val % 352 < 352) :
    (iblk m c 2 t : Vec Ideal S4x352x1024 .bf16) (ix3 ⟨f.val / 352, h0⟩ ⟨f.val % 352, h1⟩ k)
      = wuA m c (ix3 ⟨(col t f).val / 352, by omega⟩ ⟨(col t f).val % 352, by omega⟩ k) := by
  obtain ⟨e0, e1⟩ := chan_piece t f
  simp only [e0, e1]
  blk_ext! [iblk, V, idx2 t]

/-! ## A point's blocks of results -/

theorem gate_apply (t : Fin cfg0.N) (r : Fin 1024) (f : Fin 1408) :
    k0_pay4 (F := Ideal) (iblk m c 0 t) (iblk m c 1 t) (ix2 r f) = gateA m c (row t r) (col t f) := by
  pointwise [k0_pay4, k0_pay3]
  simp only [blk_h, blk_gate]
  rfl

theorem up_apply (t : Fin cfg0.N) (r : Fin 1024) (f : Fin 1408) :
    k0_pay5 (F := Ideal) (iblk m c 0 t) (iblk m c 2 t) (ix2 r f) = upA m c (row t r) (col t f) := by
  pointwise [k0_pay5, k0_pay3]
  simp only [blk_h, blk_up]
  rfl

theorem gated_apply (g u : FVec Ideal S1024x1408 .f32) (r : Fin 1024) (f : Fin 1408) :
    k0_pay2 g u (ix2 r f) = gated (g (ix2 r f)) (u (ix2 r f)) := by
  pointwise [k0_pay2, gated, Cert.Down.sig]

theorem gateOf_apply (t : Fin cfg0.N) (r : Fin 1024) (f : Fin 1408) :
    gateOf (F := Ideal) (iblk m c 0 t) (iblk m c 1 t) (ix2 r f) = gateA m c (row t r) (col t f) := by
  refine Eq.trans ?_ (gate_apply m c t r f)
  unfold gateOf k0_pay6
  generalize k0_pay4 (F := Ideal) (iblk m c 0 t) (iblk m c 1 t) = z
  pointwise

theorem upOf_apply (t : Fin cfg0.N) (r : Fin 1024) (f : Fin 1408) :
    upOf (F := Ideal) (iblk m c 0 t) (iblk m c 2 t) (ix2 r f) = upA m c (row t r) (col t f) := by
  refine Eq.trans ?_ (up_apply m c t r f)
  unfold upOf k0_pay1
  generalize k0_pay5 (F := Ideal) (iblk m c 0 t) (iblk m c 2 t) = z
  pointwise

theorem actOf_apply (t : Fin cfg0.N) (r : Fin 1024) (f : Fin 1408) :
    actOf (F := Ideal) (iblk m c 0 t) (iblk m c 1 t) (iblk m c 2 t) (ix2 r f) = actA m c (row t r) (col t f) := by
  unfold actOf
  rw [gated_apply, gate_apply, up_apply]
  rfl

/-! ## The arrays after the run -/

theorem final3 : (dats m 0 c).arrAt 3 cfg0.N = fun i : S4096x2816.Idx => gateA m c (i 0) (i 1) := by
  refine (dats m 0 c).arrAt_eq_of_covers 3 _ (by decide +kernel) fun t hf y => ?_
  obtain ⟨r, f, rfl⟩ : ∃ (r : Fin 1024) (f : Fin 1408), y = (ix2 r f : S1024x1408.Idx) := ⟨y 0, y 1, (eq_ix2 y)⟩
  blk_simp
  rw [after_3]
  rw [gateOf_apply m c t r f]
  refine congrArg₂ (gateA m c) (Fin.ext ?_) (Fin.ext ?_) <;> blk_simp [idx3 t]

theorem final4 : (dats m 0 c).arrAt 4 cfg0.N = fun i : S4096x2816.Idx => upA m c (i 0) (i 1) := by
  refine (dats m 0 c).arrAt_eq_of_covers 4 _ (by decide +kernel) fun t hf y => ?_
  obtain ⟨r, f, rfl⟩ : ∃ (r : Fin 1024) (f : Fin 1408), y = (ix2 r f : S1024x1408.Idx) := ⟨y 0, y 1, (eq_ix2 y)⟩
  blk_simp
  rw [after_4]
  rw [upOf_apply m c t r f]
  refine congrArg₂ (upA m c) (Fin.ext ?_) (Fin.ext ?_) <;> blk_simp [idx4 t]

theorem final5 : (dats m 0 c).arrAt 5 cfg0.N = fun i : S4096x2816.Idx => actA m c (i 0) (i 1) := by
  refine (dats m 0 c).arrAt_eq_of_covers 5 _ (by decide +kernel) fun t hf y => ?_
  obtain ⟨r, f, rfl⟩ : ∃ (r : Fin 1024) (f : Fin 1408), y = (ix2 r f : S1024x1408.Idx) := ⟨y 0, y 1, (eq_ix2 y)⟩
  blk_simp
  rw [after_5]
  rw [actOf_apply m c t r f]
  refine congrArg₂ (actA m c) (Fin.ext ?_) (Fin.ext ?_) <;> blk_simp [idx5 t]

end Cert.GatherProof
-- ==== Proof.GatherRef.lean ====
/-
  The reference's four results, each at one place, as the plain mathematics of its arguments. The last is one copy of the
  whole of the down projection's weights for every device.
-/
module

public import proofs.«01_k».proof.Defs
public import proofs.«01_k».proof.Proof.Gen.Reference6Ideal
public import proofs.«01_k».proof.Proof.Gen.Reference6Ideal.Run
public import proofs.«01_k».proof.Proof.GatherSpec
public import proofs.«01_k».proof.Proof.DownMath
public import Idealize.ShloMosaic.Lib.Pointwise

@[expose] public section

noncomputable section

open Idealize.ShloMosaic Idealize.SL.Sem

namespace Cert.Gather

open Cert.Reference6Ideal Cert.Reference6Ideal.Gen

/-! ## The reference's steps, each once -/

def project (x : FVec Ideal S32768x1024 .bf16) (w : FVec Ideal S8x352x1024 .bf16) : FVec Ideal S32768x2816 .f32 :=
  Host.dotGeneral dot_S32768x1024_S1024x2816_S32768x2816_1_0_0_1_n_n none (extf .f32 x bitsLt_bf16_f32) (transpose S1024x2816 [1, 0] (extf .f32 (shapeCast _ w shapeCasts_S8x352x1024_S2816x1024) bitsLt_bf16_f32) transposes_S2816x1024_S1024x2816_1_0)

def rounded (z : FVec Ideal S32768x2816 .f32) : FVec Ideal S32768x2816 .bf16 := truncf .bf16 z bitsLt_bf16_f32

def swish (g u : FVec Ideal S32768x2816 .f32) : FVec Ideal S32768x2816 .f32 :=
  mulf (mulf g (Host.divf (broadcastInDim S32768x2816 ![] bcast_S_S32768x2816 (constant S_ .f32 0x3F800000#32)) (addf (broadcastInDim S32768x2816 ![] bcast_S_S32768x2816 (constant S_ .f32 0x3F800000#32)) (Host.exp (Host.negf g))))) u

def copies (w : FVec Ideal S2816x1024 .bf16) : FVec Ideal S64x352x1024 .bf16 :=
  shapeCast _ (broadcastInDim S8x8x352x1024 ![0, 1, 2, 3] bcast_S1x8x352x1024_S8x8x352x1024_0_1_2_3 (shapeCast _ w shapeCasts_S2816x1024_S1x8x352x1024)) shapeCasts_S8x8x352x1024_S64x352x1024

/-! ## Each step at one place -/

theorem project_apply (x : FVec Ideal S32768x1024 .bf16) (w : FVec Ideal S8x352x1024 .bf16) (r : Fin 32768) (f : Fin 2816) :
    project x w (ix2 r f) = pre (fun k => x (ix2 r k)) w f := by
  pointwise [project, pre]

theorem rounded_apply (z : FVec Ideal S32768x2816 .f32) (r : Fin 32768) (f : Fin 2816) : rounded z (ix2 r f) = z (ix2 r f) := by
  pointwise [rounded]

theorem swish_apply (g u : FVec Ideal S32768x2816 .f32) (r : Fin 32768) (f : Fin 2816) :
    swish g u (ix2 r f) = gated (g (ix2 r f)) (u (ix2 r f)) := by
  unfold gated
  rw [← Cert.Down.sig_neg]
  pointwise [swish]

theorem copies_apply (w : FVec Ideal S2816x1024 .bf16) (c n : Fin 8) (q : Fin 352) (d : Fin 1024) :
    copies w (ix3 ⟨c.val * 8 + n.val, by omega⟩ q d) = w (ix2 ⟨n.val * 352 + q.val, by omega⟩ d) := by
  pointwise [copies]

end Cert.Gather
-- ==== Proof.GatherClaim.lean ====
/-
  The claims about the forward up projection: the reference's frame, and the equality of the two programs' four results,
  each device's part of the whole.
-/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.GatherFrame
public import proofs.«01_k».proof.Proof.GatherArrays
public import proofs.«01_k».proof.Proof.GatherRef
public import Idealize.ShloMosaic.Lib.Pipeline.ValueKit

@[expose] public section

noncomputable section

open Idealize.ShloMosaic Idealize.SL.Sem

namespace Cert.Gather

/-! ## A device's part of a whole array, at one place -/

theorem part_tokens (v : (⟨2, ![32768, 1024]⟩ : Shape).Idx → EReal) (c : Fin 8) (r : Fin 4096) (d : Fin 1024) :
    Layout.block ⟨2, ![4096, 1024]⟩ ⟨2, ![32768, 1024]⟩ 0 8 c v (by decide) (ix2 r d) = v (ix2 ⟨c.val * 4096 + r.val, by omega⟩ d) := by
  refine congrArg v (funext fun b => ?_)
  fin_cases b <;> rfl

theorem part_hidden (v : (⟨2, ![32768, 2816]⟩ : Shape).Idx → EReal) (c : Fin 8) (r : Fin 4096) (f : Fin 2816) :
    Layout.block ⟨2, ![4096, 2816]⟩ ⟨2, ![32768, 2816]⟩ 0 8 c v (by decide) (ix2 r f) = v (ix2 ⟨c.val * 4096 + r.val, by omega⟩ f) := by
  refine congrArg v (funext fun b => ?_)
  fin_cases b <;> rfl

theorem part_shard (v : (⟨2, ![2816, 1024]⟩ : Shape).Idx → EReal) (c : Fin 8) (q : Fin 352) (d : Fin 1024) :
    Layout.block ⟨2, ![352, 1024]⟩ ⟨2, ![2816, 1024]⟩ 0 8 c v (by decide) (ix2 q d) = v (ix2 ⟨c.val * 352 + q.val, by omega⟩ d) := by
  refine congrArg v (funext fun b => ?_)
  fin_cases b <;> rfl

theorem part_copy (v : (⟨3, ![64, 352, 1024]⟩ : Shape).Idx → EReal) (c n : Fin 8) (q : Fin 352) (d : Fin 1024) :
    Layout.block ⟨3, ![8, 352, 1024]⟩ ⟨3, ![64, 352, 1024]⟩ 0 8 c v (by decide) (ix3 n q d) = v (ix3 ⟨c.val * 8 + n.val, by omega⟩ q d) := by
  refine congrArg v (funext fun b => ?_)
  fin_cases b <;> rfl

/-! ## The reference -/

section Reference

open Cert.Reference6Ideal Cert.Reference6Ideal.Gen

variable (m : (ℓ : Loc nD τ sig) → Buf (Elt Ideal) ℓ) (ρ : Dev nD → PrngReg)

abbrev ra0 : FVec Ideal S32768x1024 .bf16 := m (((0 : Dev nD).tc : Thread nD τ).loc main_arg0)
abbrev ra1 : FVec Ideal S8x352x1024 .bf16 := m (((0 : Dev nD).tc : Thread nD τ).loc main_arg1)
abbrev ra2 : FVec Ideal S8x352x1024 .bf16 := m (((0 : Dev nD).tc : Thread nD τ).loc main_arg2)
abbrev ra3 : FVec Ideal S2816x1024 .bf16 := m (((0 : Dev nD).tc : Thread nD τ).loc main_arg3)

theorem run :
    θ_run defs (onTc (τ := τ) (main (F := Ideal))) ⟨m, fun _ => 0, ρ⟩ fun r =>
    r.2.mem (((0 : Dev nD).tc : Thread nD τ).loc main_v13) = rounded (project (ra0 m) (ra1 m))
    ∧ r.2.mem (((0 : Dev nD).tc : Thread nD τ).loc main_v14) = rounded (project (ra0 m) (ra2 m))
    ∧ r.2.mem (((0 : Dev nD).tc : Thread nD τ).loc main_v15) = rounded (swish (project (ra0 m) (ra1 m)) (project (ra0 m) (ra2 m)))
    ∧ r.2.mem (((0 : Dev nD).tc : Thread nD τ).loc main_v16) = copies (ra3 m)
    ∧ r.2.mem (((0 : Dev nD).tc : Thread nD τ).loc main_arg0) = ra0 m
    ∧ r.2.mem (((0 : Dev nD).tc : Thread nD τ).loc main_arg1) = ra1 m
    ∧ r.2.mem (((0 : Dev nD).tc : Thread nD τ).loc main_arg2) = ra2 m
    ∧ r.2.mem (((0 : Dev nD).tc : Thread nD τ).loc main_arg3) = ra3 m := by
  refine (θ_run defs _ _).mono (fun r h => ?_) (Value.run m ρ)
  obtain ⟨e0, e1, e2, e3, rest⟩ := h 0
  exact ⟨e0.trans rfl, e1.trans rfl, e2.trans rfl, e3.trans rfl, rest⟩

/-- The reference runs, keeps its arguments, and ends with every semaphore at zero: it declares none. -/
theorem reference_frame : Cert.quiescent_Reference6Ideal := fun m ρ _ =>
  (θ_run _ _ _).mono (fun r h => ⟨fun c => (h c).2.2.2.2, sem_eq_zero_of_no_sems (by decide) r.2⟩)
    (Value.run (F := Ideal) m ρ)

end Reference

/-! ## The two programs -/

section Both

open Cert.GatherProof

variable (m : (ℓ : Loc Cert.Kernel6Ideal.nD Cert.Kernel6Ideal.τ Cert.Kernel6Ideal.sig) → Buf (Elt Ideal) ℓ)

/-- A device's pre-activations are its tokens' part of the reference's. -/
theorem pre_part (c : Fin 8) (x : FVec Ideal Cert.Reference6Ideal.S32768x1024 .bf16) (w : FVec Ideal Cert.Reference6Ideal.S8x352x1024 .bf16)
    (r : Fin 4096) (f : Fin 2816) :
    pre (fun k => Layout.block ⟨2, ![4096, 1024]⟩ ⟨2, ![32768, 1024]⟩ 0 8 c x (by decide) (ix2 r k)) w f
      = project x w (ix2 ⟨c.val * 4096 + r.val, by omega⟩ f) := by
  rw [project_apply]
  exact congrArg (fun z => pre z w f) (funext fun k => part_tokens x c r k)

/-- An array of a device that is, place by place, its part of a whole array. -/
theorem whole_part (c : Fin 8) (A : Fin 4096 → Fin 2816 → EReal) (z : FVec Ideal Cert.Reference6Ideal.S32768x2816 .f32)
    (h : ∀ r f, A r f = z (ix2 ⟨c.val * 4096 + r.val, by omega⟩ f)) :
    (fun i : (⟨2, ![4096, 2816]⟩ : Shape).Idx => A (i 0) (i 1))
      = Layout.block ⟨2, ![4096, 2816]⟩ ⟨2, ![32768, 2816]⟩ 0 8 c (rounded z) := by
  funext i
  obtain ⟨r, f, rfl⟩ : ∃ (r : Fin 4096) (f : Fin 2816), i = (ix2 r f : (⟨2, ![4096, 2816]⟩ : Shape).Idx) := ⟨i 0, i 1, eq_ix2 i⟩
  exact (h r f).trans ((rounded_apply z _ f).symm.trans (part_hidden _ c r f).symm)

/-- Every device ends with the shards of all the devices. -/
theorem gathered (w : FVec Ideal Cert.Reference6Ideal.S2816x1024 .bf16)
    (hw : ∀ e : Fin 8, shX m e = Layout.block ⟨2, ![352, 1024]⟩ ⟨2, ![2816, 1024]⟩ 0 8 e w) (c : Fin 8) :
    outX m = Layout.block ⟨3, ![8, 352, 1024]⟩ ⟨3, ![64, 352, 1024]⟩ 0 8 c (copies w) := by
  funext i
  obtain ⟨n, q, d, rfl⟩ : ∃ (n : Fin 8) (q : Fin 352) (d : Fin 1024), i = (ix3 n q d : (⟨3, ![8, 352, 1024]⟩ : Shape).Idx) := ⟨i 0, i 1, i 2, eq_ix3 i⟩
  refine Eq.trans ?_ ((copies_apply w c n q d).symm.trans (part_copy _ c n q d).symm)
  refine Eq.trans ?_ (part_shard w n q d)
  refine (congrArg (shX m (dv n)) (?_ : _ = (ix2 q d : (⟨2, ![352, 1024]⟩ : Shape).Idx))).trans (congrFun (hw n) (ix2 q d))
  funext b
  fin_cases b <;> rfl

end Both

set_option maxHeartbeats 1000000 in
/-- Kernel and reference, from the same arguments, end with the same four results, each device with its part. -/
theorem algebraic : Cert.algebraic_Kernel6Ideal_Reference6Ideal := by
  intro m g m' g' _ hargs
  refine ⟨rounded (project (ra0 m') (ra1 m')), rounded (project (ra0 m') (ra2 m')),
    rounded (swish (project (ra0 m') (ra1 m')) (project (ra0 m') (ra2 m'))), copies (ra3 m'), ?_, run m' g'⟩
  have hsh : ∀ e : Fin 8, Cert.GatherProof.shX m e = Layout.block ⟨2, ![352, 1024]⟩ ⟨2, ![2816, 1024]⟩ 0 8 e (ra3 m') := fun e =>
    Eq.trans rfl (hargs e).2.2.2
  refine (θ_run _ _ _).mono (fun r h c => ?_) (Cert.GatherProof.run_left (F := Ideal) m g)
  obtain ⟨⟨l0, l1, l2, l3⟩, kept⟩ := h.1 c
  obtain ⟨a0, a1, a2, _⟩ := hargs c
  have hg : ∀ r f, Cert.GatherProof.gateA m c r f = project (ra0 m') (ra1 m') (ix2 ⟨c.val * 4096 + r.val, _⟩ f) := fun r f => by
    refine Eq.trans ?_ (pre_part c (ra0 m') (ra1 m') r f)
    unfold Cert.GatherProof.gateA Cert.GatherProof.hA Cert.GatherProof.wgA
    rw [a0, a1]
  have hu : ∀ r f, Cert.GatherProof.upA m c r f = project (ra0 m') (ra2 m') (ix2 ⟨c.val * 4096 + r.val, _⟩ f) := fun r f => by
    refine Eq.trans ?_ (pre_part c (ra0 m') (ra2 m') r f)
    unfold Cert.GatherProof.upA Cert.GatherProof.hA Cert.GatherProof.wuA
    rw [a0, a2]
  have ha : ∀ r f, Cert.GatherProof.actA m c r f = swish (project (ra0 m') (ra1 m')) (project (ra0 m') (ra2 m')) (ix2 ⟨c.val * 4096 + r.val, _⟩ f) := fun r f => by
    rw [swish_apply]
    exact congrArg₂ gated (hg r f) (hu r f)
  exact ⟨l0.trans ((Cert.GatherProof.final3 m c).trans (whole_part c _ _ hg)), l1.trans ((Cert.GatherProof.final4 m c).trans (whole_part c _ _ hu)),
    l2.trans ((Cert.GatherProof.final5 m c).trans (whole_part c _ _ ha)), l3.trans (gathered m _ hsh c), kept⟩

end Cert.Gather
-- ==== Proof.lean ====
/- The proof of every claim of this certificate. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.DownClaim
public import proofs.«01_k».proof.Proof.InprojClaim
public import proofs.«01_k».proof.Proof.LossClaim
public import proofs.«01_k».proof.Proof.UpClaim
public import proofs.«01_k».proof.Proof.PairClaim
public import proofs.«01_k».proof.Proof.GatherClaim
public import Idealize.ShloMosaic.Adequacy
public import Idealize.ShloMosaic.Init

@[expose] public section

noncomputable section

namespace Cert.Proof

open Idealize.ShloMosaic Idealize.SL.Sem Cert.Kernel

/-- Every claim of `Cert.Claim`: the frames, the kept text, and the equality of kernel and reference. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.Down.reference_frame m ρ,
  fun m ρ _ => Cert.Down.reference_frame m ρ,
  fun m ρ _ => Cert.Kernel2.Gen.frame m ρ,
  fun m ρ _ => Cert.Kernel2Ideal.Gen.frame m ρ,
  Cert.Inproj.reference_frame,
  fun m ρ _ => Cert.Kernel3.Gen.frame m ρ,
  fun m ρ _ => Cert.Kernel3Ideal.Gen.frame m ρ,
  Cert.Loss.reference_frame,
  Cert.UpProof.frame_kernel,
  Cert.UpProof.frame_ideal,
  Cert.Up.reference_frame,
  Cert.PairProof.frame_kernel,
  Cert.PairProof.frame_ideal,
  Cert.Pair.reference_frame,
  Cert.GatherProof.frame_kernel,
  Cert.GatherProof.frame_ideal,
  Cert.Gather.reference_frame,
  trivial,
  Cert.Down.algebraic,
  trivial,
  Cert.Inproj.algebraic,
  trivial,
  Cert.Loss.algebraic,
  trivial,
  Cert.Up.algebraic,
  trivial,
  Cert.Pair.algebraic,
  trivial,
  Cert.Gather.algebraic⟩

end Cert.Proof

end
